-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Kernel25Ideal_finite_rkv [hPre_finite_rkv : Cert.Pre_finite_rkv.Facts] (m : (ℓ : Loc Cert.Kernel25Ideal.nD Cert.Kernel25Ideal.τ Cert.Kernel25Ideal.sig) → Buf (Elt Ideal) ℓ) : Prop :=
  ∀ c : Dev Cert.Kernel25Ideal.nD,
    (Cert.Pre_finite_rkv.fn (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2))) = (fun _ => 1#1)

def Pre_Reference25Ideal (m : (ℓ : Loc Cert.Reference25Ideal.nD Cert.Reference25Ideal.τ Cert.Reference25Ideal.sig) → Buf (Elt Ideal) ℓ) : Prop :=
  True

def Pre_Reference25Ideal_finite_rkv [hPre_finite_rkv : Cert.Pre_finite_rkv.Facts] (m : (ℓ : Loc Cert.Reference25Ideal.nD Cert.Reference25Ideal.τ Cert.Reference25Ideal.sig) → Buf (Elt Ideal) ℓ) : Prop :=
  ∀ c : Dev Cert.Reference25Ideal.nD,
    (Cert.Pre_finite_rkv.fn (F := Ideal) (m ((c.tc : Thread Cert.Reference25Ideal.nD Cert.Reference25Ideal.τ).loc Cert.Reference25Ideal.main_arg0)) (m ((c.tc : Thread Cert.Reference25Ideal.nD Cert.Reference25Ideal.τ).loc Cert.Reference25Ideal.main_arg1)) (m ((c.tc : Thread Cert.Reference25Ideal.nD Cert.Reference25Ideal.τ).loc Cert.Reference25Ideal.main_arg2))) = (fun _ => 1#1)

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Kernel26Ideal_finite_lora [hPre_finite_lora : Cert.Pre_finite_lora.Facts] (m : (ℓ : Loc Cert.Kernel26Ideal.nD Cert.Kernel26Ideal.τ Cert.Kernel26Ideal.sig) → Buf (Elt Ideal) ℓ) : Prop :=
  ∀ c : Dev Cert.Kernel26Ideal.nD,
    (Cert.Pre_finite_lora.fn (F := Ideal) (m ((c.tc : Thread Cert.Kernel26Ideal.nD Cert.Kernel26Ideal.τ).loc Cert.Kernel26Ideal.main_arg0)) (m ((c.tc : Thread Cert.Kernel26Ideal.nD Cert.Kernel26Ideal.τ).loc Cert.Kernel26Ideal.main_arg1)) (m ((c.tc : Thread Cert.Kernel26Ideal.nD Cert.Kernel26Ideal.τ).loc Cert.Kernel26Ideal.main_arg2))) = (fun _ => 1#1)

def Pre_Reference26Ideal (m : (ℓ : Loc Cert.Reference26Ideal.nD Cert.Reference26Ideal.τ Cert.Reference26Ideal.sig) → Buf (Elt Ideal) ℓ) : Prop :=
  True

def Pre_Reference26Ideal_finite_lora [hPre_finite_lora : Cert.Pre_finite_lora.Facts] (m : (ℓ : Loc Cert.Reference26Ideal.nD Cert.Reference26Ideal.τ Cert.Reference26Ideal.sig) → Buf (Elt Ideal) ℓ) : Prop :=
  ∀ c : Dev Cert.Reference26Ideal.nD,
    (Cert.Pre_finite_lora.fn (F := Ideal) (m ((c.tc : Thread Cert.Reference26Ideal.nD Cert.Reference26Ideal.τ).loc Cert.Reference26Ideal.main_arg0)) (m ((c.tc : Thread Cert.Reference26Ideal.nD Cert.Reference26Ideal.τ).loc Cert.Reference26Ideal.main_arg1)) (m ((c.tc : Thread Cert.Reference26Ideal.nD Cert.Reference26Ideal.τ).loc Cert.Reference26Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Kernel25Ideal_pre_finite_rkv [hKernel25Ideal : Cert.Kernel25Ideal.Facts] [hPre_finite_rkv : Cert.Pre_finite_rkv.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal_finite_rkv m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def quiescent_Reference25Ideal_pre_finite_rkv [hReference25Ideal : Cert.Reference25Ideal.Facts] [hPre_finite_rkv : Cert.Pre_finite_rkv.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal_finite_rkv m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Kernel26Ideal_pre_finite_lora [hKernel26Ideal : Cert.Kernel26Ideal.Facts] [hPre_finite_lora : Cert.Pre_finite_lora.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal_finite_lora m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def quiescent_Reference26Ideal_pre_finite_lora [hReference26Ideal : Cert.Reference26Ideal.Facts] [hPre_finite_lora : Cert.Pre_finite_lora.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal_finite_lora m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)) (v2 : (c : Dev Cert.KernelIdeal.nD) → Buf (Elt Ideal) ((c.tc : Thread Cert.KernelIdeal.nD Cert.KernelIdeal.τ).loc Cert.KernelIdeal.main_v15_2)) (v3 : (c : Dev Cert.KernelIdeal.nD) → Buf (Elt Ideal) ((c.tc : Thread Cert.KernelIdeal.nD Cert.KernelIdeal.τ).loc Cert.KernelIdeal.main_v15_3)) (v4 : (c : Dev Cert.KernelIdeal.nD) → Buf (Elt Ideal) ((c.tc : Thread Cert.KernelIdeal.nD Cert.KernelIdeal.τ).loc Cert.KernelIdeal.main_v15_4)) (v5 : (c : Dev Cert.KernelIdeal.nD) → Buf (Elt Ideal) ((c.tc : Thread Cert.KernelIdeal.nD Cert.KernelIdeal.τ).loc Cert.KernelIdeal.main_v15_5)) (v6 : (c : Dev Cert.KernelIdeal.nD) → Buf (Elt Ideal) ((c.tc : Thread Cert.KernelIdeal.nD Cert.KernelIdeal.τ).loc Cert.KernelIdeal.main_v15_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_v15_2) = v2 c
          ∧ r.2.mem ((c.tc : Thread Cert.KernelIdeal.nD Cert.KernelIdeal.τ).loc Cert.KernelIdeal.main_v15_3) = v3 c
          ∧ r.2.mem ((c.tc : Thread Cert.KernelIdeal.nD Cert.KernelIdeal.τ).loc Cert.KernelIdeal.main_v15_4) = v4 c
          ∧ r.2.mem ((c.tc : Thread Cert.KernelIdeal.nD Cert.KernelIdeal.τ).loc Cert.KernelIdeal.main_v15_5) = v5 c
          ∧ r.2.mem ((c.tc : Thread Cert.KernelIdeal.nD Cert.KernelIdeal.τ).loc Cert.KernelIdeal.main_v15_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v166) = v0 c
          ∧ r.2.mem ((c.tc : Thread Cert.ReferenceIdeal.nD Cert.ReferenceIdeal.τ).loc Cert.ReferenceIdeal.main_v168) = v1 c
          ∧ r.2.mem ((c.tc : Thread Cert.ReferenceIdeal.nD Cert.ReferenceIdeal.τ).loc Cert.ReferenceIdeal.main_v163) = v2 c
          ∧ r.2.mem ((c.tc : Thread Cert.ReferenceIdeal.nD Cert.ReferenceIdeal.τ).loc Cert.ReferenceIdeal.main_v162) = v3 c
          ∧ r.2.mem ((c.tc : Thread Cert.ReferenceIdeal.nD Cert.ReferenceIdeal.τ).loc Cert.ReferenceIdeal.main_v112) = v4 c
          ∧ r.2.mem ((c.tc : Thread Cert.ReferenceIdeal.nD Cert.ReferenceIdeal.τ).loc Cert.ReferenceIdeal.main_v170) = v5 c
          ∧ r.2.mem ((c.tc : Thread Cert.ReferenceIdeal.nD Cert.ReferenceIdeal.τ).loc Cert.ReferenceIdeal.main_v161) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_v10) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v30) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v27) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v12) = v0 c
          ∧ r.2.mem ((c.tc : Thread Cert.Reference11Ideal.nD Cert.Reference11Ideal.τ).loc Cert.Reference11Ideal.main_v22) = v1 c
          ∧ r.2.mem ((c.tc : Thread Cert.Reference11Ideal.nD Cert.Reference11Ideal.τ).loc Cert.Reference11Ideal.main_v25) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v37) = v0 c
          ∧ r.2.mem ((c.tc : Thread Cert.Reference19Ideal.nD Cert.Reference19Ideal.τ).loc Cert.Reference19Ideal.main_v38) = v1 c
          ∧ r.2.mem ((c.tc : Thread Cert.Reference19Ideal.nD Cert.Reference19Ideal.τ).loc Cert.Reference19Ideal.main_v39) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v37) = v0 c
          ∧ r.2.mem ((c.tc : Thread Cert.Reference20Ideal.nD Cert.Reference20Ideal.τ).loc Cert.Reference20Ideal.main_v38) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v14) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v53) = v0 c
          ∧ r.2.mem ((c.tc : Thread Cert.Reference22Ideal.nD Cert.Reference22Ideal.τ).loc Cert.Reference22Ideal.main_v51) = v1 c
          ∧ r.2.mem ((c.tc : Thread Cert.Reference22Ideal.nD Cert.Reference22Ideal.τ).loc Cert.Reference22Ideal.main_v52) = v2 c
          ∧ r.2.mem ((c.tc : Thread Cert.Reference22Ideal.nD Cert.Reference22Ideal.τ).loc Cert.Reference22Ideal.main_v54) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v1) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v11) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v2) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v12) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal_pre_finite_rkv [hKernel25Ideal : Cert.Kernel25Ideal.Facts] [hReference25Ideal : Cert.Reference25Ideal.Facts] [hPre_finite_rkv : Cert.Pre_finite_rkv.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal_finite_rkv m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v1_0)) (v1 : (c : Dev Cert.Kernel25Ideal.nD) → Buf (Elt Ideal) ((c.tc : Thread Cert.Kernel25Ideal.nD Cert.Kernel25Ideal.τ).loc Cert.Kernel25Ideal.main_v1_1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v1_0) = v0 c
          ∧ r.2.mem ((c.tc : Thread Cert.Kernel25Ideal.nD Cert.Kernel25Ideal.τ).loc Cert.Kernel25Ideal.main_v1_1) = v1 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v24) = v0 c
          ∧ r.2.mem ((c.tc : Thread Cert.Reference25Ideal.nD Cert.Reference25Ideal.τ).loc Cert.Reference25Ideal.main_v15) = v1 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def preserves_Kernel26_Kernel26Ideal : Prop :=
  True

def algebraic_Kernel26Ideal_Reference26Ideal_pre_finite_lora [hKernel26Ideal : Cert.Kernel26Ideal.Facts] [hReference26Ideal : Cert.Reference26Ideal.Facts] [hPre_finite_lora : Cert.Pre_finite_lora.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal_finite_lora m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)) →
    ∃ (v0 : (c : Dev Cert.Kernel26Ideal.nD) → Buf (Elt Ideal) ((c.tc : Thread Cert.Kernel26Ideal.nD Cert.Kernel26Ideal.τ).loc Cert.Kernel26Ideal.main_v2_0)) (v1 : (c : Dev Cert.Kernel26Ideal.nD) → Buf (Elt Ideal) ((c.tc : Thread Cert.Kernel26Ideal.nD Cert.Kernel26Ideal.τ).loc Cert.Kernel26Ideal.main_v2_1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v2_0) = v0 c
          ∧ r.2.mem ((c.tc : Thread Cert.Kernel26Ideal.nD Cert.Kernel26Ideal.τ).loc Cert.Kernel26Ideal.main_v2_1) = v1 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v25) = v0 c
          ∧ r.2.mem ((c.tc : Thread Cert.Reference26Ideal.nD Cert.Reference26Ideal.τ).loc Cert.Reference26Ideal.main_v16) = v1 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hPre_finite : Cert.Pre_finite.Facts) (hPre_finite_rkv : Cert.Pre_finite_rkv.Facts) (hPre_finite_lora : Cert.Pre_finite_lora.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Kernel25Ideal_pre_finite_rkv (hKernel25Ideal := hKernel25Ideal) (hPre_finite_rkv := hPre_finite_rkv)
    ∧ quiescent_Reference25Ideal (hReference25Ideal := hReference25Ideal)
    ∧ quiescent_Reference25Ideal_pre_finite_rkv (hReference25Ideal := hReference25Ideal) (hPre_finite_rkv := hPre_finite_rkv)
    ∧ quiescent_Kernel26 (hKernel26 := hKernel26)
    ∧ quiescent_Kernel26Ideal (hKernel26Ideal := hKernel26Ideal)
    ∧ quiescent_Kernel26Ideal_pre_finite_lora (hKernel26Ideal := hKernel26Ideal) (hPre_finite_lora := hPre_finite_lora)
    ∧ quiescent_Reference26Ideal (hReference26Ideal := hReference26Ideal)
    ∧ quiescent_Reference26Ideal_pre_finite_lora (hReference26Ideal := hReference26Ideal) (hPre_finite_lora := hPre_finite_lora)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal_pre_finite_rkv (hKernel25Ideal := hKernel25Ideal) (hReference25Ideal := hReference25Ideal) (hPre_finite_rkv := hPre_finite_rkv)
    ∧ preserves_Kernel26_Kernel26Ideal
    ∧ algebraic_Kernel26Ideal_Reference26Ideal_pre_finite_lora (hKernel26Ideal := hKernel26Ideal) (hReference26Ideal := hReference26Ideal) (hPre_finite_lora := hPre_finite_lora)
-- ==== Pre_finite.lean ====
abbrev S2048x5632 : Shape := ⟨2, ![2048, 5632]⟩
abbrev S1x1024 : Shape := ⟨2, ![1, 1024]⟩
abbrev S16x128x128 : Shape := ⟨3, ![16, 128, 128]⟩
abbrev S16x128 : Shape := ⟨2, ![16, 128]⟩
abbrev S2048x2048 : Shape := ⟨2, ![2048, 2048]⟩
abbrev S_ : Shape := ⟨0, ![]⟩

class Facts : Prop where
  bcast_S_S2048x5632 : S_.BroadcastsInDim S2048x5632 (![] : Fin 0 → Fin S2048x5632.rank)
  bcast_S_S1x1024 : S_.BroadcastsInDim S1x1024 (![] : Fin 0 → Fin S1x1024.rank)
  bcast_S_S16x128x128 : S_.BroadcastsInDim S16x128x128 (![] : Fin 0 → Fin S16x128x128.rank)
  bcast_S_S16x128 : S_.BroadcastsInDim S16x128 (![] : Fin 0 → Fin S16x128.rank)
  bcast_S_S2048x2048 : S_.BroadcastsInDim S2048x2048 (![] : Fin 0 → Fin S2048x2048.rank)

variable [Facts]

def fn_part1 {F : FTy → Type} [FloatOps F] (main_arg6 : FVec F S2048x2048 .f32) (main_v2 : IVec S2048x5632 1) (main_v5 : IVec S1x1024 1) (main_v8 : IVec S1x1024 1) (main_v11 : IVec S16x128x128 1) (main_v14 : IVec S16x128 1) (main_v17 : IVec S1x1024 1) : IVec S2048x5632 1 × IVec S1x1024 1 × IVec S1x1024 1 × IVec S16x128x128 1 × IVec S16x128 1 × IVec S1x1024 1 × IVec S2048x2048 1 :=
  let main_v18 : FVec F S2048x2048 .f32 := subf main_arg6 main_arg6
  let main_cst_5 : FVec F S_ .f32 := constant S_ .f32 0x00000000#32
  let main_v19 : FVec F S2048x2048 .f32 := broadcastInDim S2048x2048 ![] bcast_S_S2048x2048 main_cst_5
  let main_v20 : IVec S2048x2048 1 := cmpf .oeq main_v18 main_v19
  (main_v2, main_v5, main_v8, main_v11, main_v14, main_v17, main_v20)

def fn {F : FTy → Type} [FloatOps F] (main_arg0 : FVec F S2048x5632 .f32) (main_arg1 : FVec F S1x1024 .f32) (main_arg2 : FVec F S1x1024 .f32) (main_arg3 : FVec F S16x128x128 .f32) (main_arg4 : FVec F S16x128 .f32) (main_arg5 : FVec F S1x1024 .f32) (main_arg6 : FVec F S2048x2048 .f32) : IVec S2048x5632 1 × IVec S1x1024 1 × IVec S1x1024 1 × IVec S16x128x128 1 × IVec S16x128 1 × IVec S1x1024 1 × IVec S2048x2048 1 :=
  let main_v0 : FVec F S2048x5632 .f32 := subf main_arg0 main_arg0
  let main_cst : FVec F S_ .f32 := constant S_ .f32 0x00000000#32
  let main_v1 : FVec F S2048x5632 .f32 := broadcastInDim S2048x5632 ![] bcast_S_S2048x5632 main_cst
  let main_v2 : IVec S2048x5632 1 := cmpf .oeq main_v0 main_v1
  let main_v3 : FVec F S1x1024 .f32 := subf main_arg1 main_arg1
  let main_cst_0 : FVec F S_ .f32 := constant S_ .f32 0x00000000#32
  let main_v4 : FVec F S1x1024 .f32 := broadcastInDim S1x1024 ![] bcast_S_S1x1024 main_cst_0
  let main_v5 : IVec S1x1024 1 := cmpf .oeq main_v3 main_v4
  let main_v6 : FVec F S1x1024 .f32 := subf main_arg2 main_arg2
  let main_cst_1 : FVec F S_ .f32 := constant S_ .f32 0x00000000#32
  let main_v7 : FVec F S1x1024 .f32 := broadcastInDim S1x1024 ![] bcast_S_S1x1024 main_cst_1
  let main_v8 : IVec S1x1024 1 := cmpf .oeq main_v6 main_v7
  let main_v9 : FVec F S16x128x128 .f32 := subf main_arg3 main_arg3
  let main_cst_2 : FVec F S_ .f32 := constant S_ .f32 0x00000000#32
  let main_v10 : FVec F S16x128x128 .f32 := broadcastInDim S16x128x128 ![] bcast_S_S16x128x128 main_cst_2
  let main_v11 : IVec S16x128x128 1 := cmpf .oeq main_v9 main_v10
  let main_v12 : FVec F S16x128 .f32 := subf main_arg4 main_arg4
  let main_cst_3 : FVec F S_ .f32 := constant S_ .f32 0x00000000#32
  let main_v13 : FVec F S16x128 .f32 := broadcastInDim S16x128 ![] bcast_S_S16x128 main_cst_3
  let main_v14 : IVec S16x128 1 := cmpf .oeq main_v12 main_v13
  let main_v15 : FVec F S1x1024 .f32 := subf main_arg5 main_arg5
  let main_cst_4 : FVec F S_ .f32 := constant S_ .f32 0x00000000#32
  let main_v16 : FVec F S1x1024 .f32 := broadcastInDim S1x1024 ![] bcast_S_S1x1024 main_cst_4
  let main_v17 : IVec S1x1024 1 := cmpf .oeq main_v15 main_v16
  fn_part1 (F := F) main_arg6 main_v2 main_v5 main_v8 main_v11 main_v14 main_v17
-- ==== Pre_finite_lora.lean ====
abbrev S2048x512 : Shape := ⟨2, ![2048, 512]⟩
abbrev S2048x5632 : Shape := ⟨2, ![2048, 5632]⟩
abbrev S1x3360 : Shape := ⟨2, ![1, 3360]⟩
abbrev S_ : Shape := ⟨0, ![]⟩

class Facts : Prop where
  bcast_S_S2048x512 : S_.BroadcastsInDim S2048x512 (![] : Fin 0 → Fin S2048x512.rank)

variable [Facts]

def fn {F : FTy → Type} [FloatOps F] (main_arg0 : FVec F S2048x512 .f32) (main_arg1 : FVec F S2048x5632 .f32) (main_arg2 : FVec F S1x3360 .f32) : IVec S2048x512 1 :=
  let main_v0 : FVec F S2048x512 .f32 := subf main_arg0 main_arg0
  let main_cst : FVec F S_ .f32 := constant S_ .f32 0x00000000#32
  let main_v1 : FVec F S2048x512 .f32 := broadcastInDim S2048x512 ![] bcast_S_S2048x512 main_cst
  let main_v2 : IVec S2048x512 1 := cmpf .oeq main_v0 main_v1
  main_v2
-- ==== Pre_finite_rkv.lean ====
abbrev S2048x3072 : Shape := ⟨2, ![2048, 3072]⟩
abbrev S2048x5632 : Shape := ⟨2, ![2048, 5632]⟩
abbrev S1x3360 : Shape := ⟨2, ![1, 3360]⟩
abbrev S_ : Shape := ⟨0, ![]⟩

class Facts : Prop where
  bcast_S_S2048x3072 : S_.BroadcastsInDim S2048x3072 (![] : Fin 0 → Fin S2048x3072.rank)

variable [Facts]

def fn {F : FTy → Type} [FloatOps F] (main_arg0 : FVec F S2048x3072 .f32) (main_arg1 : FVec F S2048x5632 .f32) (main_arg2 : FVec F S1x3360 .f32) : IVec S2048x3072 1 :=
  let main_v0 : FVec F S2048x3072 .f32 := subf main_arg0 main_arg0
  let main_cst : FVec F S_ .f32 := constant S_ .f32 0x00000000#32
  let main_v1 : FVec F S2048x3072 .f32 := broadcastInDim S2048x3072 ![] bcast_S_S2048x3072 main_cst
  let main_v2 : IVec S2048x3072 1 := cmpf .oeq main_v0 main_v1
  main_v2
-- ==== Kernel.lean ====
abbrev S2048x5632 : Shape := ⟨2, ![2048, 5632]⟩
abbrev S1x1024 : Shape := ⟨2, ![1, 1024]⟩
abbrev S16x128x128 : Shape := ⟨3, ![16, 128, 128]⟩
abbrev S16x128 : Shape := ⟨2, ![16, 128]⟩
abbrev S2048x2048 : Shape := ⟨2, ![2048, 2048]⟩
abbrev S1024 : Shape := ⟨1, ![1024]⟩
abbrev S128 : Shape := ⟨1, ![128]⟩
abbrev S128x1 : Shape := ⟨2, ![128, 1]⟩
abbrev S_ : Shape := ⟨0, ![]⟩
abbrev S128x1024 : Shape := ⟨2, ![128, 1024]⟩
abbrev S1024x128 : Shape := ⟨2, ![1024, 128]⟩
abbrev S128x16 : Shape := ⟨2, ![128, 16]⟩
abbrev S128x128 : Shape := ⟨2, ![128, 128]⟩
abbrev S2048x1024 : Shape := ⟨2, ![2048, 1024]⟩
abbrev S1x128x128 : Shape := ⟨3, ![1, 128, 128]⟩
abbrev S15x128x128 : Shape := ⟨3, ![15, 128, 128]⟩
abbrev S14x128x128 : Shape := ⟨3, ![14, 128, 128]⟩
abbrev S128x896 : Shape := ⟨2, ![128, 896]⟩
abbrev S13x128x128 : Shape := ⟨3, ![13, 128, 128]⟩
abbrev S2x128x128 : Shape := ⟨3, ![2, 128, 128]⟩
abbrev S12x128x128 : Shape := ⟨3, ![12, 128, 128]⟩
abbrev S3x128x128 : Shape := ⟨3, ![3, 128, 128]⟩
abbrev S128x768 : Shape := ⟨2, ![128, 768]⟩
abbrev S11x128x128 : Shape := ⟨3, ![11, 128, 128]⟩
abbrev S4x128x128 : Shape := ⟨3, ![4, 128, 128]⟩
abbrev S10x128x128 : Shape := ⟨3, ![10, 128, 128]⟩
abbrev S5x128x128 : Shape := ⟨3, ![5, 128, 128]⟩
abbrev S128x640 : Shape := ⟨2, ![128, 640]⟩
abbrev S128x256 : Shape := ⟨2, ![128, 256]⟩
abbrev S9x128x128 : Shape := ⟨3, ![9, 128, 128]⟩
abbrev S6x128x128 : Shape := ⟨3, ![6, 128, 128]⟩
abbrev S8x128x128 : Shape := ⟨3, ![8, 128, 128]⟩
abbrev S7x128x128 : Shape := ⟨3, ![7, 128, 128]⟩
abbrev S128x512 : Shape := ⟨2, ![128, 512]⟩
abbrev S128x384 : Shape := ⟨2, ![128, 384]⟩

abbrev nBuf : Space → Nat
  | .hbm => 48
  | .vmem => 22
  | .smem => 0
  | _ => 0

abbrev bufTy : (tb : Table) → Fin (tcTables nBuf tb) → BufTy
  | .hbm, ⟨0, _⟩ => ⟨S2048x5632, .f32⟩
  | .hbm, ⟨1, _⟩ => ⟨S1x1024, .f32⟩
  | .hbm, ⟨2, _⟩ => ⟨S1x1024, .f32⟩
  | .hbm, ⟨3, _⟩ => ⟨S16x128x128, .f32⟩
  | .hbm, ⟨4, _⟩ => ⟨S16x128, .f32⟩
  | .hbm, ⟨5, _⟩ => ⟨S1x1024, .f32⟩
  | .hbm, ⟨6, _⟩ => ⟨S2048x2048, .f32⟩
  | .hbm, ⟨7, _⟩ => ⟨S1024, .i32⟩
  | .hbm, ⟨8, _⟩ => ⟨S128, .i32⟩
  | .hbm, ⟨9, _⟩ => ⟨S128x1, .i32⟩
  | .hbm, ⟨10, _⟩ => ⟨S1x1024, .i32⟩
  | .hbm, ⟨11, _⟩ => ⟨S_, .i32⟩
  | .hbm, ⟨12, _⟩ => ⟨S_, .i32⟩
  | .hbm, ⟨13, _⟩ => ⟨S1x1024, .i32⟩
  | .hbm, ⟨14, _⟩ => ⟨S1x1024, .i32⟩
  | .hbm, ⟨15, _⟩ => ⟨S1x1024, .i32⟩
  | .hbm, ⟨16, _⟩ => ⟨S_, .i32⟩
  | .hbm, ⟨17, _⟩ => ⟨S1x1024, .i32⟩
  | .hbm, ⟨18, _⟩ => ⟨S1x1024, .i1⟩
  | .hbm, ⟨19, _⟩ => ⟨S1x1024, .i32⟩
  | .hbm, ⟨20, _⟩ => ⟨S1x1024, .i32⟩
  | .hbm, ⟨21, _⟩ => ⟨S_, .i32⟩
  | .hbm, ⟨22, _⟩ => ⟨S1x1024, .i32⟩
  | .hbm, ⟨23, _⟩ => ⟨S1x1024, .i1⟩
  | .hbm, ⟨24, _⟩ => ⟨S1x1024, .i1⟩
  | .hbm, ⟨25, _⟩ => ⟨S_, .i32⟩
  | .hbm, ⟨26, _⟩ => ⟨S1x1024, .i32⟩
  | .hbm, ⟨27, _⟩ => ⟨S1x1024, .i32⟩
  | .hbm, ⟨28, _⟩ => ⟨S1x1024, .i32⟩
  | .hbm, ⟨29, _⟩ => ⟨S128x1024, .i32⟩
  | .hbm, ⟨30, _⟩ => ⟨S128x1024, .i32⟩
  | .hbm, ⟨31, _⟩ => ⟨S128x1024, .i1⟩
  | .hbm, ⟨32, _⟩ => ⟨S128x1024, .f32⟩
  | .hbm, ⟨33, _⟩ => ⟨S128x1024, .bf16⟩
  | .hbm, ⟨34, _⟩ => ⟨S1024x128, .i1⟩
  | .hbm, ⟨35, _⟩ => ⟨S1024x128, .f32⟩
  | .hbm, ⟨36, _⟩ => ⟨S1024x128, .bf16⟩
  | .hbm, ⟨37, _⟩ => ⟨S128x16, .f32⟩
  | .hbm, ⟨38, _⟩ => ⟨S_, .i32⟩
  | .hbm, ⟨39, _⟩ => ⟨S_, .f32⟩
  | .hbm, ⟨40, _⟩ => ⟨S128x128, .f32⟩
  | .hbm, ⟨41, _⟩ => ⟨S2048x1024, .bf16⟩
  | .hbm, ⟨42, _⟩ => ⟨S2048x1024, .bf16⟩
  | .hbm, ⟨43, _⟩ => ⟨S1x1024, .f32⟩
  | .hbm, ⟨44, _⟩ => ⟨S1x1024, .f32⟩
  | .hbm, ⟨45, _⟩ => ⟨S16x128x128, .f32⟩
  | .hbm, ⟨46, _⟩ => ⟨S128x128, .f32⟩
  | .hbm, ⟨47, _⟩ => ⟨S1x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S1x1024, .f32⟩
  | .local _ .vmem, ⟨5, _⟩ => ⟨S1x1024, .f32⟩
  | .local _ .vmem, ⟨6, _⟩ => ⟨S16x128x128, .f32⟩
  | .local _ .vmem, ⟨7, _⟩ => ⟨S128x128, .f32⟩
  | .local _ .vmem, ⟨8, _⟩ => ⟨S1x1024, .f32⟩
  | .local _ .vmem, ⟨9, _⟩ => ⟨S128x1024, .bf16⟩
  | .local _ .vmem, ⟨10, _⟩ => ⟨S1024x128, .bf16⟩
  | .local _ .vmem, ⟨11, _⟩ => ⟨S128x1024, .f32⟩
  | .local _ .vmem, ⟨12, _⟩ => ⟨S128x1024, .f32⟩
  | .local _ .vmem, ⟨13, _⟩ => ⟨S128x1024, .bf16⟩
  | .local _ .vmem, ⟨14, _⟩ => ⟨S128x1024, .bf16⟩
  | .local _ .vmem, ⟨15, _⟩ => ⟨S128x1024, .bf16⟩
  | .local _ .vmem, ⟨16, _⟩ => ⟨S128x1024, .bf16⟩
  | .local _ .vmem, ⟨17, _⟩ => ⟨S1x1024, .f32⟩
  | .local _ .vmem, ⟨18, _⟩ => ⟨S1x1024, .f32⟩
  | .local _ .vmem, ⟨19, _⟩ => ⟨S16x128x128, .f32⟩
  | .local _ .vmem, ⟨20, _⟩ => ⟨S128x128, .f32⟩
  | .local _ .vmem, ⟨21, _⟩ => ⟨S1x1024, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_c_0 : Ref sig .tc := ⟨.hbm, 38, rfl⟩
abbrev main_call1_v0 : Ref sig .tc := ⟨.hbm, 39, rfl⟩
abbrev main_v14 : Ref sig .tc := ⟨.hbm, 40, rfl⟩
abbrev main_v15_0 : Ref sig .tc := ⟨.hbm, 41, rfl⟩
abbrev main_v15_1 : Ref sig .tc := ⟨.hbm, 42, rfl⟩
abbrev main_v15_2 : Ref sig .tc := ⟨.hbm, 43, rfl⟩
abbrev main_v15_3 : Ref sig .tc := ⟨.hbm, 44, rfl⟩
abbrev main_v15_4 : Ref sig .tc := ⟨.hbm, 45, rfl⟩
abbrev main_v15_5 : Ref sig .tc := ⟨.hbm, 46, rfl⟩
abbrev main_v15_6 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v612 : BitVec 1 := Scalar.cmpi .eq arg0 c0_i32
  let v613 : BitVec 32 := Scalar.extui v612
  let c0_i32_176 : BitVec 32 := 0#32
  let v614 : BitVec 1 := Scalar.cmpi .ne v613 c0_i32_176
  v614

def k0_cond2 (i : grid0.Coords) : BitVec 1 :=
  let arg0 : BitVec 32 := BitVec.ofNat 32 (i 0).val
  let c0_i32 : BitVec 32 := 0#32
  let v612 : BitVec 1 := Scalar.cmpi .eq arg0 c0_i32
  let v_true : BitVec 1 := 1#1
  let v615 : BitVec 1 := Scalar.xori v612 v_true
  let v616 : BitVec 32 := Scalar.extui v615
  let c0_i32_177 : BitVec 32 := 0#32
  let v617 : BitVec 1 := Scalar.cmpi .ne v616 c0_i32_177
  v617

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S16x128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== ReferenceIdeal.lean ====
abbrev S2048x5632 : Shape := ⟨2, ![2048, 5632]⟩
abbrev S1x1024 : Shape := ⟨2, ![1, 1024]⟩
abbrev S16x128x128 : Shape := ⟨3, ![16, 128, 128]⟩
abbrev S16x128 : Shape := ⟨2, ![16, 128]⟩
abbrev S2048x2048 : Shape := ⟨2, ![2048, 2048]⟩
abbrev S1x2048x2048 : Shape := ⟨3, ![1, 2048, 2048]⟩
abbrev S1024 : Shape := ⟨1, ![1024]⟩
abbrev S_ : Shape := ⟨0, ![]⟩
abbrev S1x2048x1024 : Shape := ⟨3, ![1, 2048, 1024]⟩
abbrev S1x2048 : Shape := ⟨2, ![1, 2048]⟩
abbrev S1x2048x1 : Shape := ⟨3, ![1, 2048, 1]⟩
abbrev S1x1x1024 : Shape := ⟨3, ![1, 1, 1024]⟩
abbrev S1x16x128x16x64 : Shape := ⟨5, ![1, 16, 128, 16, 64]⟩
abbrev S128x128 : Shape := ⟨2, ![128, 128]⟩
abbrev S1x128x128 : Shape := ⟨3, ![1, 128, 128]⟩
abbrev S16x1x16x64x128 : Shape := ⟨5, ![16, 1, 16, 64, 128]⟩
abbrev S128x16 : Shape := ⟨2, ![128, 16]⟩
abbrev S1x1x128x16x1 : Shape := ⟨5, ![1, 1, 128, 16, 1]⟩
abbrev S2048x1024 : Shape := ⟨2, ![2048, 1024]⟩
abbrev S2048 : Shape := ⟨1, ![2048]⟩
abbrev S1x128x16 : Shape := ⟨3, ![1, 128, 16]⟩

abbrev nBuf : Space → Nat
  | .hbm => 224
  | .vmem => 0
  | .smem => 0
  | _ => 0

abbrev hbmTy0_0 (i : Nat) : BufTy := match i % 128 with
  | 0 => ⟨S2048x5632, .f32⟩
  | 1 => ⟨S1x1024, .f32⟩
  | 2 => ⟨S1x1024, .f32⟩
  | 3 => ⟨S16x128x128, .f32⟩
  | 4 => ⟨S16x128, .f32⟩
  | 5 => ⟨S1x1024, .f32⟩
  | 6 => ⟨S2048x2048, .f32⟩
  | 7 => ⟨S2048x2048, .f32⟩
  | 8 => ⟨S1x2048x2048, .f32⟩
  | 9 => ⟨S1024, .f32⟩
  | 10 => ⟨S1024, .f32⟩
  | 11 => ⟨S1024, .f32⟩
  | 12 => ⟨S_, .f32⟩
  | 13 => ⟨S1x2048x2048, .f32⟩
  | 14 => ⟨S1x2048x2048, .f32⟩
  | 15 => ⟨S1x2048x2048, .f32⟩
  | 16 => ⟨S_, .f32⟩
  | 17 => ⟨S1x2048x2048, .f32⟩
  | 18 => ⟨S1x2048x2048, .f32⟩
  | 19 => ⟨S1x2048x2048, .f32⟩
  | 20 => ⟨S1x2048x2048, .f32⟩
  | 21 => ⟨S1x2048x2048, .f32⟩
  | 22 => ⟨S1x2048x2048, .f32⟩
  | 23 => ⟨S1x2048x2048, .f32⟩
  | 24 => ⟨S1x2048x1024, .f32⟩
  | 25 => ⟨S1x2048x1024, .f32⟩
  | 26 => ⟨S_, .f32⟩
  | 27 => ⟨S1x2048, .f32⟩
  | 28 => ⟨S1x2048x1, .f32⟩
  | 29 => ⟨S_, .f32⟩
  | 30 => ⟨S1x2048x1, .f32⟩
  | 31 => ⟨S1x2048x1, .f32⟩
  | 32 => ⟨S1x2048x1024, .f32⟩
  | 33 => ⟨S1x2048x1024, .f32⟩
  | 34 => ⟨S1x2048x1024, .f32⟩
  | 35 => ⟨S_, .f32⟩
  | 36 => ⟨S1x2048x1024, .f32⟩
  | 37 => ⟨S1x2048x1024, .f32⟩
  | 38 => ⟨S_, .f32⟩
  | 39 => ⟨S1x2048, .f32⟩
  | 40 => ⟨S1x2048x1, .f32⟩
  | 41 => ⟨S_, .f32⟩
  | 42 => ⟨S1x2048x1, .f32⟩
  | 43 => ⟨S1x2048x1, .f32⟩
  | 44 => ⟨S1x2048x1024, .f32⟩
  | 45 => ⟨S1x2048x1024, .f32⟩
  | 46 => ⟨S_, .f32⟩
  | 47 => ⟨S1x2048x1, .f32⟩
  | 48 => ⟨S1x2048x1, .f32⟩
  | 49 => ⟨S1x2048x1, .f32⟩
  | 50 => ⟨S1x2048x1, .f32⟩
  | 51 => ⟨S_, .f32⟩
  | 52 => ⟨S1x2048x1, .f32⟩
  | 53 => ⟨S1x2048x1, .f32⟩
  | 54 => ⟨S1x2048x1024, .f32⟩
  | 55 => ⟨S1x2048x1024, .f32⟩
  | 56 => ⟨S1x1x1024, .f32⟩
  | 57 => ⟨S1x2048x1024, .f32⟩
  | 58 => ⟨S1x2048x1024, .f32⟩
  | 59 => ⟨S1x1x1024, .f32⟩
  | 60 => ⟨S1x2048x1024, .f32⟩
  | 61 => ⟨S1x2048x1024, .f32⟩
  | 62 => ⟨S1x16x128x16x64, .f32⟩
  | 63 => ⟨S_, .f32⟩
  | 64 => ⟨S128x128, .f32⟩
  | 65 => ⟨S128x128, .i32⟩
  | 66 => ⟨S_, .i32⟩
  | 67 => ⟨S128x128, .i32⟩
  | 68 => ⟨S128x128, .i32⟩
  | 69 => ⟨S128x128, .i32⟩
  | 70 => ⟨S128x128, .i1⟩
  | 71 => ⟨S_, .f32⟩
  | 72 => ⟨S128x128, .f32⟩
  | 73 => ⟨S128x128, .f32⟩
  | 74 => ⟨S1x128x128, .f32⟩
  | 75 => ⟨S16x128x128, .f32⟩
  | 76 => ⟨S16x128x128, .f32⟩
  | 77 => ⟨S16x1x16x64x128, .f32⟩
  | 78 => ⟨S1x16x128x16x64, .f32⟩
  | 79 => ⟨S128x16, .f32⟩
  | 80 => ⟨S1x1x128x16x1, .f32⟩
  | 81 => ⟨S1x16x128x16x64, .f32⟩
  | 82 => ⟨S1x16x128x16x64, .f32⟩
  | 83 => ⟨S1x2048x1024, .f32⟩
  | 84 => ⟨S1x2048x1024, .f32⟩
  | 85 => ⟨S1x2048x1024, .f32⟩
  | 86 => ⟨S_, .f32⟩
  | 87 => ⟨S1x2048, .f32⟩
  | 88 => ⟨S1x2048x1, .f32⟩
  | 89 => ⟨S_, .f32⟩
  | 90 => ⟨S1x2048x1, .f32⟩
  | 91 => ⟨S1x2048x1, .f32⟩
  | 92 => ⟨S_, .f32⟩
  | 93 => ⟨S1x2048x1, .f32⟩
  | 94 => ⟨S1x2048x1, .f32⟩
  | 95 => ⟨S1x2048x1, .f32⟩
  | 96 => ⟨S1x2048x1, .f32⟩
  | 97 => ⟨S_, .f32⟩
  | 98 => ⟨S1x2048x1, .f32⟩
  | 99 => ⟨S1x2048x1, .f32⟩
  | 100 => ⟨S1x2048x1024, .f32⟩
  | 101 => ⟨S1x2048x1024, .f32⟩
  | 102 => ⟨S1x1x1024, .f32⟩
  | 103 => ⟨S1x2048x1024, .f32⟩
  | 104 => ⟨S1x2048x1024, .f32⟩
  | 105 => ⟨S2048x1024, .f32⟩
  | 106 => ⟨S2048x1024, .f32⟩
  | 107 => ⟨S1x2048x1024, .f32⟩
  | 108 => ⟨S1x2048x1024, .f32⟩
  | 109 => ⟨S_, .f32⟩
  | 110 => ⟨S1x1024, .f32⟩
  | 111 => ⟨S1x1x1024, .f32⟩
  | 112 => ⟨S1x2048x1024, .f32⟩
  | 113 => ⟨S1x2048x1024, .f32⟩
  | 114 => ⟨S_, .f32⟩
  | 115 => ⟨S1024, .f32⟩
  | 116 => ⟨S1x2048x1024, .f32⟩
  | 117 => ⟨S_, .f32⟩
  | 118 => ⟨S1x2048, .f32⟩
  | 119 => ⟨S1x2048x1, .f32⟩
  | 120 => ⟨S1x2048x1024, .f32⟩
  | 121 => ⟨S1x2048x1024, .f32⟩
  | 122 => ⟨S1x2048x1, .f32⟩
  | 123 => ⟨S_, .f32⟩
  | 124 => ⟨S1x2048x1, .f32⟩
  | 125 => ⟨S1x2048x1, .f32⟩
  | 126 => ⟨S_, .f32⟩
  | 127 => ⟨S2048, .f32⟩
  | _ => ⟨S2048x5632, .f32⟩

abbrev hbmTy0_1 (i : Nat) : BufTy := match i % 128 with
  | 0 => ⟨S1x2048, .f32⟩
  | 1 => ⟨S1x2048x1024, .f32⟩
  | 2 => ⟨S1x2048x1024, .f32⟩
  | 3 => ⟨S1x2048x1024, .f32⟩
  | 4 => ⟨S1x2048x1024, .f32⟩
  | 5 => ⟨S1x2048x1024, .f32⟩
  | 6 => ⟨S1x2048x1024, .f32⟩
  | 7 => ⟨S1x2048x1024, .f32⟩
  | 8 => ⟨S1x16x128x16x64, .f32⟩
  | 9 => ⟨S_, .f32⟩
  | 10 => ⟨S1x128x16, .f32⟩
  | 11 => ⟨S1x1x128x16x1, .f32⟩
  | 12 => ⟨S_, .f32⟩
  | 13 => ⟨S128x16, .f32⟩
  | 14 => ⟨S16x128, .f32⟩
  | 15 => ⟨S16x1x16x64x128, .f32⟩
  | 16 => ⟨S16x128x128, .f32⟩
  | 17 => ⟨S16x1x16x64x128, .f32⟩
  | 18 => ⟨S1x16x128x16x64, .f32⟩
  | 19 => ⟨S16x128x128, .f32⟩
  | 20 => ⟨S16x128x128, .f32⟩
  | 21 => ⟨S1x2048x1024, .f32⟩
  | 22 => ⟨S_, .f32⟩
  | 23 => ⟨S1x1024, .f32⟩
  | 24 => ⟨S1x1x1024, .f32⟩
  | 25 => ⟨S_, .f32⟩
  | 26 => ⟨S1024, .f32⟩
  | 27 => ⟨S1x2048x1024, .f32⟩
  | 28 => ⟨S_, .f32⟩
  | 29 => ⟨S1x1024, .f32⟩
  | 30 => ⟨S1x1x1024, .f32⟩
  | 31 => ⟨S1x2048x1024, .f32⟩
  | 32 => ⟨S1x2048x1024, .f32⟩
  | 33 => ⟨S_, .f32⟩
  | 34 => ⟨S1024, .f32⟩
  | 35 => ⟨S1x2048x1024, .f32⟩
  | 36 => ⟨S_, .f32⟩
  | 37 => ⟨S1x2048, .f32⟩
  | 38 => ⟨S1x2048x1, .f32⟩
  | 39 => ⟨S1x2048x1024, .f32⟩
  | 40 => ⟨S1x2048x1024, .f32⟩
  | 41 => ⟨S1x2048x1, .f32⟩
  | 42 => ⟨S1x2048x1024, .f32⟩
  | 43 => ⟨S_, .f32⟩
  | 44 => ⟨S1x2048, .f32⟩
  | 45 => ⟨S1x2048x1, .f32⟩
  | 46 => ⟨S_, .f32⟩
  | 47 => ⟨S1x2048x1, .f32⟩
  | 48 => ⟨S1x2048x1, .f32⟩
  | 49 => ⟨S_, .f32⟩
  | 50 => ⟨S2048, .f32⟩
  | 51 => ⟨S1x2048, .f32⟩
  | 52 => ⟨S1x2048x1024, .f32⟩
  | 53 => ⟨S1x2048x1024, .f32⟩
  | 54 => ⟨S1x2048x1024, .f32⟩
  | 55 => ⟨S_, .f32⟩
  | 56 => ⟨S1x2048, .f32⟩
  | 57 => ⟨S1x2048x1, .f32⟩
  | 58 => ⟨S1x2048x1024, .f32⟩
  | 59 => ⟨S1x2048x1, .f32⟩
  | 60 => ⟨S_, .f32⟩
  | 61 => ⟨S1x2048x1, .f32⟩
  | 62 => ⟨S1x2048x1, .f32⟩
  | 63 => ⟨S_, .f32⟩
  | 64 => ⟨S2048, .f32⟩
  | 65 => ⟨S1x2048, .f32⟩
  | 66 => ⟨S1x2048x1024, .f32⟩
  | 67 => ⟨S1x2048x1024, .f32⟩
  | 68 => ⟨S1x2048x2048, .f32⟩
  | 69 => ⟨S1x2048x2048, .f32⟩
  | 70 => ⟨S1x2048x2048, .f32⟩
  | 71 => ⟨S_, .f32⟩
  | 72 => ⟨S1x2048x2048, .f32⟩
  | 73 => ⟨S1x2048x2048, .f32⟩
  | 74 => ⟨S1x2048x2048, .f32⟩
  | 75 => ⟨S_, .f32⟩
  | 76 => ⟨S1x2048x2048, .f32⟩
  | 77 => ⟨S1x2048x2048, .f32⟩
  | 78 => ⟨S1x2048x2048, .f32⟩
  | 79 => ⟨S_, .f32⟩
  | 80 => ⟨S1x2048x2048, .f32⟩
  | 81 => ⟨S1x2048x2048, .f32⟩
  | 82 => ⟨S1x2048x2048, .f32⟩
  | 83 => ⟨S1x1024, .f32⟩
  | 84 => ⟨S1x1024, .f32⟩
  | 85 => ⟨S1x1024, .f32⟩
  | 86 => ⟨S_, .f32⟩
  | 87 => ⟨S2048x2048, .f32⟩
  | 88 => ⟨S2048x1024, .f32⟩
  | 89 => ⟨S2048x1024, .bf16⟩
  | 90 => ⟨S2048x1024, .f32⟩
  | 91 => ⟨S2048x1024, .bf16⟩
  | 92 => ⟨S128x16, .f32⟩
  | 93 => ⟨S_, .i32⟩
  | 94 => ⟨S_, .f32⟩
  | 95 => ⟨S128x128, .f32⟩
  | _ => ⟨S2048x5632, .f32⟩

abbrev hbmTy (i : Nat) : BufTy := match i / 128 with
  | 0 => hbmTy0_0 i
  | 1 => hbmTy0_1 i
  | _ => ⟨S2048x5632, .f32⟩

abbrev bufTy : (tb : Table) → Fin (tcTables nBuf tb) → BufTy
  | .hbm, ⟨i, _⟩ => hbmTy i
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_call0_v0 : Ref sig .tc := ⟨.hbm, 65, rfl⟩
abbrev main_call0_c : Ref sig .tc := ⟨.hbm, 66, rfl⟩
abbrev main_call0_v1 : Ref sig .tc := ⟨.hbm, 67, rfl⟩
abbrev main_call0_v2 : Ref sig .tc := ⟨.hbm, 68, rfl⟩
abbrev main_call0_v3 : Ref sig .tc := ⟨.hbm, 69, rfl⟩
abbrev main_call0_v4 : Ref sig .tc := ⟨.hbm, 70, rfl⟩
abbrev main_call0_cst : Ref sig .tc := ⟨.hbm, 71, rfl⟩
abbrev main_call0_v5 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_9 : Ref sig .tc := ⟨.hbm, 86, rfl⟩
abbrev main_v61 : Ref sig .tc := ⟨.hbm, 87, rfl⟩
abbrev main_v62 : Ref sig .tc := ⟨.hbm, 88, rfl⟩
abbrev main_cst_10 : Ref sig .tc := ⟨.hbm, 89, rfl⟩
abbrev main_v63 : Ref sig .tc := ⟨.hbm, 90, rfl⟩
abbrev main_v64 : Ref sig .tc := ⟨.hbm, 91, rfl⟩
abbrev main_cst_11 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_12 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_13 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_14 : Ref sig .tc := ⟨.hbm, 114, rfl⟩
abbrev main_v84 : Ref sig .tc := ⟨.hbm, 115, rfl⟩
abbrev main_v85 : Ref sig .tc := ⟨.hbm, 116, rfl⟩
abbrev main_cst_15 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_16 : Ref sig .tc := ⟨.hbm, 123, rfl⟩
abbrev main_v91 : Ref sig .tc := ⟨.hbm, 124, rfl⟩
abbrev main_v92 : Ref sig .tc := ⟨.hbm, 125, rfl⟩
abbrev main_cst_17 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_cst_18 : Ref sig .tc := ⟨.hbm, 137, rfl⟩
abbrev main_v103 : Ref sig .tc := ⟨.hbm, 138, rfl⟩
abbrev main_v104 : Ref sig .tc := ⟨.hbm, 139, rfl⟩
abbrev main_cst_19 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_cst_20 : Ref sig .tc := ⟨.hbm, 150, rfl⟩
abbrev main_v114 : Ref sig .tc := ⟨.hbm, 151, rfl⟩
abbrev main_v115 : Ref sig .tc := ⟨.hbm, 152, rfl⟩
abbrev main_cst_21 : Ref sig .tc := ⟨.hbm, 153, rfl⟩
abbrev main_v116 : Ref sig .tc := ⟨.hbm, 154, rfl⟩
abbrev main_v117 : Ref sig .tc := ⟨.hbm, 155, rfl⟩
abbrev main_cst_22 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_cst_23 : Ref sig .tc := ⟨.hbm, 161, rfl⟩
abbrev main_v122 : Ref sig .tc := ⟨.hbm, 162, rfl⟩
abbrev main_v123 : Ref sig .tc := ⟨.hbm, 163, rfl⟩
abbrev main_cst_24 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_cst_25 : Ref sig .tc := ⟨.hbm, 171, rfl⟩
abbrev main_v130 : Ref sig .tc := ⟨.hbm, 172, rfl⟩
abbrev main_v131 : Ref sig .tc := ⟨.hbm, 173, rfl⟩
abbrev main_cst_26 : Ref sig .tc := ⟨.hbm, 174, rfl⟩
abbrev main_v132 : Ref sig .tc := ⟨.hbm, 175, rfl⟩
abbrev main_v133 : Ref sig .tc := ⟨.hbm, 176, rfl⟩
abbrev main_cst_27 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_cst_28 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_cst_29 : Ref sig .tc := ⟨.hbm, 188, rfl⟩
abbrev main_v143 : Ref sig .tc := ⟨.hbm, 189, rfl⟩
abbrev main_v144 : Ref sig .tc := ⟨.hbm, 190, rfl⟩
abbrev main_cst_30 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_cst_31 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_cst_32 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_cst_33 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_cst_34 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_c : Ref sig .tc := ⟨.hbm, 221, rfl⟩
abbrev main_call1_v0 : Ref sig .tc := ⟨.hbm, 222, rfl⟩
abbrev main_v170 : Ref sig .tc := ⟨.hbm, 223, rfl⟩

abbrev nD : Nat := 1
abbrev τ : Topo := Topo.v7x

variable {F : FTy → Type} [FloatOps F]
-- ==== Kernel2.lean ====
abbrev S2048x2048 : Shape := ⟨2, ![2048, 2048]⟩
abbrev S5632x2048 : Shape := ⟨2, ![5632, 2048]⟩
abbrev S2048x5632 : Shape := ⟨2, ![2048, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 6
  | .vmem => 12
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S2048x5632, .f32⟩
  | .hbm, ⟨3, _⟩ => ⟨S2048x5632, .f32⟩
  | .hbm, ⟨4, _⟩ => ⟨S2048x5632, .bf16⟩
  | .hbm, ⟨5, _⟩ => ⟨S2048x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference2Ideal.lean ====
abbrev S2048x2048 : Shape := ⟨2, ![2048, 2048]⟩
abbrev S5632x2048 : Shape := ⟨2, ![5632, 2048]⟩
abbrev S2048x5632 : Shape := ⟨2, ![2048, 5632]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S2048x5632, .f32⟩
  | .hbm, ⟨3, _⟩ => ⟨S2048x5632, .f32⟩
  | .hbm, ⟨4, _⟩ => ⟨S2048x2048, .f32⟩
  | .hbm, ⟨5, _⟩ => ⟨S5632x2048, .f32⟩
  | .hbm, ⟨6, _⟩ => ⟨S2048x5632, .f32⟩
  | .hbm, ⟨7, _⟩ => ⟨S2048x5632, .f32⟩
  | .hbm, ⟨8, _⟩ => ⟨S_, .f32⟩
  | .hbm, ⟨9, _⟩ => ⟨S2048x5632, .f32⟩
  | .hbm, ⟨10, _⟩ => ⟨S2048x5632, .f32⟩
  | .hbm, ⟨11, _⟩ => ⟨S_, .f32⟩
  | .hbm, ⟨12, _⟩ => ⟨S2048x5632, .f32⟩
  | .hbm, ⟨13, _⟩ => ⟨S2048x5632, .f32⟩
  | .hbm, ⟨14, _⟩ => ⟨S_, .f32⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S2048x5632, .f32⟩
  | .hbm, ⟨19, _⟩ => ⟨S2048x5632, .f32⟩
  | .hbm, ⟨20, _⟩ => ⟨S2048x2048, .f32⟩
  | .hbm, ⟨21, _⟩ => ⟨S2048x5632, .f32⟩
  | .hbm, ⟨22, _⟩ => ⟨S2048x5632, .f32⟩
  | .hbm, ⟨23, _⟩ => ⟨S2048x5632, .f32⟩
  | .hbm, ⟨24, _⟩ => ⟨S2048x5632, .f32⟩
  | .hbm, ⟨25, _⟩ => ⟨S2048x5632, .f32⟩
  | .hbm, ⟨26, _⟩ => ⟨S2048x5632, .f32⟩
  | .hbm, ⟨27, _⟩ => ⟨S2048x5632, .f32⟩
  | .hbm, ⟨28, _⟩ => ⟨S2048x5632, .bf16⟩
  | .hbm, ⟨29, _⟩ => ⟨S2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩

abbrev nD : Nat := 1
abbrev τ : Topo := Topo.v7x

variable {F : FTy → Type} [FloatOps F]
-- ==== Kernel3.lean ====
abbrev S2048x5632 : Shape := ⟨2, ![2048, 5632]⟩
abbrev S2048x2048 : Shape := ⟨2, ![2048, 2048]⟩
abbrev S5632x2048 : Shape := ⟨2, ![5632, 2048]⟩
abbrev S2048x1408 : Shape := ⟨2, ![2048, 1408]⟩
abbrev S2048x512 : Shape := ⟨2, ![2048, 512]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x512, .bf16⟩
  | .local _ .vmem, ⟨3, _⟩ => ⟨S2048x512, .bf16⟩
  | .local _ .vmem, ⟨4, _⟩ => ⟨S1408x512, .bf16⟩
  | .local _ .vmem, ⟨5, _⟩ => ⟨S1408x512, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S2048x5632, .f32⟩
  | .hbm, ⟨3, _⟩ => ⟨S2048x2048, .f32⟩
  | .hbm, ⟨4, _⟩ => ⟨S_, .f32⟩
  | .hbm, ⟨5, _⟩ => ⟨S5632x2048, .f32⟩
  | .hbm, ⟨6, _⟩ => ⟨S2048x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S2048x2048 : Shape := ⟨2, ![2048, 2048]⟩
abbrev S2048x5632 : Shape := ⟨2, ![2048, 5632]⟩
abbrev S4x2048x1408 : Shape := ⟨3, ![4, 2048, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S4x2048x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2048x2048 : Shape := ⟨2, ![2048, 2048]⟩
abbrev S2048x5632 : Shape := ⟨2, ![2048, 5632]⟩
abbrev S_ : Shape := ⟨0, ![]⟩
abbrev S4x2048x1408 : Shape := ⟨3, ![4, 2048, 1408]⟩
abbrev S1x2048x1408 : Shape := ⟨3, ![1, 2048, 1408]⟩
abbrev S2048x1408 : Shape := ⟨2, ![2048, 1408]⟩
abbrev S5632x2048 : Shape := ⟨2, ![5632, 2048]⟩

abbrev nBuf : Space → Nat
  | .hbm => 38
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S2048x2048, .f32⟩
  | .hbm, ⟨3, _⟩ => ⟨S2048x5632, .f32⟩
  | .hbm, ⟨4, _⟩ => ⟨S_, .f32⟩
  | .hbm, ⟨5, _⟩ => ⟨S4x2048x1408, .f32⟩
  | .hbm, ⟨6, _⟩ => ⟨S1x2048x1408, .f32⟩
  | .hbm, ⟨7, _⟩ => ⟨S2048x1408, .f32⟩
  | .hbm, ⟨8, _⟩ => ⟨S1x2048x1408, .f32⟩
  | .hbm, ⟨9, _⟩ => ⟨S2048x1408, .f32⟩
  | .hbm, ⟨10, _⟩ => ⟨S1x2048x1408, .f32⟩
  | .hbm, ⟨11, _⟩ => ⟨S2048x1408, .f32⟩
  | .hbm, ⟨12, _⟩ => ⟨S1x2048x1408, .f32⟩
  | .hbm, ⟨13, _⟩ => ⟨S2048x1408, .f32⟩
  | .hbm, ⟨14, _⟩ => ⟨S2048x5632, .f32⟩
  | .hbm, ⟨15, _⟩ => ⟨S2048x5632, .f32⟩
  | .hbm, ⟨16, _⟩ => ⟨S5632x2048, .f32⟩
  | .hbm, ⟨17, _⟩ => ⟨S2048x5632, .f32⟩
  | .hbm, ⟨18, _⟩ => ⟨S2048x1408, .f32⟩
  | .hbm, ⟨19, _⟩ => ⟨S2048x1408, .f32⟩
  | .hbm, ⟨20, _⟩ => ⟨S2048x1408, .f32⟩
  | .hbm, ⟨21, _⟩ => ⟨S2048x1408, .f32⟩
  | .hbm, ⟨22, _⟩ => ⟨S1x2048x1408, .f32⟩
  | .hbm, ⟨23, _⟩ => ⟨S_, .f32⟩
  | .hbm, ⟨24, _⟩ => ⟨S4x2048x1408, .f32⟩
  | .hbm, ⟨25, _⟩ => ⟨S1x2048x1408, .f32⟩
  | .hbm, ⟨26, _⟩ => ⟨S_, .f32⟩
  | .hbm, ⟨27, _⟩ => ⟨S4x2048x1408, .f32⟩
  | .hbm, ⟨28, _⟩ => ⟨S4x2048x1408, .f32⟩
  | .hbm, ⟨29, _⟩ => ⟨S1x2048x1408, .f32⟩
  | .hbm, ⟨30, _⟩ => ⟨S_, .f32⟩
  | .hbm, ⟨31, _⟩ => ⟨S4x2048x1408, .f32⟩
  | .hbm, ⟨32, _⟩ => ⟨S4x2048x1408, .f32⟩
  | .hbm, ⟨33, _⟩ => ⟨S1x2048x1408, .f32⟩
  | .hbm, ⟨34, _⟩ => ⟨S_, .f32⟩
  | .hbm, ⟨35, _⟩ => ⟨S4x2048x1408, .f32⟩
  | .hbm, ⟨36, _⟩ => ⟨S4x2048x1408, .f32⟩
  | .hbm, ⟨37, _⟩ => ⟨S4x2048x1408, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst_0 : Ref sig .tc := ⟨.hbm, 23, rfl⟩
abbrev main_v20 : Ref sig .tc := ⟨.hbm, 24, rfl⟩
abbrev main_v21 : Ref sig .tc := ⟨.hbm, 25, rfl⟩
abbrev main_cst_1 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_2 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_3 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩

abbrev nD : Nat := 1
abbrev τ : Topo := Topo.v7x

variable {F : FTy → Type} [FloatOps F]
-- ==== Kernel5.lean ====
abbrev S2048x5632 : Shape := ⟨2, ![2048, 5632]⟩
abbrev S4x2048x1408 : Shape := ⟨3, ![4, 2048, 1408]⟩
abbrev S2048x2048 : Shape := ⟨2, ![2048, 2048]⟩
abbrev S2048x1408 : Shape := ⟨2, ![2048, 1408]⟩
abbrev S1x512x1408 : Shape := ⟨3, ![1, 512, 1408]⟩
abbrev S2048x512 : Shape := ⟨2, ![2048, 512]⟩
abbrev S512x1408 : Shape := ⟨2, ![512, 1408]⟩

abbrev nBuf : Space → Nat
  | .hbm => 5
  | .vmem => 11
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S4x2048x1408, .bf16⟩
  | .hbm, ⟨3, _⟩ => ⟨S4x2048x1408, .bf16⟩
  | .hbm, ⟨4, _⟩ => ⟨S2048x2048, .f32⟩
  | .local _ .vmem, ⟨0, _⟩ => ⟨S2048x1408, .bf16⟩
  | .local _ .vmem, ⟨1, _⟩ => ⟨S2048x1408, .bf16⟩
  | .local _ .vmem, ⟨2, _⟩ => ⟨S2048x1408, .bf16⟩
  | .local _ .vmem, ⟨3, _⟩ => ⟨S2048x1408, .bf16⟩
  | .local _ .vmem, ⟨4, _⟩ => ⟨S1x512x1408, .bf16⟩
  | .local _ .vmem, ⟨5, _⟩ => ⟨S1x512x1408, .bf16⟩
  | .local _ .vmem, ⟨6, _⟩ => ⟨S1x512x1408, .bf16⟩
  | .local _ .vmem, ⟨7, _⟩ => ⟨S1x512x1408, .bf16⟩
  | .local _ .vmem, ⟨8, _⟩ => ⟨S2048x512, .f32⟩
  | .local _ .vmem, ⟨9, _⟩ => ⟨S2048x512, .f32⟩
  | .local _ .vmem, ⟨10, _⟩ => ⟨S2048x512, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_13 : BitVec 32 := 0#32
  let v17 : BitVec 1 := Scalar.cmpi .ne v16 c0_i32_13
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference5Ideal.lean ====
abbrev S2048x5632 : Shape := ⟨2, ![2048, 5632]⟩
abbrev S4x2048x1408 : Shape := ⟨3, ![4, 2048, 1408]⟩
abbrev S_ : Shape := ⟨0, ![]⟩
abbrev S2048x2048 : Shape := ⟨2, ![2048, 2048]⟩
abbrev S1x2048x1408 : Shape := ⟨3, ![1, 2048, 1408]⟩
abbrev S2048x1408 : Shape := ⟨2, ![2048, 1408]⟩

abbrev nBuf : Space → Nat
  | .hbm => 33
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S4x2048x1408, .bf16⟩
  | .hbm, ⟨3, _⟩ => ⟨S4x2048x1408, .bf16⟩
  | .hbm, ⟨4, _⟩ => ⟨S2048x5632, .f32⟩
  | .hbm, ⟨5, _⟩ => ⟨S2048x5632, .f32⟩
  | .hbm, ⟨6, _⟩ => ⟨S4x2048x1408, .f32⟩
  | .hbm, ⟨7, _⟩ => ⟨S4x2048x1408, .f32⟩
  | .hbm, ⟨8, _⟩ => ⟨S_, .f32⟩
  | .hbm, ⟨9, _⟩ => ⟨S2048x2048, .f32⟩
  | .hbm, ⟨10, _⟩ => ⟨S1x2048x1408, .f32⟩
  | .hbm, ⟨11, _⟩ => ⟨S2048x1408, .f32⟩
  | .hbm, ⟨12, _⟩ => ⟨S1x2048x1408, .f32⟩
  | .hbm, ⟨13, _⟩ => ⟨S2048x1408, .f32⟩
  | .hbm, ⟨14, _⟩ => ⟨S1x2048x1408, .f32⟩
  | .hbm, ⟨15, _⟩ => ⟨S2048x1408, .f32⟩
  | .hbm, ⟨16, _⟩ => ⟨S1x2048x1408, .f32⟩
  | .hbm, ⟨17, _⟩ => ⟨S2048x1408, .f32⟩
  | .hbm, ⟨18, _⟩ => ⟨S2048x5632, .f32⟩
  | .hbm, ⟨19, _⟩ => ⟨S2048x5632, .f32⟩
  | .hbm, ⟨20, _⟩ => ⟨S1x2048x1408, .f32⟩
  | .hbm, ⟨21, _⟩ => ⟨S2048x1408, .f32⟩
  | .hbm, ⟨22, _⟩ => ⟨S1x2048x1408, .f32⟩
  | .hbm, ⟨23, _⟩ => ⟨S2048x1408, .f32⟩
  | .hbm, ⟨24, _⟩ => ⟨S1x2048x1408, .f32⟩
  | .hbm, ⟨25, _⟩ => ⟨S2048x1408, .f32⟩
  | .hbm, ⟨26, _⟩ => ⟨S1x2048x1408, .f32⟩
  | .hbm, ⟨27, _⟩ => ⟨S2048x1408, .f32⟩
  | .hbm, ⟨28, _⟩ => ⟨S2048x5632, .f32⟩
  | .hbm, ⟨29, _⟩ => ⟨S2048x5632, .f32⟩
  | .hbm, ⟨30, _⟩ => ⟨S2048x2048, .f32⟩
  | .hbm, ⟨31, _⟩ => ⟨S2048x2048, .f32⟩
  | .hbm, ⟨32, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩

abbrev nD : Nat := 1
abbrev τ : Topo := Topo.v7x

variable {F : FTy → Type} [FloatOps F]
-- ==== Kernel6.lean ====
abbrev S2048x2048 : Shape := ⟨2, ![2048, 2048]⟩
abbrev S512x2048 : Shape := ⟨2, ![512, 2048]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S2048x2048, .bf16⟩
  | .local _ .vmem, ⟨1, _⟩ => ⟨S512x2048, .bf16⟩
  | .local _ .vmem, ⟨2, _⟩ => ⟨S512x2048, .bf16⟩
  | .local _ .vmem, ⟨3, _⟩ => ⟨S2048x512, .f32⟩
  | .local _ .vmem, ⟨4, _⟩ => ⟨S2048x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S2048x2048 : Shape := ⟨2, ![2048, 2048]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S2048x5632 : Shape := ⟨2, ![2048, 5632]⟩
abbrev S2048x2048 : Shape := ⟨2, ![2048, 2048]⟩
abbrev S2048x1408 : Shape := ⟨2, ![2048, 1408]⟩
abbrev S512x1408 : Shape := ⟨2, ![512, 1408]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S2048x2048, .f32⟩
  | .local _ .vmem, ⟨0, _⟩ => ⟨S2048x1408, .bf16⟩
  | .local _ .vmem, ⟨1, _⟩ => ⟨S2048x1408, .bf16⟩
  | .local _ .vmem, ⟨2, _⟩ => ⟨S512x1408, .bf16⟩
  | .local _ .vmem, ⟨3, _⟩ => ⟨S512x1408, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2048x5632 : Shape := ⟨2, ![2048, 5632]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S2048x5632, .f32⟩
  | .hbm, ⟨3, _⟩ => ⟨S2048x5632, .f32⟩
  | .hbm, ⟨4, _⟩ => ⟨S_, .f32⟩
  | .hbm, ⟨5, _⟩ => ⟨S2048x2048, .f32⟩
  | .hbm, ⟨6, _⟩ => ⟨S2048x5632, .f32⟩
  | .hbm, ⟨7, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S2048x2048 : Shape := ⟨2, ![2048, 2048]⟩
abbrev S2048x5632 : Shape := ⟨2, ![2048, 5632]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S2048x5632, .bf16⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2048x2048 : Shape := ⟨2, ![2048, 2048]⟩
abbrev S2048x5632 : Shape := ⟨2, ![2048, 5632]⟩
abbrev S_ : Shape := ⟨0, ![]⟩
abbrev S5632x2048 : Shape := ⟨2, ![5632, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S2048x2048, .f32⟩
  | .hbm, ⟨3, _⟩ => ⟨S2048x5632, .f32⟩
  | .hbm, ⟨4, _⟩ => ⟨S_, .f32⟩
  | .hbm, ⟨5, _⟩ => ⟨S2048x5632, .f32⟩
  | .hbm, ⟨6, _⟩ => ⟨S2048x5632, .f32⟩
  | .hbm, ⟨7, _⟩ => ⟨S5632x2048, .f32⟩
  | .hbm, ⟨8, _⟩ => ⟨S2048x5632, .f32⟩
  | .hbm, ⟨9, _⟩ => ⟨S2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S2048x2048 : Shape := ⟨2, ![2048, 2048]⟩
abbrev S2048x5632 : Shape := ⟨2, ![2048, 5632]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S2048x5632, .f32⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .f32⟩
  | .local _ .vmem, ⟨4, _⟩ => ⟨S2048x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x2048 : Shape := ⟨2, ![2048, 2048]⟩
abbrev S2048x5632 : Shape := ⟨2, ![2048, 5632]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S2048x2048, .f32⟩
  | .hbm, ⟨3, _⟩ => ⟨S2048x5632, .f32⟩
  | .hbm, ⟨4, _⟩ => ⟨S2048x5632, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel11.lean ====
abbrev S2048x2048 : Shape := ⟨2, ![2048, 2048]⟩
abbrev S4x2048x1408 : Shape := ⟨3, ![4, 2048, 1408]⟩
abbrev S2048x5632 : Shape := ⟨2, ![2048, 5632]⟩
abbrev S256x2048 : Shape := ⟨2, ![256, 2048]⟩
abbrev S1x2048x1408 : Shape := ⟨3, ![1, 2048, 1408]⟩
abbrev S256x1408 : Shape := ⟨2, ![256, 1408]⟩
abbrev S2048x1408 : Shape := ⟨2, ![2048, 1408]⟩

abbrev nBuf : Space → Nat
  | .hbm => 6
  | .vmem => 12
  | .smem => 0
  | _ => 0

abbrev bufTy : (tb : Table) → Fin (tcTables nBuf tb) → BufTy
  | .hbm, ⟨0, _⟩ => ⟨S2048x2048, .bf16⟩
  | .hbm, ⟨1, _⟩ => ⟨S4x2048x1408, .bf16⟩
  | .hbm, ⟨2, _⟩ => ⟨S4x2048x1408, .bf16⟩
  | .hbm, ⟨3, _⟩ => ⟨S2048x5632, .f32⟩
  | .hbm, ⟨4, _⟩ => ⟨S2048x5632, .f32⟩
  | .hbm, ⟨5, _⟩ => ⟨S2048x5632, .bf16⟩
  | .local _ .vmem, ⟨0, _⟩ => ⟨S256x2048, .bf16⟩
  | .local _ .vmem, ⟨1, _⟩ => ⟨S256x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .bf16⟩
  | .local _ .vmem, ⟨11, _⟩ => ⟨S256x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference11Ideal.lean ====
abbrev S2048x2048 : Shape := ⟨2, ![2048, 2048]⟩
abbrev S4x2048x1408 : Shape := ⟨3, ![4, 2048, 1408]⟩
abbrev S1x2048x1408 : Shape := ⟨3, ![1, 2048, 1408]⟩
abbrev S2048x1408 : Shape := ⟨2, ![2048, 1408]⟩
abbrev S2048x5632 : Shape := ⟨2, ![2048, 5632]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x1408, .bf16⟩
  | .hbm, ⟨2, _⟩ => ⟨S4x2048x1408, .bf16⟩
  | .hbm, ⟨3, _⟩ => ⟨S2048x2048, .f32⟩
  | .hbm, ⟨4, _⟩ => ⟨S4x2048x1408, .f32⟩
  | .hbm, ⟨5, _⟩ => ⟨S4x2048x1408, .f32⟩
  | .hbm, ⟨6, _⟩ => ⟨S1x2048x1408, .f32⟩
  | .hbm, ⟨7, _⟩ => ⟨S2048x1408, .f32⟩
  | .hbm, ⟨8, _⟩ => ⟨S1x2048x1408, .f32⟩
  | .hbm, ⟨9, _⟩ => ⟨S2048x1408, .f32⟩
  | .hbm, ⟨10, _⟩ => ⟨S1x2048x1408, .f32⟩
  | .hbm, ⟨11, _⟩ => ⟨S2048x1408, .f32⟩
  | .hbm, ⟨12, _⟩ => ⟨S1x2048x1408, .f32⟩
  | .hbm, ⟨13, _⟩ => ⟨S2048x1408, .f32⟩
  | .hbm, ⟨14, _⟩ => ⟨S2048x5632, .f32⟩
  | .hbm, ⟨15, _⟩ => ⟨S2048x5632, .f32⟩
  | .hbm, ⟨16, _⟩ => ⟨S1x2048x1408, .f32⟩
  | .hbm, ⟨17, _⟩ => ⟨S2048x1408, .f32⟩
  | .hbm, ⟨18, _⟩ => ⟨S1x2048x1408, .f32⟩
  | .hbm, ⟨19, _⟩ => ⟨S2048x1408, .f32⟩
  | .hbm, ⟨20, _⟩ => ⟨S1x2048x1408, .f32⟩
  | .hbm, ⟨21, _⟩ => ⟨S2048x1408, .f32⟩
  | .hbm, ⟨22, _⟩ => ⟨S1x2048x1408, .f32⟩
  | .hbm, ⟨23, _⟩ => ⟨S2048x1408, .f32⟩
  | .hbm, ⟨24, _⟩ => ⟨S2048x5632, .f32⟩
  | .hbm, ⟨25, _⟩ => ⟨S2048x5632, .f32⟩
  | .hbm, ⟨26, _⟩ => ⟨S2048x5632, .f32⟩
  | .hbm, ⟨27, _⟩ => ⟨S2048x5632, .f32⟩
  | .hbm, ⟨28, _⟩ => ⟨S_, .f32⟩
  | .hbm, ⟨29, _⟩ => ⟨S2048x5632, .f32⟩
  | .hbm, ⟨30, _⟩ => ⟨S2048x5632, .f32⟩
  | .hbm, ⟨31, _⟩ => ⟨S_, .f32⟩
  | .hbm, ⟨32, _⟩ => ⟨S2048x5632, .f32⟩
  | .hbm, ⟨33, _⟩ => ⟨S2048x5632, .f32⟩
  | .hbm, ⟨34, _⟩ => ⟨S2048x5632, .f32⟩
  | .hbm, ⟨35, _⟩ => ⟨S2048x5632, .f32⟩
  | .hbm, ⟨36, _⟩ => ⟨S2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Kernel12.lean ====
abbrev S2048x5632 : Shape := ⟨2, ![2048, 5632]⟩
abbrev S5632x2048 : Shape := ⟨2, ![5632, 2048]⟩
abbrev S2048x2048 : Shape := ⟨2, ![2048, 2048]⟩
abbrev S2048x1408 : Shape := ⟨2, ![2048, 1408]⟩
abbrev S1408x512 : Shape := ⟨2, ![1408, 512]⟩
abbrev S2048x512 : Shape := ⟨2, ![2048, 512]⟩

abbrev nBuf : Space → Nat
  | .hbm => 4
  | .vmem => 9
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .hbm, ⟨3, _⟩ => ⟨S2048x2048, .f32⟩
  | .local _ .vmem, ⟨0, _⟩ => ⟨S2048x1408, .bf16⟩
  | .local _ .vmem, ⟨1, _⟩ => ⟨S2048x1408, .bf16⟩
  | .local _ .vmem, ⟨2, _⟩ => ⟨S1408x512, .bf16⟩
  | .local _ .vmem, ⟨3, _⟩ => ⟨S1408x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S2048x512, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference12Ideal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .hbm, ⟨3, _⟩ => ⟨S2048x5632, .f32⟩
  | .hbm, ⟨4, _⟩ => ⟨S5632x2048, .f32⟩
  | .hbm, ⟨5, _⟩ => ⟨S2048x2048, .f32⟩
  | .hbm, ⟨6, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S2048x2048 : Shape := ⟨2, ![2048, 2048]⟩
abbrev S2048x512 : Shape := ⟨2, ![2048, 512]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S1352x2048 : Shape := ⟨2, ![1352, 2048]⟩
abbrev S104x2048 : Shape := ⟨2, ![104, 2048]⟩

abbrev nBuf : Space → Nat
  | .hbm => 7
  | .vmem => 14
  | .smem => 0
  | _ => 0

abbrev bufTy : (tb : Table) → Fin (tcTables nBuf tb) → BufTy
  | .hbm, ⟨0, _⟩ => ⟨S1352x2048, .f32⟩
  | .hbm, ⟨1, _⟩ => ⟨S1352x2048, .f32⟩
  | .hbm, ⟨2, _⟩ => ⟨S1352x2048, .f32⟩
  | .hbm, ⟨3, _⟩ => ⟨S1352x2048, .f32⟩
  | .hbm, ⟨4, _⟩ => ⟨S1352x2048, .f32⟩
  | .hbm, ⟨5, _⟩ => ⟨S1352x2048, .f32⟩
  | .hbm, ⟨6, _⟩ => ⟨S1352x2048, .f32⟩
  | .local _ .vmem, ⟨0, _⟩ => ⟨S104x2048, .f32⟩
  | .local _ .vmem, ⟨1, _⟩ => ⟨S104x2048, .f32⟩
  | .local _ .vmem, ⟨2, _⟩ => ⟨S104x2048, .f32⟩
  | .local _ .vmem, ⟨3, _⟩ => ⟨S104x2048, .f32⟩
  | .local _ .vmem, ⟨4, _⟩ => ⟨S104x2048, .f32⟩
  | .local _ .vmem, ⟨5, _⟩ => ⟨S104x2048, .f32⟩
  | .local _ .vmem, ⟨6, _⟩ => ⟨S104x2048, .f32⟩
  | .local _ .vmem, ⟨7, _⟩ => ⟨S104x2048, .f32⟩
  | .local _ .vmem, ⟨8, _⟩ => ⟨S104x2048, .f32⟩
  | .local _ .vmem, ⟨9, _⟩ => ⟨S104x2048, .f32⟩
  | .local _ .vmem, ⟨10, _⟩ => ⟨S104x2048, .f32⟩
  | .local _ .vmem, ⟨11, _⟩ => ⟨S104x2048, .f32⟩
  | .local _ .vmem, ⟨12, _⟩ => ⟨S104x2048, .f32⟩
  | .local _ .vmem, ⟨13, _⟩ => ⟨S104x2048, .f32⟩
  | _, _ => ⟨S1352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S104x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S104x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S104x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S104x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S104x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S104x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S104x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference14Ideal.lean ====
abbrev S1352x2048 : Shape := ⟨2, ![1352, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1352x2048, .f32⟩
  | .hbm, ⟨1, _⟩ => ⟨S1352x2048, .f32⟩
  | .hbm, ⟨2, _⟩ => ⟨S1352x2048, .f32⟩
  | .hbm, ⟨3, _⟩ => ⟨S1352x2048, .f32⟩
  | .hbm, ⟨4, _⟩ => ⟨S_, .f32⟩
  | .hbm, ⟨5, _⟩ => ⟨S1352x2048, .f32⟩
  | .hbm, ⟨6, _⟩ => ⟨S1352x2048, .f32⟩
  | .hbm, ⟨7, _⟩ => ⟨S_, .f32⟩
  | .hbm, ⟨8, _⟩ => ⟨S1352x2048, .f32⟩
  | .hbm, ⟨9, _⟩ => ⟨S1352x2048, .f32⟩
  | .hbm, ⟨10, _⟩ => ⟨S1352x2048, .f32⟩
  | .hbm, ⟨11, _⟩ => ⟨S_, .f32⟩
  | .hbm, ⟨12, _⟩ => ⟨S1352x2048, .f32⟩
  | .hbm, ⟨13, _⟩ => ⟨S1352x2048, .f32⟩
  | .hbm, ⟨14, _⟩ => ⟨S1352x2048, .f32⟩
  | .hbm, ⟨15, _⟩ => ⟨S_, .f32⟩
  | .hbm, ⟨16, _⟩ => ⟨S1352x2048, .f32⟩
  | .hbm, ⟨17, _⟩ => ⟨S1352x2048, .f32⟩
  | .hbm, ⟨18, _⟩ => ⟨S1352x2048, .f32⟩
  | .hbm, ⟨19, _⟩ => ⟨S_, .f32⟩
  | .hbm, ⟨20, _⟩ => ⟨S1352x2048, .f32⟩
  | .hbm, ⟨21, _⟩ => ⟨S1352x2048, .f32⟩
  | .hbm, ⟨22, _⟩ => ⟨S_, .f32⟩
  | .hbm, ⟨23, _⟩ => ⟨S1352x2048, .f32⟩
  | .hbm, ⟨24, _⟩ => ⟨S1352x2048, .f32⟩
  | .hbm, ⟨25, _⟩ => ⟨S1352x2048, .f32⟩
  | .hbm, ⟨26, _⟩ => ⟨S_, .f32⟩
  | .hbm, ⟨27, _⟩ => ⟨S1352x2048, .f32⟩
  | .hbm, ⟨28, _⟩ => ⟨S1352x2048, .f32⟩
  | .hbm, ⟨29, _⟩ => ⟨S1352x2048, .f32⟩
  | .hbm, ⟨30, _⟩ => ⟨S_, .f32⟩
  | .hbm, ⟨31, _⟩ => ⟨S1352x2048, .f32⟩
  | .hbm, ⟨32, _⟩ => ⟨S1352x2048, .f32⟩
  | .hbm, ⟨33, _⟩ => ⟨S1352x2048, .f32⟩
  | .hbm, ⟨34, _⟩ => ⟨S_, .f32⟩
  | .hbm, ⟨35, _⟩ => ⟨S1352x2048, .f32⟩
  | .hbm, ⟨36, _⟩ => ⟨S1352x2048, .f32⟩
  | _, _ => ⟨S1352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S512x2048 : Shape := ⟨2, ![512, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference15Ideal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S2048x1408 : Shape := ⟨2, ![2048, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference16Ideal.lean ====
abbrev S2048x1408 : Shape := ⟨2, ![2048, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S_, .f32⟩
  | .hbm, ⟨5, _⟩ => ⟨S2048x1408, .f32⟩
  | .hbm, ⟨6, _⟩ => ⟨S2048x1408, .f32⟩
  | .hbm, ⟨7, _⟩ => ⟨S_, .f32⟩
  | .hbm, ⟨8, _⟩ => ⟨S2048x1408, .f32⟩
  | .hbm, ⟨9, _⟩ => ⟨S2048x1408, .f32⟩
  | .hbm, ⟨10, _⟩ => ⟨S2048x1408, .f32⟩
  | .hbm, ⟨11, _⟩ => ⟨S_, .f32⟩
  | .hbm, ⟨12, _⟩ => ⟨S2048x1408, .f32⟩
  | .hbm, ⟨13, _⟩ => ⟨S2048x1408, .f32⟩
  | .hbm, ⟨14, _⟩ => ⟨S2048x1408, .f32⟩
  | .hbm, ⟨15, _⟩ => ⟨S_, .f32⟩
  | .hbm, ⟨16, _⟩ => ⟨S2048x1408, .f32⟩
  | .hbm, ⟨17, _⟩ => ⟨S2048x1408, .f32⟩
  | .hbm, ⟨18, _⟩ => ⟨S2048x1408, .f32⟩
  | .hbm, ⟨19, _⟩ => ⟨S_, .f32⟩
  | .hbm, ⟨20, _⟩ => ⟨S2048x1408, .f32⟩
  | .hbm, ⟨21, _⟩ => ⟨S2048x1408, .f32⟩
  | .hbm, ⟨22, _⟩ => ⟨S_, .f32⟩
  | .hbm, ⟨23, _⟩ => ⟨S2048x1408, .f32⟩
  | .hbm, ⟨24, _⟩ => ⟨S2048x1408, .f32⟩
  | .hbm, ⟨25, _⟩ => ⟨S2048x1408, .f32⟩
  | .hbm, ⟨26, _⟩ => ⟨S_, .f32⟩
  | .hbm, ⟨27, _⟩ => ⟨S2048x1408, .f32⟩
  | .hbm, ⟨28, _⟩ => ⟨S2048x1408, .f32⟩
  | .hbm, ⟨29, _⟩ => ⟨S2048x1408, .f32⟩
  | .hbm, ⟨30, _⟩ => ⟨S_, .f32⟩
  | .hbm, ⟨31, _⟩ => ⟨S2048x1408, .f32⟩
  | .hbm, ⟨32, _⟩ => ⟨S2048x1408, .f32⟩
  | .hbm, ⟨33, _⟩ => ⟨S2048x1408, .f32⟩
  | .hbm, ⟨34, _⟩ => ⟨S_, .f32⟩
  | .hbm, ⟨35, _⟩ => ⟨S2048x1408, .f32⟩
  | .hbm, ⟨36, _⟩ => ⟨S2048x1408, .f32⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S1408x2048 : Shape := ⟨2, ![1408, 2048]⟩
abbrev S176x2048 : Shape := ⟨2, ![176, 2048]⟩

abbrev nBuf : Space → Nat
  | .hbm => 7
  | .vmem => 14
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S1408x2048, .f32⟩
  | .hbm, ⟨5, _⟩ => ⟨S1408x2048, .f32⟩
  | .hbm, ⟨6, _⟩ => ⟨S1408x2048, .f32⟩
  | .local _ .vmem, ⟨0, _⟩ => ⟨S176x2048, .f32⟩
  | .local _ .vmem, ⟨1, _⟩ => ⟨S176x2048, .f32⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S176x2048, .f32⟩
  | .local _ .vmem, ⟨7, _⟩ => ⟨S176x2048, .f32⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference17Ideal.lean ====
abbrev S1408x2048 : Shape := ⟨2, ![1408, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S_, .f32⟩
  | .hbm, ⟨5, _⟩ => ⟨S1408x2048, .f32⟩
  | .hbm, ⟨6, _⟩ => ⟨S1408x2048, .f32⟩
  | .hbm, ⟨7, _⟩ => ⟨S_, .f32⟩
  | .hbm, ⟨8, _⟩ => ⟨S1408x2048, .f32⟩
  | .hbm, ⟨9, _⟩ => ⟨S1408x2048, .f32⟩
  | .hbm, ⟨10, _⟩ => ⟨S1408x2048, .f32⟩
  | .hbm, ⟨11, _⟩ => ⟨S_, .f32⟩
  | .hbm, ⟨12, _⟩ => ⟨S1408x2048, .f32⟩
  | .hbm, ⟨13, _⟩ => ⟨S1408x2048, .f32⟩
  | .hbm, ⟨14, _⟩ => ⟨S1408x2048, .f32⟩
  | .hbm, ⟨15, _⟩ => ⟨S_, .f32⟩
  | .hbm, ⟨16, _⟩ => ⟨S1408x2048, .f32⟩
  | .hbm, ⟨17, _⟩ => ⟨S1408x2048, .f32⟩
  | .hbm, ⟨18, _⟩ => ⟨S1408x2048, .f32⟩
  | .hbm, ⟨19, _⟩ => ⟨S_, .f32⟩
  | .hbm, ⟨20, _⟩ => ⟨S1408x2048, .f32⟩
  | .hbm, ⟨21, _⟩ => ⟨S1408x2048, .f32⟩
  | .hbm, ⟨22, _⟩ => ⟨S_, .f32⟩
  | .hbm, ⟨23, _⟩ => ⟨S1408x2048, .f32⟩
  | .hbm, ⟨24, _⟩ => ⟨S1408x2048, .f32⟩
  | .hbm, ⟨25, _⟩ => ⟨S1408x2048, .f32⟩
  | .hbm, ⟨26, _⟩ => ⟨S_, .f32⟩
  | .hbm, ⟨27, _⟩ => ⟨S1408x2048, .f32⟩
  | .hbm, ⟨28, _⟩ => ⟨S1408x2048, .f32⟩
  | .hbm, ⟨29, _⟩ => ⟨S1408x2048, .f32⟩
  | .hbm, ⟨30, _⟩ => ⟨S_, .f32⟩
  | .hbm, ⟨31, _⟩ => ⟨S1408x2048, .f32⟩
  | .hbm, ⟨32, _⟩ => ⟨S1408x2048, .f32⟩
  | .hbm, ⟨33, _⟩ => ⟨S1408x2048, .f32⟩
  | .hbm, ⟨34, _⟩ => ⟨S_, .f32⟩
  | .hbm, ⟨35, _⟩ => ⟨S1408x2048, .f32⟩
  | .hbm, ⟨36, _⟩ => ⟨S1408x2048, .f32⟩
  | _, _ => ⟨S1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S448x1024 : Shape := ⟨2, ![448, 1024]⟩
abbrev S224x1024 : Shape := ⟨2, ![224, 1024]⟩

abbrev nBuf : Space → Nat
  | .hbm => 7
  | .vmem => 14
  | .smem => 0
  | _ => 0

abbrev bufTy : (tb : Table) → Fin (tcTables nBuf tb) → BufTy
  | .hbm, ⟨0, _⟩ => ⟨S448x1024, .f32⟩
  | .hbm, ⟨1, _⟩ => ⟨S448x1024, .f32⟩
  | .hbm, ⟨2, _⟩ => ⟨S448x1024, .f32⟩
  | .hbm, ⟨3, _⟩ => ⟨S448x1024, .f32⟩
  | .hbm, ⟨4, _⟩ => ⟨S448x1024, .f32⟩
  | .hbm, ⟨5, _⟩ => ⟨S448x1024, .f32⟩
  | .hbm, ⟨6, _⟩ => ⟨S448x1024, .f32⟩
  | .local _ .vmem, ⟨0, _⟩ => ⟨S224x1024, .f32⟩
  | .local _ .vmem, ⟨1, _⟩ => ⟨S224x1024, .f32⟩
  | .local _ .vmem, ⟨2, _⟩ => ⟨S224x1024, .f32⟩
  | .local _ .vmem, ⟨3, _⟩ => ⟨S224x1024, .f32⟩
  | .local _ .vmem, ⟨4, _⟩ => ⟨S224x1024, .f32⟩
  | .local _ .vmem, ⟨5, _⟩ => ⟨S224x1024, .f32⟩
  | .local _ .vmem, ⟨6, _⟩ => ⟨S224x1024, .f32⟩
  | .local _ .vmem, ⟨7, _⟩ => ⟨S224x1024, .f32⟩
  | .local _ .vmem, ⟨8, _⟩ => ⟨S224x1024, .f32⟩
  | .local _ .vmem, ⟨9, _⟩ => ⟨S224x1024, .f32⟩
  | .local _ .vmem, ⟨10, _⟩ => ⟨S224x1024, .f32⟩
  | .local _ .vmem, ⟨11, _⟩ => ⟨S224x1024, .f32⟩
  | .local _ .vmem, ⟨12, _⟩ => ⟨S224x1024, .f32⟩
  | .local _ .vmem, ⟨13, _⟩ => ⟨S224x1024, .f32⟩
  | _, _ => ⟨S448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S224x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S224x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S224x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S224x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S224x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S224x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S224x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference18Ideal.lean ====
abbrev S448x1024 : Shape := ⟨2, ![448, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S448x1024, .f32⟩
  | .hbm, ⟨1, _⟩ => ⟨S448x1024, .f32⟩
  | .hbm, ⟨2, _⟩ => ⟨S448x1024, .f32⟩
  | .hbm, ⟨3, _⟩ => ⟨S448x1024, .f32⟩
  | .hbm, ⟨4, _⟩ => ⟨S_, .f32⟩
  | .hbm, ⟨5, _⟩ => ⟨S448x1024, .f32⟩
  | .hbm, ⟨6, _⟩ => ⟨S448x1024, .f32⟩
  | .hbm, ⟨7, _⟩ => ⟨S_, .f32⟩
  | .hbm, ⟨8, _⟩ => ⟨S448x1024, .f32⟩
  | .hbm, ⟨9, _⟩ => ⟨S448x1024, .f32⟩
  | .hbm, ⟨10, _⟩ => ⟨S448x1024, .f32⟩
  | .hbm, ⟨11, _⟩ => ⟨S_, .f32⟩
  | .hbm, ⟨12, _⟩ => ⟨S448x1024, .f32⟩
  | .hbm, ⟨13, _⟩ => ⟨S448x1024, .f32⟩
  | .hbm, ⟨14, _⟩ => ⟨S448x1024, .f32⟩
  | .hbm, ⟨15, _⟩ => ⟨S_, .f32⟩
  | .hbm, ⟨16, _⟩ => ⟨S448x1024, .f32⟩
  | .hbm, ⟨17, _⟩ => ⟨S448x1024, .f32⟩
  | .hbm, ⟨18, _⟩ => ⟨S448x1024, .f32⟩
  | .hbm, ⟨19, _⟩ => ⟨S_, .f32⟩
  | .hbm, ⟨20, _⟩ => ⟨S448x1024, .f32⟩
  | .hbm, ⟨21, _⟩ => ⟨S448x1024, .f32⟩
  | .hbm, ⟨22, _⟩ => ⟨S_, .f32⟩
  | .hbm, ⟨23, _⟩ => ⟨S448x1024, .f32⟩
  | .hbm, ⟨24, _⟩ => ⟨S448x1024, .f32⟩
  | .hbm, ⟨25, _⟩ => ⟨S448x1024, .f32⟩
  | .hbm, ⟨26, _⟩ => ⟨S_, .f32⟩
  | .hbm, ⟨27, _⟩ => ⟨S448x1024, .f32⟩
  | .hbm, ⟨28, _⟩ => ⟨S448x1024, .f32⟩
  | .hbm, ⟨29, _⟩ => ⟨S448x1024, .f32⟩
  | .hbm, ⟨30, _⟩ => ⟨S_, .f32⟩
  | .hbm, ⟨31, _⟩ => ⟨S448x1024, .f32⟩
  | .hbm, ⟨32, _⟩ => ⟨S448x1024, .f32⟩
  | .hbm, ⟨33, _⟩ => ⟨S448x1024, .f32⟩
  | .hbm, ⟨34, _⟩ => ⟨S_, .f32⟩
  | .hbm, ⟨35, _⟩ => ⟨S448x1024, .f32⟩
  | .hbm, ⟨36, _⟩ => ⟨S448x1024, .f32⟩
  | _, _ => ⟨S448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S1x2048, .f32⟩
  | .hbm, ⟨6, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | .local _ .vmem, ⟨10, _⟩ => ⟨S256x2048, .bf16⟩
  | .local _ .vmem, ⟨11, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v41 : BitVec 1 := Scalar.cmpi .eq arg0 c0_i32
  let v42 : BitVec 32 := Scalar.extui v41
  let c0_i32_18 : BitVec 32 := 0#32
  let v43 : BitVec 1 := Scalar.cmpi .ne v42 c0_i32_18
  v43

def k0_cond2 (i : grid0.Coords) : BitVec 1 :=
  let arg0 : BitVec 32 := BitVec.ofNat 32 (i 0).val
  let c0_i32 : BitVec 32 := 0#32
  let v41 : BitVec 1 := Scalar.cmpi .eq arg0 c0_i32
  let v_true : BitVec 1 := 1#1
  let v44 : BitVec 1 := Scalar.xori v41 v_true
  let v45 : BitVec 32 := Scalar.extui v44
  let c0_i32_19 : BitVec 32 := 0#32
  let v46 : BitVec 1 := Scalar.cmpi .ne v45 c0_i32_19
  v46

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference19Ideal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩

abbrev nBuf : Space → Nat
  | .hbm => 53
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S1x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048, .f32⟩
  | .hbm, ⟨33, _⟩ => ⟨S2048x2048, .f32⟩
  | .hbm, ⟨34, _⟩ => ⟨S_, .f32⟩
  | .hbm, ⟨35, _⟩ => ⟨S2048, .f32⟩
  | .hbm, ⟨36, _⟩ => ⟨S2048x1, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x1, .f32⟩
  | .hbm, ⟨41, _⟩ => ⟨S_, .f32⟩
  | .hbm, ⟨42, _⟩ => ⟨S2048x1, .f32⟩
  | .hbm, ⟨43, _⟩ => ⟨S2048x1, .f32⟩
  | .hbm, ⟨44, _⟩ => ⟨S_, .f32⟩
  | .hbm, ⟨45, _⟩ => ⟨S2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S1x2048, .f32⟩
  | .hbm, ⟨52, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel20.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v39 : BitVec 1 := Scalar.cmpi .eq arg0 c0_i32
  let v40 : BitVec 32 := Scalar.extui v39
  let c0_i32_16 : BitVec 32 := 0#32
  let v41 : BitVec 1 := Scalar.cmpi .ne v40 c0_i32_16
  v41

def k0_cond2 (i : grid0.Coords) : BitVec 1 :=
  let arg0 : BitVec 32 := BitVec.ofNat 32 (i 0).val
  let c0_i32 : BitVec 32 := 0#32
  let v39 : BitVec 1 := Scalar.cmpi .eq arg0 c0_i32
  let v_true : BitVec 1 := 1#1
  let v42 : BitVec 1 := Scalar.xori v39 v_true
  let v43 : BitVec 32 := Scalar.extui v42
  let c0_i32_17 : BitVec 32 := 0#32
  let v44 : BitVec 1 := Scalar.cmpi .ne v43 c0_i32_17
  v44

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference20Ideal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩

abbrev nBuf : Space → Nat
  | .hbm => 52
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S1x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048, .f32⟩
  | .hbm, ⟨33, _⟩ => ⟨S2048x2048, .f32⟩
  | .hbm, ⟨34, _⟩ => ⟨S_, .f32⟩
  | .hbm, ⟨35, _⟩ => ⟨S2048, .f32⟩
  | .hbm, ⟨36, _⟩ => ⟨S2048x1, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x1, .f32⟩
  | .hbm, ⟨41, _⟩ => ⟨S_, .f32⟩
  | .hbm, ⟨42, _⟩ => ⟨S2048x1, .f32⟩
  | .hbm, ⟨43, _⟩ => ⟨S2048x1, .f32⟩
  | .hbm, ⟨44, _⟩ => ⟨S_, .f32⟩
  | .hbm, ⟨45, _⟩ => ⟨S2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel21.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference21Ideal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩

abbrev nBuf : Space → Nat
  | .hbm => 20
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x2048, .f32⟩
  | .hbm, ⟨15, _⟩ => ⟨S2048x2048, .f32⟩
  | .hbm, ⟨16, _⟩ => ⟨S1x2048, .f32⟩
  | .hbm, ⟨17, _⟩ => ⟨S2048x2048, .f32⟩
  | .hbm, ⟨18, _⟩ => ⟨S2048x2048, .f32⟩
  | .hbm, ⟨19, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel22.lean ====
abbrev S2048x2048 : Shape := ⟨2, ![2048, 2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x128, .f32⟩
  | .hbm, ⟨4, _⟩ => ⟨S2048x2048, .f32⟩
  | .hbm, ⟨5, _⟩ => ⟨S1x2048, .f32⟩
  | .hbm, ⟨6, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x128, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S256x2048, .bf16⟩
  | .local _ .vmem, ⟨10, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v55 : BitVec 1 := Scalar.cmpi .eq arg0 c0_i32
  let v56 : BitVec 32 := Scalar.extui v55
  let c0_i32_21 : BitVec 32 := 0#32
  let v57 : BitVec 1 := Scalar.cmpi .ne v56 c0_i32_21
  v57

def k0_cond2 (i : grid0.Coords) : BitVec 1 :=
  let arg0 : BitVec 32 := BitVec.ofNat 32 (i 0).val
  let c0_i32 : BitVec 32 := 0#32
  let v55 : BitVec 1 := Scalar.cmpi .eq arg0 c0_i32
  let v_true : BitVec 1 := 1#1
  let v58 : BitVec 1 := Scalar.xori v55 v_true
  let v59 : BitVec 32 := Scalar.extui v58
  let c0_i32_22 : BitVec 32 := 0#32
  let v60 : BitVec 1 := Scalar.cmpi .ne v59 c0_i32_22
  v60

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference22Ideal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩
abbrev S1x128 : Shape := ⟨2, ![1, 128]⟩

abbrev nBuf : Space → Nat
  | .hbm => 75
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048, .f32⟩
  | .hbm, ⟨31, _⟩ => ⟨S_, .f32⟩
  | .hbm, ⟨32, _⟩ => ⟨S2048, .f32⟩
  | .hbm, ⟨33, _⟩ => ⟨S2048, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S2048, .f32⟩
  | .hbm, ⟨42, _⟩ => ⟨S_, .f32⟩
  | .hbm, ⟨43, _⟩ => ⟨S2048, .f32⟩
  | .hbm, ⟨44, _⟩ => ⟨S2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S2048x2048, .f32⟩
  | .hbm, ⟨52, _⟩ => ⟨S2048x2048, .f32⟩
  | .hbm, ⟨53, _⟩ => ⟨S_, .f32⟩
  | .hbm, ⟨54, _⟩ => ⟨S2048, .f32⟩
  | .hbm, ⟨55, _⟩ => ⟨S2048x2048, .f32⟩
  | .hbm, ⟨56, _⟩ => ⟨S_, .f32⟩
  | .hbm, ⟨57, _⟩ => ⟨S2048, .f32⟩
  | .hbm, ⟨58, _⟩ => ⟨S2048x1, .f32⟩
  | .hbm, ⟨59, _⟩ => ⟨S2048x2048, .f32⟩
  | .hbm, ⟨60, _⟩ => ⟨S2048x2048, .f32⟩
  | .hbm, ⟨61, _⟩ => ⟨S2048x1, .f32⟩
  | .hbm, ⟨62, _⟩ => ⟨S_, .f32⟩
  | .hbm, ⟨63, _⟩ => ⟨S2048x1, .f32⟩
  | .hbm, ⟨64, _⟩ => ⟨S2048x1, .f32⟩
  | .hbm, ⟨65, _⟩ => ⟨S_, .f32⟩
  | .hbm, ⟨66, _⟩ => ⟨S2048, .f32⟩
  | .hbm, ⟨67, _⟩ => ⟨S2048x2048, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S2048x2048, .f32⟩
  | .hbm, ⟨72, _⟩ => ⟨S1x2048, .f32⟩
  | .hbm, ⟨73, _⟩ => ⟨S1x128, .f32⟩
  | .hbm, ⟨74, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== Kernel23.lean ====
abbrev S2048x5632 : Shape := ⟨2, ![2048, 5632]⟩
abbrev S1x3360 : Shape := ⟨2, ![1, 3360]⟩
abbrev S1x3072 : Shape := ⟨2, ![1, 3072]⟩
abbrev S2048x3072 : Shape := ⟨2, ![2048, 3072]⟩
abbrev S256x3072 : Shape := ⟨2, ![256, 3072]⟩
abbrev S8x3072 : Shape := ⟨2, ![8, 3072]⟩

abbrev nBuf : Space → Nat
  | .hbm => 4
  | .vmem => 7
  | .smem => 0
  | _ => 0

abbrev bufTy : (tb : Table) → Fin (tcTables nBuf tb) → BufTy
  | .hbm, ⟨0, _⟩ => ⟨S2048x5632, .f32⟩
  | .hbm, ⟨1, _⟩ => ⟨S1x3360, .f32⟩
  | .hbm, ⟨2, _⟩ => ⟨S1x3072, .f32⟩
  | .hbm, ⟨3, _⟩ => ⟨S2048x3072, .f32⟩
  | .local _ .vmem, ⟨0, _⟩ => ⟨S256x3072, .f32⟩
  | .local _ .vmem, ⟨1, _⟩ => ⟨S256x3072, .f32⟩
  | .local _ .vmem, ⟨2, _⟩ => ⟨S8x3072, .f32⟩
  | .local _ .vmem, ⟨3, _⟩ => ⟨S8x3072, .f32⟩
  | .local _ .vmem, ⟨4, _⟩ => ⟨S1x3072, .f32⟩
  | .local _ .vmem, ⟨5, _⟩ => ⟨S256x3072, .f32⟩
  | .local _ .vmem, ⟨6, _⟩ => ⟨S256x3072, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference23Ideal.lean ====
abbrev S2048x5632 : Shape := ⟨2, ![2048, 5632]⟩
abbrev S1x3360 : Shape := ⟨2, ![1, 3360]⟩
abbrev S2048x3072 : Shape := ⟨2, ![2048, 3072]⟩
abbrev S1x2048x3072 : Shape := ⟨3, ![1, 2048, 3072]⟩
abbrev S1x3072 : Shape := ⟨2, ![1, 3072]⟩
abbrev S3072 : Shape := ⟨1, ![3072]⟩
abbrev S1x2047x3072 : Shape := ⟨3, ![1, 2047, 3072]⟩
abbrev S_ : Shape := ⟨0, ![]⟩
abbrev S1x1x3072 : Shape := ⟨3, ![1, 1, 3072]⟩

abbrev nBuf : Space → Nat
  | .hbm => 16
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S1x3360, .f32⟩
  | .hbm, ⟨2, _⟩ => ⟨S2048x3072, .f32⟩
  | .hbm, ⟨3, _⟩ => ⟨S1x2048x3072, .f32⟩
  | .hbm, ⟨4, _⟩ => ⟨S1x3072, .f32⟩
  | .hbm, ⟨5, _⟩ => ⟨S3072, .f32⟩
  | .hbm, ⟨6, _⟩ => ⟨S1x2047x3072, .f32⟩
  | .hbm, ⟨7, _⟩ => ⟨S_, .i32⟩
  | .hbm, ⟨8, _⟩ => ⟨S_, .f32⟩
  | .hbm, ⟨9, _⟩ => ⟨S1x2048x3072, .f32⟩
  | .hbm, ⟨10, _⟩ => ⟨S1x2048x3072, .f32⟩
  | .hbm, ⟨11, _⟩ => ⟨S1x1x3072, .f32⟩
  | .hbm, ⟨12, _⟩ => ⟨S1x2048x3072, .f32⟩
  | .hbm, ⟨13, _⟩ => ⟨S1x2048x3072, .f32⟩
  | .hbm, ⟨14, _⟩ => ⟨S1x2048x3072, .f32⟩
  | .hbm, ⟨15, _⟩ => ⟨S2048x3072, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel24.lean ====
abbrev S2048x5632 : Shape := ⟨2, ![2048, 5632]⟩
abbrev S1x3360 : Shape := ⟨2, ![1, 3360]⟩
abbrev S1x288 : Shape := ⟨2, ![1, 288]⟩
abbrev S_ : Shape := ⟨0, ![]⟩
abbrev S1x512 : Shape := ⟨2, ![1, 512]⟩
abbrev S2048x512 : Shape := ⟨2, ![2048, 512]⟩
abbrev S256x512 : Shape := ⟨2, ![256, 512]⟩
abbrev S8x512 : Shape := ⟨2, ![8, 512]⟩

abbrev nBuf : Space → Nat
  | .hbm => 7
  | .vmem => 7
  | .smem => 0
  | _ => 0

abbrev bufTy : (tb : Table) → Fin (tcTables nBuf tb) → BufTy
  | .hbm, ⟨0, _⟩ => ⟨S2048x5632, .f32⟩
  | .hbm, ⟨1, _⟩ => ⟨S1x3360, .f32⟩
  | .hbm, ⟨2, _⟩ => ⟨S1x288, .f32⟩
  | .hbm, ⟨3, _⟩ => ⟨S_, .i32⟩
  | .hbm, ⟨4, _⟩ => ⟨S_, .f32⟩
  | .hbm, ⟨5, _⟩ => ⟨S1x512, .f32⟩
  | .hbm, ⟨6, _⟩ => ⟨S2048x512, .f32⟩
  | .local _ .vmem, ⟨0, _⟩ => ⟨S256x512, .f32⟩
  | .local _ .vmem, ⟨1, _⟩ => ⟨S256x512, .f32⟩
  | .local _ .vmem, ⟨2, _⟩ => ⟨S8x512, .f32⟩
  | .local _ .vmem, ⟨3, _⟩ => ⟨S8x512, .f32⟩
  | .local _ .vmem, ⟨4, _⟩ => ⟨S1x512, .f32⟩
  | .local _ .vmem, ⟨5, _⟩ => ⟨S256x512, .f32⟩
  | .local _ .vmem, ⟨6, _⟩ => ⟨S256x512, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c10_i32 : BitVec 32 := 10#32
  let c0_i32_0 : BitVec 32 := 0#32
  ![v2.toNat, c10_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference24Ideal.lean ====
abbrev S2048x5632 : Shape := ⟨2, ![2048, 5632]⟩
abbrev S1x3360 : Shape := ⟨2, ![1, 3360]⟩
abbrev S1x288 : Shape := ⟨2, ![1, 288]⟩
abbrev S288 : Shape := ⟨1, ![288]⟩
abbrev S_ : Shape := ⟨0, ![]⟩
abbrev S512 : Shape := ⟨1, ![512]⟩
abbrev S2048x512 : Shape := ⟨2, ![2048, 512]⟩
abbrev S1x2048x512 : Shape := ⟨3, ![1, 2048, 512]⟩
abbrev S1x2047x512 : Shape := ⟨3, ![1, 2047, 512]⟩
abbrev S1x1x512 : Shape := ⟨3, ![1, 1, 512]⟩

abbrev nBuf : Space → Nat
  | .hbm => 19
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S1x3360, .f32⟩
  | .hbm, ⟨2, _⟩ => ⟨S1x288, .f32⟩
  | .hbm, ⟨3, _⟩ => ⟨S288, .f32⟩
  | .hbm, ⟨4, _⟩ => ⟨S_, .i32⟩
  | .hbm, ⟨5, _⟩ => ⟨S_, .f32⟩
  | .hbm, ⟨6, _⟩ => ⟨S512, .f32⟩
  | .hbm, ⟨7, _⟩ => ⟨S2048x512, .f32⟩
  | .hbm, ⟨8, _⟩ => ⟨S1x2048x512, .f32⟩
  | .hbm, ⟨9, _⟩ => ⟨S1x2047x512, .f32⟩
  | .hbm, ⟨10, _⟩ => ⟨S_, .i32⟩
  | .hbm, ⟨11, _⟩ => ⟨S_, .f32⟩
  | .hbm, ⟨12, _⟩ => ⟨S1x2048x512, .f32⟩
  | .hbm, ⟨13, _⟩ => ⟨S1x2048x512, .f32⟩
  | .hbm, ⟨14, _⟩ => ⟨S1x1x512, .f32⟩
  | .hbm, ⟨15, _⟩ => ⟨S1x2048x512, .f32⟩
  | .hbm, ⟨16, _⟩ => ⟨S1x2048x512, .f32⟩
  | .hbm, ⟨17, _⟩ => ⟨S1x2048x512, .f32⟩
  | .hbm, ⟨18, _⟩ => ⟨S2048x512, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_call1_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Kernel25.lean ====
abbrev S2048x3072 : Shape := ⟨2, ![2048, 3072]⟩
abbrev S2048x5632 : Shape := ⟨2, ![2048, 5632]⟩
abbrev S1x3360 : Shape := ⟨2, ![1, 3360]⟩
abbrev S1x3072 : Shape := ⟨2, ![1, 3072]⟩
abbrev S256x3072 : Shape := ⟨2, ![256, 3072]⟩
abbrev S8x3072 : Shape := ⟨2, ![8, 3072]⟩
abbrev S3072 : Shape := ⟨1, ![3072]⟩

abbrev nBuf : Space → Nat
  | .hbm => 6
  | .vmem => 12
  | .smem => 0
  | _ => 0

abbrev bufTy : (tb : Table) → Fin (tcTables nBuf tb) → BufTy
  | .hbm, ⟨0, _⟩ => ⟨S2048x3072, .f32⟩
  | .hbm, ⟨1, _⟩ => ⟨S2048x5632, .f32⟩
  | .hbm, ⟨2, _⟩ => ⟨S1x3360, .f32⟩
  | .hbm, ⟨3, _⟩ => ⟨S1x3072, .f32⟩
  | .hbm, ⟨4, _⟩ => ⟨S2048x3072, .bf16⟩
  | .hbm, ⟨5, _⟩ => ⟨S1x3072, .f32⟩
  | .local _ .vmem, ⟨0, _⟩ => ⟨S256x3072, .f32⟩
  | .local _ .vmem, ⟨1, _⟩ => ⟨S256x3072, .f32⟩
  | .local _ .vmem, ⟨2, _⟩ => ⟨S8x3072, .f32⟩
  | .local _ .vmem, ⟨3, _⟩ => ⟨S8x3072, .f32⟩
  | .local _ .vmem, ⟨4, _⟩ => ⟨S256x3072, .f32⟩
  | .local _ .vmem, ⟨5, _⟩ => ⟨S256x3072, .f32⟩
  | .local _ .vmem, ⟨6, _⟩ => ⟨S8x3072, .f32⟩
  | .local _ .vmem, ⟨7, _⟩ => ⟨S8x3072, .f32⟩
  | .local _ .vmem, ⟨8, _⟩ => ⟨S1x3072, .f32⟩
  | .local _ .vmem, ⟨9, _⟩ => ⟨S256x3072, .bf16⟩
  | .local _ .vmem, ⟨10, _⟩ => ⟨S256x3072, .bf16⟩
  | .local _ .vmem, ⟨11, _⟩ => ⟨S1x3072, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_16 : BitVec 32 := 0#32
  let v40 : BitVec 1 := Scalar.cmpi .eq arg0 c0_i32_16
  let v41 : BitVec 32 := Scalar.extui v40
  let c0_i32_17 : BitVec 32 := 0#32
  let v42 : BitVec 1 := Scalar.cmpi .ne v41 c0_i32_17
  v42

def k0_cond2 (i : grid0.Coords) : BitVec 1 :=
  let arg0 : BitVec 32 := BitVec.ofNat 32 (i 0).val
  let c0_i32_18 : BitVec 32 := 0#32
  let v43 : BitVec 1 := Scalar.cmpi .sgt arg0 c0_i32_18
  let v44 : BitVec 32 := Scalar.extui v43
  let c0_i32_19 : BitVec 32 := 0#32
  let v45 : BitVec 1 := Scalar.cmpi .ne v44 c0_i32_19
  v45

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference25Ideal.lean ====
abbrev S2048x3072 : Shape := ⟨2, ![2048, 3072]⟩
abbrev S2048x5632 : Shape := ⟨2, ![2048, 5632]⟩
abbrev S1x3360 : Shape := ⟨2, ![1, 3360]⟩
abbrev S1x3072 : Shape := ⟨2, ![1, 3072]⟩
abbrev S_ : Shape := ⟨0, ![]⟩
abbrev S2047x3072 : Shape := ⟨2, ![2047, 3072]⟩
abbrev S3072 : Shape := ⟨1, ![3072]⟩

abbrev nBuf : Space → Nat
  | .hbm => 32
  | .vmem => 0
  | .smem => 0
  | _ => 0

abbrev bufTy : (tb : Table) → Fin (tcTables nBuf tb) → BufTy
  | .hbm, ⟨0, _⟩ => ⟨S2048x3072, .f32⟩
  | .hbm, ⟨1, _⟩ => ⟨S2048x5632, .f32⟩
  | .hbm, ⟨2, _⟩ => ⟨S1x3360, .f32⟩
  | .hbm, ⟨3, _⟩ => ⟨S2048x3072, .f32⟩
  | .hbm, ⟨4, _⟩ => ⟨S1x3072, .f32⟩
  | .hbm, ⟨5, _⟩ => ⟨S1x3072, .f32⟩
  | .hbm, ⟨6, _⟩ => ⟨S_, .f32⟩
  | .hbm, ⟨7, _⟩ => ⟨S1x3072, .f32⟩
  | .hbm, ⟨8, _⟩ => ⟨S2047x3072, .f32⟩
  | .hbm, ⟨9, _⟩ => ⟨S2048x3072, .f32⟩
  | .hbm, ⟨10, _⟩ => ⟨S_, .f32⟩
  | .hbm, ⟨11, _⟩ => ⟨S1x3072, .f32⟩
  | .hbm, ⟨12, _⟩ => ⟨S2048x3072, .f32⟩
  | .hbm, ⟨13, _⟩ => ⟨S2048x3072, .f32⟩
  | .hbm, ⟨14, _⟩ => ⟨S2048x3072, .f32⟩
  | .hbm, ⟨15, _⟩ => ⟨S2048x3072, .f32⟩
  | .hbm, ⟨16, _⟩ => ⟨S2048x3072, .f32⟩
  | .hbm, ⟨17, _⟩ => ⟨S2048x3072, .f32⟩
  | .hbm, ⟨18, _⟩ => ⟨S2048x3072, .f32⟩
  | .hbm, ⟨19, _⟩ => ⟨S_, .f32⟩
  | .hbm, ⟨20, _⟩ => ⟨S3072, .f32⟩
  | .hbm, ⟨21, _⟩ => ⟨S1x3072, .f32⟩
  | .hbm, ⟨22, _⟩ => ⟨S2048x3072, .f32⟩
  | .hbm, ⟨23, _⟩ => ⟨S2048x3072, .f32⟩
  | .hbm, ⟨24, _⟩ => ⟨S2048x3072, .f32⟩
  | .hbm, ⟨25, _⟩ => ⟨S2048x3072, .f32⟩
  | .hbm, ⟨26, _⟩ => ⟨S1x3072, .f32⟩
  | .hbm, ⟨27, _⟩ => ⟨S2047x3072, .f32⟩
  | .hbm, ⟨28, _⟩ => ⟨S_, .f32⟩
  | .hbm, ⟨29, _⟩ => ⟨S2048x3072, .f32⟩
  | .hbm, ⟨30, _⟩ => ⟨S2048x3072, .f32⟩
  | .hbm, ⟨31, _⟩ => ⟨S2048x3072, .bf16⟩
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Kernel26.lean ====
abbrev S2048x512 : Shape := ⟨2, ![2048, 512]⟩
abbrev S2048x5632 : Shape := ⟨2, ![2048, 5632]⟩
abbrev S1x3360 : Shape := ⟨2, ![1, 3360]⟩
abbrev S1x288 : Shape := ⟨2, ![1, 288]⟩
abbrev S_ : Shape := ⟨0, ![]⟩
abbrev S1x512 : Shape := ⟨2, ![1, 512]⟩
abbrev S256x512 : Shape := ⟨2, ![256, 512]⟩
abbrev S8x512 : Shape := ⟨2, ![8, 512]⟩
abbrev S512 : Shape := ⟨1, ![512]⟩

abbrev nBuf : Space → Nat
  | .hbm => 9
  | .vmem => 12
  | .smem => 0
  | _ => 0

abbrev bufTy : (tb : Table) → Fin (tcTables nBuf tb) → BufTy
  | .hbm, ⟨0, _⟩ => ⟨S2048x512, .f32⟩
  | .hbm, ⟨1, _⟩ => ⟨S2048x5632, .f32⟩
  | .hbm, ⟨2, _⟩ => ⟨S1x3360, .f32⟩
  | .hbm, ⟨3, _⟩ => ⟨S1x288, .f32⟩
  | .hbm, ⟨4, _⟩ => ⟨S_, .i32⟩
  | .hbm, ⟨5, _⟩ => ⟨S_, .f32⟩
  | .hbm, ⟨6, _⟩ => ⟨S1x512, .f32⟩
  | .hbm, ⟨7, _⟩ => ⟨S2048x512, .bf16⟩
  | .hbm, ⟨8, _⟩ => ⟨S1x512, .f32⟩
  | .local _ .vmem, ⟨0, _⟩ => ⟨S256x512, .f32⟩
  | .local _ .vmem, ⟨1, _⟩ => ⟨S256x512, .f32⟩
  | .local _ .vmem, ⟨2, _⟩ => ⟨S8x512, .f32⟩
  | .local _ .vmem, ⟨3, _⟩ => ⟨S8x512, .f32⟩
  | .local _ .vmem, ⟨4, _⟩ => ⟨S256x512, .f32⟩
  | .local _ .vmem, ⟨5, _⟩ => ⟨S256x512, .f32⟩
  | .local _ .vmem, ⟨6, _⟩ => ⟨S8x512, .f32⟩
  | .local _ .vmem, ⟨7, _⟩ => ⟨S8x512, .f32⟩
  | .local _ .vmem, ⟨8, _⟩ => ⟨S1x512, .f32⟩
  | .local _ .vmem, ⟨9, _⟩ => ⟨S256x512, .bf16⟩
  | .local _ .vmem, ⟨10, _⟩ => ⟨S256x512, .bf16⟩
  | .local _ .vmem, ⟨11, _⟩ => ⟨S1x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_16 : BitVec 32 := 0#32
  let v40 : BitVec 1 := Scalar.cmpi .eq arg0 c0_i32_16
  let v41 : BitVec 32 := Scalar.extui v40
  let c0_i32_17 : BitVec 32 := 0#32
  let v42 : BitVec 1 := Scalar.cmpi .ne v41 c0_i32_17
  v42

def k0_cond2 (i : grid0.Coords) : BitVec 1 :=
  let arg0 : BitVec 32 := BitVec.ofNat 32 (i 0).val
  let c0_i32_18 : BitVec 32 := 0#32
  let v43 : BitVec 1 := Scalar.cmpi .sgt arg0 c0_i32_18
  let v44 : BitVec 32 := Scalar.extui v43
  let c0_i32_19 : BitVec 32 := 0#32
  let v45 : BitVec 1 := Scalar.cmpi .ne v44 c0_i32_19
  v45

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c10_i32 : BitVec 32 := 10#32
  let c0_i32_0 : BitVec 32 := 0#32
  ![v2.toNat, c10_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference26Ideal.lean ====
abbrev S2048x512 : Shape := ⟨2, ![2048, 512]⟩
abbrev S2048x5632 : Shape := ⟨2, ![2048, 5632]⟩
abbrev S1x3360 : Shape := ⟨2, ![1, 3360]⟩
abbrev S1x288 : Shape := ⟨2, ![1, 288]⟩
abbrev S_ : Shape := ⟨0, ![]⟩
abbrev S1x512 : Shape := ⟨2, ![1, 512]⟩
abbrev S2047x512 : Shape := ⟨2, ![2047, 512]⟩
abbrev S512 : Shape := ⟨1, ![512]⟩

abbrev nBuf : Space → Nat
  | .hbm => 35
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x5632, .f32⟩
  | .hbm, ⟨2, _⟩ => ⟨S1x3360, .f32⟩
  | .hbm, ⟨3, _⟩ => ⟨S1x288, .f32⟩
  | .hbm, ⟨4, _⟩ => ⟨S_, .i32⟩
  | .hbm, ⟨5, _⟩ => ⟨S_, .f32⟩
  | .hbm, ⟨6, _⟩ => ⟨S1x512, .f32⟩
  | .hbm, ⟨7, _⟩ => ⟨S2048x512, .f32⟩
  | .hbm, ⟨8, _⟩ => ⟨S1x512, .f32⟩
  | .hbm, ⟨9, _⟩ => ⟨S_, .f32⟩
  | .hbm, ⟨10, _⟩ => ⟨S1x512, .f32⟩
  | .hbm, ⟨11, _⟩ => ⟨S2047x512, .f32⟩
  | .hbm, ⟨12, _⟩ => ⟨S2048x512, .f32⟩
  | .hbm, ⟨13, _⟩ => ⟨S_, .f32⟩
  | .hbm, ⟨14, _⟩ => ⟨S1x512, .f32⟩
  | .hbm, ⟨15, _⟩ => ⟨S2048x512, .f32⟩
  | .hbm, ⟨16, _⟩ => ⟨S2048x512, .f32⟩
  | .hbm, ⟨17, _⟩ => ⟨S2048x512, .f32⟩
  | .hbm, ⟨18, _⟩ => ⟨S2048x512, .f32⟩
  | .hbm, ⟨19, _⟩ => ⟨S2048x512, .f32⟩
  | .hbm, ⟨20, _⟩ => ⟨S2048x512, .f32⟩
  | .hbm, ⟨21, _⟩ => ⟨S2048x512, .f32⟩
  | .hbm, ⟨22, _⟩ => ⟨S_, .f32⟩
  | .hbm, ⟨23, _⟩ => ⟨S512, .f32⟩
  | .hbm, ⟨24, _⟩ => ⟨S1x512, .f32⟩
  | .hbm, ⟨25, _⟩ => ⟨S2048x512, .f32⟩
  | .hbm, ⟨26, _⟩ => ⟨S2048x512, .f32⟩
  | .hbm, ⟨27, _⟩ => ⟨S2048x512, .f32⟩
  | .hbm, ⟨28, _⟩ => ⟨S2048x512, .f32⟩
  | .hbm, ⟨29, _⟩ => ⟨S1x512, .f32⟩
  | .hbm, ⟨30, _⟩ => ⟨S2047x512, .f32⟩
  | .hbm, ⟨31, _⟩ => ⟨S_, .f32⟩
  | .hbm, ⟨32, _⟩ => ⟨S2048x512, .f32⟩
  | .hbm, ⟨33, _⟩ => ⟨S2048x512, .f32⟩
  | .hbm, ⟨34, _⟩ => ⟨S2048x512, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Proof.Swiglu.lean ====
/- The gated activation and its gradient at one place, as the feed-forward calls and the reference both spell them. -/
module

public import Idealize.ShloMosaic.PureOps.Ideal

@[expose] public section

noncomputable section

open Idealize.ShloMosaic

namespace Cert.Swiglu

/-- The activation: the gate through the sigmoid-weighted unit, times the other branch. -/
def act (g u : EReal) : EReal := g * Ideal.logistic g * u

/-- The gradient that reaches the gate, from the gradient `p` of the activation. -/
def dGate (p g u : EReal) : EReal :=
  p * u * Ideal.logistic g + g * (p * u) * (Ideal.logistic g * (1 - Ideal.logistic g))

/-- The gradient that reaches the other branch. -/
def dUp (p g : EReal) : EReal := g * Ideal.logistic g * p

end Cert.Swiglu
-- ==== Proof.Gate.lean ====
/- d_act: the gradient of the activation, a product of the incoming gradient with the down weight transposed, taken
   through the gated activation on each tile before it is stored. Two arrays come out: the gradient of the gate and of
   the other branch. -/
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import proofs.«01_k».proof.Proof.Swiglu
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem

namespace Cert.Reference2Ideal.Array

open Cert.Reference2Ideal Cert.Reference2Ideal.Read

variable (x0 : (⟨S2048x2048, .bf16⟩ : BufTy).Contents (Elt Ideal)) (x1 : (⟨S5632x2048, .bf16⟩ : BufTy).Contents (Elt Ideal))
  (x2 x3 : (⟨S2048x5632, .f32⟩ : BufTy).Contents (Elt Ideal)) (i : S2048x5632.Idx)

/-- The gradient of the activation: the product. -/
def prod : EReal := ∑ k : Fin 2048, x0 (lidx_main_v5 i k) * x1 (ridx_main_v5 i k)

/-- The reference's sigmoid is the one function. -/
theorem sigmoid_apply : val_main_v2_2 (F := Ideal) x2 i = Ideal.logistic (x2 i) := by
  simp only [pointwise, val_main_v2_2_apply, val_main_call0_v4_apply, val_main_call0_cst_0_apply, val_main_call0_v3_apply,
    val_main_call0_v2_apply, val_main_call0_cst_apply, val_main_call0_v1_apply, val_main_call0_v0_apply, Ideal.logistic]

theorem prod_apply : val_main_v5 (F := Ideal) x0 x1 i = prod x0 x1 i := val_main_v5_apply x0 x1 i

theorem gate_apply : val_main_v9 (F := Ideal) x0 x1 x2 x3 i = Swiglu.dGate (prod x0 x1 i) (x2 i) (x3 i) := by
  simp only [pointwise, val_main_v9_apply, val_main_v8_apply, val_main_call1_v0_apply, val_main_call1_v1_apply,
    val_main_call1_v2_apply, val_main_v7_apply, val_main_v2_1_apply, val_main_call0_v7_apply, val_main_call0_v6_apply,
    val_main_call0_cst_1_apply, sigmoid_apply, prod_apply, Swiglu.dGate]

theorem up_apply : val_main_v10 (F := Ideal) x0 x1 x2 i = Swiglu.dUp (prod x0 x1 i) (x2 i) := by
  simp only [pointwise, val_main_v10_apply, val_main_v6_apply, val_main_v2_0_apply, sigmoid_apply, prod_apply, Swiglu.dUp]

end Cert.Reference2Ideal.Array

namespace Cert.Kernel2Ideal.Array

open Cert.Kernel2Ideal Cert.Kernel2Ideal.Gen

variable (m : (ℓ : Loc nD τ sig) → Buf (Elt Ideal) ℓ)

/-- One tile's product, at an index. -/
def tile (a : Vec Ideal S1024x2048 .bf16) (b : Vec Ideal S512x2048 .bf16) (j : S1024x512.Idx) : EReal :=
  ∑ k : Fin 2048, a (ix2 (j 0) k) * b (ix2 (j 1) k)

/-- The product of a grid point, read at an index. -/
theorem prod_apply (a : Vec Ideal S1024x2048 .bf16) (b : Vec Ideal S512x2048 .bf16) (j : S1024x512.Idx) :
    k0_pay1 (F := Ideal) a b j = tile a b j := by
  unfold k0_pay1 tile
  simp only [pointwise, zero_add]

theorem gate_apply (a : Vec Ideal S1024x2048 .bf16) (b : Vec Ideal S512x2048 .bf16) (g u : Vec Ideal S1024x512 .f32) (j : S1024x512.Idx) :
    k0_pay3 (F := Ideal) a b g u j = Swiglu.dGate (tile a b j) (g j) (u j) := by
  unfold k0_pay3 k0_pay2
  simp only [pointwise, prod_apply, Swiglu.dGate]

theorem up_apply (a : Vec Ideal S1024x2048 .bf16) (b : Vec Ideal S512x2048 .bf16) (g : Vec Ideal S1024x512 .f32) (j : S1024x512.Idx) :
    k0_pay4 (F := Ideal) a b g j = Swiglu.dUp (tile a b j) (g j) := by
  unfold k0_pay4 k0_pay2
  simp only [pointwise, prod_apply, Swiglu.dUp]

/-- Where the blocks of a grid point lie, from the block of its first result. -/
theorem idx : ∀ t : Fin cfg0.N, win0_0.index t = ![win0_4.index t 0, 0] ∧ win0_1.index t = ![win0_4.index t 1, 0]
    ∧ win0_2.index t = win0_4.index t ∧ win0_3.index t = win0_4.index t ∧ win0_5.index t = win0_4.index t :=
  (by decide +kernel : ∀ t : Fin grid0.N, _)

/-- The product over a grid point's blocks is the reference's at the place of the array under the block's index. -/
theorem prod_eq (c : Dev nD) (t : Fin cfg0.N) (y : S1024x512.Idx) (i : S2048x5632.Idx)
    (h0 : (i 0).val = win0_4.index t 0 * 1024 + (y 0).val) (h1 : (i 1).val = win0_4.index t 1 * 512 + (y 1).val) :
    tile (iblk m c 0 t) (iblk m c 1 t) y
      = Reference2Ideal.Array.prod (m ((c : Thread nD τ).loc main_arg0)) (m ((c : Thread nD τ).loc main_arg1)) i := by
  refine Fin.sum_fin_congr fun k => congrArg₂ _ ?_ ?_
  · blk_ext! [iblk, V, idx t, h0]
  · blk_ext! [iblk, V, idx t, h1]

theorem final_gate (c : Dev nD) : (dats m 0 c).arrAt 4 cfg0.N
    = Reference2Ideal.Read.val_main_v9 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  rw [after0_4]
  frame_out
  refine (gate_apply _ _ _ _ _).trans (Eq.trans ?_ (Reference2Ideal.Array.gate_apply _ _ _ _ _).symm)
  refine congr (congr (congrArg Swiglu.dGate (prod_eq m c t y _ ?_ ?_)) ?_) ?_
  · blk_simp
  · blk_simp
  · blk_ext! [iblk, V, idx t]
  · blk_ext! [iblk, V, idx t]

theorem final_up (c : Dev nD) : (dats m 0 c).arrAt 5 cfg0.N
    = Reference2Ideal.Read.val_main_v10 (F := Ideal) (m ((c : Thread nD τ).loc main_arg0)) (m ((c : Thread nD τ).loc main_arg1))
        (m ((c : Thread nD τ).loc main_arg2)) := by
  refine (dats m 0 c).arrAt_eq_of_covers 5 _ (by decide +kernel) fun t hf y => ?_
  blk_simp
  rw [after0_5]
  frame_out
  refine (up_apply _ _ _ _).trans (Eq.trans ?_ (Reference2Ideal.Array.up_apply _ _ _ _).symm)
  refine congr (congrArg Swiglu.dUp (prod_eq m c t y _ ?_ ?_)) ?_
  · blk_simp [idx t]
  · blk_simp [idx t]
  · blk_ext! [iblk, V, idx t]

/-- The claim. -/
theorem algebraic : Cert.algebraic_Kernel2Ideal_Reference2Ideal := by
  pair_intro
  · run_from Cert.Kernel2Ideal.Value.run_blocks m g
  · run_from Cert.Reference2Ideal.Value.run m' g'
    · exact (final_gate m c).symm
    · exact (final_up m c).symm

end Cert.Kernel2Ideal.Array
-- ==== Proof.Sums.lean ====
/- Sums that the products share. -/
module

public import Idealize.ShloMosaic.PureOps.Ideal
public import Mathlib.Algebra.BigOperators.Fin

@[expose] public section

/-- Two inner products whose factors agree place by place, the factors of one written in the other order. -/
theorem Cert.sum_mul_comm_congr {n : ℕ} {a b a' b' : Fin n → EReal} (ha : ∀ k, a k = a' k) (hb : ∀ k, b k = b' k) :
    ∑ k, a k * b k = ∑ k, b' k * a' k :=
  Finset.sum_congr rfl fun k _ => by rw [ha, hb, mul_comm]
-- ==== Proof.Flat.lean ====
/- The plain products of the step: each is one product a tile, of whole rows and columns; two of them add a residual. -/
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel13Ideal.Value
public import proofs.«01_k».proof.Proof.Gen.Reference13Ideal.Run
public import proofs.«01_k».proof.Proof.Gen.Reference13Ideal.Read
public import proofs.«01_k».proof.Proof.Sums
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem

/-! ## d_w_down: the activation transposed times the incoming gradient. -/

namespace Cert.Kernel3Ideal.Array

open Cert.Kernel3Ideal Cert.Kernel3Ideal.Gen

variable (m : (ℓ : Loc nD τ sig) → Buf (Elt Ideal) ℓ)

/-- What one grid point stores, read at an index. -/
theorem pay_apply (a : Vec Ideal S2048x1408 .bf16) (b : Vec Ideal S2048x512 .bf16) (j : S1408x512.Idx) :
    k0_pay1 (F := Ideal) a b j = ∑ k : Fin 2048, a (ix2 k (j 0)) * b (ix2 k (j 1)) := by
  unfold k0_pay1
  simp only [pointwise, zero_add]

/-- The operand blocks of a grid point lie in the row and the column of its result block. -/
theorem idx : ∀ t : Fin cfg0.N, win0_0.index t = ![0, win0_2.index t 0] ∧ win0_1.index t = ![0, win0_2.index t 1] :=
  (by decide +kernel : ∀ t : Fin grid0.N, _)

/-- The array after the run is the reference's. -/
theorem final (c : Dev nD) : (dats m 0 c).arrAt 2 cfg0.N
    = Reference3Ideal.Read.val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (pay_apply _ _ _).trans (Eq.trans ?_
    ((Reference3Ideal.Read.val_main_v5_apply (F := Ideal) _ _ _).trans (Reference3Ideal.Read.val_main_v4_apply _ _ _)).symm)
  refine sum_mul_comm_congr (fun k => ?_) fun k => ?_
  · refine Eq.trans ?_ (Reference3Ideal.Read.val_main_v0_apply (F := Ideal) _ _).symm
    blk_ext! [iblk, V, idx t]
  · refine Eq.trans ?_ (Reference3Ideal.Read.val_main_v1_apply (F := Ideal) _ _).symm
    blk_ext! [iblk, V, idx t]

end Cert.Kernel3Ideal.Array

/-- The claim. -/
theorem Cert.Kernel3Ideal.Array.algebraic : Cert.algebraic_Kernel3Ideal_Reference3Ideal := by
  pair_intro
  · run_from Cert.Kernel3Ideal.Value.run_blocks m g
  · run_from Cert.Reference3Ideal.Value.run m' g'
    exact (Cert.Kernel3Ideal.Array.final m c).symm

/-! ## d_w_out: the block output transposed times the incoming gradient. -/

namespace Cert.Kernel7Ideal.Array

open Cert.Kernel7Ideal Cert.Kernel7Ideal.Gen

variable (m : (ℓ : Loc nD τ sig) → Buf (Elt Ideal) ℓ)

/-- What one grid point stores, read at an index. -/
theorem pay_apply (a : Vec Ideal S2048x2048 .bf16) (b : Vec Ideal S2048x512 .bf16) (j : S2048x512.Idx) :
    k0_pay1 (F := Ideal) a b j = ∑ k : Fin 2048, a (ix2 k (j 0)) * b (ix2 k (j 1)) := by
  unfold k0_pay1
  simp only [pointwise, zero_add]

/-- The operand blocks of a grid point lie in the row and the column of its result block. -/
theorem idx : ∀ t : Fin cfg0.N, win0_0.index t = ![0, win0_2.index t 0] ∧ win0_1.index t = ![0, win0_2.index t 1] :=
  (by decide +kernel : ∀ t : Fin grid0.N, _)

/-- The array after the run is the reference's. -/
theorem final (c : Dev nD) : (dats m 0 c).arrAt 2 cfg0.N
    = Reference7Ideal.Read.val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (pay_apply _ _ _).trans (Eq.trans ?_
    ((Reference7Ideal.Read.val_main_v5_apply (F := Ideal) _ _ _).trans (Reference7Ideal.Read.val_main_v4_apply _ _ _)).symm)
  refine sum_mul_comm_congr (fun k => ?_) fun k => ?_
  · refine Eq.trans ?_ (Reference7Ideal.Read.val_main_v0_apply (F := Ideal) _ _).symm
    blk_ext! [iblk, V, idx t]
  · refine Eq.trans ?_ (Reference7Ideal.Read.val_main_v1_apply (F := Ideal) _ _).symm
    blk_ext! [iblk, V, idx t]

end Cert.Kernel7Ideal.Array

/-- The claim. -/
theorem Cert.Kernel7Ideal.Array.algebraic : Cert.algebraic_Kernel7Ideal_Reference7Ideal := by
  pair_intro
  · run_from Cert.Kernel7Ideal.Value.run_blocks m g
  · run_from Cert.Reference7Ideal.Value.run m' g'
    exact (Cert.Kernel7Ideal.Array.final m c).symm

/-! ## d_w_in: the normalised input transposed times the gradient of the projections. -/

namespace Cert.Kernel9Ideal.Array

open Cert.Kernel9Ideal Cert.Kernel9Ideal.Gen

variable (m : (ℓ : Loc nD τ sig) → Buf (Elt Ideal) ℓ)

/-- What one grid point stores, read at an index. -/
theorem pay_apply (a : Vec Ideal S2048x2048 .bf16) (b : Vec Ideal S2048x512 .bf16) (j : S2048x512.Idx) :
    k0_pay1 (F := Ideal) a b j = ∑ k : Fin 2048, a (ix2 k (j 0)) * b (ix2 k (j 1)) := by
  unfold k0_pay1
  simp only [pointwise, zero_add]

/-- The operand blocks of a grid point lie in the row and the column of its result block. -/
theorem idx : ∀ t : Fin cfg0.N, win0_0.index t = ![0, win0_2.index t 0] ∧ win0_1.index t = ![0, win0_2.index t 1] :=
  (by decide +kernel : ∀ t : Fin grid0.N, _)

/-- The array after the run is the reference's. -/
theorem final (c : Dev nD) : (dats m 0 c).arrAt 2 cfg0.N
    = Reference9Ideal.Read.val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (pay_apply _ _ _).trans (Eq.trans ?_
    ((Reference9Ideal.Read.val_main_v5_apply (F := Ideal) _ _ _).trans (Reference9Ideal.Read.val_main_v4_apply _ _ _)).symm)
  refine sum_mul_comm_congr (fun k => ?_) fun k => ?_
  · refine Eq.trans ?_ (Reference9Ideal.Read.val_main_v0_apply (F := Ideal) _ _).symm
    blk_ext! [iblk, V, idx t]
  · refine Eq.trans ?_ (Reference9Ideal.Read.val_main_v1_apply (F := Ideal) _ _).symm
    blk_ext! [iblk, V, idx t]

end Cert.Kernel9Ideal.Array

/-- The claim. -/
theorem Cert.Kernel9Ideal.Array.algebraic : Cert.algebraic_Kernel9Ideal_Reference9Ideal := by
  pair_intro
  · run_from Cert.Kernel9Ideal.Value.run_blocks m g
  · run_from Cert.Reference9Ideal.Value.run m' g'
    exact (Cert.Kernel9Ideal.Array.final m c).symm

/-! ## d_ycat: the incoming gradient times the output weight transposed. -/

namespace Cert.Kernel6Ideal.Array

open Cert.Kernel6Ideal Cert.Kernel6Ideal.Gen

variable (m : (ℓ : Loc nD τ sig) → Buf (Elt Ideal) ℓ)

/-- What one grid point stores, read at an index. -/
theorem pay_apply (a : Vec Ideal S2048x2048 .bf16) (b : Vec Ideal S512x2048 .bf16) (j : S2048x512.Idx) :
    k0_pay1 (F := Ideal) a b j = ∑ k : Fin 2048, a (ix2 (j 0) k) * b (ix2 (j 1) k) := by
  unfold k0_pay1
  simp only [pointwise, zero_add]

/-- The operand blocks of a grid point lie in the row and the column of its result block. -/
theorem idx : ∀ t : Fin cfg0.N, win0_0.index t = ![win0_2.index t 0, 0] ∧ win0_1.index t = ![win0_2.index t 1, 0] :=
  (by decide +kernel : ∀ t : Fin grid0.N, _)

/-- The array after the run is the reference's. -/
theorem final (c : Dev nD) : (dats m 0 c).arrAt 2 cfg0.N
    = Reference6Ideal.Read.val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (pay_apply _ _ _).trans (Eq.trans ?_ (Reference6Ideal.Read.val_main_v4_apply _ _ _).symm)
  refine Fin.sum_fin_congr fun k => congrArg₂ _ ?_ ?_
  · refine Eq.trans ?_ (Reference6Ideal.Read.val_main_v0_apply (F := Ideal) _ _).symm
    blk_ext! [iblk, V, idx t]
  · refine Eq.trans ?_ (Reference6Ideal.Read.val_main_v1_apply (F := Ideal) _ _).symm
    blk_ext! [iblk, V, idx t]

end Cert.Kernel6Ideal.Array

/-- The claim. -/
theorem Cert.Kernel6Ideal.Array.algebraic : Cert.algebraic_Kernel6Ideal_Reference6Ideal := by
  pair_intro
  · run_from Cert.Kernel6Ideal.Value.run_blocks m g
  · run_from Cert.Reference6Ideal.Value.run m' g'
    exact (Cert.Kernel6Ideal.Array.final m c).symm

/-! ## proj_in: the normalised input times the input weight. -/

namespace Cert.Kernel10Ideal.Array

open Cert.Kernel10Ideal Cert.Kernel10Ideal.Gen

variable (m : (ℓ : Loc nD τ sig) → Buf (Elt Ideal) ℓ)

/-- What one grid point stores, read at an index. -/
theorem pay_apply (a : Vec Ideal S2048x2048 .bf16) (b : Vec Ideal S2048x512 .bf16) (j : S2048x512.Idx) :
    k0_pay1 (F := Ideal) a b j = ∑ k : Fin 2048, a (ix2 (j 0) k) * b (ix2 k (j 1)) := by
  unfold k0_pay1
  simp only [pointwise, zero_add]

/-- The operand blocks of a grid point lie in the row and the column of its result block. -/
theorem idx : ∀ t : Fin cfg0.N, win0_0.index t = ![win0_2.index t 0, 0] ∧ win0_1.index t = ![0, win0_2.index t 1] :=
  (by decide +kernel : ∀ t : Fin grid0.N, _)

/-- The array after the run is the reference's. -/
theorem final (c : Dev nD) : (dats m 0 c).arrAt 2 cfg0.N
    = Reference10Ideal.Read.val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (pay_apply _ _ _).trans (Eq.trans ?_ (Reference10Ideal.Read.val_main_v2_apply _ _ _).symm)
  refine Fin.sum_fin_congr fun k => congrArg₂ _ ?_ ?_
  · refine Eq.trans ?_ (Reference10Ideal.Read.val_main_v0_apply (F := Ideal) _ _).symm
    blk_ext! [iblk, V, idx t]
  · refine Eq.trans ?_ (Reference10Ideal.Read.val_main_v1_apply (F := Ideal) _ _).symm
    blk_ext! [iblk, V, idx t]

end Cert.Kernel10Ideal.Array

/-- The claim. -/
theorem Cert.Kernel10Ideal.Array.algebraic : Cert.algebraic_Kernel10Ideal_Reference10Ideal := by
  pair_intro
  · run_from Cert.Kernel10Ideal.Value.run_blocks m g
  · run_from Cert.Reference10Ideal.Value.run m' g'
    exact (Cert.Kernel10Ideal.Array.final m c).symm

/-! ## proj_out: the block output times the output weight, on top of the residual. -/

namespace Cert.Kernel13Ideal.Array

open Cert.Kernel13Ideal Cert.Kernel13Ideal.Gen

variable (m : (ℓ : Loc nD τ sig) → Buf (Elt Ideal) ℓ)

/-- What one grid point stores, read at an index. -/
theorem pay_apply (a : Vec Ideal S2048x2048 .bf16) (b : Vec Ideal S2048x512 .bf16) (x : Vec Ideal S2048x512 .f32) (j : S2048x512.Idx) :
    k0_pay1 (F := Ideal) a b x j = ∑ k : Fin 2048, a (ix2 (j 0) k) * b (ix2 k (j 1)) + x j := by
  unfold k0_pay1
  simp only [pointwise, zero_add]

/-- The operand blocks of a grid point lie in the row and the column of its result block. -/
theorem idx : ∀ t : Fin cfg0.N, win0_0.index t = ![win0_3.index t 0, 0] ∧ win0_1.index t = ![0, win0_3.index t 1] ∧ win0_2.index t = win0_3.index t :=
  (by decide +kernel : ∀ t : Fin grid0.N, _)

/-- The array after the run is the reference's. -/
theorem final (c : Dev nD) : (dats m 0 c).arrAt 3 cfg0.N
    = Reference13Ideal.Read.val_main_v3 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  refine (pay_apply _ _ _ _).trans ((add_comm _ _).trans (Eq.trans ?_ (Reference13Ideal.Read.val_main_v3_apply (F := Ideal) _ _ _ _).symm))
  refine congrArg₂ (fun u v : EReal => u + v) ?_ (Eq.trans ?_ (Reference13Ideal.Read.val_main_v2_apply _ _ _).symm)
  · blk_ext! [iblk, V, idx t]
  refine Fin.sum_fin_congr fun k => congrArg₂ _ ?_ ?_
  · refine Eq.trans ?_ (Reference13Ideal.Read.val_main_v0_apply (F := Ideal) _ _).symm
    blk_ext! [iblk, V, idx t]
  · refine Eq.trans ?_ (Reference13Ideal.Read.val_main_v1_apply (F := Ideal) _ _).symm
    blk_ext! [iblk, V, idx t]

end Cert.Kernel13Ideal.Array

/-- The claim. -/
theorem Cert.Kernel13Ideal.Array.algebraic : Cert.algebraic_Kernel13Ideal_Reference13Ideal := by
  pair_intro
  · run_from Cert.Kernel13Ideal.Value.run_blocks m g
  · run_from Cert.Reference13Ideal.Value.run m' g'
    exact (Cert.Kernel13Ideal.Array.final m c).symm

end
-- ==== Proof.Shards.lean ====
/- A weight kept as four column shards, read as the whole matrix. -/
module

public import Idealize.ShloMosaic.Lib.Pointwise
public import Idealize.ShloMosaic.PureOps.Ideal

@[expose] public section

noncomputable section

open Idealize.ShloMosaic

namespace Cert.Shards

/-- The four shards, one matrix, a shard as it is cut out, the whole. -/
abbrev Four : Shape := ⟨3, ![4, 2048, 1408]⟩
abbrev One : Shape := ⟨3, ![1, 2048, 1408]⟩
abbrev Shard : Shape := ⟨2, ![2048, 1408]⟩
abbrev Whole : Shape := ⟨2, ![2048, 5632]⟩

/-- The place of the shards that holds the whole matrix's place `(r, l)`. -/
def place (r : Fin 2048) (l : Fin 5632) : Four.Idx :=
  ix3 ⟨l.val / 1408, by have := l.isLt; omega⟩ r ⟨l.val % 1408, Nat.mod_lt _ (by decide)⟩

/-- The place in the shards of a column given by its shard and its column there. -/
theorem place_tile (r : Fin 2048) (l : Fin 5632) (s : ℕ) (y : Fin 1408) (h : l.val = s * 1408 + y.val) (a : Fin 3) :
    (place r l a).val = (![s, r.val, y.val] : Fin 3 → ℕ) a := by
  have hy := y.isLt
  fin_cases a
  · show l.val / 1408 = s; omega
  · rfl
  · show l.val % 1408 = y.val; omega

/-- The four shards side by side, read at a place. -/
theorem full_apply (w : Four.Idx → EReal) (h0 : Four.Slices ![0, 0, 0] One) (h1 : Four.Slices ![1, 0, 0] One)
    (h2 : Four.Slices ![2, 0, 0] One) (h3 : Four.Slices ![3, 0, 0] One) (hc : One.ShapeCasts Shard)
    (hk : Shape.Concatenates [Shard, Shard, Shard, Shard] Whole 1) (i : Whole.Idx) :
    concatenate Whole 1 [⟨Shard, shapeCast Shard (extractStridedSlice One ![0, 0, 0] w h0) hc⟩,
      ⟨Shard, shapeCast Shard (extractStridedSlice One ![1, 0, 0] w h1) hc⟩,
      ⟨Shard, shapeCast Shard (extractStridedSlice One ![2, 0, 0] w h2) hc⟩,
      ⟨Shard, shapeCast Shard (extractStridedSlice One ![3, 0, 0] w h3) hc⟩] hk i = w (place (i 0) (i 1)) := by
  simp only [pointwise]
  have hl : (i 1).val < 5632 := (i 1).isLt
  unfold place
  split
  case isTrue a =>
    have a' : (i 1).val < 1408 := a
    refine congrArg w ((ix3_inj _ _ _ _ _ _).mpr ⟨Fin.ext ?_, Fin.ext ?_, Fin.ext ?_⟩)
    · show 0 = (i 1).val / 1408; omega
    · show 0 + (i 0).val = (i 0).val; omega
    · show 0 + (i 1).val = (i 1).val % 1408; omega
  case isFalse a =>
    have a' : ¬(i 1).val < 1408 := a
    split
    case isTrue b =>
      have b' : (i 1).val - 1408 < 1408 := b
      refine congrArg w ((ix3_inj _ _ _ _ _ _).mpr ⟨Fin.ext ?_, Fin.ext ?_, Fin.ext ?_⟩)
      · show 1 = (i 1).val / 1408; omega
      · show 0 + (i 0).val = (i 0).val; omega
      · show 0 + ((i 1).val - 1408) = (i 1).val % 1408; omega
    case isFalse b =>
      have b' : ¬(i 1).val - 1408 < 1408 := b
      split
      case isTrue d =>
        have d' : (i 1).val - 1408 - 1408 < 1408 := d
        refine congrArg w ((ix3_inj _ _ _ _ _ _).mpr ⟨Fin.ext ?_, Fin.ext ?_, Fin.ext ?_⟩)
        · show 2 = (i 1).val / 1408; omega
        · show 0 + (i 0).val = (i 0).val; omega
        · show 0 + ((i 1).val - 1408 - 1408) = (i 1).val % 1408; omega
      case isFalse d =>
        have d' : ¬(i 1).val - 1408 - 1408 < 1408 := d
        refine congrArg w ((ix3_inj _ _ _ _ _ _).mpr ⟨Fin.ext ?_, Fin.ext ?_, Fin.ext ?_⟩)
        · show 3 = (i 1).val / 1408; omega
        · show 0 + (i 0).val = (i 0).val; omega
        · show 0 + ((i 1).val - 1408 - 1408 - 1408) = (i 1).val % 1408; omega

end Cert.Shards
-- ==== Proof.FfnIn.lean ====
/- ffn_in: one read of the hidden rows against the two weights, kept as four column shards each. Three arrays come out:
   the gate, the other branch, and their gated activation. -/
module

public import proofs.«01_k».proof.Defs
public import proofs.«01_k».proof.Proof.Gen.Kernel11Ideal.Value
public import proofs.«01_k».proof.Proof.Gen.Reference11Ideal.Run
public import proofs.«01_k».proof.Proof.Gen.Reference11Ideal.Read
public import proofs.«01_k».proof.Proof.Swiglu
public import proofs.«01_k».proof.Proof.Shards
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem

namespace Cert.Reference11Ideal.Array

open Cert.Reference11Ideal Cert.Reference11Ideal.Read

variable (x0 : (⟨S2048x2048, .bf16⟩ : BufTy).Contents (Elt Ideal)) (x1 x2 : (⟨S4x2048x1408, .bf16⟩ : BufTy).Contents (Elt Ideal))
  (i : S2048x5632.Idx)

/-- A product with a weight kept in shards, at a place. -/
def prod (h : (⟨S2048x2048, .bf16⟩ : BufTy).Contents (Elt Ideal)) (w : (⟨S4x2048x1408, .bf16⟩ : BufTy).Contents (Elt Ideal))
    (i : S2048x5632.Idx) : EReal :=
  ∑ k : Fin 2048, h (ix2 (i 0) k) * w (Shards.place k (i 1))

theorem gate_apply : val_main_v12 (F := Ideal) x0 x1 i = prod x0 x1 i := by
  refine (val_main_v12_apply x0 x1 i).trans (Fin.sum_fin_congr fun k => congrArg₂ _ ?_ ?_)
  · exact congrArg x0 (funext fun a => match a with | ⟨0, _⟩ => rfl | ⟨1, _⟩ => rfl)
  · exact Shards.full_apply x1 _ _ _ _ _ _ _

theorem up_apply : val_main_v22 (F := Ideal) x0 x2 i = prod x0 x2 i := by
  refine (val_main_v22_apply x0 x2 i).trans (Fin.sum_fin_congr fun k => congrArg₂ _ ?_ ?_)
  · exact congrArg x0 (funext fun a => match a with | ⟨0, _⟩ => rfl | ⟨1, _⟩ => rfl)
  · exact Shards.full_apply x2 _ _ _ _ _ _ _

theorem act_apply : val_main_v25 (F := Ideal) x0 x1 x2 i = Swiglu.act (prod x0 x1 i) (prod x0 x2 i) := by
  simp only [pointwise, val_main_v25_apply, val_main_v24_apply, val_main_v23_apply, val_main_call0_v5_apply,
    val_main_call0_v4_apply, val_main_call0_cst_0_apply, val_main_call0_v3_apply, val_main_call0_v2_apply,
    val_main_call0_cst_apply, val_main_call0_v1_apply, val_main_call0_v0_apply, gate_apply, up_apply, Swiglu.act, Ideal.logistic]

end Cert.Reference11Ideal.Array

namespace Cert.Kernel11Ideal.Array

open Cert.Kernel11Ideal Cert.Kernel11Ideal.Gen

variable (m : (ℓ : Loc nD τ sig) → Buf (Elt Ideal) ℓ)

/-- One tile's product, at an index. -/
def tile (a : Vec Ideal S256x2048 .bf16) (b : Vec Ideal S1x2048x1408 .bf16) (j : S256x1408.Idx) : EReal :=
  ∑ k : Fin 2048, a (ix2 (j 0) k) * b (ix3 0 k (j 1))

theorem gate_apply (a : Vec Ideal S256x2048 .bf16) (b : Vec Ideal S1x2048x1408 .bf16) (j : S256x1408.Idx) :
    k0_pay1 (F := Ideal) a b j = tile a b j := by
  unfold k0_pay1 tile
  simp only [pointwise, zero_add]

theorem up_apply (a : Vec Ideal S256x2048 .bf16) (b : Vec Ideal S1x2048x1408 .bf16) (j : S256x1408.Idx) :
    k0_pay2 (F := Ideal) a b j = tile a b j := by
  unfold k0_pay2 tile
  simp only [pointwise, zero_add]

theorem act_apply (a : Vec Ideal S256x2048 .bf16) (b d : Vec Ideal S1x2048x1408 .bf16) (j : S256x1408.Idx) :
    k0_pay3 (F := Ideal) a b d j = Swiglu.act (tile a b j) (tile a d j) := by
  unfold k0_pay3
  simp only [pointwise, gate_apply, up_apply, Swiglu.act]

/-- Where the blocks of a grid point lie, from the block of its first result. -/
theorem idx : ∀ t : Fin cfg0.N, win0_0.index t = ![win0_3.index t 0, 0] ∧ win0_1.index t = ![win0_3.index t 1, 0, 0]
    ∧ win0_2.index t = ![win0_3.index t 1, 0, 0] ∧ win0_4.index t = win0_3.index t ∧ win0_5.index t = win0_3.index t :=
  (by decide +kernel : ∀ t : Fin grid0.N, _)

theorem gate_eq (c : Dev nD) (t : Fin cfg0.N) (y : S256x1408.Idx) (i : S2048x5632.Idx)
    (h0 : (i 0).val = win0_3.index t 0 * 256 + (y 0).val) (h1 : (i 1).val = win0_3.index t 1 * 1408 + (y 1).val) :
    tile (iblk m c 0 t) (iblk m c 1 t) y
      = Reference11Ideal.Array.prod (m ((c : Thread nD τ).loc main_arg0)) (m ((c : Thread nD τ).loc main_arg1)) i := by
  refine Fin.sum_fin_congr fun k => congrArg₂ _ ?_ ?_
  · blk_ext! [iblk, V, idx t, h0]
  · have hp := Shards.place_tile k (i 1) _ (y 1) h1
    blk_ext! [iblk, V, idx t, hp]

theorem up_eq (c : Dev nD) (t : Fin cfg0.N) (y : S256x1408.Idx) (i : S2048x5632.Idx)
    (h0 : (i 0).val = win0_3.index t 0 * 256 + (y 0).val) (h1 : (i 1).val = win0_3.index t 1 * 1408 + (y 1).val) :
    tile (iblk m c 0 t) (iblk m c 2 t) y
      = Reference11Ideal.Array.prod (m ((c : Thread nD τ).loc main_arg0)) (m ((c : Thread nD τ).loc main_arg2)) i := by
  refine Fin.sum_fin_congr fun k => congrArg₂ _ ?_ ?_
  · blk_ext! [iblk, V, idx t, h0]
  · have hp := Shards.place_tile k (i 1) _ (y 1) h1
    blk_ext! [iblk, V, idx t, hp]

theorem final_gate (c : Dev nD) : (dats m 0 c).arrAt 3 cfg0.N
    = Reference11Ideal.Read.val_main_v12 (F := Ideal) (m ((c : Thread nD τ).loc main_arg0)) (m ((c : Thread nD τ).loc main_arg1)) := by
  refine (dats m 0 c).arrAt_eq_of_covers 3 _ (by decide +kernel) fun t hf y => ?_
  blk_simp
  rw [after0_3]
  frame_out
  refine (gate_apply _ _ _).trans (Eq.trans ?_ (Reference11Ideal.Array.gate_apply _ _ _).symm)
  refine gate_eq m c t y _ ?_ ?_
  · blk_simp
  · blk_simp

theorem final_up (c : Dev nD) : (dats m 0 c).arrAt 4 cfg0.N
    = Reference11Ideal.Read.val_main_v22 (F := Ideal) (m ((c : Thread nD τ).loc main_arg0)) (m ((c : Thread nD τ).loc main_arg2)) := by
  refine (dats m 0 c).arrAt_eq_of_covers 4 _ (by decide +kernel) fun t hf y => ?_
  blk_simp
  rw [after0_4]
  frame_out
  refine (up_apply _ _ _).trans (Eq.trans ?_ (Reference11Ideal.Array.up_apply _ _ _).symm)
  refine up_eq m c t y _ ?_ ?_
  · blk_simp [idx t]
  · blk_simp [idx t]

theorem final_act (c : Dev nD) : (dats m 0 c).arrAt 5 cfg0.N
    = Reference11Ideal.Read.val_main_v25 (F := Ideal) (m ((c : Thread nD τ).loc main_arg0)) (m ((c : Thread nD τ).loc main_arg1))
        (m ((c : Thread nD τ).loc main_arg2)) := by
  refine (dats m 0 c).arrAt_eq_of_covers 5 _ (by decide +kernel) fun t hf y => ?_
  blk_simp
  rw [after0_5]
  frame_out
  refine (act_apply _ _ _ _).trans (Eq.trans ?_ (Reference11Ideal.Array.act_apply _ _ _ _).symm)
  refine congr (congrArg Swiglu.act (gate_eq m c t y _ ?_ ?_)) (up_eq m c t y _ ?_ ?_)
  · blk_simp [idx t]
  · blk_simp [idx t]
  · blk_simp [idx t]
  · blk_simp [idx t]

/-- The claim. -/
theorem algebraic : Cert.algebraic_Kernel11Ideal_Reference11Ideal := by
  pair_intro
  · run_from Cert.Kernel11Ideal.Value.run_blocks m g
  · refine θ_run_mono (Cert.Reference11Ideal.Value.run m' g') fun r h c => ?_
    obtain ⟨h1, h2, h3, h4⟩ := h c
    obtain ⟨a0, a1, a2⟩ := hagree c
    refine ⟨h1.trans ((Reference11Ideal.Read.val_main_v12_eq _ _).trans ?_), h2.trans ((Reference11Ideal.Read.val_main_v22_eq _ _).trans ?_),
      h3.trans ((Reference11Ideal.Read.val_main_v25_eq _ _).trans ?_), h4⟩
    · rw [a0, a1]; exact (final_gate m c).symm
    · rw [a0, a2]; exact (final_up m c).symm
    · rw [a0, a1, a2]; exact (final_act m c).symm

end Cert.Kernel11Ideal.Array
-- ==== Proof.Inner.lean ====
/- d_h1: a product whose inner axis is walked in four parts, the partial sums kept in a scratch buffer. -/
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit
public import Idealize.ShloMosaic.Lib.Pipeline.ReadBack
public import Idealize.ShloMosaic.Lib.Claim
public import Idealize.ShloMosaic.Lib.Pointwise

@[expose] public section

noncomputable section

open Idealize.ShloMosaic Idealize.ShloMosaic.TcCoe Idealize.SL.Sem

namespace Cert.Kernel8Ideal.Array

open Cert.Kernel8Ideal Cert.Kernel8Ideal.Gen

variable (m : (ℓ : Loc nD τ sig) → Buf (Elt Ideal) ℓ)

/-- The part of a tile's product that one grid point adds, at an index. -/
def tile (a : Vec Ideal S2048x1408 .bf16) (b : Vec Ideal S512x1408 .bf16) (j : S2048x512.Idx) : EReal :=
  ∑ k : Fin 1408, a (ix2 (j 0) k) * b (ix2 (j 1) k)

theorem first_apply (a : Vec Ideal S2048x1408 .bf16) (b : Vec Ideal S512x1408 .bf16) (j : S2048x512.Idx) :
    k0_pay2 (F := Ideal) a b j = 0 + tile a b j := by
  unfold k0_pay2 k0_pay1 tile
  simp only [pointwise, zero_add]

theorem next_apply (a : Vec Ideal S2048x1408 .bf16) (b : Vec Ideal S512x1408 .bf16) (acc : Vec Ideal S2048x512 .f32) (j : S2048x512.Idx) :
    k0_pay3 (F := Ideal) a b acc j = acc j + tile a b j := by
  unfold k0_pay3 k0_pay1 tile
  simp only [pointwise, zero_add]

/-- What the scratch holds after grid point `t`. -/
theorem scratch_first (c : Dev nD) (t : Fin cfg0.N) (h : t.val % 4 = 0) (j : S2048x512.Idx) :
    (outsAt0 m c t.val t.isLt).2 j = 0 + tile (iblk m c 0 t) (iblk m c 1 t) j := by
  rw [outsAt0_A m c t h (by omega) (by omega)]
  frame_out
  exact first_apply _ _ _

theorem scratch_next (c : Dev nD) (t : Fin cfg0.N) (h : ¬t.val % 4 = 0) (j : S2048x512.Idx) :
    (outsAt0 m c t.val t.isLt).2 j
      = (outsAt0 m c (t.val - 1) (lt_of_le_of_lt (Nat.sub_le _ _) t.isLt)).2 j + tile (iblk m c 0 t) (iblk m c 1 t) j := by
  by_cases h3 : t.val % 4 = 3
  · rw [outsAt0_C m c t h (by omega) h3]
    frame_out
    rw [read_unread_whole]
    exact next_apply _ _ _ _
  · rw [outsAt0_B m c t h (by omega) h3]
    frame_out
    rw [read_unread_whole]
    exact next_apply _ _ _ _

/-- What the last point of a tile stores is what the scratch then holds. -/
theorem stored (c : Dev nD) (t : Fin cfg0.N) (h3 : t.val % 4 = 3) (j : S2048x512.Idx) :
    (outsAt0 m c t.val t.isLt).1 j = (outsAt0 m c t.val t.isLt).2 j := by
  rw [outsAt0_C m c t (by omega) (by omega) h3]
  frame_out

/-- The inner axis' blocks of a grid point, from the block of its result. -/
theorem idx : ∀ t : Fin cfg0.N, win0_0.index t = ![win0_2.index t 0, t.val % 4] ∧ win0_1.index t = ![win0_2.index t 1, t.val % 4] :=
  (by decide +kernel : ∀ t : Fin grid0.N, _)

/-- The four points of a tile have one result block. -/
theorem idx_run (t : Fin cfg0.N) (s : Fin 4) (h : 4 * (t.val / 4) + s.val < cfg0.N) :
    win0_2.index ⟨4 * (t.val / 4) + s.val, h⟩ = win0_2.index t := by
  have H : ∀ u v : Fin grid0.N, u.val / 4 = v.val / 4 → win0_2.index u = win0_2.index v := by decide +kernel
  exact H _ _ (show (4 * (t.val / 4) + s.val) / 4 = t.val / 4 by have := s.isLt; omega)

theorem final (c : Dev nD) : (dats m 0 c).arrAt 2 cfg0.N
    = Reference8Ideal.Read.val_main_v4 (F := Ideal) (m ((c : Thread nD τ).loc main_arg0)) (m ((c : Thread nD τ).loc main_arg1)) := by
  refine (dats m 0 c).arrAt_eq_of_covers 2 _ (by decide +kernel) fun t hf y => ?_
  have h3 := (flush0_2 t).mp hf
  blk_simp
  rw [after0_2, stored m c t h3, Pipeline.eq_sum_fin_of_reset_step_apply_of_flush (fun n h => (outsAt0 m c n h).2) 4 (fun _ => 0) _
    (fun t h j => scratch_first m c t h j) (fun t h j => scratch_next m c t h j) t h3 y, zero_add]
  refine Eq.trans ?_ (Reference8Ideal.Read.val_main_v4_apply _ _ _).symm
  refine Fin.sum_mul_add_congr fun s k hl => ?_
  refine congrArg₂ _ ?_ ?_
  · refine Eq.trans ?_ (Reference8Ideal.Read.val_main_v0_apply (F := Ideal) _ _).symm
    blk_ext! [iblk, V, idx, idx_run t]
  · refine Eq.trans ?_ (Reference8Ideal.Read.val_main_v1_apply (F := Ideal) _ _).symm
    blk_ext! [iblk, V, idx, idx_run t]

/-- The claim. -/
theorem algebraic : Cert.algebraic_Kernel8Ideal_Reference8Ideal := by
  pair_intro
  · run_from Cert.Kernel8Ideal.Value.run_blocks m g
  · refine θ_run_mono (Cert.Reference8Ideal.Value.run m' g') fun r h c => ?_
    obtain ⟨h1, h2⟩ := h c
    obtain ⟨a0, a1⟩ := hagree c
    refine ⟨h1.trans ((Reference8Ideal.Read.val_main_v4_eq _ _).trans ?_), h2⟩
    rw [a0, a1]
    exact (final m c).symm

end Cert.Kernel8Ideal.Array
-- ==== Proof.Down.lean ====
/- ffn_down: a product whose inner axis is walked in four parts, the partial sums kept in a scratch buffer, and the
   residual added as the last part is stored. -/
module

public import proofs.«01_k».proof.Defs
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pipeline.ValueKit
public import Idealize.ShloMosaic.Lib.Pipeline.ReadBack
public import Idealize.ShloMosaic.Lib.Claim
public import Idealize.ShloMosaic.Lib.Pointwise

@[expose] public section

noncomputable section

open Idealize.ShloMosaic Idealize.ShloMosaic.TcCoe Idealize.SL.Sem

namespace Cert.Reference12Ideal.Array

open Cert.Reference12Ideal Cert.Reference12Ideal.Read

variable (x0 : (⟨S2048x5632, .bf16⟩ : BufTy).Contents (Elt Ideal)) (x1 : (⟨S5632x2048, .bf16⟩ : BufTy).Contents (Elt Ideal))
  (x2 : (⟨S2048x2048, .f32⟩ : BufTy).Contents (Elt Ideal)) (i : S2048x2048.Idx)

/-- The product, at a place. -/
def prod : EReal := ∑ l : Fin 5632, x0 (lidx_main_v2 i l) * x1 (ridx_main_v2 i l)

theorem apply : val_main_v3 (F := Ideal) x0 x1 x2 i = prod x0 x1 i + x2 i := by
  rw [val_main_v3_apply, val_main_v2_apply]
  exact add_comm _ _

end Cert.Reference12Ideal.Array

namespace Cert.Kernel12Ideal.Array

open Cert.Kernel12Ideal Cert.Kernel12Ideal.Gen

variable (m : (ℓ : Loc nD τ sig) → Buf (Elt Ideal) ℓ)

/-- The part of a tile's product that one grid point adds, at an index. -/
def tile (a : Vec Ideal S2048x1408 .bf16) (b : Vec Ideal S1408x512 .bf16) (j : S2048x512.Idx) : EReal :=
  ∑ k : Fin 1408, a (ix2 (j 0) k) * b (ix2 k (j 1))

theorem first_apply (a : Vec Ideal S2048x1408 .bf16) (b : Vec Ideal S1408x512 .bf16) (j : S2048x512.Idx) :
    k0_pay2 (F := Ideal) a b j = 0 + tile a b j := by
  unfold k0_pay2 k0_pay1 tile
  simp only [pointwise, zero_add]

theorem next_apply (a : Vec Ideal S2048x1408 .bf16) (b : Vec Ideal S1408x512 .bf16) (acc : Vec Ideal S2048x512 .f32) (j : S2048x512.Idx) :
    k0_pay3 (F := Ideal) a b acc j = acc j + tile a b j := by
  unfold k0_pay3 k0_pay1 tile
  simp only [pointwise, zero_add]

/-- The sum of two entries. -/
def plus (a b : EReal) : EReal := a + b

theorem last_apply (acc x : Vec Ideal S2048x512 .f32) (j : S2048x512.Idx) : k0_pay4 (F := Ideal) acc x j = plus (acc j) (x j) := by
  unfold k0_pay4 plus
  simp only [pointwise]

/-- What the scratch holds after grid point `t`. -/
theorem scratch_first (c : Dev nD) (t : Fin cfg0.N) (h : t.val % 4 = 0) (j : S2048x512.Idx) :
    (outsAt0 m c t.val t.isLt).2 j = 0 + tile (iblk m c 0 t) (iblk m c 1 t) j := by
  rw [outsAt0_A m c t h (by omega) (by omega)]
  frame_out
  exact first_apply _ _ _

theorem scratch_next (c : Dev nD) (t : Fin cfg0.N) (h : ¬t.val % 4 = 0) (j : S2048x512.Idx) :
    (outsAt0 m c t.val t.isLt).2 j
      = (outsAt0 m c (t.val - 1) (lt_of_le_of_lt (Nat.sub_le _ _) t.isLt)).2 j + tile (iblk m c 0 t) (iblk m c 1 t) j := by
  by_cases h3 : t.val % 4 = 3
  · rw [outsAt0_C m c t h (by omega) h3]
    frame_out
    rw [read_unread_whole]
    exact next_apply _ _ _ _
  · rw [outsAt0_B m c t h (by omega) h3]
    frame_out
    rw [read_unread_whole]
    exact next_apply _ _ _ _

/-- What the last point of a tile stores is what the scratch then holds and the residual. -/
theorem stored (c : Dev nD) (t : Fin cfg0.N) (h3 : t.val % 4 = 3) (j : S2048x512.Idx) :
    (outsAt0 m c t.val t.isLt).1 j = plus ((outsAt0 m c t.val t.isLt).2 j) (iblk m c 2 t j) := by
  rw [outsAt0_C m c t (by omega) (by omega) h3]
  frame_out
  exact last_apply _ _ _

/-- The inner axis' blocks of a grid point, from the block of its result. -/
theorem idx : ∀ t : Fin cfg0.N, win0_0.index t = ![win0_3.index t 0, t.val % 4] ∧ win0_1.index t = ![t.val % 4, win0_3.index t 1]
    ∧ win0_2.index t = win0_3.index t :=
  (by decide +kernel : ∀ t : Fin grid0.N, _)

/-- The four points of a tile have one result block. -/
theorem idx_run (t : Fin cfg0.N) (s : Fin 4) (h : 4 * (t.val / 4) + s.val < cfg0.N) :
    win0_3.index ⟨4 * (t.val / 4) + s.val, h⟩ = win0_3.index t := by
  have H : ∀ u v : Fin grid0.N, u.val / 4 = v.val / 4 → win0_3.index u = win0_3.index v := by decide +kernel
  exact H _ _ (show (4 * (t.val / 4) + s.val) / 4 = t.val / 4 by have := s.isLt; omega)

/-- The four parts of a tile are the reference's product at the place of the array under the tile's index. -/
theorem parts_eq (c : Dev nD) (t : Fin cfg0.N) (h : ∀ s : Fin 4, 4 * (t.val / 4) + s.val < cfg0.N) (y : S2048x512.Idx) (i : S2048x2048.Idx)
    (h0 : (i 0).val = win0_3.index t 0 * 2048 + (y 0).val) (h1 : (i 1).val = win0_3.index t 1 * 512 + (y 1).val) :
    ∑ s : Fin 4, tile (iblk m c 0 ⟨4 * (t.val / 4) + s.val, h s⟩) (iblk m c 1 ⟨4 * (t.val / 4) + s.val, h s⟩) y
      = Reference12Ideal.Array.prod (m ((c : Thread nD τ).loc main_arg0)) (m ((c : Thread nD τ).loc main_arg1)) i := by
  refine Fin.sum_mul_add_congr fun s k hl => congrArg₂ _ ?_ ?_
  · blk_ext! [iblk, V, idx, idx_run t, h0]
  · blk_ext! [iblk, V, idx, idx_run t, h1]

theorem final (c : Dev nD) : (dats m 0 c).arrAt 3 cfg0.N
    = Reference12Ideal.Read.val_main_v3 (F := Ideal) (m ((c : Thread nD τ).loc main_arg0)) (m ((c : Thread nD τ).loc main_arg1))
        (m ((c : Thread nD τ).loc main_arg2)) := by
  refine (dats m 0 c).arrAt_eq_of_covers 3 _ (by decide +kernel) fun t hf y => ?_
  have h3 := (flush0_3 t).mp hf
  blk_simp
  rw [after0_3, stored m c t h3, Pipeline.eq_sum_fin_of_reset_step_apply_of_flush (fun n h => (outsAt0 m c n h).2) 4 (fun _ => 0) _
    (fun t h j => scratch_first m c t h j) (fun t h j => scratch_next m c t h j) t h3 y, zero_add]
  refine Eq.trans ?_ (Reference12Ideal.Array.apply _ _ _ _).symm
  refine congrArg₂ plus (parts_eq m c t _ y _ ?_ ?_) ?_
  · blk_simp
  · blk_simp
  · blk_ext! [iblk, V, idx t]

/-- The claim. -/
theorem algebraic : Cert.algebraic_Kernel12Ideal_Reference12Ideal := by
  pair_intro
  · run_from Cert.Kernel12Ideal.Value.run_blocks m g
  · refine θ_run_mono (Cert.Reference12Ideal.Value.run m' g') fun r h c => ?_
    obtain ⟨h1, h2⟩ := h c
    obtain ⟨a0, a1, a2⟩ := hagree c
    refine ⟨h1.trans ((Reference12Ideal.Read.val_main_v3_eq _ _ _).trans ?_), h2⟩
    rw [a0, a1, a2]
    exact (final m c).symm

end Cert.Kernel12Ideal.Array
-- ==== Proof.FfnBack.lean ====
/- ffn_in_bwd: the gradients of the gate and of the other branch taken back through the two weights, kept as four column
   shards each. A grid point takes one shard of both; the sum over the four shards is kept in a scratch buffer. -/
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import proofs.«01_k».proof.Proof.Shards
public import Idealize.ShloMosaic.Lib.Pipeline.ValueKit
public import Idealize.ShloMosaic.Lib.Pipeline.ReadBack
public import Idealize.ShloMosaic.Lib.Claim
public import Idealize.ShloMosaic.Lib.Pointwise

@[expose] public section

noncomputable section

open Idealize.ShloMosaic Idealize.ShloMosaic.TcCoe Idealize.SL.Sem

namespace Cert.Reference5Ideal.Array

open Cert.Reference5Ideal Cert.Reference5Ideal.Read

/-- One gradient taken back through one weight, at a place. -/
def back (p : (⟨S2048x5632, .bf16⟩ : BufTy).Contents (Elt Ideal)) (w : (⟨S4x2048x1408, .bf16⟩ : BufTy).Contents (Elt Ideal))
    (i : S2048x2048.Idx) : EReal :=
  ∑ l : Fin 5632, p (ix2 (i 0) l) * w (Shards.place (i 1) l)

variable (x0 x1 : (⟨S2048x5632, .bf16⟩ : BufTy).Contents (Elt Ideal)) (x2 x3 : (⟨S4x2048x1408, .bf16⟩ : BufTy).Contents (Elt Ideal))
  (i : S2048x2048.Idx)

theorem gate_apply : val_main_v26 (F := Ideal) x0 x2 i = back x0 x2 i := by
  refine (val_main_v26_apply x0 x2 i).trans (Fin.sum_fin_congr fun k => congrArg₂ _ ?_ ?_)
  · exact congrArg x0 (funext fun a => match a with | ⟨0, _⟩ => rfl | ⟨1, _⟩ => rfl)
  · exact Shards.full_apply x2 _ _ _ _ _ _ _

theorem up_apply : val_main_v25 (F := Ideal) x1 x3 i = back x1 x3 i := by
  refine (val_main_v25_apply x1 x3 i).trans (Fin.sum_fin_congr fun k => congrArg₂ _ ?_ ?_)
  · exact congrArg x1 (funext fun a => match a with | ⟨0, _⟩ => rfl | ⟨1, _⟩ => rfl)
  · exact Shards.full_apply x3 _ _ _ _ _ _ _

theorem apply : val_main_v27 (F := Ideal) x0 x1 x2 x3 i = back x0 x2 i + back x1 x3 i := by
  rw [val_main_v27_apply, gate_apply, up_apply]
  exact add_comm _ _

end Cert.Reference5Ideal.Array

namespace Cert.Kernel5Ideal.Array

open Cert.Kernel5Ideal Cert.Kernel5Ideal.Gen

variable (m : (ℓ : Loc nD τ sig) → Buf (Elt Ideal) ℓ)

/-- The part of a tile's product that one grid point adds, at an index. -/
def tile (a : Vec Ideal S2048x1408 .bf16) (b : Vec Ideal S1x512x1408 .bf16) (d : Vec Ideal S2048x1408 .bf16)
    (e : Vec Ideal S1x512x1408 .bf16) (j : S2048x512.Idx) : EReal :=
  (∑ k : Fin 1408, a (ix2 (j 0) k) * b (ix3 0 (j 1) k)) + ∑ k : Fin 1408, d (ix2 (j 0) k) * e (ix3 0 (j 1) k)

theorem first_apply (a : Vec Ideal S2048x1408 .bf16) (b : Vec Ideal S1x512x1408 .bf16) (d : Vec Ideal S2048x1408 .bf16)
    (e : Vec Ideal S1x512x1408 .bf16) (j : S2048x512.Idx) :
    k0_pay2 (F := Ideal) a b d e j = 0 + tile a b d e j := by
  unfold k0_pay2 k0_pay1 tile
  simp only [pointwise, zero_add]

theorem next_apply (a : Vec Ideal S2048x1408 .bf16) (b : Vec Ideal S1x512x1408 .bf16) (d : Vec Ideal S2048x1408 .bf16)
    (e : Vec Ideal S1x512x1408 .bf16) (acc : Vec Ideal S2048x512 .f32) (j : S2048x512.Idx) :
    k0_pay3 (F := Ideal) a b d e acc j = acc j + tile a b d e j := by
  unfold k0_pay3 k0_pay1 tile
  simp only [pointwise, zero_add]

/-- What the scratch holds after grid point `t`. -/
theorem scratch_first (c : Dev nD) (t : Fin cfg0.N) (h : t.val % 4 = 0) (j : S2048x512.Idx) :
    (outsAt0 m c t.val t.isLt).2 j = 0 + tile (iblk m c 0 t) (iblk m c 2 t) (iblk m c 1 t) (iblk m c 3 t) j := by
  rw [outsAt0_A m c t h (by omega) (by omega)]
  frame_out
  exact first_apply _ _ _ _ _

theorem scratch_next (c : Dev nD) (t : Fin cfg0.N) (h : ¬t.val % 4 = 0) (j : S2048x512.Idx) :
    (outsAt0 m c t.val t.isLt).2 j
      = (outsAt0 m c (t.val - 1) (lt_of_le_of_lt (Nat.sub_le _ _) t.isLt)).2 j + tile (iblk m c 0 t) (iblk m c 2 t) (iblk m c 1 t) (iblk m c 3 t) j := by
  by_cases h3 : t.val % 4 = 3
  · rw [outsAt0_C m c t h (by omega) h3]
    frame_out
    rw [read_unread_whole]
    exact next_apply _ _ _ _ _ _
  · rw [outsAt0_B m c t h (by omega) h3]
    frame_out
    rw [read_unread_whole]
    exact next_apply _ _ _ _ _ _

/-- What the last point of a tile stores is what the scratch then holds. -/
theorem stored (c : Dev nD) (t : Fin cfg0.N) (h3 : t.val % 4 = 3) (j : S2048x512.Idx) :
    (outsAt0 m c t.val t.isLt).1 j = (outsAt0 m c t.val t.isLt).2 j := by
  rw [outsAt0_C m c t (by omega) (by omega) h3]
  frame_out

/-- The inner axis' blocks of a grid point, from the block of its result. -/
theorem idx : ∀ t : Fin cfg0.N, win0_0.index t = ![win0_4.index t 0, t.val % 4] ∧ win0_1.index t = ![win0_4.index t 0, t.val % 4]
    ∧ win0_2.index t = ![t.val % 4, win0_4.index t 1, 0] ∧ win0_3.index t = ![t.val % 4, win0_4.index t 1, 0] :=
  (by decide +kernel : ∀ t : Fin grid0.N, _)

/-- The four points of a tile have one result block. -/
theorem idx_run (t : Fin cfg0.N) (s : Fin 4) (h : 4 * (t.val / 4) + s.val < cfg0.N) :
    win0_4.index ⟨4 * (t.val / 4) + s.val, h⟩ = win0_4.index t := by
  have H : ∀ u v : Fin grid0.N, u.val / 4 = v.val / 4 → win0_4.index u = win0_4.index v := by decide +kernel
  exact H _ _ (show (4 * (t.val / 4) + s.val) / 4 = t.val / 4 by have := s.isLt; omega)

/-- The four parts of a tile are the reference's sum at the place of the array under the tile's index. -/
theorem parts_eq (c : Dev nD) (t : Fin cfg0.N) (h : ∀ s : Fin 4, 4 * (t.val / 4) + s.val < cfg0.N) (y : S2048x512.Idx) (i : S2048x2048.Idx)
    (h0 : (i 0).val = win0_4.index t 0 * 2048 + (y 0).val) (h1 : (i 1).val = win0_4.index t 1 * 512 + (y 1).val) :
    ∑ s : Fin 4, tile (iblk m c 0 ⟨4 * (t.val / 4) + s.val, h s⟩) (iblk m c 2 ⟨4 * (t.val / 4) + s.val, h s⟩)
        (iblk m c 1 ⟨4 * (t.val / 4) + s.val, h s⟩) (iblk m c 3 ⟨4 * (t.val / 4) + s.val, h s⟩) y
      = Reference5Ideal.Array.back (m ((c : Thread nD τ).loc main_arg0)) (m ((c : Thread nD τ).loc main_arg2)) i
        + Reference5Ideal.Array.back (m ((c : Thread nD τ).loc main_arg1)) (m ((c : Thread nD τ).loc main_arg3)) i := by
  refine Finset.sum_add_distrib.trans (congrArg₂ _ ?_ ?_)
  all_goals
    refine Fin.sum_mul_add_congr fun s k hl => congrArg₂ _ ?_ ?_
    · blk_ext! [iblk, V, idx, idx_run t, h0]
    · have hp := Shards.place_tile (i 1) ⟨s.val * 1408 + k.val, hl⟩ s.val k rfl
      blk_ext! [iblk, V, idx, idx_run t, h1, hp]

theorem final (c : Dev nD) : (dats m 0 c).arrAt 4 cfg0.N
    = Reference5Ideal.Read.val_main_v27 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  have h3 := (flush0_4 t).mp hf
  blk_simp
  rw [after0_4, stored m c t h3, Pipeline.eq_sum_fin_of_reset_step_apply_of_flush (fun n h => (outsAt0 m c n h).2) 4 (fun _ => 0) _
    (fun t h j => scratch_first m c t h j) (fun t h j => scratch_next m c t h j) t h3 y, zero_add]
  refine Eq.trans (parts_eq m c t _ y _ ?_ ?_) (Reference5Ideal.Array.apply _ _ _ _ _).symm
  · blk_simp
  · blk_simp

/-- The claim. -/
theorem algebraic : Cert.algebraic_Kernel5Ideal_Reference5Ideal := by
  pair_intro
  · run_from Cert.Kernel5Ideal.Value.run_blocks m g
  · refine θ_run_mono (Cert.Reference5Ideal.Value.run m' g') fun r h c => ?_
    obtain ⟨h1, h2⟩ := h c
    obtain ⟨a0, a1, a2, a3⟩ := hagree c
    refine ⟨h1.trans ((Reference5Ideal.Read.val_main_v27_eq _ _ _ _).trans ?_), h2⟩
    rw [a0, a1, a2, a3]
    exact (final m c).symm

end Cert.Kernel5Ideal.Array
-- ==== Proof.WGate.lean ====
/- d_w_gate: the gradient of a weight kept as four column shards, written shard by shard. -/
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import proofs.«01_k».proof.Proof.Sums
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem

namespace Cert.Reference4Ideal.Array

open Cert.Reference4Ideal Cert.Reference4Ideal.Read

variable (x0 : (⟨S2048x2048, .bf16⟩ : BufTy).Contents (Elt Ideal)) (x1 : (⟨S2048x5632, .bf16⟩ : BufTy).Contents (Elt Ideal))
  (i : S4x2048x1408.Idx)

/-- The product at the whole matrix's place `(r, l)`. -/
def prod (r : Fin 2048) (l : Fin 5632) : EReal := ∑ k : Fin 2048, x1 (ix2 k l) * x0 (ix2 k r)

theorem col_lt (i : S4x2048x1408.Idx) : (i 0).val * 1408 + (i 2).val < 5632 := by
  have h0 : (i 0).val < 4 := (i 0).isLt
  have h2 : (i 2).val < 1408 := (i 2).isLt
  omega

theorem whole_apply (r : Fin 2048) (l : Fin 5632) : val_main_v14 (F := Ideal) x0 x1 (ix2 r l) = prod x0 x1 r l := by
  rw [val_main_v14_apply]
  refine (val_main_v13_apply x0 x1 _).trans (Fin.sum_fin_congr fun k => congrArg₂ _ ?_ ?_)
  · exact congrArg x1 (funext fun a => match a with | ⟨0, _⟩ => rfl | ⟨1, _⟩ => rfl)
  · exact congrArg x0 (funext fun a => match a with | ⟨0, _⟩ => rfl | ⟨1, _⟩ => rfl)

/-- A place of the whole matrix, from its row and column. -/
theorem ix2_at (j : S2048x5632.Idx) (r : Fin 2048) (l : Fin 5632) (h0 : (j 0).val = r.val) (h1 : (j 1).val = l.val) : j = ix2 r l :=
  funext fun a => match a with | ⟨0, _⟩ => Fin.ext h0 | ⟨1, _⟩ => Fin.ext h1

/-- A shard put into its place among the four, the others zero, is met exactly at its own number. -/
theorem at_shard (n : ℕ) (s : Fin 4) (r : Fin 2048) (q : Fin 1408) :
    (∀ a : Fin 3, (![n, 0, 0] : Fin 3 → ℕ) a ≤ (ix3 s r q a).val ∧ ((ix3 s r q a).val - (![n, 0, 0] : Fin 3 → ℕ) a) % ((![0, 0, 0] : Fin 3 → ℕ) a + 1) = 0
      ∧ ((ix3 s r q a).val - (![n, 0, 0] : Fin 3 → ℕ) a) / ((![0, 0, 0] : Fin 3 → ℕ) a + 1) < (![1, 2048, 1408] : Fin 3 → ℕ) a) ↔ s.val = n := by
  have hr := r.isLt
  have hq := q.isLt
  constructor
  · intro h
    have h0 := h 0
    have h1 : n ≤ s.val ∧ (s.val - n) % (0 + 1) = 0 ∧ (s.val - n) / (0 + 1) < 1 := h0
    omega
  · intro h a
    match a with
    | ⟨0, _⟩ => show n ≤ s.val ∧ (s.val - n) % (0 + 1) = 0 ∧ (s.val - n) / (0 + 1) < 1; omega
    | ⟨1, _⟩ => show 0 ≤ r.val ∧ (r.val - 0) % (0 + 1) = 0 ∧ (r.val - 0) / (0 + 1) < 2048; omega
    | ⟨2, _⟩ => show 0 ≤ q.val ∧ (q.val - 0) % (0 + 1) = 0 ∧ (q.val - 0) / (0 + 1) < 1408; omega

theorem apply (s : Fin 4) (r : Fin 2048) (q : Fin 1408) (l : Fin 5632) (h : l.val = s.val * 1408 + q.val) :
    val_main_v30 (F := Ideal) x0 x1 (ix3 s r q) = prod x0 x1 r l := by
  rw [← whole_apply]
  rw [val_main_v30_apply, val_main_v29_apply, val_main_v26_apply, val_main_v23_apply]
  unfold val_main_v20 val_main_v22 val_main_v25 val_main_v28
  simp only [pointwise, val_main_v19_apply, val_main_v21_apply, val_main_v24_apply, val_main_v27_apply, val_main_v18_apply,
    val_main_v17_apply, val_main_v16_apply, val_main_v15_apply, val_main_cst_0_apply, val_main_cst_1_apply, val_main_cst_2_apply, val_main_cst_3_apply]
  simp only [at_shard]
  have e0 : (r.val - 0) / (0 + 1) = r.val := by omega
  have hs : s.val = 0 ∨ s.val = 1 ∨ s.val = 2 ∨ s.val = 3 := by have := s.isLt; omega
  rcases hs with e | e | e | e
  · rw [dif_neg (by omega), dif_neg (by omega), dif_neg (by omega), dif_pos e, zero_add, zero_add, zero_add]
    refine congrArg (val_main_v14 (F := Ideal) x0 x1) (ix2_at _ _ _ e0 ?_)
    show (q.val - 0) / (0 + 1) = l.val
    omega
  · rw [dif_neg (by omega), dif_neg (by omega), dif_pos e, dif_neg (by omega), zero_add, zero_add, add_zero]
    refine congrArg (val_main_v14 (F := Ideal) x0 x1) (ix2_at _ _ _ e0 ?_)
    show 1408 + (q.val - 0) / (0 + 1) = l.val
    omega
  · rw [dif_neg (by omega), dif_pos e, dif_neg (by omega), dif_neg (by omega), zero_add, add_zero, add_zero]
    refine congrArg (val_main_v14 (F := Ideal) x0 x1) (ix2_at _ _ _ e0 ?_)
    show 2816 + (q.val - 0) / (0 + 1) = l.val
    omega
  · rw [dif_pos e, dif_neg (by omega), dif_neg (by omega), dif_neg (by omega), add_zero, add_zero, add_zero]
    refine congrArg (val_main_v14 (F := Ideal) x0 x1) (ix2_at _ _ _ e0 ?_)
    show 4224 + (q.val - 0) / (0 + 1) = l.val
    omega

/-- The same at any place of the shards. -/
theorem apply' : val_main_v30 (F := Ideal) x0 x1 i
    = ∑ k : Fin 2048, x1 (ix2 k ⟨(i 0).val * 1408 + (i 2).val, col_lt i⟩) * x0 (ix2 k (i 1)) := by
  have e : i = ix3 (i 0) (i 1) (i 2) := funext fun a => match a with | ⟨0, _⟩ => rfl | ⟨1, _⟩ => rfl | ⟨2, _⟩ => rfl
  exact (congrArg _ e).trans (apply x0 x1 _ _ _ ⟨_, col_lt i⟩ rfl)

end Cert.Reference4Ideal.Array

namespace Cert.Kernel4Ideal.Array

open Cert.Kernel4Ideal Cert.Kernel4Ideal.Gen

variable (m : (ℓ : Loc nD τ sig) → Buf (Elt Ideal) ℓ)

/-- What one grid point stores, read at an index. -/
theorem pay_apply (a : Vec Ideal S2048x1024 .bf16) (b : Vec Ideal S2048x1408 .bf16) (j : S1x1024x1408.Idx) :
    k0_pay1 (F := Ideal) a b j = ∑ k : Fin 2048, a (ix2 k (j 1)) * b (ix2 k (j 2)) := by
  unfold k0_pay1
  simp only [pointwise, zero_add]

/-- The operand blocks of a grid point, from its result block. -/
theorem idx : ∀ t : Fin cfg0.N, win0_0.index t = ![0, win0_2.index t 1] ∧ win0_1.index t = ![0, win0_2.index t 0] ∧ win0_2.index t 2 = 0 :=
  (by decide +kernel : ∀ t : Fin grid0.N, _)

theorem final (c : Dev nD) : (dats m 0 c).arrAt 2 cfg0.N
    = Reference4Ideal.Read.val_main_v30 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (pay_apply _ _ _).trans (Eq.trans ?_ (Reference4Ideal.Array.apply' _ _ _).symm)
  refine (Cert.sum_mul_comm_congr ?_ ?_)
  · intro k
    blk_ext! [iblk, V, idx t]
  · intro k
    blk_ext! [iblk, V, idx t]

/-- The claim. -/
theorem algebraic : Cert.algebraic_Kernel4Ideal_Reference4Ideal := by
  pair_intro
  · run_from Cert.Kernel4Ideal.Value.run_blocks m g
  · refine θ_run_mono (Cert.Reference4Ideal.Value.run m' g') fun r h c => ?_
    obtain ⟨h1, h2⟩ := h c
    obtain ⟨a0, a1⟩ := hagree c
    refine ⟨h1.trans ((Reference4Ideal.Read.val_main_v30_eq _ _).trans ?_), h2⟩
    rw [a0, a1]
    exact (final m c).symm

end Cert.Kernel4Ideal.Array
-- ==== Proof.AdamW.lean ====
/- AdamW: each output of the call, at each index, is the reference's expression in the four arguments there. -/
module

public import proofs.«01_k».proof.Defs
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18Ideal.Value
public import proofs.«01_k».proof.Proof.Gen.Reference18Ideal.Run
public import proofs.«01_k».proof.Proof.Gen.Reference18Ideal.Read
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem

/-- AdamW of w_in, transposed, a shard: the update and both moments are the reference's. -/
theorem Cert.Kernel14Ideal.Array.algebraic : Cert.algebraic_Kernel14Ideal_Reference14Ideal := by
  pair_intro
  · run_from Cert.Kernel14Ideal.Value.run m g
  · refine θ_run_mono (Cert.Reference14Ideal.Value.run m' g') fun r h c => ?_
    obtain ⟨h1, h2, h3, hrest⟩ := h c
    obtain ⟨a0, a1, a2, a3⟩ := hagree c
    refine ⟨h1.trans ((Reference14Ideal.Read.val_main_v23_eq _ _ _ _).trans ?_),
      h2.trans ((Reference14Ideal.Read.val_main_v4_eq _ _).trans ?_),
      h3.trans ((Reference14Ideal.Read.val_main_v10_eq _ _).trans ?_), hrest⟩ <;>
    · rw [a1]; (try rw [a2]); (try rw [a3]); (try rw [a0])
      rfl

/-- AdamW of w_out, a shard: the update and both moments are the reference's. -/
theorem Cert.Kernel15Ideal.Array.algebraic : Cert.algebraic_Kernel15Ideal_Reference15Ideal := by
  pair_intro
  · run_from Cert.Kernel15Ideal.Value.run m g
  · refine θ_run_mono (Cert.Reference15Ideal.Value.run m' g') fun r h c => ?_
    obtain ⟨h1, h2, h3, hrest⟩ := h c
    obtain ⟨a0, a1, a2, a3⟩ := hagree c
    refine ⟨h1.trans ((Reference15Ideal.Read.val_main_v23_eq _ _ _ _).trans ?_),
      h2.trans ((Reference15Ideal.Read.val_main_v4_eq _ _).trans ?_),
      h3.trans ((Reference15Ideal.Read.val_main_v10_eq _ _).trans ?_), hrest⟩ <;>
    · rw [a1]; (try rw [a2]); (try rw [a3]); (try rw [a0])
      rfl

/-- AdamW of w_gate (and w_up), a shard: the update and both moments are the reference's. -/
theorem Cert.Kernel16Ideal.Array.algebraic : Cert.algebraic_Kernel16Ideal_Reference16Ideal := by
  pair_intro
  · run_from Cert.Kernel16Ideal.Value.run m g
  · refine θ_run_mono (Cert.Reference16Ideal.Value.run m' g') fun r h c => ?_
    obtain ⟨h1, h2, h3, hrest⟩ := h c
    obtain ⟨a0, a1, a2, a3⟩ := hagree c
    refine ⟨h1.trans ((Reference16Ideal.Read.val_main_v23_eq _ _ _ _).trans ?_),
      h2.trans ((Reference16Ideal.Read.val_main_v4_eq _ _).trans ?_),
      h3.trans ((Reference16Ideal.Read.val_main_v10_eq _ _).trans ?_), hrest⟩ <;>
    · rw [a1]; (try rw [a2]); (try rw [a3]); (try rw [a0])
      rfl

/-- AdamW of w_down, a shard: the update and both moments are the reference's. -/
theorem Cert.Kernel17Ideal.Array.algebraic : Cert.algebraic_Kernel17Ideal_Reference17Ideal := by
  pair_intro
  · run_from Cert.Kernel17Ideal.Value.run m g
  · refine θ_run_mono (Cert.Reference17Ideal.Value.run m' g') fun r h c => ?_
    obtain ⟨h1, h2, h3, hrest⟩ := h c
    obtain ⟨a0, a1, a2, a3⟩ := hagree c
    refine ⟨h1.trans ((Reference17Ideal.Read.val_main_v23_eq _ _ _ _).trans ?_),
      h2.trans ((Reference17Ideal.Read.val_main_v4_eq _ _).trans ?_),
      h3.trans ((Reference17Ideal.Read.val_main_v10_eq _ _).trans ?_), hrest⟩ <;>
    · rw [a1]; (try rw [a2]); (try rw [a3]); (try rw [a0])
      rfl

/-- AdamW of the small weights, packed into one array: the update and both moments are the reference's. -/
theorem Cert.Kernel18Ideal.Array.algebraic : Cert.algebraic_Kernel18Ideal_Reference18Ideal := by
  pair_intro
  · run_from Cert.Kernel18Ideal.Value.run m g
  · refine θ_run_mono (Cert.Reference18Ideal.Value.run m' g') fun r h c => ?_
    obtain ⟨h1, h2, h3, hrest⟩ := h c
    obtain ⟨a0, a1, a2, a3⟩ := hagree c
    refine ⟨h1.trans ((Reference18Ideal.Read.val_main_v23_eq _ _ _ _).trans ?_),
      h2.trans ((Reference18Ideal.Read.val_main_v4_eq _ _).trans ?_),
      h3.trans ((Reference18Ideal.Read.val_main_v10_eq _ _).trans ?_), hrest⟩ <;>
    · rw [a1]; (try rw [a2]); (try rw [a3]); (try rw [a0])
      rfl

end
-- ==== Proof.GateUnit.lean ====
/- The chunked causal gating unit on one chunk of 128 rows, over the reals: the forward values and the gradient. -/
module

public import Idealize.ShloMosaic.Lib.Pointwise

@[expose] public section

noncomputable section

namespace GateUnit

/-- 1/√2 as the programs write it. -/
def kap : ℝ := 11863283 / 16777216

/-- 2/√π as the programs write it. -/
def tsp : ℝ := 9465531 / 8388608

/-- The error function of a real number. -/
def erf (x : ℝ) : ℝ := 2 / Real.sqrt Real.pi * ∫ t in (0 : ℝ)..x, Real.exp (-(t ^ 2))

/-- Twice the normal distribution function. -/
def phi (x : ℝ) : ℝ := 1 + erf (x * kap)

/-- The exact gelu. -/
def gelu (x : ℝ) : ℝ := 1 / 2 * x * phi x

/-- The gradient of gelu at x against g. -/
def dgelu (x g : ℝ) : ℝ := tsp * (1 / 2 * x * g) * Real.exp (-(x * kap * (x * kap))) * kap + 1 / 2 * (g * phi x)

/-- The layer norm's small number. -/
def lnEps : ℝ := 10995116 / 1099511627776

/-- The root mean square norm's small number. -/
def rmsEps : ℝ := 8796093 / 8796093022208

/-- The arguments of one chunk: both halves of the rows, the layer norm's gain and bias, the mixing weights and biases of
    the sixteen heads, the gain of the root mean square norm, and the gradient of the result. -/
structure Chunk where
  pu : Fin 128 → Fin 1024 → ℝ
  pv : Fin 128 → Fin 1024 → ℝ
  lg : Fin 1024 → ℝ
  lb : Fin 1024 → ℝ
  w : Fin 16 → Fin 128 → Fin 128 → ℝ
  b : Fin 16 → Fin 128 → ℝ
  og : Fin 1024 → ℝ
  d : Fin 128 → Fin 1024 → ℝ

/-- The head of a column: sixty-four columns to a head. -/
def head (c : Fin 1024) : Fin 16 := ⟨c.val / 64, by omega⟩

/-- The column of a head's place. -/
def col (g : Fin 16) (k : Fin 64) : Fin 1024 := ⟨64 * g.val + k.val, by omega⟩

namespace Chunk

variable (X : Chunk)

def u (r : Fin 128) (c : Fin 1024) : ℝ := gelu (X.pu r c)
def v (r : Fin 128) (c : Fin 1024) : ℝ := gelu (X.pv r c)
def mu (r : Fin 128) : ℝ := (∑ c, X.v r c) / 1024
def vc (r : Fin 128) (c : Fin 1024) : ℝ := X.v r c - X.mu r
def va (r : Fin 128) : ℝ := (∑ c, X.vc r c * X.vc r c) / 1024 + lnEps
def ri (r : Fin 128) : ℝ := (Real.sqrt (X.va r))⁻¹
def vh (r : Fin 128) (c : Fin 1024) : ℝ := X.vc r c * X.ri r
def vl (r : Fin 128) (c : Fin 1024) : ℝ := X.vh r c * X.lg c + X.lb c
/-- The weights of a head, kept on and below the diagonal. -/
def wt (g : Fin 16) (t s : Fin 128) : ℝ := if s ≤ t then X.w g t s else 0
def s (r : Fin 128) (c : Fin 1024) : ℝ := (∑ k, X.wt (head c) r k * X.vl k c) + X.b (head c) r
def y (r : Fin 128) (c : Fin 1024) : ℝ := X.u r c * X.s r c
def ms (r : Fin 128) : ℝ := (∑ c, X.y r c * X.y r c) / 1024 + rmsEps
def rr (r : Fin 128) : ℝ := (Real.sqrt (X.ms r))⁻¹
def dog (c : Fin 1024) : ℝ := ∑ r, X.y r c * X.rr r * X.d r c
def dn (r : Fin 128) (c : Fin 1024) : ℝ := X.d r c * X.og c
def q (r : Fin 128) : ℝ := (∑ c, X.y r c * X.dn r c) * (-(1 / 2) * (X.rr r / X.ms r)) / 1024
def dy (r : Fin 128) (c : Fin 1024) : ℝ := X.dn r c * X.rr r + X.y r c * X.q r + X.q r * X.y r c
def ds (r : Fin 128) (c : Fin 1024) : ℝ := X.u r c * X.dy r c
def du (r : Fin 128) (c : Fin 1024) : ℝ := X.dy r c * X.s r c
def dpu (r : Fin 128) (c : Fin 1024) : ℝ := dgelu (X.pu r c) (X.du r c)
def db (g : Fin 16) (r : Fin 128) : ℝ := ∑ k, X.ds r (col g k)
def dw (g : Fin 16) (t s : Fin 128) : ℝ := if s ≤ t then ∑ k, X.ds t (col g k) * X.vl s (col g k) else 0
def dvl (r : Fin 128) (c : Fin 1024) : ℝ := ∑ t, X.wt (head c) t r * X.ds t c
def dlb (c : Fin 1024) : ℝ := ∑ r, X.dvl r c
def dlg (c : Fin 1024) : ℝ := ∑ r, X.vh r c * X.dvl r c
def dvh (r : Fin 128) (c : Fin 1024) : ℝ := X.dvl r c * X.lg c
def q2 (r : Fin 128) : ℝ := (∑ c, X.vc r c * X.dvh r c) * (-(1 / 2) * (X.ri r / X.va r)) / 1024
def dvc (r : Fin 128) (c : Fin 1024) : ℝ := X.dvh r c * X.ri r + X.vc r c * X.q2 r + X.q2 r * X.vc r c
def dmu (r : Fin 128) : ℝ := (∑ c, -X.dvc r c) / 1024
def dv (r : Fin 128) (c : Fin 1024) : ℝ := X.dvc r c + X.dmu r
def dpv (r : Fin 128) (c : Fin 1024) : ℝ := dgelu (X.pv r c) (X.dv r c)

theorem lnEps_pos : 0 < lnEps := by norm_num [lnEps]

theorem rmsEps_pos : 0 < rmsEps := by norm_num [rmsEps]

theorem va_pos (r : Fin 128) : 0 < X.va r :=
  add_pos_of_nonneg_of_pos (div_nonneg (Finset.sum_nonneg fun _ _ => mul_self_nonneg _) (by norm_num)) lnEps_pos

theorem ms_pos (r : Fin 128) : 0 < X.ms r :=
  add_pos_of_nonneg_of_pos (div_nonneg (Finset.sum_nonneg fun _ _ => mul_self_nonneg _) (by norm_num)) rmsEps_pos

end Chunk

end GateUnit

end
-- ==== Proof.Inputs.lean ====
/- The chunks of the gating unit's argument arrays, for arrays of real numbers. -/
module

public import proofs.«01_k».proof.Defs
public import proofs.«01_k».proof.Proof.GateUnit
public import Idealize.ShloMosaic.Lib.Pointwise

@[expose] public section

noncomputable section

open Idealize.ShloMosaic

namespace GateUnit

/-- An array whose every element is a real number. -/
def IsReal {S : Shape} (A : FVec Ideal S .f32) : Prop := ∀ i, A i = ((A i : EReal).toReal : EReal)

/-- A row of a chunk in the arrays of 2048 rows. -/
def row (t : Fin 16) (r : Fin 128) : Fin 2048 := ⟨128 * t.val + r.val, by omega⟩

/-- The argument arrays. -/
structure Args where
  p : FVec Ideal ⟨2, ![2048, 5632]⟩ .f32
  lg : FVec Ideal ⟨2, ![1, 1024]⟩ .f32
  lb : FVec Ideal ⟨2, ![1, 1024]⟩ .f32
  w : FVec Ideal ⟨3, ![16, 128, 128]⟩ .f32
  b : FVec Ideal ⟨2, ![16, 128]⟩ .f32
  og : FVec Ideal ⟨2, ![1, 1024]⟩ .f32
  d : FVec Ideal ⟨2, ![2048, 2048]⟩ .f32

/-- Every argument is an array of real numbers. -/
structure Args.Real (A : Args) : Prop where
  p : IsReal A.p
  lg : IsReal A.lg
  lb : IsReal A.lb
  w : IsReal A.w
  b : IsReal A.b
  og : IsReal A.og
  d : IsReal A.d

/-- Chunk t of the arguments. -/
def Args.chunk (A : Args) (t : Fin 16) : Chunk where
  pu r k := (A.p (ix2 (row t r) ⟨3072 + k.val, by omega⟩) : EReal).toReal
  pv r k := (A.p (ix2 (row t r) ⟨4096 + k.val, by omega⟩) : EReal).toReal
  lg k := (A.lg (ix2 0 k) : EReal).toReal
  lb k := (A.lb (ix2 0 k) : EReal).toReal
  w g i j := (A.w (ix3 g i j) : EReal).toReal
  b g r := (A.b (ix2 g r) : EReal).toReal
  og k := (A.og (ix2 0 k) : EReal).toReal
  d r k := (A.d (ix2 (row t r) ⟨1024 + k.val, by omega⟩) : EReal).toReal

/-- The chunk of a row, and the row's place in it. -/
def blk (n : Fin 2048) : Fin 16 := ⟨n.val / 128, by omega⟩
def pos (n : Fin 2048) : Fin 128 := ⟨n.val % 128, by omega⟩

theorem row_blk (n : Fin 2048) : row (blk n) (pos n) = n := Fin.ext (by show 128 * (n.val / 128) + n.val % 128 = n.val; omega)

theorem blk_row (t : Fin 16) (r : Fin 128) : blk (row t r) = t := Fin.ext (by show (128 * t.val + r.val) / 128 = t.val; omega)

theorem pos_row (t : Fin 16) (r : Fin 128) : pos (row t r) = r := Fin.ext (by show (128 * t.val + r.val) % 128 = r.val; omega)

/-- Both halves of the rows together. -/
def Args.pp (A : Args) (n k : Fin 2048) : ℝ := (A.p (ix2 n ⟨3072 + k.val, by omega⟩) : EReal).toReal

theorem pu_eq (A : Args) (n : Fin 2048) (c : Fin 1024) : (A.chunk (blk n)).pu (pos n) c = A.pp n ⟨c.val, by omega⟩ := by
  unfold Args.chunk Args.pp
  dsimp only
  rw [row_blk]

theorem pv_eq (A : Args) (n : Fin 2048) (c : Fin 1024) : (A.chunk (blk n)).pv (pos n) c = A.pp n ⟨1024 + c.val, by omega⟩ := by
  unfold Args.chunk Args.pp
  dsimp only
  rw [row_blk]
  exact congrArg (fun k => (A.p (ix2 n k) : EReal).toReal) (Fin.ext (by show 4096 + c.val = 3072 + (1024 + c.val); omega))

end GateUnit

end
-- ==== Proof.Reals.lean ====
/- The programs' operations on real numbers: the literals, and sums, quotients and roots of numbers that are real. -/
module

public import Idealize.ShloMosaic.Lib.Pointwise
public import proofs.«01_k».proof.Proof.GateUnit

@[expose] public section

noncomputable section

open Idealize.ShloMosaic

namespace Reals

theorem half : Ideal.ofBits .f32 0x3F000000#32 = ((1 / 2 : ℝ) : EReal) := by
  simp [Ideal.ofBits, Ideal.ieee]
  rw [← EReal.coe_mul]; norm_num

theorem neg_half : Ideal.ofBits .f32 0xBF000000#32 = ((-(1 / 2) : ℝ) : EReal) := by
  simp [Ideal.ofBits, Ideal.ieee]
  rw [← EReal.coe_mul]; norm_num

theorem one : Ideal.ofBits .f32 0x3F800000#32 = ((1 : ℝ) : EReal) := by
  simp [Ideal.ofBits, Ideal.ieee]
  rw [← EReal.coe_mul]; norm_num

theorem two : Ideal.ofBits .f32 0x40000000#32 = ((2 : ℝ) : EReal) := by
  simp [Ideal.ofBits, Ideal.ieee]
  rw [← EReal.coe_mul]; norm_num

theorem width : Ideal.ofBits .f32 0x44800000#32 = ((1024 : ℝ) : EReal) := by
  simp [Ideal.ofBits, Ideal.ieee]
  rw [← EReal.coe_mul]; norm_num

theorem kap : Ideal.ofBits .f32 0x3F3504F3#32 = (GateUnit.kap : EReal) := by
  simp [Ideal.ofBits, Ideal.ieee, GateUnit.kap]
  rw [← EReal.coe_mul]; norm_num

theorem tsp : Ideal.ofBits .f32 0x3F906EBB#32 = (GateUnit.tsp : EReal) := by
  simp [Ideal.ofBits, Ideal.ieee, GateUnit.tsp]
  rw [← EReal.coe_mul]; norm_num

theorem neg_tsp : Ideal.ofBits .f32 0xBF906EBB#32 = ((-GateUnit.tsp : ℝ) : EReal) := by
  simp [Ideal.ofBits, Ideal.ieee, GateUnit.tsp]
  rw [← EReal.coe_mul]; norm_num

theorem lnEps : Ideal.ofBits .f32 0x3727C5AC#32 = (GateUnit.lnEps : EReal) := by
  simp [Ideal.ofBits, Ideal.ieee, GateUnit.lnEps]
  rw [← EReal.coe_mul]; norm_num

theorem rmsEps : Ideal.ofBits .f32 0x358637BD#32 = (GateUnit.rmsEps : EReal) := by
  simp [Ideal.ofBits, Ideal.ieee, GateUnit.rmsEps]
  rw [← EReal.coe_mul]; norm_num

theorem zero : Ideal.ofBits .f32 0x00000000#32 = ((0 : ℝ) : EReal) := by
  simp [Ideal.ofBits, Ideal.ieee]

/-- A sum of real numbers is the real sum. -/
theorem sum {ι : Type} (s : Finset ι) (f : ι → ℝ) : ∑ k ∈ s, (f k : EReal) = ((∑ k ∈ s, f k : ℝ) : EReal) := by
  classical
  induction s using Finset.induction_on with
  | empty => simp
  | insert a s h ih => rw [Finset.sum_insert h, Finset.sum_insert h, ih, EReal.coe_add]

/-- A quotient of real numbers, the second not zero. -/
theorem div (a : ℝ) {b : ℝ} (h : b ≠ 0) : Ideal.div (a : EReal) (b : EReal) = ((a / b : ℝ) : EReal) := by
  rw [Ideal.div_coe h, ← EReal.coe_mul, mul_one_div]

theorem div_width (a : ℝ) : Ideal.div (a : EReal) ((1024 : ℝ) : EReal) = ((a / 1024 : ℝ) : EReal) :=
  div a (by norm_num)

/-- The reciprocal root of a positive number. -/
theorem rsqrt {a : ℝ} (h : 0 < a) : Ideal.rsqrt (a : EReal) = (((Real.sqrt a)⁻¹ : ℝ) : EReal) := by
  rw [Ideal.rsqrt_coe, if_neg (not_lt.2 h.le), if_neg h.ne']

theorem erf (a : ℝ) : Ideal.erf (a : EReal) = (GateUnit.erf a : EReal) := rfl

theorem float_erf (a : ℝ) : FloatOps.erf (F := Ideal) (φ := .f32) (a : EReal) = (GateUnit.erf a : EReal) := rfl

theorem exp (a : ℝ) : Ideal.exp (a : EReal) = (Real.exp a : EReal) := Ideal.exp_coe a

theorem one_add (a : ℝ) : (1 : EReal) + (a : EReal) = ((1 + a : ℝ) : EReal) := by
  rw [EReal.coe_add, EReal.coe_one]

theorem zero_sub (a : ℝ) : (0 : EReal) - (a : EReal) = ((-a : ℝ) : EReal) := by
  rw [EReal.coe_neg, _root_.zero_sub]

/-- The complement of the error function, of a negated number. -/
theorem erfc_neg (a : ℝ) : Ideal.erfc ((-a : ℝ) : EReal) = ((1 + GateUnit.erf a : ℝ) : EReal) := by
  rw [EReal.coe_neg, Ideal.erfc_neg, erf, EReal.coe_add, EReal.coe_one]

/-- A select on the bit of a proposition. -/
theorem select {α : Type} (p : Prop) [Decidable p] (a b : α) :
    Scalar.select (if p then 1#1 else 0#1) a b = if p then a else b := by
  split <;> simp [Scalar.select]

theorem if_zero (p : Prop) [Decidable p] (a : ℝ) :
    (if p then (a : EReal) else 0) = ((if p then a else 0 : ℝ) : EReal) := by
  split <;> simp

theorem zero_if (p : Prop) [Decidable p] (a : ℝ) :
    (if p then 0 else (a : EReal)) = ((if p then 0 else a : ℝ) : EReal) := by
  split <;> simp

theorem if_if (p : Prop) [Decidable p] (a b : ℝ) :
    (if p then (a : EReal) else b) = ((if p then a else b : ℝ) : EReal) := by
  split <;> rfl

end Reals

end
-- ==== Proof.Entry.lean ====
/- The kernel's first values on a chunk of real numbers: both gelus, the layer norm, and the two masks. -/
module

public import proofs.«01_k».proof.Proof.Gen.KernelIdeal.Skeleton
public import Idealize.ShloMosaic.Lib.Pointwise
public import proofs.«01_k».proof.Proof.Reals

@[expose] public section

noncomputable section

open Idealize.ShloMosaic

namespace Cert.KernelIdeal.Chunk
open Cert.KernelIdeal Cert.KernelIdeal.Gen GateUnit

variable (X : GateUnit.Chunk) (x0 x1 : Vec Ideal S128x1024 .f32) (x2 x3 : Vec Ideal S1x1024 .f32)

/-- Half of the gate's input. -/
theorem v21 (h : ∀ i, x0 i = (X.pu (i 0) (i 1) : EReal)) (i : S128x1024.Idx) :
    k0_pay11 (F := Ideal) x0 i = ((1 / 2 * X.pu (i 0) (i 1) : ℝ) : EReal) := by
  unfold k0_pay11
  simp only [pointwise, h, Reals.half, ← EReal.coe_mul]

/-- Twice the normal distribution function of the gate's input. -/
theorem v30 (h : ∀ i, x0 i = (X.pu (i 0) (i 1) : EReal)) (i : S128x1024.Idx) :
    k0_pay14 (F := Ideal) x0 i = (phi (X.pu (i 0) (i 1)) : EReal) := by
  unfold k0_pay14 k0_pay12
  simp only [pointwise, h, Reals.kap, ← EReal.coe_mul, Reals.float_erf, Reals.one_add]
  rfl

/-- The bell of the gate's input. -/
theorem v28 (h : ∀ i, x0 i = (X.pu (i 0) (i 1) : EReal)) (i : S128x1024.Idx) : k0_pay13 (F := Ideal) x0 i =
    (Real.exp (-(X.pu (i 0) (i 1) * kap * (X.pu (i 0) (i 1) * kap))) : EReal) := by
  unfold k0_pay13 k0_pay12
  simp only [pointwise, h, Reals.kap, ← EReal.coe_mul, Reals.zero_sub]
  rfl

/-- The gate. -/
theorem v31 (h : ∀ i, x0 i = (X.pu (i 0) (i 1) : EReal)) (i : S128x1024.Idx) :
    k0_pay15 (F := Ideal) x0 i = (X.u (i 0) (i 1) : EReal) := by
  unfold k0_pay15
  simp only [pointwise, v21 X x0 h, v30 X x0 h, ← EReal.coe_mul]
  rfl

/-- Half of the value's input. -/
theorem v33 (h : ∀ i, x1 i = (X.pv (i 0) (i 1) : EReal)) (i : S128x1024.Idx) :
    k0_pay16 (F := Ideal) x1 i = ((1 / 2 * X.pv (i 0) (i 1) : ℝ) : EReal) := by
  unfold k0_pay16
  simp only [pointwise, h, Reals.half, ← EReal.coe_mul]

/-- Twice the normal distribution function of the value's input. -/
theorem v42 (h : ∀ i, x1 i = (X.pv (i 0) (i 1) : EReal)) (i : S128x1024.Idx) :
    k0_pay19 (F := Ideal) x1 i = (phi (X.pv (i 0) (i 1)) : EReal) := by
  unfold k0_pay19 k0_pay17
  simp only [pointwise, h, Reals.kap, ← EReal.coe_mul, Reals.float_erf, Reals.one_add]
  rfl

/-- The bell of the value's input. -/
theorem v40 (h : ∀ i, x1 i = (X.pv (i 0) (i 1) : EReal)) (i : S128x1024.Idx) : k0_pay18 (F := Ideal) x1 i =
    (Real.exp (-(X.pv (i 0) (i 1) * kap * (X.pv (i 0) (i 1) * kap))) : EReal) := by
  unfold k0_pay18 k0_pay17
  simp only [pointwise, h, Reals.kap, ← EReal.coe_mul, Reals.zero_sub]
  rfl

/-- The value less its mean. -/
theorem v49 (h : ∀ i, x1 i = (X.pv (i 0) (i 1) : EReal)) (i : S128x1024.Idx) :
    k0_pay20 (F := Ideal) x1 i = (X.vc (i 0) (i 1) : EReal) := by
  unfold k0_pay20
  simp only [pointwise, v33 X x1 h, v42 X x1 h, Reals.width, ← EReal.coe_mul, Reals.sum, Reals.div_width, ← EReal.coe_sub]
  rfl

/-- The variance. -/
theorem v56 (h : ∀ i, x1 i = (X.pv (i 0) (i 1) : EReal)) (i : S128x1.Idx) :
    k0_pay21 (F := Ideal) x1 i = (X.va (i 0) : EReal) := by
  unfold k0_pay21
  simp only [pointwise, v49 X x1 h, Reals.width, Reals.lnEps, ← EReal.coe_mul, ← EReal.coe_add, Reals.sum,
    Reals.div_width]
  rfl

/-- The reciprocal root of the variance. -/
theorem v57 (h : ∀ i, x1 i = (X.pv (i 0) (i 1) : EReal)) (i : S128x1.Idx) :
    k0_pay22 (F := Ideal) x1 i = (X.ri (i 0) : EReal) := by
  unfold k0_pay22
  simp only [pointwise, v56 X x1 h]
  exact Reals.rsqrt (X.va_pos _)

/-- The slope of the reciprocal root. -/
theorem v60 (h : ∀ i, x1 i = (X.pv (i 0) (i 1) : EReal)) (i : S128x1.Idx) :
    k0_pay23 (F := Ideal) x1 i = ((-(1 / 2) * (X.ri (i 0) / X.va (i 0)) : ℝ) : EReal) := by
  unfold k0_pay23
  simp only [pointwise, v57 X x1 h, v56 X x1 h, Reals.neg_half]
  rw [Reals.div _ (X.va_pos (i 0)).ne', ← EReal.coe_mul]

/-- The normed value. -/
theorem v62 (h : ∀ i, x1 i = (X.pv (i 0) (i 1) : EReal)) (i : S128x1024.Idx) :
    k0_pay24 (F := Ideal) x1 i = (X.vh (i 0) (i 1) : EReal) := by
  unfold k0_pay24
  simp only [pointwise, v49 X x1 h, v57 X x1 h, ← EReal.coe_mul]
  rfl

/-- The normed value with its gain and bias. -/
theorem v66 (h : ∀ i, x1 i = (X.pv (i 0) (i 1) : EReal)) (h2 : ∀ i, x2 i = (X.lg (i 1) : EReal))
    (h3 : ∀ i, x3 i = (X.lb (i 1) : EReal)) (i : S128x1024.Idx) :
    k0_pay25 (F := Ideal) x1 x2 x3 i = (X.vl (i 0) (i 1) : EReal) := by
  unfold k0_pay25
  simp only [pointwise, v62 X x1 h, h2, h3, ← EReal.coe_mul, ← EReal.coe_add]
  rfl

theorem sge (a b : Fin 128) :
    IntOp.cmpi .sge (BitVec.ofNat 32 a.val) (BitVec.ofNat 32 b.val) = if b ≤ a then 1#1 else 0#1 := by
  revert a b; decide +kernel

theorem slt (a : Fin 128) : IntOp.cmpi .slt (BitVec.ofNat 32 a.val) 64#32 = if a.val < 64 then 1#1 else 0#1 := by
  revert a; decide +kernel

/-- The mask of the weights: on and below the diagonal. -/
theorem v69 (i : S128x128.Idx) : k0_pay26 i = if i 1 ≤ i 0 then 1#1 else 0#1 := by
  unfold k0_pay26
  simp only [pointwise, List.foldl, zero_mul, zero_add]
  exact sge (i 0) (i 1)

/-- The mask of a pair of heads: the left one. -/
theorem v72 (i : S128x128.Idx) : k0_pay27 i = if (i 1).val < 64 then 1#1 else 0#1 := by
  unfold k0_pay27
  simp only [pointwise, List.foldl, zero_mul, zero_add]
  exact slt (i 1)

end Cert.KernelIdeal.Chunk

end
-- ==== Proof.Heads.lean ====
/- The heads of the gating unit lie in pairs: two heads of sixty-four columns to a lane group of 128. A product over a
   lane group, one head's columns masked, is the head's own. -/
module

public import proofs.«01_k».proof.Proof.GateUnit

@[expose] public section

noncomputable section

namespace GateUnit

/-- The column of a lane group's place. -/
def lane (p : Fin 8) (j : Fin 128) : Fin 1024 := ⟨128 * p.val + j.val, by omega⟩

theorem lane_eq (p : Fin 8) (j : Fin 128) (c : Fin 1024) (h : c.val = 128 * p.val + j.val) : c = lane p j := Fin.ext h

theorem head_left {p : Fin 8} {j : Fin 128} {g : Fin 16} (hg : g.val = 2 * p.val) (hj : j.val < 64) :
    head (lane p j) = g := Fin.ext (by simp only [head, lane]; omega)

theorem head_right {p : Fin 8} {j : Fin 128} {g : Fin 16} (hg : g.val = 2 * p.val + 1) (hj : ¬ j.val < 64) :
    head (lane p j) = g := Fin.ext (by simp only [head, lane]; omega)

/-- A sum over a lane group is one over its left head and one over its right head. -/
theorem sum_lane (f : Fin 128 → ℝ) :
    ∑ j, f j = (∑ k : Fin 64, f ⟨k.val, by omega⟩) + ∑ k : Fin 64, f ⟨64 + k.val, by omega⟩ :=
  Fin.sum_univ_add (a := 64) (b := 64) f

/-- A sum over a lane group, the left head kept. -/
theorem sum_left (p : Fin 8) (g : Fin 16) (hg : g.val = 2 * p.val) (f h : Fin 1024 → ℝ) :
    ∑ j : Fin 128, (if j.val < 64 then f (lane p j) else 0) * h (lane p j) = ∑ k, f (col g k) * h (col g k) := by
  rw [sum_lane]
  rw [Finset.sum_eq_zero (s := Finset.univ) (f := fun k : Fin 64 => (if (64 + k.val) < 64 then _ else (0 : ℝ)) * _)
    (fun k _ => by rw [if_neg (by omega), zero_mul]), add_zero]
  refine Finset.sum_congr rfl fun k _ => ?_
  have e : lane p ⟨k.val, by omega⟩ = col g k := Fin.ext (by simp only [lane, col]; omega)
  rw [if_pos k.isLt, e]

/-- A sum over a lane group, the right head kept. -/
theorem sum_right (p : Fin 8) (g : Fin 16) (hg : g.val = 2 * p.val + 1) (f h : Fin 1024 → ℝ) :
    ∑ j : Fin 128, (if j.val < 64 then 0 else f (lane p j)) * h (lane p j) = ∑ k, f (col g k) * h (col g k) := by
  rw [sum_lane]
  rw [Finset.sum_eq_zero (s := Finset.univ) (f := fun k : Fin 64 => (if k.val < 64 then (0 : ℝ) else _) * _)
    (fun k _ => by rw [if_pos k.isLt, zero_mul]), zero_add]
  refine Finset.sum_congr rfl fun k _ => ?_
  have e : lane p ⟨64 + k.val, by omega⟩ = col g k := Fin.ext (by simp only [lane, col]; omega)
  rw [if_neg (by simp), e]

/-- A sum over all columns, one head kept. -/
theorem sum_head (g : Fin 16) (f : Fin 1024 → ℝ) :
    ∑ c, f c * (if g = head c then 1 else 0) = ∑ k, f (col g k) := by
  simp only [mul_ite, mul_one, mul_zero]
  rw [← Finset.sum_filter]
  refine (Finset.sum_bij (fun k _ => col g k) (fun k _ => ?_) (fun a _ b _ h => ?_) (fun c hc => ?_) (fun _ _ => rfl)).symm
  · simp only [Finset.mem_filter, Finset.mem_univ, true_and]
    exact Fin.ext (by simp only [head, col]; omega)
  · have := congrArg Fin.val h
    exact Fin.ext (by simp only [col] at this; omega)
  · simp only [Finset.mem_filter, Finset.mem_univ, true_and] at hc
    exact ⟨⟨c.val % 64, by omega⟩, Finset.mem_univ _, Fin.ext (by rw [hc]; simp only [head, col]; omega)⟩

namespace Chunk

variable (X : Chunk)

/-- The right head of a lane group of the gradient. -/
def rt (p : Fin 8) (r j : Fin 128) : ℝ := if j.val < 64 then 0 else X.ds r (lane p j)

/-- The left head of a lane group of the gradient. -/
def lt (p : Fin 8) (r j : Fin 128) : ℝ := if j.val < 64 then X.ds r (lane p j) else 0

/-- The mixed values, before the bias. -/
def mix (r : Fin 128) (c : Fin 1024) : ℝ := ∑ k, X.wt (head c) r k * X.vl k c

/-- The mixed values of a lane group, by its two heads. -/
theorem mix_lane (p : Fin 8) (a b : Fin 16) (ha : a.val = 2 * p.val) (hb : b.val = 2 * p.val + 1) (r j : Fin 128) :
    (if j.val < 64 then ∑ k, X.wt a r k * X.vl k (lane p j) else ∑ k, X.wt b r k * X.vl k (lane p j)) =
      X.mix r (lane p j) := by
  unfold mix
  split
  · rename_i h; rw [head_left ha h]
  · rename_i h; rw [head_right hb h]

/-- The gradient of the mixed values of a lane group, by its two heads. -/
theorem back_lane (p : Fin 8) (a b : Fin 16) (ha : a.val = 2 * p.val) (hb : b.val = 2 * p.val + 1) (r j : Fin 128) :
    (∑ k, X.rt p k j * X.wt b k r) + ∑ k, X.lt p k j * X.wt a k r = X.dvl r (lane p j) := by
  unfold dvl rt lt
  by_cases h : j.val < 64
  · simp only [h, if_true, zero_mul, Finset.sum_const_zero, zero_add]
    rw [head_left ha h]
    exact Finset.sum_congr rfl fun _ _ => mul_comm _ _
  · simp only [h, if_false, zero_mul, Finset.sum_const_zero, add_zero]
    rw [head_right hb h]
    exact Finset.sum_congr rfl fun _ _ => mul_comm _ _

/-- The gradient of a left head's weights, from its lane group. -/
theorem dw_left (p : Fin 8) (g : Fin 16) (hg : g.val = 2 * p.val) (t s : Fin 128) :
    (if s ≤ t then ∑ j, X.lt p t j * X.vl s (lane p j) else 0) =
      X.dw g t s := by
  unfold dw lt
  rw [sum_left p g hg (X.ds t) (X.vl s)]

/-- The gradient of a right head's weights, from its lane group. -/
theorem dw_right (p : Fin 8) (g : Fin 16) (hg : g.val = 2 * p.val + 1) (t s : Fin 128) :
    (if s ≤ t then ∑ j, X.rt p t j * X.vl s (lane p j) else 0) =
      X.dw g t s := by
  unfold dw rt
  rw [sum_right p g hg (X.ds t) (X.vl s)]

end Chunk

end GateUnit

end
-- ==== Proof.Mixing.lean ====
/- The mixing over rows: each head's masked weights, each lane group's values, their products, and the sum with the bias. -/
module

public import proofs.«01_k».proof.Proof.Entry
public import proofs.«01_k».proof.Proof.Heads

@[expose] public section

noncomputable section

open Idealize.ShloMosaic

namespace Cert.KernelIdeal.Chunk
open Cert.KernelIdeal Cert.KernelIdeal.Gen GateUnit

variable {X : GateUnit.Chunk} {v4 : Vec Ideal S16x128x128 .f32} {x1 : Vec Ideal S128x1024 .f32}
  {x2 x3 : Vec Ideal S1x1024 .f32} {v19 v31 v66 : FVec Ideal S128x1024 .f32} {v69 v72 : IVec S128x128 1}

/-! The masked weights and the values of each lane group. -/

theorem v77 (h4 : ∀ i, v4 i = (X.w (i 0) (i 1) (i 2) : EReal)) (i : S128x128.Idx) : k0_pay29 (F := Ideal) v4 i = (X.wt 0 (i 0) (i 1) : EReal) := by
  unfold k0_pay29
  simp only [pointwise, v69, h4, Reals.select, Reals.if_zero, Matrix.cons_val, zero_add, Fin.eta]
  rfl

theorem v79 (h4 : ∀ i, v4 i = (X.w (i 0) (i 1) (i 2) : EReal)) (i : S128x128.Idx) :
    k0_pay30 (F := Ideal) v4 i = (X.w 1 (i 0) (i 1) : EReal) := by
  unfold k0_pay30
  simp only [pointwise, h4, Matrix.cons_val, zero_add, Fin.eta]

theorem v73 (h66 : ∀ i, k0_pay25 (F := Ideal) x1 x2 x3 i = (X.vl (i 0) (i 1) : EReal)) (i : S128x128.Idx) :
    k0_pay28 (F := Ideal) x1 x2 x3 i = (X.vl (i 0) (lane 0 (i 1)) : EReal) := by
  unfold k0_pay28
  simp only [pointwise, h66, Matrix.cons_val]
  exact congrArg₂ (fun a b => (X.vl a b : EReal)) (Fin.ext (Nat.zero_add _)) (lane_eq 0 _ _ rfl)

theorem v98 (h4 : ∀ i, v4 i = (X.w (i 0) (i 1) (i 2) : EReal)) (h69 : ∀ i, v69 i = if i 1 ≤ i 0 then 1#1 else 0#1) (i : S128x128.Idx) :
    k0_pay37 (F := Ideal) v4 v69 i = (X.wt 2 (i 0) (i 1) : EReal) := by
  unfold k0_pay37
  simp only [pointwise, h69, h4, Reals.select, Reals.if_zero, Matrix.cons_val, zero_add, Fin.eta]
  rfl

theorem v101 (h4 : ∀ i, v4 i = (X.w (i 0) (i 1) (i 2) : EReal)) (h69 : ∀ i, v69 i = if i 1 ≤ i 0 then 1#1 else 0#1) (i : S128x128.Idx) :
    k0_pay39 (F := Ideal) v4 v69 i = (X.wt 3 (i 0) (i 1) : EReal) := by
  unfold k0_pay39
  simp only [pointwise, h69, h4, Reals.select, Reals.if_zero, Matrix.cons_val, zero_add, Fin.eta]
  rfl

theorem v114 (h4 : ∀ i, v4 i = (X.w (i 0) (i 1) (i 2) : EReal)) (h69 : ∀ i, v69 i = if i 1 ≤ i 0 then 1#1 else 0#1) (i : S128x128.Idx) :
    k0_pay43 (F := Ideal) v4 v69 i = (X.wt 4 (i 0) (i 1) : EReal) := by
  unfold k0_pay43
  simp only [pointwise, h69, h4, Reals.select, Reals.if_zero, Matrix.cons_val, zero_add, Fin.eta]
  rfl

theorem v117 (h4 : ∀ i, v4 i = (X.w (i 0) (i 1) (i 2) : EReal)) (h69 : ∀ i, v69 i = if i 1 ≤ i 0 then 1#1 else 0#1) (i : S128x128.Idx) :
    k0_pay45 (F := Ideal) v4 v69 i = (X.wt 5 (i 0) (i 1) : EReal) := by
  unfold k0_pay45
  simp only [pointwise, h69, h4, Reals.select, Reals.if_zero, Matrix.cons_val, zero_add, Fin.eta]
  rfl

theorem v125 (h4 : ∀ i, v4 i = (X.w (i 0) (i 1) (i 2) : EReal)) (h69 : ∀ i, v69 i = if i 1 ≤ i 0 then 1#1 else 0#1) (i : S128x128.Idx) :
    k0_pay49 (F := Ideal) v4 v69 i = (X.wt 6 (i 0) (i 1) : EReal) := by
  unfold k0_pay49
  simp only [pointwise, h69, h4, Reals.select, Reals.if_zero, Matrix.cons_val, zero_add, Fin.eta]
  rfl

theorem v146 (h4 : ∀ i, v4 i = (X.w (i 0) (i 1) (i 2) : EReal)) (h69 : ∀ i, v69 i = if i 1 ≤ i 0 then 1#1 else 0#1) (i : S128x128.Idx) :
    k0_pay57 (F := Ideal) v4 v69 i = (X.wt 8 (i 0) (i 1) : EReal) := by
  unfold k0_pay57
  simp only [pointwise, h69, h4, Reals.select, Reals.if_zero, Matrix.cons_val, zero_add, Fin.eta]
  rfl

theorem v149 (h4 : ∀ i, v4 i = (X.w (i 0) (i 1) (i 2) : EReal)) (h69 : ∀ i, v69 i = if i 1 ≤ i 0 then 1#1 else 0#1) (i : S128x128.Idx) :
    k0_pay59 (F := Ideal) v4 v69 i = (X.wt 9 (i 0) (i 1) : EReal) := by
  unfold k0_pay59
  simp only [pointwise, h69, h4, Reals.select, Reals.if_zero, Matrix.cons_val, zero_add, Fin.eta]
  rfl

theorem v162 (h4 : ∀ i, v4 i = (X.w (i 0) (i 1) (i 2) : EReal)) (h69 : ∀ i, v69 i = if i 1 ≤ i 0 then 1#1 else 0#1) (i : S128x128.Idx) :
    k0_pay63 (F := Ideal) v4 v69 i = (X.wt 10 (i 0) (i 1) : EReal) := by
  unfold k0_pay63
  simp only [pointwise, h69, h4, Reals.select, Reals.if_zero, Matrix.cons_val, zero_add, Fin.eta]
  rfl

theorem v165 (h4 : ∀ i, v4 i = (X.w (i 0) (i 1) (i 2) : EReal)) (h69 : ∀ i, v69 i = if i 1 ≤ i 0 then 1#1 else 0#1) (i : S128x128.Idx) :
    k0_pay65 (F := Ideal) v4 v69 i = (X.wt 11 (i 0) (i 1) : EReal) := by
  unfold k0_pay65
  simp only [pointwise, h69, h4, Reals.select, Reals.if_zero, Matrix.cons_val, zero_add, Fin.eta]
  rfl

theorem v173 (h4 : ∀ i, v4 i = (X.w (i 0) (i 1) (i 2) : EReal)) (h69 : ∀ i, v69 i = if i 1 ≤ i 0 then 1#1 else 0#1) (i : S128x128.Idx) :
    k0_pay69 (F := Ideal) v4 v69 i = (X.wt 12 (i 0) (i 1) : EReal) := by
  unfold k0_pay69
  simp only [pointwise, h69, h4, Reals.select, Reals.if_zero, Matrix.cons_val, zero_add, Fin.eta]
  rfl

theorem v194 (h4 : ∀ i, v4 i = (X.w (i 0) (i 1) (i 2) : EReal)) (h69 : ∀ i, v69 i = if i 1 ≤ i 0 then 1#1 else 0#1) (i : S128x128.Idx) :
    k0_pay76 (F := Ideal) v4 v69 i = (X.wt 14 (i 0) (i 1) : EReal) := by
  unfold k0_pay76
  simp only [pointwise, h69, h4, Reals.select, Reals.if_zero, Matrix.cons_val, zero_add, Fin.eta]
  rfl

theorem v197 (h4 : ∀ i, v4 i = (X.w (i 0) (i 1) (i 2) : EReal)) (h69 : ∀ i, v69 i = if i 1 ≤ i 0 then 1#1 else 0#1) (i : S128x128.Idx) :
    k0_pay78 (F := Ideal) v4 v69 i = (X.wt 15 (i 0) (i 1) : EReal) := by
  unfold k0_pay78
  simp only [pointwise, h69, h4, Reals.select, Reals.if_zero, Matrix.cons_val, zero_add, Fin.eta]
  rfl

theorem v127 (h4 : ∀ i, v4 i = (X.w (i 0) (i 1) (i 2) : EReal)) (i : S128x128.Idx) :
    k0_pay50 (F := Ideal) v4 i = (X.w 7 (i 0) (i 1) : EReal) := by
  unfold k0_pay50
  simp only [pointwise, h4, Matrix.cons_val, zero_add, Fin.eta]

theorem v175 (h4 : ∀ i, v4 i = (X.w (i 0) (i 1) (i 2) : EReal)) (i : S128x128.Idx) :
    k0_pay70 (F := Ideal) v4 i = (X.w 13 (i 0) (i 1) : EReal) := by
  unfold k0_pay70
  simp only [pointwise, h4, Matrix.cons_val, zero_add, Fin.eta]

theorem v99 (h66 : ∀ i, v66 i = (X.vl (i 0) (i 1) : EReal)) (i : S128x128.Idx) :
    k0_pay38 (F := Ideal) v66 i = (X.vl (i 0) (lane 1 (i 1)) : EReal) := by
  unfold k0_pay38 k0_pay36
  simp only [pointwise, h66, Matrix.cons_val, zero_add, Fin.eta]
  rfl

theorem v102 (h66 : ∀ i, v66 i = (X.vl (i 0) (i 1) : EReal)) (i : S128x128.Idx) :
    k0_pay40 (F := Ideal) v66 i = (X.vl (i 0) (lane 1 (i 1)) : EReal) := by
  unfold k0_pay40 k0_pay36
  simp only [pointwise, h66, Matrix.cons_val, zero_add, Fin.eta]
  rfl

theorem v115 (h66 : ∀ i, v66 i = (X.vl (i 0) (i 1) : EReal)) (i : S128x128.Idx) :
    k0_pay44 (F := Ideal) v66 i = (X.vl (i 0) (lane 2 (i 1)) : EReal) := by
  unfold k0_pay44 k0_pay42
  simp only [pointwise, h66, Matrix.cons_val, zero_add, Fin.eta]
  rfl

theorem v118 (h66 : ∀ i, v66 i = (X.vl (i 0) (i 1) : EReal)) (i : S128x128.Idx) :
    k0_pay46 (F := Ideal) v66 i = (X.vl (i 0) (lane 2 (i 1)) : EReal) := by
  unfold k0_pay46 k0_pay42
  simp only [pointwise, h66, Matrix.cons_val, zero_add, Fin.eta]
  rfl

theorem v121 (h66 : ∀ i, v66 i = (X.vl (i 0) (i 1) : EReal)) (i : S128x128.Idx) :
    k0_pay48 (F := Ideal) v66 i = (X.vl (i 0) (lane 3 (i 1)) : EReal) := by
  unfold k0_pay48
  simp only [pointwise, h66, Matrix.cons_val, zero_add, Fin.eta]
  rfl

theorem v147 (h66 : ∀ i, v66 i = (X.vl (i 0) (i 1) : EReal)) (i : S128x128.Idx) :
    k0_pay58 (F := Ideal) v66 i = (X.vl (i 0) (lane 4 (i 1)) : EReal) := by
  unfold k0_pay58 k0_pay56
  simp only [pointwise, h66, Matrix.cons_val, zero_add, Fin.eta]
  rfl

theorem v150 (h66 : ∀ i, v66 i = (X.vl (i 0) (i 1) : EReal)) (i : S128x128.Idx) :
    k0_pay60 (F := Ideal) v66 i = (X.vl (i 0) (lane 4 (i 1)) : EReal) := by
  unfold k0_pay60 k0_pay56
  simp only [pointwise, h66, Matrix.cons_val, zero_add, Fin.eta]
  rfl

theorem v163 (h66 : ∀ i, v66 i = (X.vl (i 0) (i 1) : EReal)) (i : S128x128.Idx) :
    k0_pay64 (F := Ideal) v66 i = (X.vl (i 0) (lane 5 (i 1)) : EReal) := by
  unfold k0_pay64 k0_pay62
  simp only [pointwise, h66, Matrix.cons_val, zero_add, Fin.eta]
  rfl

theorem v166 (h66 : ∀ i, v66 i = (X.vl (i 0) (i 1) : EReal)) (i : S128x128.Idx) :
    k0_pay66 (F := Ideal) v66 i = (X.vl (i 0) (lane 5 (i 1)) : EReal) := by
  unfold k0_pay66 k0_pay62
  simp only [pointwise, h66, Matrix.cons_val, zero_add, Fin.eta]
  rfl

theorem v169 (h66 : ∀ i, v66 i = (X.vl (i 0) (i 1) : EReal)) (i : S128x128.Idx) :
    k0_pay68 (F := Ideal) v66 i = (X.vl (i 0) (lane 6 (i 1)) : EReal) := by
  unfold k0_pay68
  simp only [pointwise, h66, Matrix.cons_val, zero_add, Fin.eta]
  rfl

theorem v195 (h66 : ∀ i, v66 i = (X.vl (i 0) (i 1) : EReal)) (i : S128x128.Idx) :
    k0_pay77 (F := Ideal) v66 i = (X.vl (i 0) (lane 7 (i 1)) : EReal) := by
  unfold k0_pay77 k0_pay75
  simp only [pointwise, h66, Matrix.cons_val, zero_add, Fin.eta]
  rfl

theorem v198 (h66 : ∀ i, v66 i = (X.vl (i 0) (i 1) : EReal)) (i : S128x128.Idx) :
    k0_pay79 (F := Ideal) v66 i = (X.vl (i 0) (lane 7 (i 1)) : EReal) := by
  unfold k0_pay79 k0_pay75
  simp only [pointwise, h66, Matrix.cons_val, zero_add, Fin.eta]
  rfl

/-! The masks and casts of the pairs whose weights come in unmasked. -/

theorem v85 {g : Fin 16} {w : FVec Ideal S128x128 .f32} (h : ∀ i, w i = (X.w g (i 0) (i 1) : EReal))
    (h69 : ∀ i, v69 i = if i 1 ≤ i 0 then 1#1 else 0#1) (i : S128x128.Idx) :
    k0_pay33 (F := Ideal) v69 w i = (X.wt g (i 0) (i 1) : EReal) := by
  unfold k0_pay33
  simp only [pointwise, h69, h, Reals.select, Reals.if_zero]
  rfl

theorem v133 {g : Fin 16} {w : FVec Ideal S128x128 .f32} (h : ∀ i, w i = (X.w g (i 0) (i 1) : EReal))
    (h69 : ∀ i, v69 i = if i 1 ≤ i 0 then 1#1 else 0#1) (i : S128x128.Idx) :
    k0_pay53 (F := Ideal) v69 w i = (X.wt g (i 0) (i 1) : EReal) := by
  unfold k0_pay53
  simp only [pointwise, h69, h, Reals.select, Reals.if_zero]
  rfl

theorem v181 {g : Fin 16} {w : FVec Ideal S128x128 .f32} (h : ∀ i, w i = (X.w g (i 0) (i 1) : EReal))
    (h69 : ∀ i, v69 i = if i 1 ≤ i 0 then 1#1 else 0#1) (i : S128x128.Idx) :
    k0_pay73 (F := Ideal) v69 w i = (X.wt g (i 0) (i 1) : EReal) := by
  unfold k0_pay73
  simp only [pointwise, h69, h, Reals.select, Reals.if_zero]
  rfl

theorem v82 (w : FVec Ideal S128x128 .f32) (i : S128x128.Idx) : k0_pay31 (F := Ideal) w i = w i := by
  unfold k0_pay31
  simp only [pointwise]

theorem v83 (w : FVec Ideal S128x128 .f32) (i : S128x128.Idx) : k0_pay32 (F := Ideal) w i = w i := by
  unfold k0_pay32
  simp only [pointwise]

theorem v86 (w : FVec Ideal S128x128 .f32) (i : S128x128.Idx) : k0_pay34 (F := Ideal) w i = w i := by
  unfold k0_pay34
  simp only [pointwise]

theorem v130 (w : FVec Ideal S128x128 .f32) (i : S128x128.Idx) : k0_pay51 (F := Ideal) w i = w i := by
  unfold k0_pay51
  simp only [pointwise]

theorem v131 (w : FVec Ideal S128x128 .f32) (i : S128x128.Idx) : k0_pay52 (F := Ideal) w i = w i := by
  unfold k0_pay52
  simp only [pointwise]

theorem v134 (w : FVec Ideal S128x128 .f32) (i : S128x128.Idx) : k0_pay54 (F := Ideal) w i = w i := by
  unfold k0_pay54
  simp only [pointwise]

theorem v178 (w : FVec Ideal S128x128 .f32) (i : S128x128.Idx) : k0_pay71 (F := Ideal) w i = w i := by
  unfold k0_pay71
  simp only [pointwise]

theorem v179 (w : FVec Ideal S128x128 .f32) (i : S128x128.Idx) : k0_pay72 (F := Ideal) w i = w i := by
  unfold k0_pay72
  simp only [pointwise]

theorem v182 (w : FVec Ideal S128x128 .f32) (i : S128x128.Idx) : k0_pay74 (F := Ideal) w i = w i := by
  unfold k0_pay74
  simp only [pointwise]

/-! The mixed values of each lane group. -/

theorem v88 {a v b : FVec Ideal S128x128 .f32} (ha : ∀ i, a i = (X.wt 0 (i 0) (i 1) : EReal))
    (hv : ∀ i, v i = (X.vl (i 0) (lane 0 (i 1)) : EReal)) (hb : ∀ i, b i = (X.w 1 (i 0) (i 1) : EReal))
    (h69 : ∀ i, v69 i = if i 1 ≤ i 0 then 1#1 else 0#1)
    (h72 : ∀ i, v72 i = if (i 1).val < 64 then 1#1 else 0#1) (i : S128x128.Idx) :
    k0_pay35 (F := Ideal) v69 v72 v a b i = (X.mix (i 0) (lane 0 (i 1)) : EReal) := by
  unfold k0_pay35
  simp only [pointwise, v82, v83, v86, v85 hb h69, ha, hv, h72, Reals.select, zero_add, ← EReal.coe_mul, Reals.sum, Reals.if_if]
  exact congrArg _ (X.mix_lane 0 0 1 rfl rfl (i 0) (i 1))

theorem v104 (h4 : ∀ i, v4 i = (X.w (i 0) (i 1) (i 2) : EReal))
    (h66 : ∀ i, v66 i = (X.vl (i 0) (i 1) : EReal))
    (h69 : ∀ i, v69 i = if i 1 ≤ i 0 then 1#1 else 0#1)
    (h72 : ∀ i, v72 i = if (i 1).val < 64 then 1#1 else 0#1) (i : S128x128.Idx) :
    k0_pay41 (F := Ideal) v4 v66 v69 v72 i = (X.mix (i 0) (lane 1 (i 1)) : EReal) := by
  unfold k0_pay41
  simp only [pointwise, v98 h4 h69, v99 h66, v101 h4 h69, v102 h66, h72, Reals.select, zero_add, ← EReal.coe_mul, Reals.sum,
    Reals.if_if]
  exact congrArg _ (X.mix_lane 1 2 3 rfl rfl (i 0) (i 1))

theorem v120 (h4 : ∀ i, v4 i = (X.w (i 0) (i 1) (i 2) : EReal))
    (h66 : ∀ i, v66 i = (X.vl (i 0) (i 1) : EReal))
    (h69 : ∀ i, v69 i = if i 1 ≤ i 0 then 1#1 else 0#1)
    (h72 : ∀ i, v72 i = if (i 1).val < 64 then 1#1 else 0#1) (i : S128x128.Idx) :
    k0_pay47 (F := Ideal) v4 v66 v69 v72 i = (X.mix (i 0) (lane 2 (i 1)) : EReal) := by
  unfold k0_pay47
  simp only [pointwise, v114 h4 h69, v115 h66, v117 h4 h69, v118 h66, h72, Reals.select, zero_add, ← EReal.coe_mul, Reals.sum,
    Reals.if_if]
  exact congrArg _ (X.mix_lane 2 4 5 rfl rfl (i 0) (i 1))

theorem v136 {a v b : FVec Ideal S128x128 .f32} (ha : ∀ i, a i = (X.wt 6 (i 0) (i 1) : EReal))
    (hv : ∀ i, v i = (X.vl (i 0) (lane 3 (i 1)) : EReal)) (hb : ∀ i, b i = (X.w 7 (i 0) (i 1) : EReal))
    (h69 : ∀ i, v69 i = if i 1 ≤ i 0 then 1#1 else 0#1)
    (h72 : ∀ i, v72 i = if (i 1).val < 64 then 1#1 else 0#1) (i : S128x128.Idx) :
    k0_pay55 (F := Ideal) v69 v72 v a b i = (X.mix (i 0) (lane 3 (i 1)) : EReal) := by
  unfold k0_pay55
  simp only [pointwise, v130, v131, v134, v133 hb h69, ha, hv, h72, Reals.select, zero_add, ← EReal.coe_mul, Reals.sum, Reals.if_if]
  exact congrArg _ (X.mix_lane 3 6 7 rfl rfl (i 0) (i 1))

theorem v152 (h4 : ∀ i, v4 i = (X.w (i 0) (i 1) (i 2) : EReal))
    (h66 : ∀ i, v66 i = (X.vl (i 0) (i 1) : EReal))
    (h69 : ∀ i, v69 i = if i 1 ≤ i 0 then 1#1 else 0#1)
    (h72 : ∀ i, v72 i = if (i 1).val < 64 then 1#1 else 0#1) (i : S128x128.Idx) :
    k0_pay61 (F := Ideal) v4 v66 v69 v72 i = (X.mix (i 0) (lane 4 (i 1)) : EReal) := by
  unfold k0_pay61
  simp only [pointwise, v146 h4 h69, v147 h66, v149 h4 h69, v150 h66, h72, Reals.select, zero_add, ← EReal.coe_mul, Reals.sum,
    Reals.if_if]
  exact congrArg _ (X.mix_lane 4 8 9 rfl rfl (i 0) (i 1))

theorem v168 (h4 : ∀ i, v4 i = (X.w (i 0) (i 1) (i 2) : EReal))
    (h66 : ∀ i, v66 i = (X.vl (i 0) (i 1) : EReal))
    (h69 : ∀ i, v69 i = if i 1 ≤ i 0 then 1#1 else 0#1)
    (h72 : ∀ i, v72 i = if (i 1).val < 64 then 1#1 else 0#1) (i : S128x128.Idx) :
    k0_pay67 (F := Ideal) v4 v66 v69 v72 i = (X.mix (i 0) (lane 5 (i 1)) : EReal) := by
  unfold k0_pay67
  simp only [pointwise, v162 h4 h69, v163 h66, v165 h4 h69, v166 h66, h72, Reals.select, zero_add, ← EReal.coe_mul, Reals.sum,
    Reals.if_if]
  exact congrArg _ (X.mix_lane 5 10 11 rfl rfl (i 0) (i 1))

theorem s_lane (p : Fin 8) (r j : Fin 128) (c : Fin 1024) (h : c.val = 128 * p.val + j.val) :
    (X.mix r (lane p j) : EReal) + (X.b (head c) r : EReal) = (X.s r c : EReal) := by
  rw [lane_eq p j c h, ← EReal.coe_add]; rfl

theorem s_pair (p : Fin 8) (a b : Fin 16) (ha : a.val = 2 * p.val) (hb : b.val = 2 * p.val + 1) (r j : Fin 128)
    (c : Fin 1024) (h : c.val = 128 * p.val + j.val) :
    Scalar.select (α := EReal) (if j.val < 64 then 1#1 else 0#1) (∑ k, X.wt a r k * X.vl k (lane p j) : ℝ)
        (∑ k, X.wt b r k * X.vl k (lane p j) : ℝ) + (X.b (head c) r : EReal) = (X.s r c : EReal) := by
  rw [Reals.select, Reals.if_if, X.mix_lane p a b ha hb, s_lane p r j c h]

/-- The mixed values with their bias: the lane groups side by side. -/
theorem v202 {v88 v104 v120 v136 v152 v168 v169 v173 v175 : FVec Ideal S128x128 .f32}
    (h4 : ∀ i, v4 i = (X.w (i 0) (i 1) (i 2) : EReal)) (h19 : ∀ i, v19 i = (X.b (head (i 1)) (i 0) : EReal))
    (h66 : ∀ i, v66 i = (X.vl (i 0) (i 1) : EReal))
    (h69 : ∀ i, v69 i = if i 1 ≤ i 0 then 1#1 else 0#1)
    (h72 : ∀ i, v72 i = if (i 1).val < 64 then 1#1 else 0#1)
    (h88 : ∀ i, v88 i = (X.mix (i 0) (lane 0 (i 1)) : EReal)) (h104 : ∀ i, v104 i = (X.mix (i 0) (lane 1 (i 1)) : EReal))
    (h120 : ∀ i, v120 i = (X.mix (i 0) (lane 2 (i 1)) : EReal)) (h136 : ∀ i, v136 i = (X.mix (i 0) (lane 3 (i 1)) : EReal))
    (h152 : ∀ i, v152 i = (X.mix (i 0) (lane 4 (i 1)) : EReal)) (h168 : ∀ i, v168 i = (X.mix (i 0) (lane 5 (i 1)) : EReal))
    (h169 : ∀ i, v169 i = (X.vl (i 0) (lane 6 (i 1)) : EReal)) (h173 : ∀ i, v173 i = (X.wt 12 (i 0) (i 1) : EReal))
    (h175 : ∀ i, v175 i = (X.w 13 (i 0) (i 1) : EReal)) (i : S128x1024.Idx) :
    k0_pay80 (F := Ideal) v4 v19 v66 v69 v72 v88 v104 v120 v136 v152 v168 v169 v173 v175 i =
      (X.s (i 0) (i 1) : EReal) := by
  unfold k0_pay80
  simp only [pointwise, h19, h88, h104, h120, h136, h152, h168, v178, v179, v182, v181 h175 h69, v194 h4 h69,
    v195 h66, v197 h4 h69, v198 h66, h169, h173, h72, Reals.select, zero_add, ← EReal.coe_mul, Reals.sum, Reals.if_if]
  simp only [Matrix.cons_val, if_true, Fin.val_zero, Fin.val_one, zero_ne_one, if_false, Nat.sub_sub, Nat.reduceAdd]
  by_cases c0 : (i 1).val < 128
  · rw [dif_pos c0]
    exact s_lane 0 (i 0) _ (i 1) (by simp)
  rw [dif_neg c0]
  by_cases c1 : (i 1).val - 128 < 128
  · rw [dif_pos c1]
    exact s_lane 1 (i 0) _ (i 1) (by simp; omega)
  rw [dif_neg c1]
  by_cases c2 : (i 1).val - 256 < 128
  · rw [dif_pos c2]
    exact s_lane 2 (i 0) _ (i 1) (by simp; omega)
  rw [dif_neg c2]
  by_cases c3 : (i 1).val - 384 < 128
  · rw [dif_pos c3]
    exact s_lane 3 (i 0) _ (i 1) (by simp; omega)
  rw [dif_neg c3]
  by_cases c4 : (i 1).val - 512 < 128
  · rw [dif_pos c4]
    exact s_lane 4 (i 0) _ (i 1) (by simp; omega)
  rw [dif_neg c4]
  by_cases c5 : (i 1).val - 640 < 128
  · rw [dif_pos c5]
    exact s_lane 5 (i 0) _ (i 1) (by simp; omega)
  rw [dif_neg c5]
  by_cases c6 : (i 1).val - 768 < 128
  · rw [dif_pos c6]
    exact s_pair 6 12 13 rfl rfl (i 0) ⟨(i 1).val - 768, c6⟩ (i 1) (by simp; omega)
  rw [dif_neg c6]
  exact s_pair 7 14 15 rfl rfl (i 0) ⟨(i 1).val - 896, by have : (i 1).val < 1024 := (i 1).isLt; omega⟩ (i 1) (by simp; omega)

end Cert.KernelIdeal.Chunk

end
-- ==== Proof.Norm.lean ====
/- The gate, the root mean square norm and their gradient, on a chunk of real numbers. -/
module

public import proofs.«01_k».proof.Proof.Entry
public import proofs.«01_k».proof.Proof.Heads

@[expose] public section

noncomputable section

open Idealize.ShloMosaic

namespace Cert.KernelIdeal.Chunk
open Cert.KernelIdeal Cert.KernelIdeal.Gen GateUnit

section Norm

variable {X : GateUnit.Chunk} {v4 : Vec Ideal S16x128x128 .f32} {v7 : Vec Ideal S1x1024 .f32}
  {v12 v19 v31 v66 : FVec Ideal S128x1024 .f32} {v69 v72 : IVec S128x128 1}
  {v88 v104 v120 v136 v152 v168 v169 v173 v175 : FVec Ideal S128x128 .f32}
  (h12 : ∀ i, v12 i = (X.d (i 0) (i 1) : EReal)) (h7 : ∀ i, v7 i = (X.og (i 1) : EReal))
  (h31 : ∀ i, v31 i = (X.u (i 0) (i 1) : EReal))
  (h202 : ∀ i, k0_pay80 (F := Ideal) v4 v19 v66 v69 v72 v88 v104 v120 v136 v152 v168 v169 v173 v175 i =
    (X.s (i 0) (i 1) : EReal))

include h31 h202

theorem v203 (i : S128x1024.Idx) :
    k0_pay81 (F := Ideal) v4 v19 v31 v66 v69 v72 v88 v104 v120 v136 v152 v168 v169 v173 v175 i =
      (X.y (i 0) (i 1) : EReal) := by
  unfold k0_pay81
  simp only [pointwise, h31, h202, ← EReal.coe_mul]
  rfl

theorem v210 (i : S128x1.Idx) :
    k0_pay82 (F := Ideal) v4 v19 v31 v66 v69 v72 v88 v104 v120 v136 v152 v168 v169 v173 v175 i =
      (X.ms (i 0) : EReal) := by
  unfold k0_pay82
  simp only [pointwise, v203 h31 h202, Reals.width, Reals.rmsEps, ← EReal.coe_mul, ← EReal.coe_add, Reals.sum,
    Reals.div_width]
  rfl

theorem v211 (i : S128x1.Idx) :
    k0_pay83 (F := Ideal) v4 v19 v31 v66 v69 v72 v88 v104 v120 v136 v152 v168 v169 v173 v175 i =
      (X.rr (i 0) : EReal) := by
  unfold k0_pay83
  simp only [pointwise, v210 h31 h202]
  exact Reals.rsqrt (X.ms_pos _)

theorem v214 (i : S128x1.Idx) :
    k0_pay84 (F := Ideal) v4 v19 v31 v66 v69 v72 v88 v104 v120 v136 v152 v168 v169 v173 v175 i =
      ((-(1 / 2) * (X.rr (i 0) / X.ms (i 0)) : ℝ) : EReal) := by
  unfold k0_pay84
  simp only [pointwise, v211 h31 h202, v210 h31 h202, Reals.neg_half]
  rw [Reals.div _ (X.ms_pos (i 0)).ne', ← EReal.coe_mul]

include h12 in
/-- The gradient of the gain. -/
theorem v219 (i : S1x1024.Idx) :
    k0_pay85 (F := Ideal) v4 v12 v19 v31 v66 v69 v72 v88 v104 v120 v136 v152 v168 v169 v173 v175 i =
      (X.dog (i 1) : EReal) := by
  unfold k0_pay85
  simp only [pointwise, v211 h31 h202, v203 h31 h202, h12, ← EReal.coe_mul, Reals.sum]
  rfl

omit h31 h202 in
include h7 h12 in
theorem v221 (i : S128x1024.Idx) : k0_pay86 (F := Ideal) v7 v12 i = (X.dn (i 0) (i 1) : EReal) := by
  unfold k0_pay86
  simp only [pointwise, h7, h12, ← EReal.coe_mul]
  rfl

include h7 h12 in
theorem v222 (i : S128x1024.Idx) :
    k0_pay87 (F := Ideal) v4 v7 v12 v19 v31 v66 v69 v72 v88 v104 v120 v136 v152 v168 v169 v173 v175 i =
      ((X.y (i 0) (i 1) * X.dn (i 0) (i 1) : ℝ) : EReal) := by
  unfold k0_pay87
  simp only [pointwise, v221 h12 h7, v203 h31 h202, ← EReal.coe_mul]

end Norm

section Gate

variable {X : GateUnit.Chunk} {v31 v202 v203 v221 v222 : FVec Ideal S128x1024 .f32} {v211 v214 : FVec Ideal S128x1 .f32}
  (h31 : ∀ i, v31 i = (X.u (i 0) (i 1) : EReal)) (h202 : ∀ i, v202 i = (X.s (i 0) (i 1) : EReal))
  (h203 : ∀ i, v203 i = (X.y (i 0) (i 1) : EReal)) (h211 : ∀ i, v211 i = (X.rr (i 0) : EReal))
  (h214 : ∀ i, v214 i = ((-(1 / 2) * (X.rr (i 0) / X.ms (i 0)) : ℝ) : EReal))
  (h221 : ∀ i, v221 i = (X.dn (i 0) (i 1) : EReal))
  (h222 : ∀ i, v222 i = ((X.y (i 0) (i 1) * X.dn (i 0) (i 1) : ℝ) : EReal))

include h203 h211 h214 h221 h222

/-- The gradient of the gated value. -/
theorem v236 (i : S128x1024.Idx) :
    k0_pay88 (F := Ideal) v203 v211 v214 v221 v222 i = (X.dy (i 0) (i 1) : EReal) := by
  unfold k0_pay88
  simp only [pointwise, h203, h211, h214, h221, h222, Reals.width, ← EReal.coe_mul, ← EReal.coe_add, Reals.sum,
    Reals.div_width, Fin.sum_univ_one]
  rfl

include h31 in
/-- The gradient of the mixed values. -/
theorem v237 (i : S128x1024.Idx) :
    k0_pay89 (F := Ideal) v31 v203 v211 v214 v221 v222 i = (X.ds (i 0) (i 1) : EReal) := by
  unfold k0_pay89
  simp only [pointwise, h31, v236 h203 h211 h214 h221 h222, ← EReal.coe_mul]
  rfl

include h202 in
/-- The gradient of the gate. -/
theorem v238 (i : S128x1024.Idx) :
    k0_pay90 (F := Ideal) v202 v203 v211 v214 v221 v222 i = (X.du (i 0) (i 1) : EReal) := by
  unfold k0_pay90
  simp only [pointwise, h202, v236 h203 h211 h214 h221 h222, ← EReal.coe_mul]
  rfl

include h31 in
theorem v239 (i : S128x128.Idx) :
    k0_pay91 (F := Ideal) v31 v203 v211 v214 v221 v222 i = (X.ds (i 0) (lane 0 (i 1)) : EReal) := by
  unfold k0_pay91
  simp only [pointwise, v237 h31 h203 h211 h214 h221 h222, Matrix.cons_val]
  exact congrArg₂ (fun a b => (X.ds a b : EReal)) (Fin.ext (Nat.zero_add _)) (lane_eq 0 _ _ rfl)

include h31 in
theorem v240 (i : S128x128.Idx) :
    k0_pay92 (F := Ideal) v31 v203 v211 v214 v221 v222 i = (X.ds (i 0) (lane 1 (i 1)) : EReal) := by
  unfold k0_pay92
  simp only [pointwise, v237 h31 h203 h211 h214 h221 h222, Matrix.cons_val, zero_add, Fin.eta]
  rfl

include h31 in
theorem v241 (i : S128x128.Idx) :
    k0_pay93 (F := Ideal) v31 v203 v211 v214 v221 v222 i = (X.ds (i 0) (lane 2 (i 1)) : EReal) := by
  unfold k0_pay93
  simp only [pointwise, v237 h31 h203 h211 h214 h221 h222, Matrix.cons_val, zero_add, Fin.eta]
  rfl

include h31 in
theorem v242 (i : S128x128.Idx) :
    k0_pay94 (F := Ideal) v31 v203 v211 v214 v221 v222 i = (X.ds (i 0) (lane 3 (i 1)) : EReal) := by
  unfold k0_pay94
  simp only [pointwise, v237 h31 h203 h211 h214 h221 h222, Matrix.cons_val, zero_add, Fin.eta]
  rfl

include h31 in
theorem v243 (i : S128x128.Idx) :
    k0_pay95 (F := Ideal) v31 v203 v211 v214 v221 v222 i = (X.ds (i 0) (lane 4 (i 1)) : EReal) := by
  unfold k0_pay95
  simp only [pointwise, v237 h31 h203 h211 h214 h221 h222, Matrix.cons_val, zero_add, Fin.eta]
  rfl

include h31 in
theorem v244 (i : S128x128.Idx) :
    k0_pay96 (F := Ideal) v31 v203 v211 v214 v221 v222 i = (X.ds (i 0) (lane 5 (i 1)) : EReal) := by
  unfold k0_pay96
  simp only [pointwise, v237 h31 h203 h211 h214 h221 h222, Matrix.cons_val, zero_add, Fin.eta]
  rfl

include h31 in
theorem v245 (i : S128x128.Idx) :
    k0_pay97 (F := Ideal) v31 v203 v211 v214 v221 v222 i = (X.ds (i 0) (lane 6 (i 1)) : EReal) := by
  unfold k0_pay97
  simp only [pointwise, v237 h31 h203 h211 h214 h221 h222, Matrix.cons_val, zero_add, Fin.eta]
  rfl

include h31 in
theorem v246 (i : S128x128.Idx) :
    k0_pay98 (F := Ideal) v31 v203 v211 v214 v221 v222 i = (X.ds (i 0) (lane 7 (i 1)) : EReal) := by
  unfold k0_pay98
  simp only [pointwise, v237 h31 h203 h211 h214 h221 h222, Matrix.cons_val, zero_add, Fin.eta]
  rfl

end Gate

/-- The gradient of the gate's input. -/
theorem v600 {X : GateUnit.Chunk} {v21 v28 v30 v238 : FVec Ideal S128x1024 .f32}
    (h21 : ∀ i, v21 i = ((1 / 2 * X.pu (i 0) (i 1) : ℝ) : EReal))
    (h28 : ∀ i, v28 i = (Real.exp (-(X.pu (i 0) (i 1) * kap * (X.pu (i 0) (i 1) * kap))) : EReal))
    (h30 : ∀ i, v30 i = (phi (X.pu (i 0) (i 1)) : EReal)) (h238 : ∀ i, v238 i = (X.du (i 0) (i 1) : EReal))
    (i : S128x1024.Idx) : k0_pay152 (F := Ideal) v21 v28 v30 v238 i = (X.dpu (i 0) (i 1) : EReal) := by
  unfold k0_pay152
  simp only [pointwise, h21, h28, h30, h238, Reals.tsp, Reals.kap, Reals.half, ← EReal.coe_mul, ← EReal.coe_add]
  rfl

end Cert.KernelIdeal.Chunk

end
-- ==== Proof.ValuesBack.lean ====
/- The gradient through the mixing, on a chunk of real numbers: that of the values gathers the lane groups from the last
   to the first, that of the weights the heads from the last to the first. -/
module

public import proofs.«01_k».proof.Proof.Entry
public import proofs.«01_k».proof.Proof.Heads

@[expose] public section

noncomputable section

open Idealize.ShloMosaic

namespace Cert.KernelIdeal.Chunk
open Cert.KernelIdeal Cert.KernelIdeal.Gen GateUnit

variable {X : GateUnit.Chunk} {v69 v72 : IVec S128x128 1}

/-! The right and the left head of a lane group of the gradient. -/

theorem right106 {p : Fin 8} {d : FVec Ideal S128x128 .f32} (h72 : ∀ i, v72 i = if (i 1).val < 64 then 1#1 else 0#1)
    (hd : ∀ i, d i = (X.ds (i 0) (lane p (i 1)) : EReal)) (i : S128x128.Idx) :
    k0_pay106 (F := Ideal) v72 d i = ((X.rt p (i 0) (i 1) : ℝ) : EReal) := by
  unfold k0_pay106 k0_pay105
  simp only [pointwise, h72, hd, Reals.select]
  first | exact Reals.zero_if _ _ | exact Reals.if_zero _ _

theorem left107 {p : Fin 8} {d : FVec Ideal S128x128 .f32} (h72 : ∀ i, v72 i = if (i 1).val < 64 then 1#1 else 0#1)
    (hd : ∀ i, d i = (X.ds (i 0) (lane p (i 1)) : EReal)) (i : S128x128.Idx) :
    k0_pay107 (F := Ideal) v72 d i = ((X.lt p (i 0) (i 1) : ℝ) : EReal) := by
  unfold k0_pay107 k0_pay105
  simp only [pointwise, h72, hd, Reals.select]
  first | exact Reals.zero_if _ _ | exact Reals.if_zero _ _

theorem right116 {p : Fin 8} {d : FVec Ideal S128x128 .f32} (h72 : ∀ i, v72 i = if (i 1).val < 64 then 1#1 else 0#1)
    (hd : ∀ i, d i = (X.ds (i 0) (lane p (i 1)) : EReal)) (i : S128x128.Idx) :
    k0_pay116 (F := Ideal) v72 d i = ((X.rt p (i 0) (i 1) : ℝ) : EReal) := by
  unfold k0_pay116 k0_pay115
  simp only [pointwise, h72, hd, Reals.select]
  first | exact Reals.zero_if _ _ | exact Reals.if_zero _ _

theorem left117 {p : Fin 8} {d : FVec Ideal S128x128 .f32} (h72 : ∀ i, v72 i = if (i 1).val < 64 then 1#1 else 0#1)
    (hd : ∀ i, d i = (X.ds (i 0) (lane p (i 1)) : EReal)) (i : S128x128.Idx) :
    k0_pay117 (F := Ideal) v72 d i = ((X.lt p (i 0) (i 1) : ℝ) : EReal) := by
  unfold k0_pay117 k0_pay115
  simp only [pointwise, h72, hd, Reals.select]
  first | exact Reals.zero_if _ _ | exact Reals.if_zero _ _

theorem right123 {p : Fin 8} {d : FVec Ideal S128x128 .f32} (h72 : ∀ i, v72 i = if (i 1).val < 64 then 1#1 else 0#1)
    (hd : ∀ i, d i = (X.ds (i 0) (lane p (i 1)) : EReal)) (i : S128x128.Idx) :
    k0_pay123 (F := Ideal) v72 d i = ((X.rt p (i 0) (i 1) : ℝ) : EReal) := by
  unfold k0_pay123 k0_pay122
  simp only [pointwise, h72, hd, Reals.select]
  first | exact Reals.zero_if _ _ | exact Reals.if_zero _ _

theorem left124 {p : Fin 8} {d : FVec Ideal S128x128 .f32} (h72 : ∀ i, v72 i = if (i 1).val < 64 then 1#1 else 0#1)
    (hd : ∀ i, d i = (X.ds (i 0) (lane p (i 1)) : EReal)) (i : S128x128.Idx) :
    k0_pay124 (F := Ideal) v72 d i = ((X.lt p (i 0) (i 1) : ℝ) : EReal) := by
  unfold k0_pay124 k0_pay122
  simp only [pointwise, h72, hd, Reals.select]
  first | exact Reals.zero_if _ _ | exact Reals.if_zero _ _

theorem right130 {p : Fin 8} {d : FVec Ideal S128x128 .f32} (h72 : ∀ i, v72 i = if (i 1).val < 64 then 1#1 else 0#1)
    (hd : ∀ i, d i = (X.ds (i 0) (lane p (i 1)) : EReal)) (i : S128x128.Idx) :
    k0_pay130 (F := Ideal) v72 d i = ((X.rt p (i 0) (i 1) : ℝ) : EReal) := by
  unfold k0_pay130 k0_pay129
  simp only [pointwise, h72, hd, Reals.select]
  first | exact Reals.zero_if _ _ | exact Reals.if_zero _ _

theorem left131 {p : Fin 8} {d : FVec Ideal S128x128 .f32} (h72 : ∀ i, v72 i = if (i 1).val < 64 then 1#1 else 0#1)
    (hd : ∀ i, d i = (X.ds (i 0) (lane p (i 1)) : EReal)) (i : S128x128.Idx) :
    k0_pay131 (F := Ideal) v72 d i = ((X.lt p (i 0) (i 1) : ℝ) : EReal) := by
  unfold k0_pay131 k0_pay129
  simp only [pointwise, h72, hd, Reals.select]
  first | exact Reals.zero_if _ _ | exact Reals.if_zero _ _

theorem right138 {p : Fin 8} {d : FVec Ideal S128x128 .f32} (h72 : ∀ i, v72 i = if (i 1).val < 64 then 1#1 else 0#1)
    (hd : ∀ i, d i = (X.ds (i 0) (lane p (i 1)) : EReal)) (i : S128x128.Idx) :
    k0_pay138 (F := Ideal) v72 d i = ((X.rt p (i 0) (i 1) : ℝ) : EReal) := by
  unfold k0_pay138 k0_pay137
  simp only [pointwise, h72, hd, Reals.select]
  first | exact Reals.zero_if _ _ | exact Reals.if_zero _ _

theorem left139 {p : Fin 8} {d : FVec Ideal S128x128 .f32} (h72 : ∀ i, v72 i = if (i 1).val < 64 then 1#1 else 0#1)
    (hd : ∀ i, d i = (X.ds (i 0) (lane p (i 1)) : EReal)) (i : S128x128.Idx) :
    k0_pay139 (F := Ideal) v72 d i = ((X.lt p (i 0) (i 1) : ℝ) : EReal) := by
  unfold k0_pay139 k0_pay137
  simp only [pointwise, h72, hd, Reals.select]
  first | exact Reals.zero_if _ _ | exact Reals.if_zero _ _

theorem right143 {p : Fin 8} {d : FVec Ideal S128x128 .f32} (h72 : ∀ i, v72 i = if (i 1).val < 64 then 1#1 else 0#1)
    (hd : ∀ i, d i = (X.ds (i 0) (lane p (i 1)) : EReal)) (i : S128x128.Idx) :
    k0_pay143 (F := Ideal) v72 d i = ((X.rt p (i 0) (i 1) : ℝ) : EReal) := by
  unfold k0_pay143 k0_pay142
  simp only [pointwise, h72, hd, Reals.select]
  first | exact Reals.zero_if _ _ | exact Reals.if_zero _ _

theorem left144 {p : Fin 8} {d : FVec Ideal S128x128 .f32} (h72 : ∀ i, v72 i = if (i 1).val < 64 then 1#1 else 0#1)
    (hd : ∀ i, d i = (X.ds (i 0) (lane p (i 1)) : EReal)) (i : S128x128.Idx) :
    k0_pay144 (F := Ideal) v72 d i = ((X.lt p (i 0) (i 1) : ℝ) : EReal) := by
  unfold k0_pay144 k0_pay142
  simp only [pointwise, h72, hd, Reals.select]
  first | exact Reals.zero_if _ _ | exact Reals.if_zero _ _

theorem right111 {p : Fin 8} {d z : FVec Ideal S128x128 .f32} (h72 : ∀ i, v72 i = if (i 1).val < 64 then 1#1 else 0#1)
    (hd : ∀ i, d i = (X.ds (i 0) (lane p (i 1)) : EReal)) (hz : ∀ i, z i = 0) (i : S128x128.Idx) :
    k0_pay111 (F := Ideal) v72 d z i = ((X.rt p (i 0) (i 1) : ℝ) : EReal) := by
  unfold k0_pay111
  simp only [pointwise, h72, hd, hz, Reals.select]
  first | exact Reals.zero_if _ _ | exact Reals.if_zero _ _

theorem left112 {p : Fin 8} {d z : FVec Ideal S128x128 .f32} (h72 : ∀ i, v72 i = if (i 1).val < 64 then 1#1 else 0#1)
    (hd : ∀ i, d i = (X.ds (i 0) (lane p (i 1)) : EReal)) (hz : ∀ i, z i = 0) (i : S128x128.Idx) :
    k0_pay112 (F := Ideal) v72 d z i = ((X.lt p (i 0) (i 1) : ℝ) : EReal) := by
  unfold k0_pay112
  simp only [pointwise, h72, hd, hz, Reals.select]
  first | exact Reals.zero_if _ _ | exact Reals.if_zero _ _

theorem zero110 (i : S128x128.Idx) : k0_pay110 (F := Ideal) i = 0 := by
  unfold k0_pay110
  simp only [pointwise]

theorem zero135 (i : S128x128.Idx) : k0_pay135 (F := Ideal) i = 0 := by
  unfold k0_pay135
  simp only [pointwise]

theorem right100 {v31 v203 v221 v222 : FVec Ideal S128x1024 .f32} {v211 v214 : FVec Ideal S128x1 .f32}
    (h72 : ∀ i, v72 i = if (i 1).val < 64 then 1#1 else 0#1)
    (hd : ∀ i, k0_pay98 (F := Ideal) v31 v203 v211 v214 v221 v222 i = (X.ds (i 0) (lane 7 (i 1)) : EReal)) (i : S128x128.Idx) :
    k0_pay100 (F := Ideal) v31 v72 v203 v211 v214 v221 v222 i = ((X.rt 7 (i 0) (i 1) : ℝ) : EReal) := by
  unfold k0_pay100 k0_pay99
  simp only [pointwise, h72, hd, Reals.select]
  first | exact Reals.zero_if _ _ | exact Reals.if_zero _ _

theorem left101 {v31 v203 v221 v222 : FVec Ideal S128x1024 .f32} {v211 v214 : FVec Ideal S128x1 .f32}
    (h72 : ∀ i, v72 i = if (i 1).val < 64 then 1#1 else 0#1)
    (hd : ∀ i, k0_pay98 (F := Ideal) v31 v203 v211 v214 v221 v222 i = (X.ds (i 0) (lane 7 (i 1)) : EReal)) (i : S128x128.Idx) :
    k0_pay101 (F := Ideal) v31 v72 v203 v211 v214 v221 v222 i = ((X.lt 7 (i 0) (i 1) : ℝ) : EReal) := by
  unfold k0_pay101 k0_pay99
  simp only [pointwise, h72, hd, Reals.select]
  first | exact Reals.zero_if _ _ | exact Reals.if_zero _ _

/-! What is done so far: what lies at or right of a lane group is done. -/

/-- A lane group's gradient joins what is done: the group's columns were zero before. -/
theorem join (k : Nat) (r : Fin 128) (c : Fin 1024) (a b : EReal)
    (ha : a = ((if k + 128 ≤ c.val then X.dvl r c else 0 : ℝ) : EReal))
    (hb : b = ((if k ≤ c.val ∧ c.val < k + 128 then X.dvl r c else 0 : ℝ) : EReal)) :
    a + b = ((if k ≤ c.val then X.dvl r c else 0 : ℝ) : EReal) := by
  rw [ha, hb, ← EReal.coe_add]
  congr 1
  split_ifs <;> first | omega | simp

/-- A head's gradient joins what is done: the head was zero before. -/
theorem gather (k : Nat) (g : Fin 16) (t s : Fin 128) (a b : EReal)
    (ha : a = ((if k + 1 ≤ g.val then X.dw g t s else 0 : ℝ) : EReal))
    (hb : b = ((if k ≤ g.val ∧ g.val < k + 1 then X.dw g t s else 0 : ℝ) : EReal)) :
    a + b = ((if k ≤ g.val then X.dw g t s else 0 : ℝ) : EReal) := by
  rw [ha, hb, ← EReal.coe_add]
  congr 1
  split_ifs <;> first | omega | simp

theorem keep {p : Prop} [Decidable p] {a : EReal} {b : ℝ} (h : p) (e : a = (b : EReal)) :
    a = ((if p then b else 0 : ℝ) : EReal) := by
  rw [if_pos h, e]

theorem drop {p : Prop} [Decidable p] {b : ℝ} (h : ¬ p) : (0 : EReal) = ((if p then b else 0 : ℝ) : EReal) := by
  rw [if_neg h, EReal.coe_zero]

/-- A right head's gradient, masked. -/
theorem right_head (p : Fin 8) (g : Fin 16) (t s : Fin 128) (hg : g.val = 2 * p.val + 1) :
    Scalar.select (α := EReal) (if s ≤ t then 1#1 else 0#1)
        (∑ j : Fin 128, (X.rt p t j) * X.vl s (lane p j) : ℝ) 0 =
      (X.dw g t s : EReal) := by
  rw [Reals.select, Reals.if_zero, X.dw_right p g hg]

/-- A left head's gradient, masked. -/
theorem left_head (p : Fin 8) (g : Fin 16) (t s : Fin 128) (hg : g.val = 2 * p.val) :
    Scalar.select (α := EReal) (if s ≤ t then 1#1 else 0#1)
        (∑ j : Fin 128, (X.lt p t j) * X.vl s (lane p j) : ℝ) 0 =
      (X.dw g t s : EReal) := by
  rw [Reals.select, Reals.if_zero, X.dw_left p g hg]

/-- A lane group's gradient in its columns. -/
theorem group (p : Fin 8) (r j : Fin 128) (c : Fin 1024) (h : c.val = 128 * p.val + j.val) :
    (X.dvl r (lane p j) : EReal) = (X.dvl r c : EReal) := by
  rw [← lane_eq p j c h]

/-- A lane group's gradient, by its two heads. -/
theorem two_heads (p : Fin 8) (a b : Fin 16) (r j : Fin 128) (c : Fin 1024) (ha : a.val = 2 * p.val)
    (hb : b.val = 2 * p.val + 1) (h : c.val = 128 * p.val + j.val) :
    (((∑ k, (X.rt p k j) * X.wt b k r) +
        ∑ k, (X.lt p k j) * X.wt a k r : ℝ) : EReal) = (X.dvl r c : EReal) := by
  rw [X.back_lane p a b ha hb, group p r j c h]

theorem v263 {v31 v203 v221 v222 : FVec Ideal S128x1024 .f32} {v211 v214 : FVec Ideal S128x1 .f32}
    {v194 v197 : FVec Ideal S128x128 .bf16} (h72 : ∀ i, v72 i = if (i 1).val < 64 then 1#1 else 0#1)
    (hd : ∀ i, k0_pay98 (F := Ideal) v31 v203 v211 v214 v221 v222 i = (X.ds (i 0) (lane 7 (i 1)) : EReal))
    (ha : ∀ i, v194 i = (X.wt 14 (i 0) (i 1) : EReal)) (hb : ∀ i, v197 i = (X.wt 15 (i 0) (i 1) : EReal))
    (i : S128x128.Idx) :
    k0_pay102 (F := Ideal) v31 v72 v194 v197 v203 v211 v214 v221 v222 i = (X.dvl (i 0) (lane 7 (i 1)) : EReal) := by
  unfold k0_pay102
  simp only [pointwise, right100 h72 hd, left101 h72 hd, ha, hb, zero_add, ← EReal.coe_mul, ← EReal.coe_add, Reals.sum]
  exact congrArg _ (X.back_lane 7 14 15 rfl rfl (i 0) (i 1))

theorem v318 {v178 v181 : FVec Ideal S128x128 .bf16} {v245 v263 : FVec Ideal S128x128 .f32}
    (h72 : ∀ i, v72 i = if (i 1).val < 64 then 1#1 else 0#1)
    (hd : ∀ i, v245 i = (X.ds (i 0) (lane 6 (i 1)) : EReal))
    (h263 : ∀ i, v263 i = (X.dvl (i 0) (lane 7 (i 1)) : EReal))
    (ha : ∀ i, v178 i = (X.wt 12 (i 0) (i 1) : EReal))
    (hb : ∀ i, v181 i = (X.wt 13 (i 0) (i 1) : EReal))
    (i : S128x1024.Idx) :
    k0_pay109 (F := Ideal) v72 v178 v181 v245 v263 i = ((if 768 ≤ (i 1).val then X.dvl (i 0) (i 1) else 0 : ℝ) : EReal) := by
  have i1 : (i 1).val < 1024 := (i 1).isLt
  unfold k0_pay109
  simp only [pointwise, right106 h72 hd, left107 h72 hd, h263, ha, hb, zero_add, ← EReal.coe_mul, ← EReal.coe_add, Reals.sum]
  try simp only [Matrix.cons_val, if_true, Fin.val_zero, Fin.val_one, zero_ne_one, one_ne_zero, if_false]
  refine join 768 (i 0) (i 1) _ _ ?_ ?_
  · by_cases c : (i 1).val < 896
    · rw [dif_pos c]; exact drop (by omega)
    · rw [dif_neg c]
      exact keep (by omega) (group 7 (i 0) ⟨(i 1).val - 896, by omega⟩ (i 1) (by simp <;> omega))
  · by_cases c : (i 1).val < 896
    · rw [dif_pos c]
      by_cases c' : (i 1).val < 768
      · rw [dif_pos c']; exact drop (by omega)
      · rw [dif_neg c']
        exact keep (by omega) (two_heads 6 12 13 (i 0) ⟨(i 1).val - 768, by omega⟩ (i 1) rfl rfl (by simp <;> omega))
    · rw [dif_neg c]; exact drop (by omega)

theorem v357 {v162 v165 : FVec Ideal S128x128 .bf16} {v244 v319 : FVec Ideal S128x128 .f32} {v318 : FVec Ideal S128x1024 .f32}
    (h72 : ∀ i, v72 i = if (i 1).val < 64 then 1#1 else 0#1)
    (hd : ∀ i, v244 i = (X.ds (i 0) (lane 5 (i 1)) : EReal))
    (hz : ∀ i, v319 i = 0)
    (ha : ∀ i, v162 i = (X.wt 10 (i 0) (i 1) : EReal))
    (hb : ∀ i, v165 i = (X.wt 11 (i 0) (i 1) : EReal))
    (h : ∀ i, v318 i = ((if 768 ≤ (i 1).val then X.dvl (i 0) (i 1) else 0 : ℝ) : EReal))
    (i : S128x1024.Idx) :
    k0_pay114 (F := Ideal) v72 v162 v165 v244 v318 v319 i = ((if 640 ≤ (i 1).val then X.dvl (i 0) (i 1) else 0 : ℝ) : EReal) := by
  have i1 : (i 1).val < 1024 := (i 1).isLt
  unfold k0_pay114
  simp only [pointwise, right111 h72 hd hz, left112 h72 hd hz, h, ha, hb, zero_add, ← EReal.coe_mul, ← EReal.coe_add, Reals.sum]
  try simp only [Matrix.cons_val, if_true, Fin.val_zero, Fin.val_one, zero_ne_one, one_ne_zero, if_false]
  refine join 640 (i 0) (i 1) _ _ rfl ?_
  · by_cases c : (i 1).val < 768
    · rw [dif_pos c]
      by_cases c' : (i 1).val < 640
      · rw [dif_pos c']; exact drop (by omega)
      · rw [dif_neg c']
        exact keep (by omega) (two_heads 5 10 11 (i 0) ⟨(i 1).val - 640, by omega⟩ (i 1) rfl rfl (by simp <;> omega))
    · rw [dif_neg c]; exact drop (by omega)

theorem v366 {v149 : FVec Ideal S128x128 .bf16} {v243 : FVec Ideal S128x128 .f32} (h72 : ∀ i, v72 i = if (i 1).val < 64 then 1#1 else 0#1)
    (hd : ∀ i, v243 i = (X.ds (i 0) (lane 4 (i 1)) : EReal)) (hb : ∀ i, v149 i = (X.wt 9 (i 0) (i 1) : EReal))
    (i : S128x128.Idx) : k0_pay118 (F := Ideal) v72 v149 v243 i =
      ((∑ k, (X.rt 4 k (i 1)) * X.wt 9 k (i 0) : ℝ) : EReal) := by
  unfold k0_pay118
  simp only [pointwise, right116 h72 hd, hb, zero_add, ← EReal.coe_mul, ← EReal.coe_add, Reals.sum]

theorem v396 {v146 : FVec Ideal S128x128 .bf16} {v360 v366 : FVec Ideal S128x128 .f32} {v357 : FVec Ideal S128x1024 .f32}
    (hl : ∀ i, v360 i = ((X.lt 4 (i 0) (i 1) : ℝ) : EReal))
    (hr : ∀ i, v366 i = ((∑ k, (X.rt 4 k (i 1)) * X.wt 9 k (i 0) : ℝ) : EReal))
    (ha : ∀ i, v146 i = (X.wt 8 (i 0) (i 1) : EReal))
    (h : ∀ i, v357 i = ((if 640 ≤ (i 1).val then X.dvl (i 0) (i 1) else 0 : ℝ) : EReal))
    (i : S128x1024.Idx) :
    k0_pay121 (F := Ideal) v146 v357 v360 v366 i = ((if 512 ≤ (i 1).val then X.dvl (i 0) (i 1) else 0 : ℝ) : EReal) := by
  have i1 : (i 1).val < 1024 := (i 1).isLt
  unfold k0_pay121
  simp only [pointwise, hl, hr, h, ha, zero_add, ← EReal.coe_mul, ← EReal.coe_add, Reals.sum]
  try simp only [Matrix.cons_val, if_true, Fin.val_zero, Fin.val_one, zero_ne_one, one_ne_zero, if_false]
  refine join 512 (i 0) (i 1) _ _ rfl ?_
  · by_cases c : (i 1).val < 640
    · rw [dif_pos c]
      by_cases c' : (i 1).val < 512
      · rw [dif_pos c']; exact drop (by omega)
      · rw [dif_neg c']
        exact keep (by omega) (two_heads 4 8 9 (i 0) ⟨(i 1).val - 512, by omega⟩ (i 1) rfl rfl (by simp <;> omega))
    · rw [dif_neg c]; exact drop (by omega)

theorem v413 {v130 v133 : FVec Ideal S128x128 .bf16} {v242 : FVec Ideal S128x128 .f32} (h72 : ∀ i, v72 i = if (i 1).val < 64 then 1#1 else 0#1)
    (hd : ∀ i, v242 i = (X.ds (i 0) (lane 3 (i 1)) : EReal)) (ha : ∀ i, v130 i = (X.wt 6 (i 0) (i 1) : EReal))
    (hb : ∀ i, v133 i = (X.wt 7 (i 0) (i 1) : EReal)) (i : S128x128.Idx) :
    k0_pay126 (F := Ideal) v72 v130 v133 v242 i = (X.dvl (i 0) (lane 3 (i 1)) : EReal) := by
  unfold k0_pay126
  simp only [pointwise, right123 h72 hd, left124 h72 hd, ha, hb, zero_add, ← EReal.coe_mul, ← EReal.coe_add, Reals.sum]
  exact congrArg _ (X.back_lane 3 6 7 rfl rfl (i 0) (i 1))

theorem v452 {v114 v117 : FVec Ideal S128x128 .bf16} {v241 : FVec Ideal S128x128 .f32} (h72 : ∀ i, v72 i = if (i 1).val < 64 then 1#1 else 0#1)
    (hd : ∀ i, v241 i = (X.ds (i 0) (lane 2 (i 1)) : EReal)) (ha : ∀ i, v114 i = (X.wt 4 (i 0) (i 1) : EReal))
    (hb : ∀ i, v117 i = (X.wt 5 (i 0) (i 1) : EReal)) (i : S128x128.Idx) :
    k0_pay132 (F := Ideal) v72 v114 v117 v241 i = (X.dvl (i 0) (lane 2 (i 1)) : EReal) := by
  unfold k0_pay132
  simp only [pointwise, right130 h72 hd, left131 h72 hd, ha, hb, zero_add, ← EReal.coe_mul, ← EReal.coe_add, Reals.sum]
  exact congrArg _ (X.back_lane 2 4 5 rfl rfl (i 0) (i 1))

theorem v435 {v413 : FVec Ideal S128x128 .f32} {v396 : FVec Ideal S128x1024 .f32}
    (h : ∀ i, v396 i = ((if 512 ≤ (i 1).val then X.dvl (i 0) (i 1) else 0 : ℝ) : EReal))
    (hd : ∀ i, v413 i = (X.dvl (i 0) (lane 3 (i 1)) : EReal))
    (i : S128x1024.Idx) :
    k0_pay128 (F := Ideal) v396 v413 i = ((if 384 ≤ (i 1).val then X.dvl (i 0) (i 1) else 0 : ℝ) : EReal) := by
  have i1 : (i 1).val < 1024 := (i 1).isLt
  unfold k0_pay128
  simp only [pointwise, h, hd, zero_add, ← EReal.coe_mul, ← EReal.coe_add, Reals.sum]
  try simp only [Matrix.cons_val, if_true, Fin.val_zero, Fin.val_one, zero_ne_one, one_ne_zero, if_false]
  refine join 384 (i 0) (i 1) _ _ rfl ?_
  · by_cases c : (i 1).val < 512
    · rw [dif_pos c]
      by_cases c' : (i 1).val < 384
      · rw [dif_pos c']; exact drop (by omega)
      · rw [dif_neg c']
        exact keep (by omega) (group 3 (i 0) ⟨(i 1).val - 384, by omega⟩ (i 1) (by simp <;> omega))
    · rw [dif_neg c]; exact drop (by omega)

theorem v474 {v452 : FVec Ideal S128x128 .f32} {v435 : FVec Ideal S128x1024 .f32}
    (h : ∀ i, v435 i = ((if 384 ≤ (i 1).val then X.dvl (i 0) (i 1) else 0 : ℝ) : EReal))
    (hd : ∀ i, v452 i = (X.dvl (i 0) (lane 2 (i 1)) : EReal))
    (i : S128x1024.Idx) :
    k0_pay136 (F := Ideal) v435 v452 i = ((if 256 ≤ (i 1).val then X.dvl (i 0) (i 1) else 0 : ℝ) : EReal) := by
  have i1 : (i 1).val < 1024 := (i 1).isLt
  unfold k0_pay136
  simp only [pointwise, h, hd, zero_add, ← EReal.coe_mul, ← EReal.coe_add, Reals.sum]
  try simp only [Matrix.cons_val, if_true, Fin.val_zero, Fin.val_one, zero_ne_one, one_ne_zero, if_false]
  refine join 256 (i 0) (i 1) _ _ rfl ?_
  · by_cases c : (i 1).val < 384
    · rw [dif_pos c]
      by_cases c' : (i 1).val < 256
      · rw [dif_pos c']; exact drop (by omega)
      · rw [dif_neg c']
        exact keep (by omega) (group 2 (i 0) ⟨(i 1).val - 256, by omega⟩ (i 1) (by simp <;> omega))
    · rw [dif_neg c]; exact drop (by omega)

theorem v510 {v98 v101 : FVec Ideal S128x128 .bf16} {v240 : FVec Ideal S128x128 .f32} (h72 : ∀ i, v72 i = if (i 1).val < 64 then 1#1 else 0#1)
    (hd : ∀ i, v240 i = (X.ds (i 0) (lane 1 (i 1)) : EReal)) (ha : ∀ i, v98 i = (X.wt 2 (i 0) (i 1) : EReal))
    (hb : ∀ i, v101 i = (X.wt 3 (i 0) (i 1) : EReal)) (i : S128x256.Idx) :
    k0_pay141 (F := Ideal) v72 v98 v101 v240 i =
      ((if 128 ≤ (i 1).val then X.dvl (i 0) ⟨(i 1).val, lt_trans (i 1).isLt (by decide)⟩ else 0 : ℝ) : EReal) := by
  have i1 : (i 1).val < 256 := (i 1).isLt
  unfold k0_pay141
  simp only [pointwise, right138 h72 hd, left139 h72 hd, ha, hb, zero_add, ← EReal.coe_mul, ← EReal.coe_add, Reals.sum]
  try simp only [Matrix.cons_val, if_true, Fin.val_zero, Fin.val_one, zero_ne_one, one_ne_zero, if_false]
  by_cases c : (i 1).val < 128
  · rw [dif_pos c]; exact drop (by omega)
  · rw [dif_neg c]
    exact keep (by omega) (two_heads 1 2 3 (i 0) ⟨(i 1).val - 128, by omega⟩ ⟨(i 1).val, _⟩ rfl rfl (by simp <;> omega))

/-- The gradient of the values that the mixing takes. -/
theorem v548 {v82 v85 : FVec Ideal S128x128 .bf16} {v239 : FVec Ideal S128x128 .f32}
    {v474 : FVec Ideal S128x1024 .f32} {v510 : FVec Ideal S128x256 .f32}
    (h72 : ∀ i, v72 i = if (i 1).val < 64 then 1#1 else 0#1)
    (hd : ∀ i, v239 i = (X.ds (i 0) (lane 0 (i 1)) : EReal)) (ha : ∀ i, v82 i = (X.wt 0 (i 0) (i 1) : EReal))
    (hb : ∀ i, v85 i = (X.wt 1 (i 0) (i 1) : EReal))
    (h : ∀ i, v474 i = ((if 256 ≤ (i 1).val then X.dvl (i 0) (i 1) else 0 : ℝ) : EReal))
    (h510 : ∀ i, v510 i =
      ((if 128 ≤ (i 1).val then X.dvl (i 0) ⟨(i 1).val, lt_trans (i 1).isLt (by decide)⟩ else 0 : ℝ) : EReal))
    (i : S128x1024.Idx) :
    k0_pay146 (F := Ideal) v72 v82 v85 v239 v474 (Scalar.ofBits .f32 0x00000000#32) v510 i = (X.dvl (i 0) (i 1) : EReal) := by
  have i1 : (i 1).val < 1024 := (i 1).isLt
  unfold k0_pay146
  simp only [pointwise, right143 h72 hd, left144 h72 hd, h, h510, ha, hb, zero_add, ← EReal.coe_mul, ← EReal.coe_add, Reals.sum]
  try simp only [Matrix.cons_val, if_true, Fin.val_zero, Fin.val_one, zero_ne_one, one_ne_zero, if_false]
  refine (join 0 (i 0) (i 1) _ _ (join 128 (i 0) (i 1) _ _ rfl ?_) ?_).trans (congrArg _ (if_pos (Nat.zero_le _)))
  · by_cases c : (i 1).val < 256
    · rw [dif_pos c]
      by_cases c' : 128 ≤ (i 1).val
      · exact keep (by omega) (congrArg _ (if_pos c'))
      · exact (congrArg _ (if_neg c')).trans (drop (by omega))
    · rw [dif_neg c]; exact drop (by omega)
  · by_cases c : (i 1).val < 128
    · rw [dif_pos c]
      exact keep (by omega) (two_heads 0 0 1 (i 0) ⟨(i 1).val, by omega⟩ (i 1) rfl rfl (by simp <;> omega))
    · rw [dif_neg c]; exact drop (by omega)

end Cert.KernelIdeal.Chunk

end
-- ==== Proof.WeightsBack.lean ====
/- The gradient of the mixing weights, on a chunk of real numbers: the heads join from the last to the first. -/
module

public import proofs.«01_k».proof.Proof.ValuesBack

@[expose] public section

noncomputable section

open Idealize.ShloMosaic

namespace Cert.KernelIdeal.Chunk
open Cert.KernelIdeal Cert.KernelIdeal.Gen GateUnit

variable {X : GateUnit.Chunk} {v69 v72 : IVec S128x128 1}

theorem v269 {v31 v203 v221 v222 : FVec Ideal S128x1024 .f32} {v211 v214 : FVec Ideal S128x1 .f32} {v198 : FVec Ideal S128x128 .bf16}
    (h69 : ∀ i, v69 i = if i 1 ≤ i 0 then 1#1 else 0#1)
    (h72 : ∀ i, v72 i = if (i 1).val < 64 then 1#1 else 0#1)
    (hd : ∀ i, k0_pay98 (F := Ideal) v31 v203 v211 v214 v221 v222 i = (X.ds (i 0) (lane 7 (i 1)) : EReal))
    (hv : ∀ i, v198 i = (X.vl (i 0) (lane 7 (i 1)) : EReal)) (i : S16x128x128.Idx) :
    k0_pay103 (F := Ideal) v31 v69 v72 v198 v203 v211 v214 v221 v222 i = ((if 15 ≤ (i 0).val then X.dw (i 0) (i 1) (i 2) else 0 : ℝ) : EReal) := by
  have i0 : (i 0).val < 16 := (i 0).isLt
  unfold k0_pay103
  simp only [pointwise, right100 h72 hd, hv, h69, zero_add, ← EReal.coe_mul, ← EReal.coe_add, Reals.sum]
  try simp only [Matrix.cons_val, if_true, Fin.val_zero, Fin.val_one, zero_ne_one, one_ne_zero, if_false, Fin.val_two, Fin.reduceEq, OfNat.ofNat_ne_zero, OfNat.zero_ne_ofNat]
  · by_cases c : (i 0).val < 15
    · rw [dif_pos c]; exact drop (by omega)
    · rw [dif_neg c]
      exact keep (by omega) (right_head 7 (i 0) (i 1) (i 2) (by simp <;> omega))

theorem v272 {v31 v203 v221 v222 : FVec Ideal S128x1024 .f32} {v211 v214 : FVec Ideal S128x1 .f32} {v195 : FVec Ideal S128x128 .bf16}
    (h69 : ∀ i, v69 i = if i 1 ≤ i 0 then 1#1 else 0#1)
    (h72 : ∀ i, v72 i = if (i 1).val < 64 then 1#1 else 0#1)
    (hd : ∀ i, k0_pay98 (F := Ideal) v31 v203 v211 v214 v221 v222 i = (X.ds (i 0) (lane 7 (i 1)) : EReal))
    (hv : ∀ i, v195 i = (X.vl (i 0) (lane 7 (i 1)) : EReal)) (i : S1x128x128.Idx) :
    k0_pay104 (F := Ideal) v31 v69 v72 v195 v203 v211 v214 v221 v222 i = (X.dw 14 (i 1) (i 2) : EReal) := by
  unfold k0_pay104
  simp only [pointwise, left101 h72 hd, hv, h69, zero_add, ← EReal.coe_mul, ← EReal.coe_add, Reals.sum]
  exact left_head 7 14 (i 1) (i 2) rfl

theorem v313 {v179 v182 : FVec Ideal S128x128 .bf16} {v245 : FVec Ideal S128x128 .f32} {v269 : FVec Ideal S16x128x128 .f32} {v272 : FVec Ideal S1x128x128 .f32}
    (h69 : ∀ i, v69 i = if i 1 ≤ i 0 then 1#1 else 0#1)
    (h72 : ∀ i, v72 i = if (i 1).val < 64 then 1#1 else 0#1)
    (hd : ∀ i, v245 i = (X.ds (i 0) (lane 6 (i 1)) : EReal))
    (ha : ∀ i, v179 i = (X.vl (i 0) (lane 6 (i 1)) : EReal))
    (hb : ∀ i, v182 i = (X.vl (i 0) (lane 6 (i 1)) : EReal))
    (h : ∀ i, v269 i = ((if 15 ≤ (i 0).val then X.dw (i 0) (i 1) (i 2) else 0 : ℝ) : EReal))
    (h272 : ∀ i, v272 i = (X.dw 14 (i 1) (i 2) : EReal))
    (i : S16x128x128.Idx) :
    k0_pay108 (F := Ideal) v69 v72 v179 v182 v245 v269 v272 i = ((if 12 ≤ (i 0).val then X.dw (i 0) (i 1) (i 2) else 0 : ℝ) : EReal) := by
  have i0 : (i 0).val < 16 := (i 0).isLt
  unfold k0_pay108
  simp only [pointwise, right106 h72 hd, left107 h72 hd, ha, hb, h69, h272, zero_add, ← EReal.coe_mul, ← EReal.coe_add, Reals.sum]
  try simp only [Matrix.cons_val, if_true, Fin.val_zero, Fin.val_one, zero_ne_one, one_ne_zero, if_false, Fin.val_two, Fin.reduceEq, OfNat.ofNat_ne_zero, OfNat.zero_ne_ofNat]
  refine gather 12 (i 0) (i 1) (i 2) _ _ (gather 13 (i 0) (i 1) (i 2) _ _ (gather 14 (i 0) (i 1) (i 2) _ _ (h i) ?_) ?_) ?_
  · by_cases c : (i 0).val < 15
    · rw [dif_pos c]
      by_cases c' : (i 0).val < 14
      · rw [dif_pos c']; exact drop (by omega)
      · rw [dif_neg c']
        exact keep (by omega) (congrArg (fun g => (X.dw g (i 1) (i 2) : EReal)) (Fin.ext (by simp <;> omega)))
    · rw [dif_neg c]; exact drop (by omega)
  · by_cases c : (i 0).val < 14
    · rw [dif_pos c]
      by_cases c' : (i 0).val < 13
      · rw [dif_pos c']; exact drop (by omega)
      · rw [dif_neg c']
        exact keep (by omega) (right_head 6 (i 0) (i 1) (i 2) (by simp <;> omega))
    · rw [dif_neg c]; exact drop (by omega)
  · by_cases c : (i 0).val < 13
    · rw [dif_pos c]
      by_cases c' : (i 0).val < 12
      · rw [dif_pos c']; exact drop (by omega)
      · rw [dif_neg c']
        exact keep (by omega) (left_head 6 (i 0) (i 1) (i 2) (by simp <;> omega))
    · rw [dif_neg c]; exact drop (by omega)

theorem v352 {v163 v166 : FVec Ideal S128x128 .bf16} {v244 v319 : FVec Ideal S128x128 .f32} {v313 : FVec Ideal S16x128x128 .f32}
    (h69 : ∀ i, v69 i = if i 1 ≤ i 0 then 1#1 else 0#1)
    (h72 : ∀ i, v72 i = if (i 1).val < 64 then 1#1 else 0#1)
    (hd : ∀ i, v244 i = (X.ds (i 0) (lane 5 (i 1)) : EReal))
    (hz : ∀ i, v319 i = 0)
    (ha : ∀ i, v163 i = (X.vl (i 0) (lane 5 (i 1)) : EReal))
    (hb : ∀ i, v166 i = (X.vl (i 0) (lane 5 (i 1)) : EReal))
    (h : ∀ i, v313 i = ((if 12 ≤ (i 0).val then X.dw (i 0) (i 1) (i 2) else 0 : ℝ) : EReal))
    (i : S16x128x128.Idx) :
    k0_pay113 (F := Ideal) v69 v72 v163 v166 v244 v313 v319 i = ((if 10 ≤ (i 0).val then X.dw (i 0) (i 1) (i 2) else 0 : ℝ) : EReal) := by
  have i0 : (i 0).val < 16 := (i 0).isLt
  unfold k0_pay113
  simp only [pointwise, right111 h72 hd hz, left112 h72 hd hz, ha, hb, h69, zero_add, ← EReal.coe_mul, ← EReal.coe_add, Reals.sum]
  try simp only [Matrix.cons_val, if_true, Fin.val_zero, Fin.val_one, zero_ne_one, one_ne_zero, if_false, Fin.val_two, Fin.reduceEq, OfNat.ofNat_ne_zero, OfNat.zero_ne_ofNat]
  refine gather 10 (i 0) (i 1) (i 2) _ _ (gather 11 (i 0) (i 1) (i 2) _ _ (h i) ?_) ?_
  · by_cases c : (i 0).val < 12
    · rw [dif_pos c]
      by_cases c' : (i 0).val < 11
      · rw [dif_pos c']; exact drop (by omega)
      · rw [dif_neg c']
        exact keep (by omega) (right_head 5 (i 0) (i 1) (i 2) (by simp <;> omega))
    · rw [dif_neg c]; exact drop (by omega)
  · by_cases c : (i 0).val < 11
    · rw [dif_pos c]
      by_cases c' : (i 0).val < 10
      · rw [dif_pos c']; exact drop (by omega)
      · rw [dif_neg c']
        exact keep (by omega) (left_head 5 (i 0) (i 1) (i 2) (by simp <;> omega))
    · rw [dif_neg c]; exact drop (by omega)

theorem v367 {v150 : FVec Ideal S128x128 .bf16} {v243 : FVec Ideal S128x128 .f32} (h72 : ∀ i, v72 i = if (i 1).val < 64 then 1#1 else 0#1)
    (hd : ∀ i, v243 i = (X.ds (i 0) (lane 4 (i 1)) : EReal)) (hv : ∀ i, v150 i = (X.vl (i 0) (lane 4 (i 1)) : EReal)) (i : S128x128.Idx) :
    k0_pay119 (F := Ideal) v72 v150 v243 i = ((∑ j : Fin 128, (X.rt 4 (i 0) j) * X.vl (i 1) (lane 4 j) : ℝ) : EReal) := by
  unfold k0_pay119
  simp only [pointwise, right116 h72 hd, hv, zero_add, ← EReal.coe_mul, ← EReal.coe_add, Reals.sum]

theorem v391 {v147 : FVec Ideal S128x128 .bf16} {v360 v367 : FVec Ideal S128x128 .f32} {v352 : FVec Ideal S16x128x128 .f32}
    (h69 : ∀ i, v69 i = if i 1 ≤ i 0 then 1#1 else 0#1)
    (hl : ∀ i, v360 i = ((X.lt 4 (i 0) (i 1) : ℝ) : EReal))
    (hr : ∀ i, v367 i = ((∑ j : Fin 128, (X.rt 4 (i 0) j) * X.vl (i 1) (lane 4 j) : ℝ) : EReal))
    (ha : ∀ i, v147 i = (X.vl (i 0) (lane 4 (i 1)) : EReal))
    (h : ∀ i, v352 i = ((if 10 ≤ (i 0).val then X.dw (i 0) (i 1) (i 2) else 0 : ℝ) : EReal))
    (i : S16x128x128.Idx) :
    k0_pay120 (F := Ideal) v69 v147 v352 v360 v367 i = ((if 8 ≤ (i 0).val then X.dw (i 0) (i 1) (i 2) else 0 : ℝ) : EReal) := by
  have i0 : (i 0).val < 16 := (i 0).isLt
  unfold k0_pay120
  simp only [pointwise, hl, hr, ha, h69, zero_add, ← EReal.coe_mul, ← EReal.coe_add, Reals.sum]
  try simp only [Matrix.cons_val, if_true, Fin.val_zero, Fin.val_one, zero_ne_one, one_ne_zero, if_false, Fin.val_two, Fin.reduceEq, OfNat.ofNat_ne_zero, OfNat.zero_ne_ofNat]
  refine gather 8 (i 0) (i 1) (i 2) _ _ (gather 9 (i 0) (i 1) (i 2) _ _ (h i) ?_) ?_
  · by_cases c : (i 0).val < 10
    · rw [dif_pos c]
      by_cases c' : (i 0).val < 9
      · rw [dif_pos c']; exact drop (by omega)
      · rw [dif_neg c']
        exact keep (by omega) (right_head 4 (i 0) (i 1) (i 2) (by simp <;> omega))
    · rw [dif_neg c]; exact drop (by omega)
  · by_cases c : (i 0).val < 9
    · rw [dif_pos c]
      by_cases c' : (i 0).val < 8
      · rw [dif_pos c']; exact drop (by omega)
      · rw [dif_neg c']
        exact keep (by omega) (left_head 4 (i 0) (i 1) (i 2) (by simp <;> omega))
    · rw [dif_neg c]; exact drop (by omega)

theorem v406 {v134 : FVec Ideal S128x128 .bf16} {v242 : FVec Ideal S128x128 .f32} (h72 : ∀ i, v72 i = if (i 1).val < 64 then 1#1 else 0#1)
    (hd : ∀ i, v242 i = (X.ds (i 0) (lane 3 (i 1)) : EReal)) (hv : ∀ i, v134 i = (X.vl (i 0) (lane 3 (i 1)) : EReal)) (i : S128x128.Idx) :
    k0_pay125 (F := Ideal) v72 v134 v242 i = ((∑ j : Fin 128, (X.rt 3 (i 0) j) * X.vl (i 1) (lane 3 j) : ℝ) : EReal) := by
  unfold k0_pay125
  simp only [pointwise, right123 h72 hd, hv, zero_add, ← EReal.coe_mul, ← EReal.coe_add, Reals.sum]

theorem v414 {v131 : FVec Ideal S128x128 .bf16} {v242 : FVec Ideal S128x128 .f32} (h72 : ∀ i, v72 i = if (i 1).val < 64 then 1#1 else 0#1)
    (hd : ∀ i, v242 i = (X.ds (i 0) (lane 3 (i 1)) : EReal)) (hv : ∀ i, v131 i = (X.vl (i 0) (lane 3 (i 1)) : EReal)) (i : S128x128.Idx) :
    k0_pay127 (F := Ideal) v72 v131 v242 i = ((∑ j : Fin 128, (X.lt 3 (i 0) j) * X.vl (i 1) (lane 3 j) : ℝ) : EReal) := by
  unfold k0_pay127
  simp only [pointwise, left124 h72 hd, hv, zero_add, ← EReal.coe_mul, ← EReal.coe_add, Reals.sum]

theorem v453 {v115 : FVec Ideal S128x128 .bf16} {v241 : FVec Ideal S128x128 .f32} (h72 : ∀ i, v72 i = if (i 1).val < 64 then 1#1 else 0#1)
    (hd : ∀ i, v241 i = (X.ds (i 0) (lane 2 (i 1)) : EReal)) (hv : ∀ i, v115 i = (X.vl (i 0) (lane 2 (i 1)) : EReal)) (i : S128x128.Idx) :
    k0_pay133 (F := Ideal) v72 v115 v241 i = ((∑ j : Fin 128, (X.lt 2 (i 0) j) * X.vl (i 1) (lane 2 j) : ℝ) : EReal) := by
  unfold k0_pay133
  simp only [pointwise, left131 h72 hd, hv, zero_add, ← EReal.coe_mul, ← EReal.coe_add, Reals.sum]

theorem v461 {v118 : FVec Ideal S128x128 .bf16} {v241 v406 v414 : FVec Ideal S128x128 .f32} {v391 : FVec Ideal S16x128x128 .f32}
    (h69 : ∀ i, v69 i = if i 1 ≤ i 0 then 1#1 else 0#1)
    (h72 : ∀ i, v72 i = if (i 1).val < 64 then 1#1 else 0#1)
    (hd : ∀ i, v241 i = (X.ds (i 0) (lane 2 (i 1)) : EReal))
    (h7 : ∀ i, v406 i = ((∑ j : Fin 128, (X.rt 3 (i 0) j) * X.vl (i 1) (lane 3 j) : ℝ) : EReal))
    (h6 : ∀ i, v414 i = ((∑ j : Fin 128, (X.lt 3 (i 0) j) * X.vl (i 1) (lane 3 j) : ℝ) : EReal))
    (hb : ∀ i, v118 i = (X.vl (i 0) (lane 2 (i 1)) : EReal))
    (h : ∀ i, v391 i = ((if 8 ≤ (i 0).val then X.dw (i 0) (i 1) (i 2) else 0 : ℝ) : EReal))
    (i : S16x128x128.Idx) :
    k0_pay134 (F := Ideal) v69 v72 v118 v241 v391 v406 v414 (Scalar.ofBits .f32 0x00000000#32) i = ((if 5 ≤ (i 0).val then X.dw (i 0) (i 1) (i 2) else 0 : ℝ) : EReal) := by
  have i0 : (i 0).val < 16 := (i 0).isLt
  unfold k0_pay134
  simp only [pointwise, right130 h72 hd, h7, h6, hb, h69, zero_add, ← EReal.coe_mul, ← EReal.coe_add, Reals.sum]
  try simp only [Matrix.cons_val, if_true, Fin.val_zero, Fin.val_one, zero_ne_one, one_ne_zero, if_false, Fin.val_two, Fin.reduceEq, OfNat.ofNat_ne_zero, OfNat.zero_ne_ofNat]
  refine gather 5 (i 0) (i 1) (i 2) _ _ (gather 6 (i 0) (i 1) (i 2) _ _ (gather 7 (i 0) (i 1) (i 2) _ _ (h i) ?_) ?_) ?_
  · by_cases c : (i 0).val < 8
    · rw [dif_pos c]
      by_cases c' : (i 0).val < 7
      · rw [dif_pos c']; exact drop (by omega)
      · rw [dif_neg c']
        exact keep (by omega) (right_head 3 (i 0) (i 1) (i 2) (by simp <;> omega))
    · rw [dif_neg c]; exact drop (by omega)
  · by_cases c : (i 0).val < 7
    · rw [dif_pos c]
      by_cases c' : (i 0).val < 6
      · rw [dif_pos c']; exact drop (by omega)
      · rw [dif_neg c']
        exact keep (by omega) (left_head 3 (i 0) (i 1) (i 2) (by simp <;> omega))
    · rw [dif_neg c]; exact drop (by omega)
  · by_cases c : (i 0).val < 6
    · rw [dif_pos c]
      by_cases c' : (i 0).val < 5
      · rw [dif_pos c']; exact drop (by omega)
      · rw [dif_neg c']
        exact keep (by omega) (right_head 2 (i 0) (i 1) (i 2) (by simp <;> omega))
    · rw [dif_neg c]; exact drop (by omega)

theorem v508 {v99 v102 : FVec Ideal S128x128 .bf16} {v240 v453 v462 : FVec Ideal S128x128 .f32} {v461 : FVec Ideal S16x128x128 .f32}
    (h69 : ∀ i, v69 i = if i 1 ≤ i 0 then 1#1 else 0#1)
    (h72 : ∀ i, v72 i = if (i 1).val < 64 then 1#1 else 0#1)
    (hd : ∀ i, v240 i = (X.ds (i 0) (lane 1 (i 1)) : EReal))
    (h4 : ∀ i, v453 i = ((∑ j : Fin 128, (X.lt 2 (i 0) j) * X.vl (i 1) (lane 2 j) : ℝ) : EReal))
    (hz : ∀ i, v462 i = 0)
    (ha : ∀ i, v99 i = (X.vl (i 0) (lane 1 (i 1)) : EReal))
    (hb : ∀ i, v102 i = (X.vl (i 0) (lane 1 (i 1)) : EReal))
    (h : ∀ i, v461 i = ((if 5 ≤ (i 0).val then X.dw (i 0) (i 1) (i 2) else 0 : ℝ) : EReal))
    (i : S16x128x128.Idx) :
    k0_pay140 (F := Ideal) v69 v72 v99 v102 v240 v453 v461 v462 i = ((if 2 ≤ (i 0).val then X.dw (i 0) (i 1) (i 2) else 0 : ℝ) : EReal) := by
  have i0 : (i 0).val < 16 := (i 0).isLt
  unfold k0_pay140
  simp only [pointwise, right138 h72 hd, left139 h72 hd, h4, hz, ha, hb, h69, zero_add, ← EReal.coe_mul, ← EReal.coe_add, Reals.sum]
  try simp only [Matrix.cons_val, if_true, Fin.val_zero, Fin.val_one, zero_ne_one, one_ne_zero, if_false, Fin.val_two, Fin.reduceEq, OfNat.ofNat_ne_zero, OfNat.zero_ne_ofNat]
  refine gather 2 (i 0) (i 1) (i 2) _ _ (gather 3 (i 0) (i 1) (i 2) _ _ (gather 4 (i 0) (i 1) (i 2) _ _ (h i) ?_) ?_) ?_
  · by_cases c : (i 0).val < 5
    · rw [dif_pos c]
      by_cases c' : (i 0).val < 4
      · rw [dif_pos c']; exact drop (by omega)
      · rw [dif_neg c']
        exact keep (by omega) (left_head 2 (i 0) (i 1) (i 2) (by simp <;> omega))
    · rw [dif_neg c]; exact drop (by omega)
  · by_cases c : (i 0).val < 4
    · rw [dif_pos c]
      by_cases c' : (i 0).val < 3
      · rw [dif_pos c']; exact drop (by omega)
      · rw [dif_neg c']
        exact keep (by omega) (right_head 1 (i 0) (i 1) (i 2) (by simp <;> omega))
    · rw [dif_neg c]; exact drop (by omega)
  · by_cases c : (i 0).val < 3
    · rw [dif_pos c]
      by_cases c' : (i 0).val < 2
      · rw [dif_pos c']; exact drop (by omega)
      · rw [dif_neg c']
        exact keep (by omega) (left_head 1 (i 0) (i 1) (i 2) (by simp <;> omega))
    · rw [dif_neg c]; exact drop (by omega)

/-- The gradient of the mixing weights. -/
theorem v545 {v83 v86 : FVec Ideal S128x128 .bf16} {v239 : FVec Ideal S128x128 .f32} {v508 : FVec Ideal S16x128x128 .f32}
    (h69 : ∀ i, v69 i = if i 1 ≤ i 0 then 1#1 else 0#1)
    (h72 : ∀ i, v72 i = if (i 1).val < 64 then 1#1 else 0#1)
    (hd : ∀ i, v239 i = (X.ds (i 0) (lane 0 (i 1)) : EReal))
    (ha : ∀ i, v83 i = (X.vl (i 0) (lane 0 (i 1)) : EReal))
    (hb : ∀ i, v86 i = (X.vl (i 0) (lane 0 (i 1)) : EReal))
    (h : ∀ i, v508 i = ((if 2 ≤ (i 0).val then X.dw (i 0) (i 1) (i 2) else 0 : ℝ) : EReal)) (i : S16x128x128.Idx) :
    k0_pay145 (F := Ideal) v69 v72 v83 v86 v239 v508 i = (X.dw (i 0) (i 1) (i 2) : EReal) := by
  have i0 : (i 0).val < 16 := (i 0).isLt
  unfold k0_pay145
  simp only [pointwise, right143 h72 hd, left144 h72 hd, ha, hb, h69, zero_add, ← EReal.coe_mul, ← EReal.coe_add, Reals.sum]
  try simp only [Matrix.cons_val, if_true, Fin.val_zero, Fin.val_one, zero_ne_one, one_ne_zero, if_false, Fin.val_two, Fin.reduceEq, OfNat.ofNat_ne_zero, OfNat.zero_ne_ofNat]
  refine (gather 0 (i 0) (i 1) (i 2) _ _ (gather 1 (i 0) (i 1) (i 2) _ _ (h i) ?_) ?_).trans
    (congrArg _ (if_pos (Nat.zero_le _)))
  · by_cases c : (i 0).val < 2
    · rw [dif_pos c]
      by_cases c' : (i 0).val < 1
      · rw [dif_pos c']; exact drop (by omega)
      · rw [dif_neg c']
        exact keep (by omega) (right_head 0 (i 0) (i 1) (i 2) (by simp <;> omega))
    · rw [dif_neg c]; exact drop (by omega)
  · by_cases c : (i 0).val < 1
    · rw [dif_pos c]
      exact keep (by omega) (left_head 0 (i 0) (i 1) (i 2) (by simp <;> omega))
    · rw [dif_neg c]; exact drop (by omega)

end Cert.KernelIdeal.Chunk

end
-- ==== Proof.NormBack.lean ====
/- The gradient of the layer norm and of the value's gelu, and the gradient of the biases, on a chunk of real numbers. -/
module

public import proofs.«01_k».proof.Proof.Entry
public import proofs.«01_k».proof.Proof.Heads

@[expose] public section

noncomputable section

open Idealize.ShloMosaic

namespace Cert.KernelIdeal.Chunk
open Cert.KernelIdeal Cert.KernelIdeal.Gen GateUnit

section Gain

variable {X : GateUnit.Chunk} {v2 : Vec Ideal S1x1024 .f32} {v49 v62 v474 : FVec Ideal S128x1024 .f32}
  {v72 : IVec S128x128 1} {v82 v85 : FVec Ideal S128x128 .bf16} {v239 : FVec Ideal S128x128 .f32} {z : Ideal .f32}
  {v510 : FVec Ideal S128x256 .f32}
  (h2 : ∀ i, v2 i = (X.lg (i 1) : EReal)) (h49 : ∀ i, v49 i = (X.vc (i 0) (i 1) : EReal))
  (h62 : ∀ i, v62 i = (X.vh (i 0) (i 1) : EReal))
  (h548 : ∀ i, k0_pay146 (F := Ideal) v72 v82 v85 v239 v474 z v510 i = (X.dvl (i 0) (i 1) : EReal))

include h548

/-- The gradient of the layer norm's bias. -/
theorem v550 (i : S1x1024.Idx) :
    k0_pay147 (F := Ideal) v72 v82 v85 v239 v474 z v510 i = (X.dlb (i 1) : EReal) := by
  unfold k0_pay147
  simp only [pointwise, h548, Reals.sum]
  rfl

include h62 in
/-- The gradient of the layer norm's gain. -/
theorem v553 (i : S1x1024.Idx) :
    k0_pay148 (F := Ideal) v62 v72 v82 v85 v239 v474 z v510 i = (X.dlg (i 1) : EReal) := by
  unfold k0_pay148
  simp only [pointwise, h548, h62, ← EReal.coe_mul, Reals.sum]
  rfl

include h2 in
theorem v555 (i : S128x1024.Idx) :
    k0_pay149 (F := Ideal) v2 v72 v82 v85 v239 v474 z v510 i = (X.dvh (i 0) (i 1) : EReal) := by
  unfold k0_pay149
  simp only [pointwise, h548, h2, ← EReal.coe_mul]
  rfl

include h2 h49 in
theorem v557 (i : S128.Idx) :
    k0_pay150 (F := Ideal) v2 v49 v72 v82 v85 v239 v474 z v510 i =
      ((∑ c, X.vc (i 0) c * X.dvh (i 0) c : ℝ) : EReal) := by
  unfold k0_pay150
  simp only [pointwise, h49, v555 h2 h548, ← EReal.coe_mul, Reals.sum]

end Gain

/-- The gradient of the value's input. -/
theorem v590 {X : GateUnit.Chunk} {v33 v40 v42 v49 v555 : FVec Ideal S128x1024 .f32} {v57 v60 : FVec Ideal S128x1 .f32}
    {v557 : FVec Ideal S128 .f32} (h33 : ∀ i, v33 i = ((1 / 2 * X.pv (i 0) (i 1) : ℝ) : EReal))
    (h40 : ∀ i, v40 i = (Real.exp (-(X.pv (i 0) (i 1) * kap * (X.pv (i 0) (i 1) * kap))) : EReal))
    (h42 : ∀ i, v42 i = (phi (X.pv (i 0) (i 1)) : EReal)) (h49 : ∀ i, v49 i = (X.vc (i 0) (i 1) : EReal))
    (h57 : ∀ i, v57 i = (X.ri (i 0) : EReal))
    (h60 : ∀ i, v60 i = ((-(1 / 2) * (X.ri (i 0) / X.va (i 0)) : ℝ) : EReal))
    (h555 : ∀ i, v555 i = (X.dvh (i 0) (i 1) : EReal))
    (h557 : ∀ i, v557 i = ((∑ c, X.vc (i 0) c * X.dvh (i 0) c : ℝ) : EReal)) (i : S128x1024.Idx) :
    k0_pay151 (F := Ideal) v33 v40 v42 v49 v57 v60 v555 v557 i = (X.dpv (i 0) (i 1) : EReal) := by
  unfold k0_pay151
  simp only [pointwise, h33, h40, h42, h49, h57, h60, h555, h557, Reals.tsp, Reals.kap, Reals.half, Reals.width,
    Reals.zero_sub, ← EReal.coe_mul, ← EReal.coe_add, Reals.sum, Reals.div_width, Fin.sum_univ_one]
  rfl

/-- The high and the low part of a real number: itself and nothing. -/
theorem v601 {v237 : FVec Ideal S128x1024 .f32} (i : S128x1024.Idx) : k0_pay153 (F := Ideal) v237 i = v237 i := by
  unfold k0_pay153
  simp only [pointwise]

theorem v604 {f : Fin 128 → Fin 1024 → ℝ} {v237 : FVec Ideal S128x1024 .f32}
    (h : ∀ i, v237 i = (f (i 0) (i 1) : EReal)) (i : S128x1024.Idx) : k0_pay154 (F := Ideal) v237 i = 0 := by
  unfold k0_pay154
  simp only [pointwise, v601, h, ← EReal.coe_sub, sub_self, EReal.coe_zero]

/-- The gradient of the biases: a head's columns summed. -/
theorem v607 {X : GateUnit.Chunk} {v11 : FVec Ideal S1024x128 .bf16} {v601 v604 : FVec Ideal S128x1024 .bf16}
    (h11 : ∀ i, v11 i = ((if (i 1).val = (head (i 0)).val then 1 else 0 : ℝ) : EReal))
    (h601 : ∀ i, v601 i = (X.ds (i 0) (i 1) : EReal)) (h604 : ∀ i, v604 i = 0) (i : S128x128.Idx) :
    k0_pay1 (F := Ideal) v11 v601 v604 (constant S128x128 .f32 0x00000000#32) i =
      ((∑ c, X.ds (i 0) c * (if (i 1).val = (head c).val then 1 else 0) : ℝ) : EReal) := by
  unfold k0_pay1
  simp only [pointwise, h11, h601, h604, zero_mul, zero_add, Finset.sum_const_zero, add_zero, ← EReal.coe_mul, Reals.sum]
  rfl

theorem pick (f : Fin 128 → ℝ) (h : Fin 16) :
    ∑ k, f k * (if k.val = h.val then 1 else 0) = f ⟨h.val, lt_trans h.isLt (by decide)⟩ := by
  rw [Finset.sum_eq_single ⟨h.val, lt_trans h.isLt (by decide)⟩]
  · rw [if_pos rfl, mul_one]
  · intro b _ hb
    rw [if_neg (fun e => hb (Fin.ext e)), mul_zero]
  · exact fun h => absurd (Finset.mem_univ _) h

/-- The biases, a head in a column, nothing after the heads. -/
def _root_.GateUnit.Chunk.bias (X : GateUnit.Chunk) (r k : Fin 128) : ℝ :=
  if h : k.val < 16 then X.b ⟨k.val, h⟩ r else 0

/-- The biases, a head's over its columns. -/
theorem v19 {X : GateUnit.Chunk} {x5 : Vec Ideal S128x128 .f32} {x7 : Vec Ideal S128x1024 .bf16}
    (h5 : ∀ i, x5 i = (X.bias (i 0) (i 1) : EReal))
    (h7 : ∀ i, x7 i = ((if (i 0).val = (head (i 1)).val then 1 else 0 : ℝ) : EReal)) (i : S128x1024.Idx) :
    k0_pay10 (F := Ideal) x5 x7 i = (X.b (head (i 1)) (i 0) : EReal) := by
  unfold k0_pay10
  simp only [pointwise, h5, h7, ← EReal.coe_sub, sub_self, EReal.coe_zero, zero_mul, zero_add, Finset.sum_const_zero,
    add_zero, ← EReal.coe_mul, Reals.sum]
  refine congrArg _ ((pick (X.bias (i 0)) (head (i 1))).trans ?_)
  exact dif_pos (head (i 1)).isLt

/-- The casts of the stored gradients change nothing. -/
theorem v608 (v : FVec Ideal S128x1024 .f32) (i : S128x1024.Idx) : k0_pay2 (F := Ideal) v i = v i := by
  unfold k0_pay2
  simp only [pointwise]

theorem v610 (v : FVec Ideal S128x1024 .f32) (i : S128x1024.Idx) : k0_pay3 (F := Ideal) v i = v i := by
  unfold k0_pay3
  simp only [pointwise]

theorem v11 (v : Vec Ideal S1024x128 .bf16) (i : S1024x128.Idx) : k0_pay9 (F := Ideal) v i = v i := by
  unfold k0_pay9
  simp only [pointwise]

/-- The sums over the chunks. -/
theorem v620 (v p : FVec Ideal S1x1024 .f32) (i : S1x1024.Idx) : k0_pay4 (F := Ideal) v p i = p i + v i := by
  unfold k0_pay4
  simp only [pointwise]

theorem v624 (v p : FVec Ideal S1x1024 .f32) (i : S1x1024.Idx) : k0_pay5 (F := Ideal) v p i = p i + v i := by
  unfold k0_pay5
  simp only [pointwise]

theorem v628 (v p : FVec Ideal S16x128x128 .f32) (i : S16x128x128.Idx) : k0_pay6 (F := Ideal) v p i = p i + v i := by
  unfold k0_pay6
  simp only [pointwise]

theorem v632 (v11 : FVec Ideal S1024x128 .bf16) (v601 v604 : FVec Ideal S128x1024 .bf16) (z p : FVec Ideal S128x128 .f32)
    (i : S128x128.Idx) : k0_pay7 (F := Ideal) v11 v601 v604 z p i = p i + k0_pay1 (F := Ideal) v11 v601 v604 z i := by
  unfold k0_pay7
  simp only [pointwise]

theorem v636 (v p : FVec Ideal S1x1024 .f32) (i : S1x1024.Idx) : k0_pay8 (F := Ideal) v p i = p i + v i := by
  unfold k0_pay8
  simp only [pointwise]

end Cert.KernelIdeal.Chunk

end
-- ==== Proof.Steps.lean ====
/- What a grid point leaves in the seven results: the gradients of its chunk, those of the weights added to what the point
   before left. -/
module

public import proofs.«01_k».proof.Proof.Gen.KernelIdeal.Value
public import proofs.«01_k».proof.Proof.Mixing
public import proofs.«01_k».proof.Proof.Norm
public import proofs.«01_k».proof.Proof.ValuesBack
public import proofs.«01_k».proof.Proof.WeightsBack
public import proofs.«01_k».proof.Proof.NormBack
public import Idealize.ShloMosaic.Lib.Pipeline.ValueKit
public import Idealize.ShloMosaic.Lib.Pipeline.ReadBack

@[expose] public section

noncomputable section

open Idealize.ShloMosaic Idealize.ShloMosaic.TcCoe Idealize.SL.Sem

namespace Cert.KernelIdeal.Chunk
open Cert.KernelIdeal Cert.KernelIdeal.Gen GateUnit

variable (m : (ℓ : Loc nD τ sig) → Buf (Elt Ideal) ℓ)

/-- The blocks a grid point reads are a chunk of real numbers. -/
structure Reads (c : Dev nD) (t : Fin cfg0.N) (X : GateUnit.Chunk) : Prop where
  pu : ∀ i, X0_0 m c t i = (X.pu (i 0) (i 1) : EReal)
  pv : ∀ i, X0_1 m c t i = (X.pv (i 0) (i 1) : EReal)
  lg : ∀ i, iblk m c 2 t i = (X.lg (i 1) : EReal)
  lb : ∀ i, iblk m c 3 t i = (X.lb (i 1) : EReal)
  w : ∀ i, iblk m c 4 t i = (X.w (i 0) (i 1) (i 2) : EReal)
  b : ∀ i, iblk m c 5 t i = (X.bias (i 0) (i 1) : EReal)
  og : ∀ i, iblk m c 6 t i = (X.og (i 1) : EReal)
  e : ∀ i, iblk m c 7 t i = ((if (i 0).val = (head (i 1)).val then 1 else 0 : ℝ) : EReal)
  et : ∀ i, iblk m c 8 t i = ((if (i 1).val = (head (i 0)).val then 1 else 0 : ℝ) : EReal)
  d : ∀ i, iblk m c 9 t i = (X.d (i 0) (i 1) : EReal)

/-- What the point before left in the five sums. -/
def before (c : Dev nD) (t : Fin cfg0.N) :=
  outsAt0 m c (t.val - 1) (lt_of_le_of_lt (Nat.sub_le _ _) t.isLt)

/-- The stages of a chunk, each from those before it: the stored gradients and the parts of the sums. -/
def values (c : Dev nD) (t : Fin cfg0.N) (X : GateUnit.Chunk) (H : Reads m c t X) :=
  have h69 := v69
  have h72 := v72
  have h21 := v21 X _ H.pu
  have h28 := v28 X _ H.pu
  have h30 := v30 X _ H.pu
  have h31 := v31 X _ H.pu
  have h33 := v33 X _ H.pv
  have h40 := v40 X _ H.pv
  have h42 := v42 X _ H.pv
  have h49 := v49 X _ H.pv
  have h57 := v57 X _ H.pv
  have h60 := v60 X _ H.pv
  have h62 := v62 X _ H.pv
  have h66 := v66 X _ _ _ H.pv H.lg H.lb
  have h19 := v19 H.b H.e
  have h73 := v73 h66
  have h77 := v77 H.w
  have h79 := v79 H.w
  have h88 := v88 h77 h73 h79 h69 h72
  have h104 := v104 H.w h66 h69 h72
  have h120 := v120 H.w h66 h69 h72
  have h121 := v121 h66
  have h125 := v125 H.w h69
  have h127 := v127 H.w
  have h136 := v136 h125 h121 h127 h69 h72
  have h152 := v152 H.w h66 h69 h72
  have h168 := v168 H.w h66 h69 h72
  have h169 := v169 h66
  have h173 := v173 H.w h69
  have h175 := v175 H.w
  have h202 := v202 H.w h19 h66 h69 h72 h88 h104 h120 h136 h152 h168 h169 h173 h175
  have h203 := v203 h31 h202
  have h211 := v211 h31 h202
  have h214 := v214 h31 h202
  have h219 := v219 H.d h31 h202
  have h221 := v221 H.d H.og
  have h222 := v222 H.d H.og h31 h202
  have h237 := v237 h31 h203 h211 h214 h221 h222
  have h238 := v238 h202 h203 h211 h214 h221 h222
  have h239 := v239 h31 h203 h211 h214 h221 h222
  have h240 := v240 h31 h203 h211 h214 h221 h222
  have h241 := v241 h31 h203 h211 h214 h221 h222
  have h242 := v242 h31 h203 h211 h214 h221 h222
  have h243 := v243 h31 h203 h211 h214 h221 h222
  have h244 := v244 h31 h203 h211 h214 h221 h222
  have h245 := v245 h31 h203 h211 h214 h221 h222
  have h246 := v246 h31 h203 h211 h214 h221 h222
  have h82 := fun i => (v82 _ i).trans (h77 i)
  have h83 := fun i => (v83 _ i).trans (h73 i)
  have h85 := v85 h79 h69
  have h86 := fun i => (v86 _ i).trans (h73 i)
  have h130 := fun i => (v130 _ i).trans (h125 i)
  have h131 := fun i => (v131 _ i).trans (h121 i)
  have h133 := v133 h127 h69
  have h134 := fun i => (v134 _ i).trans (h121 i)
  have h178 := fun i => (v178 _ i).trans (h173 i)
  have h179 := fun i => (v179 _ i).trans (h169 i)
  have h181 := v181 h175 h69
  have h182 := fun i => (v182 _ i).trans (h169 i)
  have h263 := v263 h72 h246 (v194 H.w h69) (v197 H.w h69)
  have h318 := v318 h72 h245 h263 h178 h181
  have h357 := v357 h72 h244 zero110 (v162 H.w h69) (v165 H.w h69) h318
  have h366 := v366 h72 h243 (v149 H.w h69)
  have h396 := v396 (left117 h72 h243) h366 (v146 H.w h69) h357
  have h413 := v413 h72 h242 h130 h133
  have h435 := v435 h396 h413
  have h452 := v452 h72 h241 (v114 H.w h69) (v117 H.w h69)
  have h474 := v474 h435 h452
  have h510 := v510 h72 h240 (v98 H.w h69) (v101 H.w h69)
  have h548 := v548 h72 h239 h82 h85 h474 h510
  have h313 := v313 h69 h72 h245 h179 h182 (v269 h69 h72 h246 (v198 h66)) (v272 h69 h72 h246 (v195 h66))
  have h352 := v352 h69 h72 h244 zero110 (v163 h66) (v166 h66) h313
  have h391 := v391 h69 (left117 h72 h243) (v367 h72 h243 (v150 h66)) (v147 h66) h352
  have h461 := v461 h69 h72 h241 (v406 h72 h242 h134) (v414 h72 h242 h131) (v118 h66) h391
  have h508 := v508 h69 h72 h240 (v453 h72 h241 (v115 h66)) zero135 (v99 h66) (v102 h66) h461
  have h545 := v545 h69 h72 h239 h83 h86 h508
  have h590 := v590 h33 h40 h42 h49 h57 h60 (v555 H.lg h548) (v557 H.lg h49 h548)
  have h600 := v600 h21 h28 h30 h238
  have h607 := v607 (fun i => (v11 _ i).trans (H.et i)) (fun i => (v601 i).trans (h237 i)) (v604 h237)
  have h550 := v550 h548
  have h553 := v553 h62 h548
  And.intro h600 (And.intro h590 (And.intro h553 (And.intro h550 (And.intro h545 (And.intro h607 h219)))))

theorem step (c : Dev nD) (t : Fin cfg0.N) (X : GateUnit.Chunk) (H : Reads m c t X) :
    (∀ i, (outsAt0 m c t.val t.isLt).1 i = (X.dpu (i 0) (i 1) : EReal))
    ∧ (∀ i, (outsAt0 m c t.val t.isLt).2.1 i = (X.dpv (i 0) (i 1) : EReal))
    ∧ (∀ i, (outsAt0 m c t.val t.isLt).2.2.1 i = (if t.val = 0 then 0 else (before m c t).2.2.1 i) + (X.dlg (i 1) : EReal))
    ∧ (∀ i, (outsAt0 m c t.val t.isLt).2.2.2.1 i = (if t.val = 0 then 0 else (before m c t).2.2.2.1 i) + (X.dlb (i 1) : EReal))
    ∧ (∀ i, (outsAt0 m c t.val t.isLt).2.2.2.2.1 i
        = (if t.val = 0 then 0 else (before m c t).2.2.2.2.1 i) + (X.dw (i 0) (i 1) (i 2) : EReal))
    ∧ (∀ i, (outsAt0 m c t.val t.isLt).2.2.2.2.2.1 i = (if t.val = 0 then 0 else (before m c t).2.2.2.2.2.1 i)
        + ((∑ k, X.ds (i 0) k * (if (i 1).val = (head k).val then 1 else 0) : ℝ) : EReal))
    ∧ (∀ i, (outsAt0 m c t.val t.isLt).2.2.2.2.2.2 i
        = (if t.val = 0 then 0 else (before m c t).2.2.2.2.2.2 i) + (X.dog (i 1) : EReal)) := by
  have ht : t.val < 16 := t.isLt
  refine ⟨fun i => ?_, fun i => ?_, fun i => ?_, fun i => ?_, fun i => ?_, fun i => ?_, fun i => ?_⟩
  all_goals by_cases h0 : t.val = 0
  · rw [outsAt0_A m c t (by omega) (by omega)]
    dsimp only
    frame_out
    exact (v608 _ i).trans ((values m c t X H).1 i)
  · rw [outsAt0_B m c t (by omega) (by omega)]
    dsimp only
    frame_out
    exact (v608 _ i).trans ((values m c t X H).1 i)
  · rw [outsAt0_A m c t (by omega) (by omega)]
    dsimp only
    frame_out
    exact (v610 _ i).trans ((values m c t X H).2.1 i)
  · rw [outsAt0_B m c t (by omega) (by omega)]
    dsimp only
    frame_out
    exact (v610 _ i).trans ((values m c t X H).2.1 i)
  · rw [outsAt0_A m c t (by omega) (by omega)]
    dsimp only
    frame_out
    rw [if_pos h0, zero_add]
    exact (values m c t X H).2.2.1 i
  · rw [outsAt0_B m c t (by omega) (by omega)]
    dsimp only
    frame_out
    rw [if_neg h0]
    exact (v620 _ _ i).trans (congrArg₂ _ rfl ((values m c t X H).2.2.1 i))
  · rw [outsAt0_A m c t (by omega) (by omega)]
    dsimp only
    frame_out
    rw [if_pos h0, zero_add]
    exact (values m c t X H).2.2.2.1 i
  · rw [outsAt0_B m c t (by omega) (by omega)]
    dsimp only
    frame_out
    rw [if_neg h0]
    exact (v624 _ _ i).trans (congrArg₂ _ rfl ((values m c t X H).2.2.2.1 i))
  · rw [outsAt0_A m c t (by omega) (by omega)]
    dsimp only
    frame_out
    rw [if_pos h0, zero_add]
    exact (values m c t X H).2.2.2.2.1 i
  · rw [outsAt0_B m c t (by omega) (by omega)]
    dsimp only
    frame_out
    rw [if_neg h0]
    exact (v628 _ _ i).trans (congrArg₂ _ rfl ((values m c t X H).2.2.2.2.1 i))
  · rw [outsAt0_A m c t (by omega) (by omega)]
    dsimp only
    frame_out
    rw [if_pos h0, zero_add]
    exact (values m c t X H).2.2.2.2.2.1 i
  · rw [outsAt0_B m c t (by omega) (by omega)]
    dsimp only
    frame_out
    rw [if_neg h0]
    exact (v632 _ _ _ _ _ i).trans (congrArg₂ _ rfl ((values m c t X H).2.2.2.2.2.1 i))
  · rw [outsAt0_A m c t (by omega) (by omega)]
    dsimp only
    frame_out
    rw [if_pos h0, zero_add]
    exact (values m c t X H).2.2.2.2.2.2 i
  · rw [outsAt0_B m c t (by omega) (by omega)]
    dsimp only
    frame_out
    rw [if_neg h0]
    exact (v636 _ _ i).trans (congrArg₂ _ rfl ((values m c t X H).2.2.2.2.2.2 i))

end Cert.KernelIdeal.Chunk

end
-- ==== Proof.Blocks.lean ====
/- What the gating unit's kernel reads at a grid point: the chunk of that number. -/
module

public import proofs.«01_k».proof.Proof.Inputs
public import proofs.«01_k».proof.Proof.Steps
public import Idealize.ShloMosaic.Lib.Pipeline.ValueKit
public import Idealize.ShloMosaic.Lib.Pipeline.ReadBack
public import Idealize.ShloMosaic.Lib.StableHlo.ReadAt
public import Idealize.ShloMosaic.Lib.Pointwise

@[expose] public section

noncomputable section

open Idealize.ShloMosaic Idealize.ShloMosaic.TcCoe Idealize.SL.Sem

namespace Cert.KernelIdeal.Chunk
open Cert.KernelIdeal Cert.KernelIdeal.Gen GateUnit

variable (m : (ℓ : Loc nD τ sig) → Buf (Elt Ideal) ℓ)

/-- The device's arguments. -/
def args (c : Dev nD) : Args where
  p := m ((c : Thread nD τ).loc main_arg0)
  lg := m ((c : Thread nD τ).loc main_arg1)
  lb := m ((c : Thread nD τ).loc main_arg2)
  w := m ((c : Thread nD τ).loc main_arg3)
  b := m ((c : Thread nD τ).loc main_arg4)
  og := m ((c : Thread nD τ).loc main_arg5)
  d := m ((c : Thread nD τ).loc main_arg6)

/-- The blocks of the kernel's inputs at a grid point. -/
theorem idx : ∀ t : Fin cfg0.N, win0_0.index t = ![t.val, 3] ∧ win0_1.index t = ![t.val, 4] ∧ win0_2.index t = ![0, 0]
    ∧ win0_3.index t = ![0, 0] ∧ win0_4.index t = ![0, 0, 0] ∧ win0_5.index t = ![0, 0] ∧ win0_6.index t = ![0, 0]
    ∧ win0_7.index t = ![0, 0] ∧ win0_8.index t = ![0, 0] ∧ win0_9.index t = ![t.val, 1] :=
  (by decide +kernel : ∀ t : Fin grid0.N, _)

/-- The rounding-down division of a column by sixty-four, as the program writes it, is the column's head. -/
theorem quotient : ∀ c : Fin 1024,
    Scalar.select
          (IntOp.andi
            (IntOp.cmpi CmpIPredicate.ne
              (if BitVec.ofNat 32 c.val = 0 then (0 : BitVec 32) else if (BitVec.ofNat 32 c.val).msb = true then -1 else 1)
              (if (64#32 : BitVec 32) = 0 then 0
              else if BitVec.msb (64#32 : BitVec 32) = true then -1 else 1))
            (IntOp.cmpi CmpIPredicate.ne
              (IntOp.remsi ArithUnit.host (BitVec.ofNat 32 c.val) 64#32) 0#32))
          (IntOp.subi (IntOp.divsi ArithUnit.host (BitVec.ofNat 32 c.val) 64#32) 1#32)
          (IntOp.divsi ArithUnit.host (BitVec.ofNat 32 c.val) 64#32) = BitVec.ofNat 32 (head c).val := by
  decide +kernel

/-- An equality's truth value as a number. -/
theorem indicator (a : Fin 128) (b : Fin 16) :
    FloatOps.uitofp (F := Ideal) FTy.f32 (IntOp.cmpi CmpIPredicate.eq (BitVec.ofNat 32 a.val) (BitVec.ofNat 32 b.val))
      = ((if a.val = b.val then 1 else 0 : ℝ) : EReal) := by
  have h : IntOp.cmpi CmpIPredicate.eq (BitVec.ofNat 32 a.val) (BitVec.ofNat 32 b.val) = if a.val = b.val then 1#1 else 0#1 := by
    revert a b
    decide +kernel
  rw [h]
  split
  · show (((1#1 : BitVec 1).toNat : ℝ) : EReal) = _
    simp
  · show (((0#1 : BitVec 1).toNat : ℝ) : EReal) = _
    simp

theorem pad_zero : FloatOps.sitofp (F := Ideal) FTy.f32 0#32 = ((0 : ℝ) : EReal) := by
  show (((0#32 : BitVec 32).toInt : ℝ) : EReal) = _
  simp

/-- The array of the heads' columns. -/
theorem e_apply (c : Dev nD) (j : S128x1024.Idx) :
    V m c main_v9 j = ((if (j 0).val = (head (j 1)).val then 1 else 0 : ℝ) : EReal) := by
  unfold V
  after_reads_at
  exact (congrArg (fun q => FloatOps.uitofp (F := Ideal) FTy.f32 (IntOp.cmpi CmpIPredicate.eq (BitVec.ofNat 32 (j 0).val) q))
    (quotient (j 1))).trans (indicator (j 0) (head (j 1)))

/-- Its transpose. -/
theorem et_apply (c : Dev nD) (j : S1024x128.Idx) :
    V m c main_v12 j = ((if (j 1).val = (head (j 0)).val then 1 else 0 : ℝ) : EReal) := by
  unfold V
  after_reads_at
  exact (congrArg (fun q => FloatOps.uitofp (F := Ideal) FTy.f32 (IntOp.cmpi CmpIPredicate.eq (BitVec.ofNat 32 (j 1).val) q))
    (quotient (j 0))).trans (indicator (j 1) (head (j 0)))

/-- The mixing biases, transposed and padded. -/
theorem b_apply (c : Dev nD) (j : S128x128.Idx) :
    V m c main_v14 j = if h : (j 1).val < 16 then (args m c).b (ix2 ⟨(j 1).val, h⟩ (j 0)) else ((0 : ℝ) : EReal) := by
  unfold V
  after_reads_at
  split
  · rfl
  · exact pad_zero

/-- The three arrays computed before the kernel are one block each. -/
theorem block5 (t : Fin cfg0.N) (A : FVec Ideal S128x128 .f32) (i : S128x128.Idx) :
    ((cfg0.win 5).blk t).view.read (Elt Ideal) A i = A i := by
  blk_ext! [idx t]

theorem block7 (t : Fin cfg0.N) (A : FVec Ideal S128x1024 .f32) (i : S128x1024.Idx) :
    ((cfg0.win 7).blk t).view.read (Elt Ideal) A i = A i := by
  blk_ext! [idx t]

theorem block8 (t : Fin cfg0.N) (A : FVec Ideal S1024x128 .f32) (i : S1024x128.Idx) :
    ((cfg0.win 8).blk t).view.read (Elt Ideal) A i = A i := by
  blk_ext! [idx t]

theorem iblk5 (c : Dev nD) (t : Fin cfg0.N) (i : S128x128.Idx) : iblk m c 5 t i = V m c main_v14 i :=
  (show iblk m c 5 t i = ((cfg0.win 5).blk t).view.read (Elt Ideal) (V m c main_v14) i from rfl).trans (block5 t (V m c main_v14) i)

theorem iblk7 (c : Dev nD) (t : Fin cfg0.N) (i : S128x1024.Idx) : iblk m c 7 t i = V m c main_v9 i :=
  (show iblk m c 7 t i = ((cfg0.win 7).blk t).view.read (Elt Ideal) (V m c main_v9) i from rfl).trans (block7 t (V m c main_v9) i)

theorem iblk8 (c : Dev nD) (t : Fin cfg0.N) (i : S1024x128.Idx) : iblk m c 8 t i = V m c main_v12 i :=
  (show iblk m c 8 t i = ((cfg0.win 8).blk t).view.read (Elt Ideal) (V m c main_v12) i from rfl).trans (block8 t (V m c main_v12) i)

set_option maxHeartbeats 4000000 in
/-- A grid point reads its chunk. -/
theorem reads (c : Dev nD) (t : Fin cfg0.N) (H : (args m c).Real) : Reads m c t ((args m c).chunk ⟨t.val, t.isLt⟩) := by
  have ht : t.val < 16 := t.isLt
  constructor <;> intro i
  · refine Eq.trans ?_ (H.p (ix2 (row ⟨t.val, ht⟩ (i 0)) ⟨3072 + (i 1).val, by have := (show (i 1).val < 1024 from (i 1).isLt); omega⟩))
    unfold X0_0 Pipeline.Window.fill
    rw [dif_pos (moved0_0 t i)]
    blk_ext! [iblk, V, idx t, args, row]
  · refine Eq.trans ?_ (H.p (ix2 (row ⟨t.val, ht⟩ (i 0)) ⟨4096 + (i 1).val, by have := (show (i 1).val < 1024 from (i 1).isLt); omega⟩))
    unfold X0_1 Pipeline.Window.fill
    rw [dif_pos (moved0_1 t i)]
    blk_ext! [iblk, V, idx t, args, row]
  · refine Eq.trans ?_ (H.lg (ix2 0 (i 1)))
    blk_ext! [iblk, V, idx t, args]
  · refine Eq.trans ?_ (H.lb (ix2 0 (i 1)))
    blk_ext! [iblk, V, idx t, args]
  · refine Eq.trans ?_ (H.w (ix3 (i 0) (i 1) (i 2)))
    blk_ext! [iblk, V, idx t, args]
  · refine (iblk5 m c t i).trans ((b_apply m c i).trans ?_)
    unfold Chunk.bias
    split
    · exact H.b _
    · rfl
  · refine Eq.trans ?_ (H.og (ix2 0 (i 1)))
    blk_ext! [iblk, V, idx t, args]
  · exact (iblk7 m c t i).trans (e_apply m c i)
  · exact (iblk8 m c t i).trans (et_apply m c i)
  · refine Eq.trans ?_ (H.d (ix2 (row ⟨t.val, ht⟩ (i 0)) ⟨1024 + (i 1).val, by have := (show (i 1).val < 1024 from (i 1).isLt); omega⟩))
    blk_ext! [iblk, V, idx t, args, row]

end Cert.KernelIdeal.Chunk

end
-- ==== Proof.ManySums.lean ====
/- The reference's sums over several axes, at an index: over the axes longer than one. -/
module

public import proofs.«01_k».proof.Proof.Gen.ReferenceIdeal.Read
public import Idealize.ShloMosaic.Lib.Pipeline.ValueKit
public import Idealize.ShloMosaic.Lib.Pointwise

@[expose] public section

noncomputable section

open Idealize.ShloMosaic Idealize.ShloMosaic.TcCoe Idealize.SL.Sem

namespace Cert.ReferenceIdeal.ManySums
open Cert.ReferenceIdeal Cert.ReferenceIdeal.Gen

/-- A sum over several axes is the sum over any list of the operand's indices above the result's index. -/
theorem over {s t : Shape} {axes : List (Fin s.rank)} (h : s.ReducesTo axes t) (x : s.Idx → EReal) (z : EReal) (j : t.Idx)
    {K : Type} [Fintype K] (e : K → s.Idx) (inj : Function.Injective e) (above : ∀ k, h.drop (e k) = j)
    (all : ∀ i, h.drop i = j → ∃ k, e k = i) : Ideal.hostReduceAdd h x z j = z + ∑ k, x (e k) := by
  classical
  unfold Ideal.hostReduceAdd
  rw [← Finset.sum_image (f := x) (g := e) (s := Finset.univ) fun a _ b _ hab => inj hab]
  refine congrArg (z + ·) (Finset.sum_congr (Finset.ext fun i => ?_) fun _ _ => rfl)
  simp only [Finset.mem_filter, Finset.mem_univ, true_and, Finset.mem_image]
  exact ⟨all i, fun ⟨k, hk⟩ => hk ▸ above k⟩

theorem rows (y : S1x1x1024.Idx → EReal) (z : EReal) (j : S1024.Idx) :
    Ideal.hostReduceAdd reducesTo_S1x1x1024_S1024_d0_1 y z j = z + y (ix3 0 0 (j 0)) := by
  rw [over reducesTo_S1x1x1024_S1024_d0_1 y z j (K := Fin 1) (fun _ => ix3 0 0 (j 0)) (fun a b _ => Subsingleton.elim a b)
    (fun _ => by funext b; fin_cases b; rfl) (fun i hi => ⟨0, by
      have h2 : (i 2).val = (j 0).val := congrArg Fin.val (congrFun hi 0)
      funext a
      fin_cases a
      · exact Subsingleton.elim (α := Fin 1) _ _
      · exact Subsingleton.elim (α := Fin 1) _ _
      · exact Fin.ext h2.symm⟩), Fin.sum_univ_one]

theorem column (y : S1x2048x1.Idx → EReal) (z : EReal) (j : S2048.Idx) :
    Ideal.hostReduceAdd reducesTo_S1x2048x1_S2048_d0_2 y z j = z + y (ix3 0 (j 0) 0) := by
  rw [over reducesTo_S1x2048x1_S2048_d0_2 y z j (K := Fin 1) (fun _ => ix3 0 (j 0) 0) (fun a b _ => Subsingleton.elim a b)
    (fun _ => by funext b; fin_cases b; rfl) (fun i hi => ⟨0, by
      have h2 : (i 1).val = (j 0).val := congrArg Fin.val (congrFun hi 0)
      funext a
      fin_cases a
      · exact Subsingleton.elim (α := Fin 1) _ _
      · exact Fin.ext h2.symm
      · exact Subsingleton.elim (α := Fin 1) _ _⟩), Fin.sum_univ_one]

theorem table (y : S1x1x128x16x1.Idx → EReal) (z : EReal) (j : S128x16.Idx) :
    Ideal.hostReduceAdd reducesTo_S1x1x128x16x1_S128x16_d0_1_4 y z j = z + y (ix5 0 0 (j 0) (j 1) 0) := by
  rw [over reducesTo_S1x1x128x16x1_S128x16_d0_1_4 y z j (K := Fin 1) (fun _ => ix5 0 0 (j 0) (j 1) 0)
    (fun a b _ => Subsingleton.elim a b)
    (fun _ => by funext b; fin_cases b <;> rfl) (fun i hi => ⟨0, by
      have h2 : (i 2).val = (j 0).val := congrArg Fin.val (congrFun hi 0)
      have h3 : (i 3).val = (j 1).val := congrArg Fin.val (congrFun hi 1)
      funext a
      fin_cases a
      · exact Subsingleton.elim (α := Fin 1) _ _
      · exact Subsingleton.elim (α := Fin 1) _ _
      · exact Fin.ext h2.symm
      · exact Fin.ext h3.symm
      · exact Subsingleton.elim (α := Fin 1) _ _⟩), Fin.sum_univ_one]

theorem chunks (y : S1x16x128x16x64.Idx → EReal) (z : EReal) (j : S1x128x16.Idx) :
    Ideal.hostReduceAdd reducesTo_S1x16x128x16x64_S1x128x16_d1_4 y z j
      = z + ∑ p : Fin 16 × Fin 64, y (ix5 (j 0) p.1 (j 1) (j 2) p.2) := by
  refine over reducesTo_S1x16x128x16x64_S1x128x16_d1_4 y z j (K := Fin 16 × Fin 64) (fun p => ix5 (j 0) p.1 (j 1) (j 2) p.2)
    (fun a b h => Prod.ext (congrFun h 1) (congrFun h 4))
    (fun _ => by funext b; fin_cases b <;> rfl) (fun i hi => ⟨(i 1, i 4), ?_⟩)
  have h0 : (i 0).val = (j 0).val := congrArg Fin.val (congrFun hi 0)
  have h2 : (i 2).val = (j 1).val := congrArg Fin.val (congrFun hi 1)
  have h3 : (i 3).val = (j 2).val := congrArg Fin.val (congrFun hi 2)
  funext a
  fin_cases a
  · exact Fin.ext h0.symm
  · rfl
  · exact Fin.ext h2.symm
  · exact Fin.ext h3.symm
  · rfl

/-- The contraction over the chunks and a head's columns. -/
theorem weights (y : FVec Ideal S16x1x16x64x128 .f32) (w : FVec Ideal S1x16x128x16x64 .f32) (j : S16x128x128.Idx) :
    Ideal.matmul dot_S16x1x16x64x128_S1x16x128x16x64_S16x128x128_123_014_4_2_0_3 y w (fun _ => 0) j
      = ∑ p : Fin 16 × Fin 64, y (ix5 (j 0) 0 p.1 p.2 (j 1)) * w (ix5 0 p.1 (j 2) (j 0) p.2) := by
  unfold Ideal.matmul
  rw [zero_add]
  let D := dot_S16x1x16x64x128_S1x16x128x16x64_S16x128x128_123_014_4_2_0_3
  let g : D.contr.Idx → Fin 16 × Fin 64 := fun q => (⟨(q ⟨1, by decide⟩).val, (q ⟨1, by decide⟩).isLt⟩, ⟨(q ⟨2, by decide⟩).val, (q ⟨2, by decide⟩).isLt⟩)
  have first : ∀ q : D.contr.Idx, (q ⟨0, by decide⟩).val = 0 := fun q => Nat.lt_one_iff.mp (q ⟨0, by decide⟩).isLt
  have inj : Function.Injective g := by
    intro p q h
    have h1 := congrArg (fun x => x.1.val) h
    have h2 := congrArg (fun x => x.2.val) h
    funext a
    refine Fin.ext ?_
    obtain ⟨a, hl⟩ := a
    have ha : a < 3 := hl
    have h3 : a = 0 ∨ a = 1 ∨ a = 2 := by omega
    rcases h3 with rfl | rfl | rfl
    · exact (first p).trans (first q).symm
    · exact h1
    · exact h2
  have sur : Function.Surjective g := fun p =>
    ⟨fun a => ⟨![0, p.1.val, p.2.val] ⟨a.val, a.isLt⟩, by
      obtain ⟨a, hl⟩ := a
      have ha : a < 3 := hl
      match a, ha with
      | 0, _ => exact Nat.one_pos
      | 1, _ => exact p.1.isLt
      | 2, _ => exact p.2.isLt⟩, rfl⟩
  refine Fintype.sum_bijective g ⟨inj, sur⟩ _ _ fun q => ?_
  refine congrArg₂ (· * ·) (congrArg y (funext fun a => Fin.ext ?_)) (congrArg w (funext fun a => Fin.ext ?_))
  · fin_cases a
    · simp only [pointwise]
    · exact Nat.lt_one_iff.mp (Fin.isLt _)
    · simp only [pointwise]; rfl
    · simp only [pointwise]; rfl
    · simp only [pointwise]
  · fin_cases a
    · exact Nat.lt_one_iff.mp (Fin.isLt _)
    · simp only [pointwise]; rfl
    · simp only [pointwise]
    · simp only [pointwise]
    · simp only [pointwise]; rfl

end Cert.ReferenceIdeal.ManySums

end
-- ==== Proof.RefNorm.lean ====
/- The reference of the gating unit, stage by stage on real numbers: the gelu and the layer norm. -/
module

public import proofs.«01_k».proof.Proof.Gen.ReferenceIdeal.Read
public import proofs.«01_k».proof.Proof.Inputs
public import proofs.«01_k».proof.Proof.Reals
public import proofs.«01_k».proof.Proof.ManySums
public import Idealize.ShloMosaic.Lib.Pipeline.ValueKit
public import Idealize.ShloMosaic.Lib.Pointwise

@[expose] public section

noncomputable section

open Idealize.ShloMosaic Idealize.ShloMosaic.TcCoe Idealize.SL.Sem

namespace Cert.ReferenceIdeal.Chunk
open Cert.ReferenceIdeal Cert.ReferenceIdeal.Gen Cert.ReferenceIdeal.Read GateUnit

variable {A : Args}

theorem r1 (H : IsReal A.p) (i : S1x2048x2048.Idx) : val_main_v1 (F := Ideal) A.p i = ((A.pp (i 1) (i 2) : ℝ) : EReal) := by
  rw [val_main_v1_apply, val_main_v0_apply]
  refine Eq.trans ?_ (H (ix2 (i 1) ⟨3072 + (i 2).val, by have := (show (i 2).val < 2048 from (i 2).isLt); omega⟩))
  refine congrArg A.p (funext fun a => ?_)
  fin_cases a <;> rfl

theorem r6 (H : IsReal A.p) (i : S1x2048x2048.Idx) : val_main_v6 (F := Ideal) A.p i = ((1 / 2 * A.pp (i 1) (i 2) : ℝ) : EReal) := by
  rw [val_main_v6_apply, val_main_v5_apply, val_main_cst_apply, r1 H]
  simp only [pointwise, Reals.half, ← EReal.coe_mul]

theorem r9 (H : IsReal A.p) (i : S1x2048x2048.Idx) : val_main_v9 (F := Ideal) A.p i = ((-(A.pp (i 1) (i 2) * kap) : ℝ) : EReal) := by
  rw [val_main_v9_apply, val_main_v7_apply, val_main_v8_apply, val_main_cst_0_apply, r1 H]
  simp only [pointwise, Reals.kap, ← EReal.coe_neg, ← EReal.coe_mul, neg_mul]

theorem r10 (H : IsReal A.p) (i : S1x2048x2048.Idx) : val_main_v10 (F := Ideal) A.p i = ((phi (A.pp (i 1) (i 2)) : ℝ) : EReal) := by
  rw [val_main_v10_apply, r9 H]
  exact Reals.erfc_neg _

theorem r13 (H : IsReal A.p) (i : S1x2048x2048.Idx) : val_main_v13 (F := Ideal) A.p i = ((Real.exp (-(A.pp (i 1) (i 2) * kap * (A.pp (i 1) (i 2) * kap))) : ℝ) : EReal) := by
  rw [val_main_v13_apply, val_main_v12_apply, val_main_v11_apply, r9 H]
  simp only [pointwise, ← EReal.coe_neg, ← EReal.coe_mul, neg_mul_neg, Reals.exp]

theorem r14 (H : IsReal A.p) (i : S1x2048x2048.Idx) : val_main_v14 (F := Ideal) A.p i = ((gelu (A.pp (i 1) (i 2)) : ℝ) : EReal) := by
  rw [val_main_v14_apply, r6 H, r10 H]
  simp only [pointwise, ← EReal.coe_mul]
  rfl

theorem r15 (H : IsReal A.p) (i : S1x2048x1024.Idx) : val_main_v15 (F := Ideal) A.p i = (((A.chunk (blk (i 1))).u (pos (i 1)) (i 2) : ℝ) : EReal) := by
  rw [val_main_v15_apply, r14 H]
  unfold Chunk.u
  exact congrArg (fun x => (gelu x : EReal)) (pu_eq A (i 1) (i 2)).symm

theorem r16 (H : IsReal A.p) (i : S1x2048x1024.Idx) : val_main_v16 (F := Ideal) A.p i = (((A.chunk (blk (i 1))).v (pos (i 1)) (i 2) : ℝ) : EReal) := by
  rw [val_main_v16_apply, r14 H]
  unfold Chunk.v
  exact congrArg (fun x => (gelu x : EReal)) (pv_eq A (i 1) (i 2)).symm

theorem r20 (H : IsReal A.p) (i : S1x2048x1.Idx) : val_main_v20 (F := Ideal) A.p i = (((A.chunk (blk (i 1))).mu (pos (i 1)) : ℝ) : EReal) := by
  rw [val_main_v20_apply, val_main_v18_apply, val_main_v17_apply, val_main_v19_apply, val_main_cst_1_apply, val_main_cst_2_apply]
  simp only [r16 H, pointwise, Reals.sum, Reals.width, Reals.div_width, zero_add]
  rfl

theorem r22 (H : IsReal A.p) (i : S1x2048x1024.Idx) : val_main_v22 (F := Ideal) A.p i = (((A.chunk (blk (i 1))).vc (pos (i 1)) (i 2) : ℝ) : EReal) := by
  rw [val_main_v22_apply, val_main_v21_apply, r16 H, r20 H]
  simp only [pointwise, ← EReal.coe_sub]
  rfl

theorem r31 (H : IsReal A.p) (i : S1x2048x1024.Idx) : val_main_v31 (F := Ideal) A.p i = (((A.chunk (blk (i 1))).vc (pos (i 1)) (i 2) : ℝ) : EReal) := by
  rw [val_main_v31_apply, val_main_v30_apply, r16 H, r20 H]
  simp only [pointwise, ← EReal.coe_sub]
  rfl

theorem r25 (H : IsReal A.p) (i : S1x2048x1024.Idx) : val_main_v25 (F := Ideal) A.p i = ((2 * (A.chunk (blk (i 1))).vc (pos (i 1)) (i 2) : ℝ) : EReal) := by
  rw [val_main_v25_apply, val_main_v24_apply, val_main_cst_3_apply, r22 H]
  simp only [pointwise, Reals.two, ← EReal.coe_mul]

theorem r33 (H : IsReal A.p) (i : S1x2048x1.Idx) : val_main_v33 (F := Ideal) A.p i = (((A.chunk (blk (i 1))).va (pos (i 1)) : ℝ) : EReal) := by
  rw [val_main_v33_apply, val_main_v29_apply, val_main_v27_apply, val_main_v26_apply, val_main_v28_apply, val_main_v32_apply,
    val_main_cst_4_apply, val_main_cst_5_apply, val_main_cst_6_apply]
  simp only [val_main_v23_apply, r22 H, pointwise, ← EReal.coe_mul, Reals.sum, Reals.width, Reals.div_width, Reals.lnEps, zero_add, ← EReal.coe_add]
  rfl

theorem r34 (H : IsReal A.p) (i : S1x2048x1.Idx) : val_main_v34 (F := Ideal) A.p i = (((A.chunk (blk (i 1))).ri (pos (i 1)) : ℝ) : EReal) := by
  rw [val_main_v34_apply, r33 H]
  exact Reals.rsqrt (Chunk.va_pos _ _)

theorem r37 (H : IsReal A.p) (i : S1x2048x1.Idx) : val_main_v37 (F := Ideal) A.p i = ((-(1 / 2) * ((A.chunk (blk (i 1))).ri (pos (i 1)) / (A.chunk (blk (i 1))).va (pos (i 1))) : ℝ) : EReal) := by
  rw [val_main_v37_apply, val_main_v36_apply, val_main_v35_apply, val_main_cst_7_apply, r34 H, r33 H]
  simp only [pointwise, Reals.neg_half, Reals.div _ (Chunk.va_pos _ _).ne', ← EReal.coe_mul]

theorem r39 (H : IsReal A.p) (i : S1x2048x1024.Idx) : val_main_v39 (F := Ideal) A.p i = (((A.chunk (blk (i 1))).vh (pos (i 1)) (i 2) : ℝ) : EReal) := by
  rw [val_main_v39_apply, val_main_v38_apply, r31 H, r34 H]
  simp only [pointwise, ← EReal.coe_mul]
  rfl

theorem r41 (Hg : IsReal A.lg) (i : S1x2048x1024.Idx) : val_main_v41 (F := Ideal) A.lg i = (((A.chunk (blk (i 1))).lg (i 2) : ℝ) : EReal) := by
  rw [val_main_v41_apply, val_main_v40_apply, val_main_v2_apply]
  refine Eq.trans (congrArg A.lg (funext fun a => ?_)) (Hg (ix2 0 (i 2)))
  fin_cases a
  · rfl
  · exact Fin.ext (Nat.mod_eq_of_lt (i 2).isLt)

theorem r44 (Hb : IsReal A.lb) (i : S1x2048x1024.Idx) : val_main_v44 (F := Ideal) A.lb i = (((A.chunk (blk (i 1))).lb (i 2) : ℝ) : EReal) := by
  rw [val_main_v44_apply, val_main_v43_apply, val_main_v3_apply]
  refine Eq.trans (congrArg A.lb (funext fun a => ?_)) (Hb (ix2 0 (i 2)))
  fin_cases a
  · rfl
  · exact Fin.ext (Nat.mod_eq_of_lt (i 2).isLt)

theorem r45 (H : A.Real) (i : S1x2048x1024.Idx) : val_main_v45 (F := Ideal) A.p A.lg A.lb i = (((A.chunk (blk (i 1))).vl (pos (i 1)) (i 2) : ℝ) : EReal) := by
  rw [val_main_v45_apply, val_main_v42_apply, r39 H.p, r41 H.lg, r44 H.lb]
  simp only [pointwise, ← EReal.coe_mul, ← EReal.coe_add]
  rfl

end Cert.ReferenceIdeal.Chunk

end
-- ==== Proof.RefMixing.lean ====
/- The reference of the gating unit, stage by stage on real numbers: the mixing, the root mean square norm and the gradient
   through them. -/
module

public import proofs.«01_k».proof.Proof.RefNorm

@[expose] public section

noncomputable section

open Idealize.ShloMosaic Idealize.ShloMosaic.TcCoe Idealize.SL.Sem

namespace Cert.ReferenceIdeal.Chunk
open Cert.ReferenceIdeal Cert.ReferenceIdeal.Gen Cert.ReferenceIdeal.Read GateUnit

variable {A : Args}

/-- Equal places hold equal numbers. -/
theorem at_congr (f : Chunk → Fin 128 → Fin 1024 → ℝ) {t t' : Fin 16} {r r' : Fin 128} {c c' : Fin 1024} (ht : t = t') (hr : r = r')
    (hc : c = c') : (f (A.chunk t) r c : EReal) = (f (A.chunk t') r' c' : EReal) := by
  rw [ht, hr, hc]

theorem head_col (g : Fin 16) (k : Fin 64) : head (col g k) = g := Fin.ext (by show (64 * g.val + k.val) / 64 = g.val; omega)

/-- A reshape of the rows into chunks and the columns into heads keeps the places. -/
theorem split (f : Chunk → Fin 128 → Fin 1024 → ℝ) {y : FVec Ideal S1x2048x1024 .f32}
    (h : ∀ i, y i = (f (A.chunk (blk (i 1))) (pos (i 1)) (i 2) : EReal)) (j : S1x16x128x16x64.Idx) :
    y (idx_main_v46 j) = (f (A.chunk (j 1)) (j 2) (col (j 3) (j 4)) : EReal) := by
  have h0 : (j 0).val < 1 := (j 0).isLt
  have h1 : (j 1).val < 16 := (j 1).isLt
  have h2 : (j 2).val < 128 := (j 2).isLt
  have h3 : (j 3).val < 16 := (j 3).isLt
  have h4 : (j 4).val < 64 := (j 4).isLt
  refine (h _).trans (at_congr f (Fin.ext ?_) (Fin.ext ?_) (Fin.ext ?_))
  · show (((((j 0).val * 16 + (j 1).val) * 128 + (j 2).val) * 16 + (j 3).val) * 64 + (j 4).val) / 1024 % 2048 / 128 = (j 1).val
    omega
  · show (((((j 0).val * 16 + (j 1).val) * 128 + (j 2).val) * 16 + (j 3).val) * 64 + (j 4).val) / 1024 % 2048 % 128 = (j 2).val
    omega
  · show (((((j 0).val * 16 + (j 1).val) * 128 + (j 2).val) * 16 + (j 3).val) * 64 + (j 4).val) % 1024 = 64 * (j 3).val + (j 4).val
    omega

/-- And the reshape back. -/
theorem join (f : Chunk → Fin 128 → Fin 1024 → ℝ) {y : FVec Ideal S1x16x128x16x64 .f32}
    (h : ∀ j, y j = (f (A.chunk (j 1)) (j 2) (col (j 3) (j 4)) : EReal)) (i : S1x2048x1024.Idx) :
    y (idx_main_v58 i) = (f (A.chunk (blk (i 1))) (pos (i 1)) (i 2) : EReal) := by
  have h0 : (i 0).val < 1 := (i 0).isLt
  have h1 : (i 1).val < 2048 := (i 1).isLt
  have h2 : (i 2).val < 1024 := (i 2).isLt
  refine (h _).trans (at_congr f (Fin.ext ?_) (Fin.ext ?_) (Fin.ext ?_))
  · show (((i 0).val * 2048 + (i 1).val) * 1024 + (i 2).val) / 131072 % 16 = (i 1).val / 128
    omega
  · show (((i 0).val * 2048 + (i 1).val) * 1024 + (i 2).val) / 1024 % 128 = (i 1).val % 128
    omega
  · show 64 * ((((i 0).val * 2048 + (i 1).val) * 1024 + (i 2).val) / 64 % 16) + (((i 0).val * 2048 + (i 1).val) * 1024 + (i 2).val) % 64 = (i 2).val
    omega

theorem r46 (H : A.Real) (i : S1x16x128x16x64.Idx) : val_main_v46 (F := Ideal) A.p A.lg A.lb i = (((A.chunk (i 1)).vl (i 2) (col (i 3) (i 4)) : ℝ) : EReal) := by
  rw [val_main_v46_apply]
  exact split Chunk.vl (r45 H) i

/-- The comparison of the rows' and the columns' numbers. -/
theorem below : ∀ a b : Fin 128, IntOp.cmpi .sge (IntOp.addi (BitVec.ofNat 32 a.val) 0#32) (BitVec.ofNat 32 b.val) = if b ≤ a then 1#1 else 0#1 := by
  decide +kernel

/-- The lower triangle of ones. -/
theorem r48 (i : S128x128.Idx) : val_main_v48 (F := Ideal) i = ((if i 1 ≤ i 0 then 1 else 0 : ℝ) : EReal) := by
  rw [val_main_v48_apply, val_main_call0_v4_apply, val_main_call0_v2_apply, val_main_call0_v0_apply, val_main_call0_v1_apply,
    val_main_call0_v3_apply, val_main_call0_c_apply, val_main_v47_apply, val_main_cst_8_apply, val_main_call0_v5_apply, val_main_call0_cst_apply]
  refine (congrArg (fun b => Scalar.select b _ _) (below (i 0) (i 1))).trans ?_
  rw [Reals.select]
  split
  · next h => exact Reals.one.trans (congrArg _ (if_pos h).symm)
  · next h => exact Reals.zero.trans (congrArg _ (if_neg h).symm)

theorem r50 (i : S16x128x128.Idx) : val_main_v50 (F := Ideal) i = ((if i 2 ≤ i 1 then 1 else 0 : ℝ) : EReal) := by
  rw [val_main_v50_apply, val_main_v49_apply, r48]
  rfl

theorem r111 (i : S16x128x128.Idx) : val_main_v111 (F := Ideal) i = ((if i 2 ≤ i 1 then 1 else 0 : ℝ) : EReal) := by
  rw [val_main_v111_apply, val_main_v49_apply, r48]
  rfl

theorem r51 (H : IsReal A.w) (t : Fin 16) (i : S16x128x128.Idx) : val_main_v51 (F := Ideal) A.w i = (((A.chunk t).wt (i 0) (i 1) (i 2) : ℝ) : EReal) := by
  rw [val_main_v51_apply, r50, show A.w i = ((A.chunk t).w (i 0) (i 1) (i 2) : EReal) from
    (congrArg A.w (by funext a; fin_cases a <;> rfl)).trans (H (ix3 (i 0) (i 1) (i 2)))]
  simp only [pointwise, ← EReal.coe_mul]
  unfold Chunk.wt
  by_cases h : i 2 ≤ i 1
  · exact congrArg _ ((congrArg _ (if_pos h)).trans ((mul_one _).trans (if_pos h).symm))
  · exact congrArg _ ((congrArg _ (if_neg h)).trans ((mul_zero _).trans (if_neg h).symm))

theorem r56 (H : IsReal A.b) (t : Fin 16) (i : S1x16x128x16x64.Idx) : val_main_v56 (F := Ideal) A.b i = (((A.chunk t).b (i 3) (i 2) : ℝ) : EReal) := by
  rw [val_main_v56_apply, val_main_v55_apply, val_main_v54_apply]
  refine Eq.trans (congrArg A.b (funext fun a => ?_)) (H (ix2 (i 3) (i 2)))
  fin_cases a <;> rfl

theorem r57 (H : A.Real) (i : S1x16x128x16x64.Idx) : val_main_v57 (F := Ideal) A.p A.lg A.lb A.w A.b i = (((A.chunk (i 1)).s (i 2) (col (i 3) (i 4)) : ℝ) : EReal) := by
  rw [val_main_v57_apply, val_main_v53_apply, val_main_v52_apply, r56 H.b (i 1)]
  simp only [r46 H, r51 H.w (i 1), pointwise, ← EReal.coe_mul, Reals.sum, ← EReal.coe_add]
  refine congrArg _ ?_
  exact (congrArg (· + _) (Finset.sum_congr rfl fun k _ => mul_comm _ _)).trans
    (congrArg (fun g => ∑ k, (A.chunk (i 1)).wt g (i 2) k * (A.chunk (i 1)).vl k (col (i 3) (i 4)) + (A.chunk (i 1)).b g (i 2))
      (head_col (i 3) (i 4)).symm)

theorem r58 (H : A.Real) (i : S1x2048x1024.Idx) : val_main_v58 (F := Ideal) A.p A.lg A.lb A.w A.b i = (((A.chunk (blk (i 1))).s (pos (i 1)) (i 2) : ℝ) : EReal) := by
  rw [val_main_v58_apply]
  exact join Chunk.s (r57 H) i

theorem r59 (H : A.Real) (i : S1x2048x1024.Idx) : val_main_v59 (F := Ideal) A.p A.lg A.lb A.w A.b i = (((A.chunk (blk (i 1))).y (pos (i 1)) (i 2) : ℝ) : EReal) := by
  rw [val_main_v59_apply, r15 H.p, r58 H]
  simp only [pointwise, ← EReal.coe_mul]
  rfl

theorem r66 (H : A.Real) (i : S1x2048x1.Idx) : val_main_v66 (F := Ideal) A.p A.lg A.lb A.w A.b i = (((A.chunk (blk (i 1))).ms (pos (i 1)) : ℝ) : EReal) := by
  rw [val_main_v66_apply, val_main_v64_apply, val_main_v62_apply, val_main_v61_apply, val_main_v63_apply, val_main_v65_apply,
    val_main_cst_9_apply, val_main_cst_10_apply, val_main_cst_11_apply]
  simp only [val_main_v60_apply, r59 H, pointwise, ← EReal.coe_mul, Reals.sum, Reals.width, Reals.div_width, Reals.rmsEps, zero_add, ← EReal.coe_add]
  rfl

theorem r67 (H : A.Real) (i : S1x2048x1.Idx) : val_main_v67 (F := Ideal) A.p A.lg A.lb A.w A.b i = (((A.chunk (blk (i 1))).rr (pos (i 1)) : ℝ) : EReal) := by
  rw [val_main_v67_apply, r66 H]
  exact Reals.rsqrt (Chunk.ms_pos _ _)

theorem r70 (H : A.Real) (i : S1x2048x1.Idx) : val_main_v70 (F := Ideal) A.p A.lg A.lb A.w A.b i = ((-(1 / 2) * ((A.chunk (blk (i 1))).rr (pos (i 1)) / (A.chunk (blk (i 1))).ms (pos (i 1))) : ℝ) : EReal) := by
  rw [val_main_v70_apply, val_main_v69_apply, val_main_v68_apply, val_main_cst_12_apply, r67 H, r66 H]
  simp only [pointwise, Reals.neg_half, Reals.div _ (Chunk.ms_pos _ _).ne', ← EReal.coe_mul]

theorem r78 (H : IsReal A.d) (i : S1x2048x1024.Idx) : val_main_v78 (F := Ideal) A.d i = (((A.chunk (blk (i 1))).d (pos (i 1)) (i 2) : ℝ) : EReal) := by
  rw [val_main_v78_apply, val_main_v77_apply]
  refine Eq.trans (congrArg A.d (funext fun a => ?_))
    (H (ix2 (row (blk (i 1)) (pos (i 1))) ⟨1024 + (i 2).val, by have := (show (i 2).val < 1024 from (i 2).isLt); omega⟩))
  fin_cases a
  · exact (row_blk (i 1)).symm
  · rfl

theorem r79 (H : A.Real) (i : S1x2048x1024.Idx) : val_main_v79 (F := Ideal) A.p A.lg A.lb A.w A.b A.d i = (((A.chunk (blk (i 1))).y (pos (i 1)) (i 2) * (A.chunk (blk (i 1))).rr (pos (i 1)) * (A.chunk (blk (i 1))).d (pos (i 1)) (i 2) : ℝ) : EReal) := by
  rw [val_main_v79_apply, val_main_v72_apply, val_main_v71_apply, r59 H, r67 H, r78 H.d]
  simp only [pointwise, ← EReal.coe_mul]
  rfl

theorem r83 (H : A.Real) (i : S1x2048x1024.Idx) : val_main_v83 (F := Ideal) A.og A.d i = (((A.chunk (blk (i 1))).dn (pos (i 1)) (i 2) : ℝ) : EReal) := by
  rw [val_main_v83_apply, val_main_v82_apply, val_main_v73_apply, val_main_v4_apply, r78 H.d]
  have h : A.og (idx_main_v4 (idx_main_v73 (idx_main_v82 i))) = ((A.chunk (blk (i 1))).og (i 2) : EReal) := by
    refine Eq.trans (congrArg A.og (funext fun a => ?_)) (H.og (ix2 0 (i 2)))
    fin_cases a
    · rfl
    · exact Fin.ext (Nat.mod_eq_of_lt (i 2).isLt)
  rw [h]
  simp only [pointwise, ← EReal.coe_mul]
  rfl

/-- A row of one column per chunk row, from the row's flat form. -/
theorem flat (y : FVec Ideal S1x2048 .f32) (i : S1x2048x1.Idx) : y (idx_main_v87 i) = y (ix2 0 (i 1)) := by
  have h0 : (i 0).val < 1 := (i 0).isLt
  have h1 : (i 1).val < 2048 := (i 1).isLt
  have h2 : (i 2).val < 1 := (i 2).isLt
  refine congrArg y (funext fun a => ?_)
  fin_cases a
  · rfl
  · exact Fin.ext (show (((i 0).val * 2048 + (i 1).val) * 1 + (i 2).val) % 2048 = (i 1).val by omega)

theorem r92 (H : A.Real) (i : S1x2048x1.Idx) : val_main_v92 (F := Ideal) A.p A.lg A.lb A.w A.b A.og A.d i = (((A.chunk (blk (i 1))).q (pos (i 1)) : ℝ) : EReal) := by
  rw [val_main_v92_apply, val_main_v90_apply, val_main_v91_apply, val_main_cst_16_apply, val_main_v87_apply, r70 H, flat (val_main_v86 (F := Ideal) A.p A.lg A.lb A.w A.b A.og A.d),
    val_main_v86_apply, val_main_cst_15_apply]
  simp only [val_main_v85_apply, r59 H, r83 H, pointwise, ← EReal.coe_mul, Reals.sum, Reals.width, Reals.div_width, zero_add]
  rfl

theorem r95 (H : A.Real) (i : S1x2048x1024.Idx) : val_main_v95 (F := Ideal) A.p A.lg A.lb A.w A.b A.og A.d i = (((A.chunk (blk (i 1))).q (pos (i 1)) : ℝ) : EReal) := by
  rw [val_main_v95_apply, val_main_v94_apply]
  unfold val_main_v93
  simp only [pointwise]
  rw [ManySums.column, r92 H, val_main_cst_17_apply]
  simp only [pointwise, zero_add]
  rfl

theorem r99 (H : A.Real) (i : S1x2048x1024.Idx) : val_main_v99 (F := Ideal) A.p A.lg A.lb A.w A.b A.og A.d i = (((A.chunk (blk (i 1))).dy (pos (i 1)) (i 2) : ℝ) : EReal) := by
  rw [val_main_v99_apply, val_main_v97_apply, val_main_v89_apply, val_main_v88_apply, val_main_v96_apply, val_main_v98_apply,
    r83 H, r67 H, r59 H, r95 H]
  simp only [pointwise, ← EReal.coe_mul, ← EReal.coe_add]
  rfl

theorem r100 (H : A.Real) (i : S1x2048x1024.Idx) : val_main_v100 (F := Ideal) A.p A.lg A.lb A.w A.b A.og A.d i = (((A.chunk (blk (i 1))).ds (pos (i 1)) (i 2) : ℝ) : EReal) := by
  rw [val_main_v100_apply, r15 H.p, r99 H]
  simp only [pointwise, ← EReal.coe_mul]
  rfl

theorem r101 (H : A.Real) (i : S1x2048x1024.Idx) : val_main_v101 (F := Ideal) A.p A.lg A.lb A.w A.b A.og A.d i = (((A.chunk (blk (i 1))).du (pos (i 1)) (i 2) : ℝ) : EReal) := by
  rw [val_main_v101_apply, r99 H, r58 H]
  simp only [pointwise, ← EReal.coe_mul]
  rfl

end Cert.ReferenceIdeal.Chunk

end
-- ==== Proof.RefRows.lean ====
/- The reference of the gating unit, stage by stage on real numbers: the gradient back to the rows. -/
module

public import proofs.«01_k».proof.Proof.RefMixing

@[expose] public section

noncomputable section

open Idealize.ShloMosaic Idealize.ShloMosaic.TcCoe Idealize.SL.Sem

namespace Cert.ReferenceIdeal.Chunk
open Cert.ReferenceIdeal Cert.ReferenceIdeal.Gen Cert.ReferenceIdeal.Read GateUnit

variable {A : Args}

theorem r102 (H : A.Real) (i : S1x16x128x16x64.Idx) : val_main_v102 (F := Ideal) A.p A.lg A.lb A.w A.b A.og A.d i = (((A.chunk (i 1)).ds (i 2) (col (i 3) (i 4)) : ℝ) : EReal) := by
  rw [val_main_v102_apply]
  exact split Chunk.ds (r100 H) i

theorem r107 (H : A.Real) (i : S16x1x16x64x128.Idx) : val_main_v107 (F := Ideal) A.p A.lg A.lb A.w A.b A.og A.d i = (((A.chunk (i 2)).ds (i 4) (col (i 0) (i 3)) : ℝ) : EReal) := by
  rw [val_main_v107_apply]
  exact r102 H (idx_main_v107 i)

theorem r110 (H : A.Real) (i : S1x16x128x16x64.Idx) : val_main_v110 (F := Ideal) A.p A.lg A.lb A.w A.b A.og A.d i = (((A.chunk (i 1)).dvl (i 2) (col (i 3) (i 4)) : ℝ) : EReal) := by
  rw [val_main_v110_apply, val_main_v109_apply]
  simp only [r107 H, r51 H.w (i 1), ← EReal.coe_mul, Reals.sum]
  exact congrArg _ ((Finset.sum_congr rfl fun k _ => mul_comm _ _).trans
    (congrArg (fun g => ∑ k, (A.chunk (i 1)).wt g k (i 2) * (A.chunk (i 1)).ds k (col (i 3) (i 4))) (head_col (i 3) (i 4)).symm))

theorem r113 (H : A.Real) (i : S1x2048x1024.Idx) : val_main_v113 (F := Ideal) A.p A.lg A.lb A.w A.b A.og A.d i = (((A.chunk (blk (i 1))).dvl (pos (i 1)) (i 2) : ℝ) : EReal) := by
  rw [val_main_v113_apply]
  exact join Chunk.dvl (r110 H) i

theorem r121 (H : A.Real) (i : S1x2048x1024.Idx) : val_main_v121 (F := Ideal) A.p A.lg A.lb A.w A.b A.og A.d i = (((A.chunk (blk (i 1))).dvh (pos (i 1)) (i 2) : ℝ) : EReal) := by
  rw [val_main_v121_apply, r113 H, val_main_v120_apply]
  refine (congrArg (FloatOps.mulf (F := Ideal) _) ((val_main_v41_apply (F := Ideal) A.lg i).symm.trans (r41 H.lg i))).trans ?_
  simp only [pointwise, ← EReal.coe_mul]
  rfl

theorem r127 (H : A.Real) (i : S1x2048x1024.Idx) : val_main_v127 (F := Ideal) A.p A.lg A.lb A.w A.b A.og A.d i = (((A.chunk (blk (i 1))).dvh (pos (i 1)) (i 2) * (A.chunk (blk (i 1))).ri (pos (i 1)) : ℝ) : EReal) := by
  rw [val_main_v127_apply, val_main_v126_apply, r121 H, r34 H.p]
  simp only [pointwise, ← EReal.coe_mul]
  rfl

theorem r133 (H : A.Real) (i : S1x2048x1.Idx) : val_main_v133 (F := Ideal) A.p A.lg A.lb A.w A.b A.og A.d i = (((A.chunk (blk (i 1))).q2 (pos (i 1)) : ℝ) : EReal) := by
  rw [val_main_v133_apply, val_main_v128_apply, val_main_v132_apply, val_main_cst_26_apply, val_main_v125_apply, r37 H.p,
    flat (val_main_v124 (F := Ideal) A.p A.lg A.lb A.w A.b A.og A.d), val_main_v124_apply, val_main_cst_24_apply]
  simp only [val_main_v123_apply, r31 H.p, r121 H, pointwise, ← EReal.coe_mul, Reals.sum, Reals.width, Reals.div_width, zero_add]
  rfl

theorem r136 (H : A.Real) (i : S1x2048x1024.Idx) : val_main_v136 (F := Ideal) A.p A.lg A.lb A.w A.b A.og A.d i = (((A.chunk (blk (i 1))).q2 (pos (i 1)) : ℝ) : EReal) := by
  rw [val_main_v136_apply, val_main_v135_apply]
  unfold val_main_v134
  simp only [pointwise]
  rw [ManySums.column, r133 H, val_main_cst_27_apply]
  simp only [pointwise, zero_add]
  rfl

theorem r137 (H : A.Real) (i : S1x2048x1024.Idx) : val_main_v137 (F := Ideal) A.p A.lg A.lb A.w A.b A.og A.d i = (((A.chunk (blk (i 1))).q2 (pos (i 1)) * (2 * (A.chunk (blk (i 1))).vc (pos (i 1)) (i 2)) : ℝ) : EReal) := by
  rw [val_main_v137_apply, r136 H, r25 H.p]
  simp only [pointwise, ← EReal.coe_mul]

theorem r141 (H : A.Real) (i : S1x2048x1024.Idx) : val_main_v141 (F := Ideal) A.p A.lg A.lb A.w A.b A.og A.d i = (((A.chunk (blk (i 1))).dvc (pos (i 1)) (i 2) : ℝ) : EReal) := by
  rw [val_main_v141_apply, r127 H, r137 H]
  simp only [pointwise, ← EReal.coe_add]
  refine congrArg _ ?_
  unfold Chunk.dvc
  ring

theorem r144 (H : A.Real) (i : S1x2048x1.Idx) : val_main_v144 (F := Ideal) A.p A.lg A.lb A.w A.b A.og A.d i = (((A.chunk (blk (i 1))).dmu (pos (i 1)) : ℝ) : EReal) := by
  rw [val_main_v144_apply, val_main_v142_apply, val_main_v143_apply, val_main_cst_29_apply, val_main_v131_apply, val_main_v140_apply]
  refine (congrArg₂ (fun a b => FloatOps.divf (F := Ideal) (FloatOps.addf a b) _)
    (flat (val_main_v130 (F := Ideal) A.p A.lg A.lb A.w A.b A.og A.d) i) (flat (val_main_v139 (F := Ideal) A.p A.lg A.lb A.w A.b A.og A.d) i)).trans ?_
  rw [val_main_v130_apply, val_main_cst_25_apply, val_main_v139_apply, val_main_cst_28_apply]
  simp only [val_main_v129_apply, val_main_v138_apply, r127 H, r137 H, pointwise, ← EReal.coe_neg, Reals.sum, Reals.width,
    zero_add, ← EReal.coe_add, Reals.div_width]
  refine congrArg _ (congrArg (· / 1024) ?_)
  rw [← Finset.sum_add_distrib]
  refine Finset.sum_congr rfl fun k _ => ?_
  unfold Chunk.dvc
  exact (show ∀ h ri q v : ℝ, -(h * ri) + -(q * (2 * v)) = -(h * ri + v * q + q * v) from fun _ _ _ _ => by ring) _ _ _ _

theorem r147 (H : A.Real) (i : S1x2048x1024.Idx) : val_main_v147 (F := Ideal) A.p A.lg A.lb A.w A.b A.og A.d i = (((A.chunk (blk (i 1))).dmu (pos (i 1)) : ℝ) : EReal) := by
  rw [val_main_v147_apply, val_main_v146_apply]
  unfold val_main_v145
  simp only [pointwise]
  rw [ManySums.column, r144 H, val_main_cst_30_apply]
  simp only [pointwise, zero_add]
  rfl

theorem r148 (H : A.Real) (i : S1x2048x1024.Idx) : val_main_v148 (F := Ideal) A.p A.lg A.lb A.w A.b A.og A.d i = (((A.chunk (blk (i 1))).dv (pos (i 1)) (i 2) : ℝ) : EReal) := by
  rw [val_main_v148_apply, r141 H, r147 H]
  simp only [pointwise, ← EReal.coe_add]
  rfl

/-- Both halves' gradients side by side. -/
theorem left (H : A.Real) (n : Fin 2048) (c : Fin 1024) :
    val_main_v149 (F := Ideal) A.p A.lg A.lb A.w A.b A.og A.d (ix3 0 n ⟨c.val, by omega⟩) = ((A.chunk (blk n)).du (pos n) c : EReal) := by
  unfold val_main_v149
  simp only [pointwise]
  rw [dif_pos trivial]
  exact r101 H _

theorem right (H : A.Real) (n : Fin 2048) (c : Fin 1024) :
    val_main_v149 (F := Ideal) A.p A.lg A.lb A.w A.b A.og A.d (ix3 0 n ⟨1024 + c.val, by omega⟩) = ((A.chunk (blk n)).dv (pos n) c : EReal) := by
  unfold val_main_v149
  simp only [pointwise]
  rw [dif_neg not_false]
  refine (r148 H _).trans (at_congr Chunk.dv rfl rfl (Fin.ext ?_))
  simp

/-- The gradient through gelu. -/
theorem through (H : A.Real) (i : S1x2048x2048.Idx) (d : ℝ) (h : val_main_v149 (F := Ideal) A.p A.lg A.lb A.w A.b A.og A.d i = (d : EReal)) :
    val_main_v160 (F := Ideal) A.p A.lg A.lb A.w A.b A.og A.d i = (dgelu (A.pp (i 1) (i 2)) d : EReal) := by
  rw [val_main_v160_apply, val_main_v157_apply, val_main_v156_apply, val_main_v154_apply, val_main_v153_apply, val_main_v150_apply,
    val_main_v159_apply, val_main_v151_apply, val_main_v152_apply, val_main_v155_apply, val_main_v158_apply,
    val_main_cst_31_apply, val_main_cst_32_apply, val_main_cst_33_apply, h, r6 H.p, r10 H.p, r13 H.p]
  simp only [pointwise, Reals.half, Reals.kap, Reals.neg_tsp, ← EReal.coe_mul, ← EReal.coe_neg, ← EReal.coe_add]
  refine congrArg _ ?_
  unfold dgelu
  ring

theorem r166 (H : A.Real) (i : S2048x1024.Idx) : val_main_v166 (F := Ideal) A.p A.lg A.lb A.w A.b A.og A.d i = ((A.chunk (blk (i 0))).dpu (pos (i 0)) (i 1) : EReal) := by
  rw [val_main_v166_apply, val_main_v165_apply, val_main_v164_apply, val_main_cst_34_apply, Fin.sum_univ_one]
  have h := through H (ix3 0 (i 0) _) _ (left H (i 0) (i 1))
  rw [show val_main_v160 (F := Ideal) A.p A.lg A.lb A.w A.b A.og A.d (idx_main_v164 (idx_main_v165 i) 0) = _ from
    (congrArg _ (funext fun a => by fin_cases a <;> rfl)).trans h]
  simp only [pointwise, zero_add]
  exact congrArg (fun x => (dgelu x ((A.chunk (blk (i 0))).du (pos (i 0)) (i 1)) : EReal)) (pu_eq A (i 0) (i 1)).symm

theorem r168 (H : A.Real) (i : S2048x1024.Idx) : val_main_v168 (F := Ideal) A.p A.lg A.lb A.w A.b A.og A.d i = ((A.chunk (blk (i 0))).dpv (pos (i 0)) (i 1) : EReal) := by
  rw [val_main_v168_apply, val_main_v167_apply, val_main_v164_apply, val_main_cst_34_apply, Fin.sum_univ_one]
  have h := through H (ix3 0 (i 0) _) _ (right H (i 0) (i 1))
  rw [show val_main_v160 (F := Ideal) A.p A.lg A.lb A.w A.b A.og A.d (idx_main_v164 (idx_main_v167 i) 0) = _ from
    (congrArg _ (funext fun a => by fin_cases a <;> rfl)).trans h]
  simp only [pointwise, zero_add]
  exact congrArg (fun x => (dgelu x ((A.chunk (blk (i 0))).dv (pos (i 0)) (i 1)) : EReal)) (pv_eq A (i 0) (i 1)).symm

end Cert.ReferenceIdeal.Chunk

end
-- ==== Proof.RefSums.lean ====
/- The reference of the gating unit, stage by stage on real numbers: the gradients summed over all rows. -/
module

public import proofs.«01_k».proof.Proof.RefRows
public import proofs.«01_k».proof.Proof.Heads

@[expose] public section

noncomputable section

open Idealize.ShloMosaic Idealize.ShloMosaic.TcCoe Idealize.SL.Sem

namespace Cert.ReferenceIdeal.Chunk
open Cert.ReferenceIdeal Cert.ReferenceIdeal.Gen Cert.ReferenceIdeal.Read GateUnit

variable {A : Args}

/-- The rows, chunk by chunk. -/
def rowsEquiv : Fin 2048 ≃ Fin 16 × Fin 128 where
  toFun n := (blk n, pos n)
  invFun p := row p.1 p.2
  left_inv n := row_blk n
  right_inv p := Prod.ext (blk_row p.1 p.2) (pos_row p.1 p.2)

/-- A sum over all rows, chunk by chunk. -/
theorem total (f : Chunk → Fin 128 → Fin 1024 → ℝ) (z : FVec Ideal S_ .f32) (hz : z (Shape.Idx.first h_S_) = ((0 : ℝ) : EReal))
    {y : FVec Ideal S1x2048x1024 .f32}
    (h : ∀ i, y i = (f (A.chunk (blk (i 1))) (pos (i 1)) (i 2) : EReal)) (j : S1x1024.Idx) :
    z (Shape.Idx.first h_S_) + ∑ k : Fin 2048, y (idx_main_v80 j k) = ((∑ t, ∑ r, f (A.chunk t) r (j 1) : ℝ) : EReal) := by
  simp only [h, hz, Reals.sum, ← EReal.coe_add, zero_add]
  refine congrArg _ ?_
  exact (Fintype.sum_equiv rowsEquiv (fun n => f (A.chunk (blk n)) (pos n) (j 1)) (fun p => f (A.chunk p.1) p.2 (j 1)) (fun _ => rfl)).trans
    (Fintype.sum_prod_type _)

/-- A row's flat form under two unit axes. -/
theorem flat_row (y : FVec Ideal S1x1024 .f32) (c : Fin 1024) : y (idx_main_v81 (ix3 0 0 c)) = y (ix2 0 c) := by
  refine congrArg y (funext fun a => ?_)
  fin_cases a
  · rfl
  · exact Fin.ext (show ((0 * 1 + 0) * 1024 + c.val) % 1024 = c.val by omega)

theorem r117 (H : A.Real) (i : S1x2048x1024.Idx) : val_main_v117 (F := Ideal) A.p A.lg A.lb A.w A.b A.og A.d i = (((A.chunk (blk (i 1))).vh (pos (i 1)) (i 2) * (A.chunk (blk (i 1))).dvl (pos (i 1)) (i 2) : ℝ) : EReal) := by
  rw [val_main_v117_apply, r39 H.p, r113 H]
  simp only [pointwise, ← EReal.coe_mul]

theorem r161 (H : A.Real) (i : S1x1024.Idx) : val_main_v161 (F := Ideal) A.p A.lg A.lb A.w A.b A.d i = ((∑ t, (A.chunk t).dog (i 1) : ℝ) : EReal) := by
  rw [val_main_v161_apply]
  unfold val_main_v84
  simp only [pointwise]
  rw [ManySums.rows, val_main_v81_apply]
  refine (congrArg (fun a => val_main_cst_14 (F := Ideal) (Shape.Idx.first h_S_) + a) ((flat_row (val_main_v80 (F := Ideal) A.p A.lg A.lb A.w A.b A.d) (i 1)).trans
    ((val_main_v80_apply A.p A.lg A.lb A.w A.b A.d (ix2 0 (i 1))).trans
      (total (fun X r c => X.y r c * X.rr r * X.d r c) (val_main_cst_13 (F := Ideal)) Reals.zero (r79 H) (ix2 0 (i 1)))))).trans ?_
  rw [val_main_cst_14_apply]
  simp only [pointwise, zero_add]
  rfl

theorem r162 (H : A.Real) (i : S1x1024.Idx) : val_main_v162 (F := Ideal) A.p A.lg A.lb A.w A.b A.og A.d i = ((∑ t, (A.chunk t).dlb (i 1) : ℝ) : EReal) := by
  rw [val_main_v162_apply]
  unfold val_main_v116
  simp only [pointwise]
  rw [ManySums.rows, val_main_v115_apply]
  refine (congrArg (fun a => val_main_cst_21 (F := Ideal) (Shape.Idx.first h_S_) + a) ((flat_row (val_main_v114 (F := Ideal) A.p A.lg A.lb A.w A.b A.og A.d) (i 1)).trans
    ((val_main_v114_apply A.p A.lg A.lb A.w A.b A.og A.d (ix2 0 (i 1))).trans
      (total (fun X r c => X.dvl r c) (val_main_cst_20 (F := Ideal)) Reals.zero (r113 H) (ix2 0 (i 1)))))).trans ?_
  rw [val_main_cst_21_apply]
  simp only [pointwise, zero_add]
  rfl

theorem r163 (H : A.Real) (i : S1x1024.Idx) : val_main_v163 (F := Ideal) A.p A.lg A.lb A.w A.b A.og A.d i = ((∑ t, (A.chunk t).dlg (i 1) : ℝ) : EReal) := by
  rw [val_main_v163_apply]
  unfold val_main_v122
  simp only [pointwise]
  rw [ManySums.rows, val_main_v119_apply]
  refine (congrArg (fun a => val_main_cst_23 (F := Ideal) (Shape.Idx.first h_S_) + a) ((flat_row (val_main_v118 (F := Ideal) A.p A.lg A.lb A.w A.b A.og A.d) (i 1)).trans
    ((val_main_v118_apply A.p A.lg A.lb A.w A.b A.og A.d (ix2 0 (i 1))).trans
      (total (fun X r c => X.vh r c * X.dvl r c) (val_main_cst_22 (F := Ideal)) Reals.zero (r117 H) (ix2 0 (i 1)))))).trans ?_
  rw [val_main_cst_23_apply]
  simp only [pointwise, zero_add]
  rfl

theorem r112 (H : A.Real) (i : S16x128x128.Idx) : val_main_v112 (F := Ideal) A.p A.lg A.lb A.w A.b A.og A.d i = ((∑ t, (A.chunk t).dw (i 0) (i 1) (i 2) : ℝ) : EReal) := by
  rw [val_main_v112_apply, r111]
  unfold val_main_v108
  simp only [pointwise]
  rw [ManySums.weights]
  simp only [r107 H, r46 H, ← EReal.coe_mul, Reals.sum]
  refine congrArg _ ?_
  rw [Fintype.sum_prod_type]
  unfold Chunk.dw
  by_cases h : i 2 ≤ i 1
  · refine (congrArg (_ * ·) (if_pos h)).trans ((mul_one _).trans (Finset.sum_congr rfl fun t _ => (if_pos h).symm))
  · refine (congrArg (_ * ·) (if_neg h)).trans ((mul_zero _).trans ?_)
    exact (Finset.sum_eq_zero fun t _ => if_neg h).symm

theorem r103 (H : A.Real) (i : S1x128x16.Idx) : val_main_v103 (F := Ideal) A.p A.lg A.lb A.w A.b A.og A.d i = ((∑ t, (A.chunk t).db (i 2) (i 1) : ℝ) : EReal) := by
  unfold val_main_v103
  simp only [pointwise]
  rw [ManySums.chunks, val_main_cst_18_apply]
  simp only [r102 H, pointwise, Reals.sum, zero_add]
  exact congrArg _ (Fintype.sum_prod_type _)

theorem r169 (H : A.Real) (i : S128x16.Idx) : val_main_v169 (F := Ideal) A.p A.lg A.lb A.w A.b A.og A.d i = ((∑ t, (A.chunk t).db (i 1) (i 0) : ℝ) : EReal) := by
  rw [val_main_v169_apply, val_main_v106_apply]
  unfold val_main_v105
  simp only [pointwise]
  rw [ManySums.table, val_main_v104_apply, r103 H, val_main_cst_19_apply]
  simp only [pointwise, zero_add]
  have h0 : (i 0).val < 128 := (i 0).isLt
  have h1 : (i 1).val < 16 := (i 1).isLt
  refine congrArg _ (Finset.sum_congr rfl fun t _ => congrArg₂ (A.chunk t).db (Fin.ext ?_) (Fin.ext ?_))
  · show ((((0 * 1 + 0) * 128 + (i 0).val) * 16 + (i 1).val) * 1 + 0) % 16 = (i 1).val
    omega
  · show ((((0 * 1 + 0) * 128 + (i 0).val) * 16 + (i 1).val) * 1 + 0) / 16 % 128 = (i 0).val
    omega

theorem r170 (H : A.Real) (i : S128x128.Idx) :
    val_main_v170 (F := Ideal) A.p A.lg A.lb A.w A.b A.og A.d i = ((∑ t, ∑ k, (A.chunk t).ds (i 0) k * (if (i 1).val = (head k).val then 1 else 0) : ℝ) : EReal) := by
  unfold val_main_v170
  simp only [pointwise]
  have h0 : (i 0).val < 128 := (i 0).isLt
  by_cases h : (i 1).val < 16
  · rw [dif_pos (by simp [h, h0, Nat.mod_one])]
    refine (r169 H _).trans (congrArg _ (Finset.sum_congr rfl fun t _ => ?_))
    have e := sum_head ⟨(i 1).val, h⟩ ((A.chunk t).ds (i 0))
    simp only [Fin.ext_iff] at e
    refine Eq.trans ?_ e.symm
    simp [Chunk.db]
  · rw [dif_neg (by simp [h])]
    refine (val_main_call1_v0_apply (F := Ideal) _).trans ?_
    refine (show FloatOps.sitofp (F := Ideal) FTy.f32 0#32 = ((0 : ℝ) : EReal) from by
      show (((0#32 : BitVec 32).toInt : ℝ) : EReal) = _
      simp).trans (congrArg _ (Eq.symm ?_))
    refine Finset.sum_eq_zero fun t _ => Finset.sum_eq_zero fun k _ => ?_
    rw [if_neg (fun e => h (lt_of_eq_of_lt e (head k).isLt)), mul_zero]

end Cert.ReferenceIdeal.Chunk

end
-- ==== Proof.Finals.lean ====
/- The gating unit's gradient kernel over all its grid points: each result array is the reference's. -/
module

public import proofs.«01_k».proof.Proof.Blocks
public import proofs.«01_k».proof.Proof.RefSums
public import proofs.«01_k».proof.Proof.Gen.KernelIdeal.Value
public import proofs.«01_k».proof.Proof.Gen.ReferenceIdeal.Run
public import proofs.«01_k».proof.Proof.Gen.Pre_finite
public import Idealize.ShloMosaic.Lib.Pipeline.ValueKit
public import Idealize.ShloMosaic.Lib.Pointwise

@[expose] public section

noncomputable section

open Idealize.ShloMosaic Idealize.ShloMosaic.TcCoe Idealize.SL.Sem

namespace Cert.KernelIdeal.Chunk
open Cert.KernelIdeal Cert.KernelIdeal.Gen GateUnit

variable (m : (ℓ : Loc nD τ sig) → Buf (Elt Ideal) ℓ)

/-- The blocks of the kernel's results at a grid point. -/
theorem idx_out : ∀ t : Fin cfg0.N, win0_10.index t = ![t.val, 0] ∧ win0_11.index t = ![t.val, 0] ∧ win0_12.index t = ![0, 0]
    ∧ win0_13.index t = ![0, 0] ∧ win0_14.index t = ![0, 0, 0] ∧ win0_15.index t = ![0, 0] ∧ win0_16.index t = ![0, 0] :=
  (by decide +kernel : ∀ t : Fin grid0.N, _)

/-- The chunk of a grid point. -/
def point (c : Dev nD) (t : Fin cfg0.N) : GateUnit.Chunk := (args m c).chunk ⟨t.val, t.isLt⟩

theorem point_run (c : Dev nD) (t : Fin cfg0.N) (s : Fin 16) (h : 16 * (t.val / 16) + s.val < cfg0.N) :
    point m c ⟨16 * (t.val / 16) + s.val, h⟩ = (args m c).chunk s := by
  have ht : t.val < 16 := t.isLt
  exact congrArg (args m c).chunk (Fin.ext (by show 16 * (t.val / 16) + s.val = s.val; omega))

theorem final10 (c : Dev nD) (H : (args m c).Real) : (dats m 0 c).arrAt 10 cfg0.N
    = Cert.ReferenceIdeal.Read.val_main_v166 (F := Ideal) (args m c).p (args m c).lg (args m c).lb (args m c).w (args m c).b (args m c).og (args m c).d := by
  refine (dats m 0 c).arrAt_eq_of_covers 10 _ (by decide +kernel) fun t hf y => ?_
  blk_simp
  rw [after0_10, (step m c t (point m c t) (reads m c t H)).1]
  have ht : t.val < 16 := t.isLt
  have h0 : (y 0).val < 128 := (y 0).isLt
  have hi := idx_out t
  refine Eq.trans ?_ (Cert.ReferenceIdeal.Chunk.r166 H _).symm
  refine Cert.ReferenceIdeal.Chunk.at_congr GateUnit.Chunk.dpu (Fin.ext ?_) (Fin.ext ?_) (Fin.ext ?_)
  · simp only [blk]
    blk_simp
    simp [hi]
    omega
  · simp only [pos]
    blk_simp
    simp [hi]
    omega
  · blk_simp
    simp [hi]

theorem final11 (c : Dev nD) (H : (args m c).Real) : (dats m 0 c).arrAt 11 cfg0.N
    = Cert.ReferenceIdeal.Read.val_main_v168 (F := Ideal) (args m c).p (args m c).lg (args m c).lb (args m c).w (args m c).b (args m c).og (args m c).d := by
  refine (dats m 0 c).arrAt_eq_of_covers 11 _ (by decide +kernel) fun t hf y => ?_
  blk_simp
  rw [after0_11, (step m c t (point m c t) (reads m c t H)).2.1]
  have ht : t.val < 16 := t.isLt
  have h0 : (y 0).val < 128 := (y 0).isLt
  have hi := idx_out t
  refine Eq.trans ?_ (Cert.ReferenceIdeal.Chunk.r168 H _).symm
  refine Cert.ReferenceIdeal.Chunk.at_congr GateUnit.Chunk.dpv (Fin.ext ?_) (Fin.ext ?_) (Fin.ext ?_)
  · simp only [blk]
    blk_simp
    simp [hi]
    omega
  · simp only [pos]
    blk_simp
    simp [hi]
    omega
  · blk_simp
    simp [hi]

/-- The part of this sum that a grid point adds. -/
def part12 (c : Dev nD) (t : Fin cfg0.N) (i : S1x1024.Idx) : EReal := (((point m c t).dlg (i 1) : ℝ) : EReal)

theorem final12 (c : Dev nD) (H : (args m c).Real) : (dats m 0 c).arrAt 12 cfg0.N
    = Cert.ReferenceIdeal.Read.val_main_v163 (F := Ideal) (args m c).p (args m c).lg (args m c).lb (args m c).w (args m c).b (args m c).og (args m c).d := by
  refine (dats m 0 c).arrAt_eq_of_covers 12 _ (by decide +kernel) fun t hf y => ?_
  have h3 := (flush0_12 t).mp hf
  blk_simp
  rw [after0_12, Pipeline.eq_sum_fin_of_reset_step_apply_of_flush (fun n h => (outsAt0 m c n h).2.2.1) 16 (fun _ => 0) (part12 m c)
    (fun t h j => ((step m c t (point m c t) (reads m c t H)).2.2.1 j).trans (congrArg (· + _) (if_pos (by have ht : t.val < 16 := t.isLt; omega))))
    (fun t h j => ((step m c t (point m c t) (reads m c t H)).2.2.1 j).trans (congrArg (· + _) (if_neg (by omega)))) t h3 y, zero_add]
  have ht : t.val < 16 := t.isLt
  have hi := idx_out t
  have e : (((cfg0.win 12).blk t).view.emb y : S1x1024.Idx) = y := by
    funext a
    refine Fin.ext ?_
    fin_cases a <;> blk_simp <;> simp [hi]
  refine (Reals.sum _ _).trans (Eq.trans ?_ ((Cert.ReferenceIdeal.Chunk.r163 H y).symm.trans
    (congrArg (Cert.ReferenceIdeal.Read.val_main_v163 (F := Ideal) (args m c).p (args m c).lg (args m c).lb (args m c).w (args m c).b (args m c).og (args m c).d) e.symm)))
  refine congrArg _ (Finset.sum_congr rfl fun s _ => ?_)
  rw [point_run]

/-- The part of this sum that a grid point adds. -/
def part13 (c : Dev nD) (t : Fin cfg0.N) (i : S1x1024.Idx) : EReal := (((point m c t).dlb (i 1) : ℝ) : EReal)

theorem final13 (c : Dev nD) (H : (args m c).Real) : (dats m 0 c).arrAt 13 cfg0.N
    = Cert.ReferenceIdeal.Read.val_main_v162 (F := Ideal) (args m c).p (args m c).lg (args m c).lb (args m c).w (args m c).b (args m c).og (args m c).d := by
  refine (dats m 0 c).arrAt_eq_of_covers 13 _ (by decide +kernel) fun t hf y => ?_
  have h3 := (flush0_13 t).mp hf
  blk_simp
  rw [after0_13, Pipeline.eq_sum_fin_of_reset_step_apply_of_flush (fun n h => (outsAt0 m c n h).2.2.2.1) 16 (fun _ => 0) (part13 m c)
    (fun t h j => ((step m c t (point m c t) (reads m c t H)).2.2.2.1 j).trans (congrArg (· + _) (if_pos (by have ht : t.val < 16 := t.isLt; omega))))
    (fun t h j => ((step m c t (point m c t) (reads m c t H)).2.2.2.1 j).trans (congrArg (· + _) (if_neg (by omega)))) t h3 y, zero_add]
  have ht : t.val < 16 := t.isLt
  have hi := idx_out t
  have e : (((cfg0.win 13).blk t).view.emb y : S1x1024.Idx) = y := by
    funext a
    refine Fin.ext ?_
    fin_cases a <;> blk_simp <;> simp [hi]
  refine (Reals.sum _ _).trans (Eq.trans ?_ ((Cert.ReferenceIdeal.Chunk.r162 H y).symm.trans
    (congrArg (Cert.ReferenceIdeal.Read.val_main_v162 (F := Ideal) (args m c).p (args m c).lg (args m c).lb (args m c).w (args m c).b (args m c).og (args m c).d) e.symm)))
  refine congrArg _ (Finset.sum_congr rfl fun s _ => ?_)
  rw [point_run]

/-- The part of this sum that a grid point adds. -/
def part14 (c : Dev nD) (t : Fin cfg0.N) (i : S16x128x128.Idx) : EReal := (((point m c t).dw (i 0) (i 1) (i 2) : ℝ) : EReal)

theorem final14 (c : Dev nD) (H : (args m c).Real) : (dats m 0 c).arrAt 14 cfg0.N
    = Cert.ReferenceIdeal.Read.val_main_v112 (F := Ideal) (args m c).p (args m c).lg (args m c).lb (args m c).w (args m c).b (args m c).og (args m c).d := by
  refine (dats m 0 c).arrAt_eq_of_covers 14 _ (by decide +kernel) fun t hf y => ?_
  have h3 := (flush0_14 t).mp hf
  blk_simp
  rw [after0_14, Pipeline.eq_sum_fin_of_reset_step_apply_of_flush (fun n h => (outsAt0 m c n h).2.2.2.2.1) 16 (fun _ => 0) (part14 m c)
    (fun t h j => ((step m c t (point m c t) (reads m c t H)).2.2.2.2.1 j).trans (congrArg (· + _) (if_pos (by have ht : t.val < 16 := t.isLt; omega))))
    (fun t h j => ((step m c t (point m c t) (reads m c t H)).2.2.2.2.1 j).trans (congrArg (· + _) (if_neg (by omega)))) t h3 y, zero_add]
  have ht : t.val < 16 := t.isLt
  have hi := idx_out t
  have e : (((cfg0.win 14).blk t).view.emb y : S16x128x128.Idx) = y := by
    funext a
    refine Fin.ext ?_
    fin_cases a <;> blk_simp <;> simp [hi]
  refine (Reals.sum _ _).trans (Eq.trans ?_ ((Cert.ReferenceIdeal.Chunk.r112 H y).symm.trans
    (congrArg (Cert.ReferenceIdeal.Read.val_main_v112 (F := Ideal) (args m c).p (args m c).lg (args m c).lb (args m c).w (args m c).b (args m c).og (args m c).d) e.symm)))
  refine congrArg _ (Finset.sum_congr rfl fun s _ => ?_)
  rw [point_run]

/-- The part of this sum that a grid point adds. -/
def part15 (c : Dev nD) (t : Fin cfg0.N) (i : S128x128.Idx) : EReal := ((∑ k, (point m c t).ds (i 0) k * (if (i 1).val = (head k).val then 1 else 0) : ℝ) : EReal)

theorem final15 (c : Dev nD) (H : (args m c).Real) : (dats m 0 c).arrAt 15 cfg0.N
    = Cert.ReferenceIdeal.Read.val_main_v170 (F := Ideal) (args m c).p (args m c).lg (args m c).lb (args m c).w (args m c).b (args m c).og (args m c).d := by
  refine (dats m 0 c).arrAt_eq_of_covers 15 _ (by decide +kernel) fun t hf y => ?_
  have h3 := (flush0_15 t).mp hf
  blk_simp
  rw [after0_15, Pipeline.eq_sum_fin_of_reset_step_apply_of_flush (fun n h => (outsAt0 m c n h).2.2.2.2.2.1) 16 (fun _ => 0) (part15 m c)
    (fun t h j => ((step m c t (point m c t) (reads m c t H)).2.2.2.2.2.1 j).trans (congrArg (· + _) (if_pos (by have ht : t.val < 16 := t.isLt; omega))))
    (fun t h j => ((step m c t (point m c t) (reads m c t H)).2.2.2.2.2.1 j).trans (congrArg (· + _) (if_neg (by omega)))) t h3 y, zero_add]
  have ht : t.val < 16 := t.isLt
  have hi := idx_out t
  have e : (((cfg0.win 15).blk t).view.emb y : S128x128.Idx) = y := by
    funext a
    refine Fin.ext ?_
    fin_cases a <;> blk_simp <;> simp [hi]
  refine (Reals.sum _ _).trans (Eq.trans ?_ ((Cert.ReferenceIdeal.Chunk.r170 H y).symm.trans
    (congrArg (Cert.ReferenceIdeal.Read.val_main_v170 (F := Ideal) (args m c).p (args m c).lg (args m c).lb (args m c).w (args m c).b (args m c).og (args m c).d) e.symm)))
  refine congrArg _ (Finset.sum_congr rfl fun s _ => ?_)
  rw [point_run]

/-- The part of this sum that a grid point adds. -/
def part16 (c : Dev nD) (t : Fin cfg0.N) (i : S1x1024.Idx) : EReal := (((point m c t).dog (i 1) : ℝ) : EReal)

theorem final16 (c : Dev nD) (H : (args m c).Real) : (dats m 0 c).arrAt 16 cfg0.N
    = Cert.ReferenceIdeal.Read.val_main_v161 (F := Ideal) (args m c).p (args m c).lg (args m c).lb (args m c).w (args m c).b (args m c).d := by
  refine (dats m 0 c).arrAt_eq_of_covers 16 _ (by decide +kernel) fun t hf y => ?_
  have h3 := (flush0_16 t).mp hf
  blk_simp
  rw [after0_16, Pipeline.eq_sum_fin_of_reset_step_apply_of_flush (fun n h => (outsAt0 m c n h).2.2.2.2.2.2) 16 (fun _ => 0) (part16 m c)
    (fun t h j => ((step m c t (point m c t) (reads m c t H)).2.2.2.2.2.2 j).trans (congrArg (· + _) (if_pos (by have ht : t.val < 16 := t.isLt; omega))))
    (fun t h j => ((step m c t (point m c t) (reads m c t H)).2.2.2.2.2.2 j).trans (congrArg (· + _) (if_neg (by omega)))) t h3 y, zero_add]
  have ht : t.val < 16 := t.isLt
  have hi := idx_out t
  have e : (((cfg0.win 16).blk t).view.emb y : S1x1024.Idx) = y := by
    funext a
    refine Fin.ext ?_
    fin_cases a <;> blk_simp <;> simp [hi]
  refine (Reals.sum _ _).trans (Eq.trans ?_ ((Cert.ReferenceIdeal.Chunk.r161 H y).symm.trans
    (congrArg (Cert.ReferenceIdeal.Read.val_main_v161 (F := Ideal) (args m c).p (args m c).lg (args m c).lb (args m c).w (args m c).b (args m c).d) e.symm)))
  refine congrArg _ (Finset.sum_congr rfl fun s _ => ?_)
  rw [point_run]

end Cert.KernelIdeal.Chunk

end
-- ==== Proof.Finite.lean ====
/- The precondition of the gating unit's claim: arrays of finite numbers are arrays of real numbers. -/
module

public import proofs.«01_k».proof.Defs
public import proofs.«01_k».proof.Proof.Blocks
public import proofs.«01_k».proof.Proof.Gen.Pre_finite
public import Idealize.ShloMosaic.Lib.Pointwise

@[expose] public section

noncomputable section

open Idealize.ShloMosaic Idealize.ShloMosaic.TcCoe

namespace Cert.KernelIdeal.Chunk
open Cert.KernelIdeal GateUnit

/-- A number whose difference with itself is zero is real. -/
theorem real_of (x : EReal) (h : x - x = 0) : x = (x.toReal : EReal) := by
  induction x with
  | bot => simp at h
  | top => simp at h
  | coe a => rfl

/-- The comparison's bit, read as the real number it asserts. -/
theorem real_of_bit {S : Shape} (A : FVec Ideal S .f32) (i : S.Idx)
    (h : FloatOps.cmpf (F := Ideal) .oeq (FloatOps.subf (A i) (A i)) (FloatOps.ofBits .f32 0x00000000#32) = 1#1) :
    A i = ((A i : EReal).toReal : EReal) := by
  exact real_of _ (((Ideal.cmp_oeq_eq_one _ _).1 h).trans (Reals.zero.trans EReal.coe_zero))

variable (m : (ℓ : Loc nD τ sig) → Buf (Elt Ideal) ℓ)

theorem real (h : Pre_KernelIdeal_finite m) (c : Dev nD) : (args m c).Real := by
  obtain ⟨h0, h1, h2, h3, h4, h5, h6⟩ := h c
  exact ⟨fun i => real_of_bit _ i (congrFun h0 i), fun i => real_of_bit _ i (congrFun h1 i), fun i => real_of_bit _ i (congrFun h2 i),
    fun i => real_of_bit _ i (congrFun h3 i), fun i => real_of_bit _ i (congrFun h4 i), fun i => real_of_bit _ i (congrFun h5 i),
    fun i => real_of_bit _ i (congrFun h6 i)⟩

end Cert.KernelIdeal.Chunk

end
-- ==== Proof.GateUnitClaim.lean ====
/- The claim of the gating unit's gradient kernel. -/
module

public import proofs.«01_k».proof.Defs
public import proofs.«01_k».proof.Proof.Finals
public import proofs.«01_k».proof.Proof.Finite
public import proofs.«01_k».proof.Proof.Gen.KernelIdeal.Value
public import proofs.«01_k».proof.Proof.Gen.ReferenceIdeal.Run
public import Idealize.ShloMosaic.Lib.Pipeline.ValueKit

@[expose] public section

noncomputable section

open Idealize.ShloMosaic Idealize.ShloMosaic.TcCoe Idealize.SL.Sem

namespace Cert.KernelIdeal.Chunk
open Cert.KernelIdeal Cert.KernelIdeal.Gen

set_option maxHeartbeats 4000000 in
/-- The claim: with finite arguments all seven results are the reference's. -/
theorem algebraic : Cert.algebraic_KernelIdeal_ReferenceIdeal_pre_finite := by
  pair_intro
  · run_from Cert.KernelIdeal.Value.run_blocks m g
  · refine θ_run_mono (Cert.ReferenceIdeal.Value.run m' g') fun r h c => ?_
    have H : (args m c).Real := real m ‹_› c
    obtain ⟨h1, h2, h3, h4, h5, h6, h7, hrest⟩ := h c
    obtain ⟨a0, a1, a2, a3, a4, a5, a6⟩ := hagree c
    refine ⟨h1.trans ((ReferenceIdeal.Read.val_main_v166_eq _).trans ?_),
      h2.trans ((ReferenceIdeal.Read.val_main_v168_eq _).trans ?_),
      h3.trans ((ReferenceIdeal.Read.val_main_v163_eq _).trans ?_),
      h4.trans ((ReferenceIdeal.Read.val_main_v162_eq _).trans ?_),
      h5.trans ((ReferenceIdeal.Read.val_main_v112_eq _).trans ?_),
      h6.trans ((ReferenceIdeal.Read.val_main_v170_eq _).trans ?_),
      h7.trans ((ReferenceIdeal.Read.val_main_v161_eq _).trans ?_), hrest⟩
    · show ReferenceIdeal.Read.val_main_v166 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) = _
      rw [a0, a1, a2, a3, a4, a5, a6]
      exact (final10 m c H).symm
    · show ReferenceIdeal.Read.val_main_v168 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) = _
      rw [a0, a1, a2, a3, a4, a5, a6]
      exact (final11 m c H).symm
    · show ReferenceIdeal.Read.val_main_v163 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) = _
      rw [a0, a1, a2, a3, a4, a5, a6]
      exact (final12 m c H).symm
    · show ReferenceIdeal.Read.val_main_v162 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) = _
      rw [a0, a1, a2, a3, a4, a5, a6]
      exact (final13 m c H).symm
    · show ReferenceIdeal.Read.val_main_v112 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) = _
      rw [a0, a1, a2, a3, a4, a5, a6]
      exact (final14 m c H).symm
    · show ReferenceIdeal.Read.val_main_v170 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) = _
      rw [a0, a1, a2, a3, a4, a5, a6]
      exact (final15 m c H).symm
    · show ReferenceIdeal.Read.val_main_v161 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg6)) = _
      rw [a0, a1, a2, a3, a4, a6]
      exact (final16 m c H).symm

end Cert.KernelIdeal.Chunk

end
-- ==== Proof.RmsRow.lean ====
/- The root mean square norm of one row, and its gradients, in the order in which the programs compute them. -/
module

public import Idealize.ShloMosaic.Lib.Pointwise

@[expose] public section

noncomputable section

open Idealize.ShloMosaic

namespace RmsRow

variable (x g d : Fin 2048 → EReal)

/-- The row's length, as the programs write it. -/
def width : EReal := Ideal.ofBits .f32 0x45000000#32

/-- The mean of the squares and the small constant. -/
def ms : EReal := Ideal.div (∑ k, x k * x k) width + Ideal.ofBits .f32 0x358637BD#32

/-- The factor of the row. -/
def rr : EReal := Ideal.rsqrt (ms x)

/-- The normed row. -/
def norm (k : Fin 2048) : EReal := x k * rr x * g k

/-- The gradient that reaches the row through the mean. -/
def q : EReal :=
  ∑ _k : Fin 1, Ideal.div ((∑ k, x k * (d k * g k)) * (Ideal.ofBits .f32 0xBF000000#32 * Ideal.div (rr x) (ms x))) width

/-- The gradient of the row, `p` being what reaches this element without the mean. -/
def dx (p : EReal) (k : Fin 2048) : EReal := p + x k * q x g d + q x g d * x k

/-- The row's part of the gradient of the gain. -/
def dg (k : Fin 2048) : EReal := x k * rr x * d k

/-- The row of a block of 256 rows in the whole array. -/
def at_block (t : Fin 8) (s : Fin 256) : Fin 2048 := ⟨256 * t.val + s.val, by omega⟩

/-- A sum over the blocks and over each block's rows is the sum over all rows. -/
theorem sum_blocks (f : Fin 2048 → EReal) : ∑ t, ∑ s, f (at_block t s) = ∑ r, f r := by
  rw [← Fintype.sum_prod_type']
  refine Fintype.sum_equiv (finProdFinEquiv (m := 8) (n := 256)) _ _ fun p => congrArg f (Fin.ext ?_)
  show 256 * p.1.val + p.2.val = p.2.val + 256 * p.1.val
  omega

end RmsRow

end
-- ==== Proof.RmsBack.lean ====
/- The gradient of a norm with a residual, with its copy in bfloat16: the claim. -/
module

public import proofs.«01_k».proof.Defs
public import proofs.«01_k».proof.Proof.RmsRow
public import proofs.«01_k».proof.Proof.Gen.Kernel19Ideal.Value
public import proofs.«01_k».proof.Proof.Gen.Reference19Ideal.Run
public import proofs.«01_k».proof.Proof.Gen.Reference19Ideal.Read
public import Idealize.ShloMosaic.Lib.Pipeline.ValueKit
public import Idealize.ShloMosaic.Lib.Pointwise

@[expose] public section

noncomputable section

open Idealize.ShloMosaic Idealize.ShloMosaic.TcCoe Idealize.SL.Sem

namespace Cert.Reference19Ideal.Rms
open Cert.Reference19Ideal Cert.Reference19Ideal.Read

variable (x d e : FVec Ideal S2048x2048 .f32) (g : FVec Ideal S1x2048 .f32)

/-- The reference's gradient of the input. -/
theorem dx (r k : Fin 2048) : val_main_v37 (F := Ideal) x g d e (ix2 r k)
    = RmsRow.dx (fun k => x (ix2 r k)) (fun k => g (ix2 0 k)) (fun k => d (ix2 r k))
        (e (ix2 r k) + d (ix2 r k) * g (ix2 0 k) * RmsRow.rr fun k => x (ix2 r k)) k := by
  unfold val_main_v37 val_main_v36 val_main_v35 val_main_v34 val_main_v33 val_main_v32 val_main_v31 val_main_v30 val_main_v29
    val_main_v28 val_main_v27 val_main_v26 val_main_v25 val_main_v24 val_main_v23 val_main_v21 val_main_v20 val_main_v14
    val_main_v11 val_main_v10 val_main_v9 val_main_v8 val_main_v7 val_main_v6 val_main_v5 val_main_v4 val_main_v3 val_main_v2
    val_main_v1 val_main_v0 val_main_cst_7 val_main_cst_6 val_main_cst_5 val_main_cst_2 val_main_cst_1 val_main_cst_0 val_main_cst
  simp only [pointwise, zero_add]
  rfl

/-- The reference's gradient of the gain. -/
theorem dg (i : S1x2048.Idx) : val_main_v38 (F := Ideal) x d i
    = ∑ r, RmsRow.dg (fun k => x (ix2 r k)) (fun k => d (ix2 r k)) (i 1) := by
  unfold val_main_v38 val_main_v22 val_main_v19 val_main_v18 val_main_v17 val_main_v13 val_main_v12
    val_main_v8 val_main_v7 val_main_v6 val_main_v5 val_main_v4 val_main_v3 val_main_v2
    val_main_v1 val_main_cst_4 val_main_cst_3 val_main_cst_1 val_main_cst_0 val_main_cst
  simp only [pointwise, zero_add]
  exact (Fin.sum_univ_one _).trans rfl

end Cert.Reference19Ideal.Rms

namespace Cert.Kernel19Ideal.Rms
open Cert.Kernel19Ideal Cert.Kernel19Ideal.Gen

/-- One block's gradient of the input. -/
theorem v37 (x : Vec Ideal S256x2048 .f32) (g : Vec Ideal S1x2048 .f32) (d e : Vec Ideal S256x2048 .f32) (s : Fin 256)
    (k : Fin 2048) : k0_pay5 x g d e (ix2 s k)
      = RmsRow.dx (fun k => x (ix2 s k)) (fun k => g (ix2 0 k)) (fun k => d (ix2 s k))
          (e (ix2 s k) + d (ix2 s k) * g (ix2 0 k) * RmsRow.rr fun k => x (ix2 s k)) k := by
  unfold k0_pay5 k0_pay3 k0_pay2
  dsimp only
  simp only [pointwise]
  rfl

/-- One block's part of the gradient of the gain. -/
theorem v19 (x d : Vec Ideal S256x2048 .f32) (i : S1x2048.Idx) :
    k0_pay4 x d i = ∑ s, RmsRow.dg (fun k => x (ix2 s k)) (fun k => d (ix2 s k)) (i 1) := by
  unfold k0_pay4 k0_pay3 k0_pay2
  dsimp only
  simp only [pointwise]
  rfl

variable (m : (ℓ : Loc nD τ sig) → Buf (Elt Ideal) ℓ)

/-- The blocks of the windows at a grid point. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] ∧ win0_6.index t = ![t.val, 0] :=
  (by decide +kernel : ∀ t : Fin grid0.N, _)

theorem read0 (c : Dev nD) (t : Fin cfg0.N) (s : Fin 256) (k : Fin 2048) :
    iblk m c 0 t (ix2 s k) = m ((c : Thread nD τ).loc main_arg0) (ix2 (RmsRow.at_block t s) k) := by
  blk_ext! [iblk, V, idx t, RmsRow.at_block]

theorem read1 (c : Dev nD) (t : Fin cfg0.N) (k : Fin 2048) :
    iblk m c 1 t (ix2 0 k) = m ((c : Thread nD τ).loc main_arg1) (ix2 0 k) := by
  blk_ext! [iblk, V, idx t, RmsRow.at_block]

theorem read2 (c : Dev nD) (t : Fin cfg0.N) (s : Fin 256) (k : Fin 2048) :
    iblk m c 2 t (ix2 s k) = m ((c : Thread nD τ).loc main_arg2) (ix2 (RmsRow.at_block t s) k) := by
  blk_ext! [iblk, V, idx t, RmsRow.at_block]

theorem read3 (c : Dev nD) (t : Fin cfg0.N) (s : Fin 256) (k : Fin 2048) :
    iblk m c 3 t (ix2 s k) = m ((c : Thread nD τ).loc main_arg3) (ix2 (RmsRow.at_block t s) k) := by
  blk_ext! [iblk, V, idx t, RmsRow.at_block]

/-- The gradient of the input at a grid point's row. -/
theorem step4 (c : Dev nD) (t : Fin cfg0.N) (s : Fin 256) (k : Fin 2048) :
    (outsAt0 m c t.val t.isLt).1 (ix2 s k) = Cert.Reference19Ideal.Read.val_main_v37 (F := Ideal)
      (m ((c : Thread nD τ).loc main_arg0)) (m ((c : Thread nD τ).loc main_arg1)) (m ((c : Thread nD τ).loc main_arg2))
      (m ((c : Thread nD τ).loc main_arg3)) (ix2 (RmsRow.at_block t s) k) := by
  have ht : t.val < 8 := t.isLt
  rw [Cert.Reference19Ideal.Rms.dx]
  have e : k0_pay5 (iblk m c 0 t) (iblk m c 1 t) (iblk m c 2 t) (iblk m c 3 t) (ix2 s k) = _ := v37 _ _ _ _ s k
  simp only [read0, read1, read2, read3] at e
  refine Eq.trans ?_ e
  by_cases h0 : t.val = 0
  · rw [outsAt0_A m c t (by omega) (by omega)]
    dsimp only
    frame_out
  · rw [outsAt0_B m c t (by omega) (by omega)]
    dsimp only
    frame_out

/-- What a grid point adds to the gradient of the gain. -/
def part5 (c : Dev nD) (t : Fin cfg0.N) (i : S1x2048.Idx) : EReal :=
  ∑ s, RmsRow.dg (fun k => m ((c : Thread nD τ).loc main_arg0) (ix2 (RmsRow.at_block t s) k))
    (fun k => m ((c : Thread nD τ).loc main_arg2) (ix2 (RmsRow.at_block t s) k)) (i 1)

/-- The gradient of the gain after a grid point. -/
theorem step5 (c : Dev nD) (t : Fin cfg0.N) (i : S1x2048.Idx) : (outsAt0 m c t.val t.isLt).2.1 i
    = (if h : t.val = 0 then 0 else (outsAt0 m c (t.val - 1) (by omega)).2.1 i) + part5 m c t i := by
  have ht : t.val < 8 := t.isLt
  have e : k0_pay4 (iblk m c 0 t) (iblk m c 2 t) i = _ := v19 _ _ i
  simp only [read0, read2] at e
  by_cases h0 : t.val = 0
  · rw [outsAt0_A m c t (by omega) (by omega), dif_pos h0, zero_add]
    dsimp only
    frame_out
    exact e
  · rw [outsAt0_B m c t (by omega) (by omega), dif_neg h0]
    dsimp only
    frame_out
    unfold k0_pay1
    simp only [pointwise]
    exact congrArg₂ _ rfl e

/-- The copy in bfloat16 is the gradient of the input. -/
theorem step6 (c : Dev nD) (t : Fin cfg0.N) (i : S256x2048.Idx) :
    (outsAt0 m c t.val t.isLt).2.2 i = (outsAt0 m c t.val t.isLt).1 i := by
  have ht : t.val < 8 := t.isLt
  by_cases h0 : t.val = 0
  · rw [outsAt0_A m c t (by omega) (by omega)]
    dsimp only
    frame_out
    rfl
  · rw [outsAt0_B m c t (by omega) (by omega)]
    dsimp only
    frame_out
    rfl

/-- The same at a block's index. -/
theorem at4 (c : Dev nD) (t : Fin cfg0.N) (i : S256x2048.Idx) :
    (outsAt0 m c t.val t.isLt).1 i = Cert.Reference19Ideal.Read.val_main_v37 (F := Ideal)
      (m ((c : Thread nD τ).loc main_arg0)) (m ((c : Thread nD τ).loc main_arg1)) (m ((c : Thread nD τ).loc main_arg2))
      (m ((c : Thread nD τ).loc main_arg3)) (ix2 (RmsRow.at_block t (i 0)) (i 1)) := by
  have e : i = ix2 (i 0) (i 1) := by
    funext a
    fin_cases a <;> rfl
  exact (congrArg (outsAt0 m c t.val t.isLt).1 e).trans (step4 m c t (i 0) (i 1))

/-- All grid points' parts make the reference's gradient of the gain. -/
theorem sum5 (c : Dev nD) (t : Fin cfg0.N) (h : ∀ s : Fin 8, 8 * (t.val / 8) + s.val < cfg0.N) (i : S1x2048.Idx) :
    ∑ s : Fin 8, part5 m c ⟨8 * (t.val / 8) + s.val, h s⟩ i = Cert.Reference19Ideal.Read.val_main_v38 (F := Ideal)
      (m ((c : Thread nD τ).loc main_arg0)) (m ((c : Thread nD τ).loc main_arg2)) i := by
  have ht : t.val < 8 := t.isLt
  refine Eq.trans ?_ ((RmsRow.sum_blocks _).trans (Cert.Reference19Ideal.Rms.dg _ _ i).symm)
  refine Finset.sum_congr rfl fun s _ => ?_
  have es : (⟨8 * (t.val / 8) + s.val, h s⟩ : Fin cfg0.N) = s := Fin.ext (by show 8 * (t.val / 8) + s.val = s.val; omega)
  rw [es]
  rfl

theorem final4 (c : Dev nD) : (dats m 0 c).arrAt 4 cfg0.N = Cert.Reference19Ideal.Read.val_main_v37 (F := Ideal)
      (m ((c : Thread nD τ).loc main_arg0)) (m ((c : Thread nD τ).loc main_arg1)) (m ((c : Thread nD τ).loc main_arg2))
      (m ((c : Thread nD τ).loc main_arg3)) := by
  refine (dats m 0 c).arrAt_eq_of_covers 4 _ (by decide +kernel) fun t hf y => ?_
  blk_simp
  rw [after0_4]
  have e : (((cfg0.win 4).blk t).view.emb y : S2048x2048.Idx) = ix2 (RmsRow.at_block t (y 0)) (y 1) := by
    funext a
    refine Fin.ext ?_
    fin_cases a <;> blk_simp <;> simp [idx t, RmsRow.at_block]
    omega
  exact (at4 m c t y).trans (congrArg _ e.symm)

theorem final6 (c : Dev nD) : (dats m 0 c).arrAt 6 cfg0.N = Cert.Reference19Ideal.Read.val_main_v39 (F := Ideal)
      (m ((c : Thread nD τ).loc main_arg0)) (m ((c : Thread nD τ).loc main_arg1)) (m ((c : Thread nD τ).loc main_arg2))
      (m ((c : Thread nD τ).loc main_arg3)) := by
  refine (dats m 0 c).arrAt_eq_of_covers 6 _ (by decide +kernel) fun t hf y => ?_
  blk_simp
  rw [after0_6, step6]
  have e : (((cfg0.win 6).blk t).view.emb y : S2048x2048.Idx) = ix2 (RmsRow.at_block t (y 0)) (y 1) := by
    funext a
    refine Fin.ext ?_
    fin_cases a <;> blk_simp <;> simp [idx t, RmsRow.at_block]
    omega
  exact (at4 m c t y).trans (congrArg _ e.symm)

theorem final5 (c : Dev nD) : (dats m 0 c).arrAt 5 cfg0.N = Cert.Reference19Ideal.Read.val_main_v38 (F := Ideal)
      (m ((c : Thread nD τ).loc main_arg0)) (m ((c : Thread nD τ).loc main_arg2)) := by
  refine (dats m 0 c).arrAt_eq_of_covers 5 _ (by decide +kernel) fun t hf y => ?_
  have h3 := (flush0_5 t).mp hf
  blk_simp
  rw [after0_5, Pipeline.eq_sum_fin_of_reset_step_apply_of_flush (fun n h => (outsAt0 m c n h).2.1) 8 (fun _ => 0) (part5 m c)
    (fun t h j => (step5 m c t j).trans (congrArg (· + _) (dif_pos (by have ht : t.val < 8 := t.isLt; omega))))
    (fun t h j => (step5 m c t j).trans (congrArg (· + _) (dif_neg (by omega)))) t h3 y, zero_add]
  have ht : t.val < 8 := t.isLt
  have e : (((cfg0.win 5).blk t).view.emb y : S1x2048.Idx) = y := by
    funext a
    refine Fin.ext ?_
    fin_cases a <;> blk_simp <;> simp [idx t]
  exact (sum5 m c t _ y).trans (congrArg _ e.symm)

set_option maxHeartbeats 4000000 in
/-- The claim: all three results are the reference's. -/
theorem algebraic : Cert.algebraic_Kernel19Ideal_Reference19Ideal := by
  pair_intro
  · run_from Cert.Kernel19Ideal.Value.run_blocks m g
  · refine θ_run_mono (Cert.Reference19Ideal.Value.run m' g') fun r h c => ?_
    obtain ⟨h1, h2, h3, hrest⟩ := h c
    obtain ⟨a0, a1, a2, a3⟩ := hagree c
    refine ⟨h1.trans ((Reference19Ideal.Read.val_main_v37_eq _ _).trans ?_),
      h2.trans ((Reference19Ideal.Read.val_main_v38_eq _ _).trans ?_),
      h3.trans ((Reference19Ideal.Read.val_main_v39_eq _ _).trans ?_), hrest⟩
    · rw [a0, a1, a2, a3]
      exact (final4 m c).symm
    · rw [a0, a2]
      exact (final5 m c).symm
    · rw [a0, a1, a2, a3]
      exact (final6 m c).symm

end Cert.Kernel19Ideal.Rms

end
-- ==== Proof.RmsBackFirst.lean ====
/- The gradient of the first norm with its residual, which has no copy in bfloat16: the claim. -/
module

public import proofs.«01_k».proof.Defs
public import proofs.«01_k».proof.Proof.RmsBack
public import proofs.«01_k».proof.Proof.Gen.Kernel20Ideal.Value
public import proofs.«01_k».proof.Proof.Gen.Reference20Ideal.Run
public import proofs.«01_k».proof.Proof.Gen.Reference20Ideal.Read
public import Idealize.ShloMosaic.Lib.Pipeline.ValueKit
public import Idealize.ShloMosaic.Lib.Pointwise

@[expose] public section

noncomputable section

open Idealize.ShloMosaic Idealize.ShloMosaic.TcCoe Idealize.SL.Sem

namespace Cert.Reference20Ideal.Rms
open Cert.Reference20Ideal Cert.Reference20Ideal.Read

variable (x d e : FVec Ideal S2048x2048 .f32) (g : FVec Ideal S1x2048 .f32)

/-- The reference's gradient of the input. -/
theorem dx (r k : Fin 2048) : val_main_v37 (F := Ideal) x g d e (ix2 r k)
    = RmsRow.dx (fun k => x (ix2 r k)) (fun k => g (ix2 0 k)) (fun k => d (ix2 r k))
        (e (ix2 r k) + d (ix2 r k) * g (ix2 0 k) * RmsRow.rr fun k => x (ix2 r k)) k :=
  Cert.Reference19Ideal.Rms.dx x d e g r k

/-- The reference's gradient of the gain. -/
theorem dg (i : S1x2048.Idx) : val_main_v38 (F := Ideal) x d i
    = ∑ r, RmsRow.dg (fun k => x (ix2 r k)) (fun k => d (ix2 r k)) (i 1) :=
  Cert.Reference19Ideal.Rms.dg x d i

end Cert.Reference20Ideal.Rms

namespace Cert.Kernel20Ideal.Rms
open Cert.Kernel20Ideal Cert.Kernel20Ideal.Gen

/-- One block's gradient of the input. -/
theorem v37 (x : Vec Ideal S256x2048 .f32) (g : Vec Ideal S1x2048 .f32) (d e : Vec Ideal S256x2048 .f32) (s : Fin 256)
    (k : Fin 2048) : k0_pay5 x g d e (ix2 s k)
      = RmsRow.dx (fun k => x (ix2 s k)) (fun k => g (ix2 0 k)) (fun k => d (ix2 s k))
          (e (ix2 s k) + d (ix2 s k) * g (ix2 0 k) * RmsRow.rr fun k => x (ix2 s k)) k :=
  Cert.Kernel19Ideal.Rms.v37 x g d e s k

/-- One block's part of the gradient of the gain. -/
theorem v19 (x d : Vec Ideal S256x2048 .f32) (i : S1x2048.Idx) :
    k0_pay4 x d i = ∑ s, RmsRow.dg (fun k => x (ix2 s k)) (fun k => d (ix2 s k)) (i 1) :=
  Cert.Kernel19Ideal.Rms.v19 x d i

variable (m : (ℓ : Loc nD τ sig) → Buf (Elt Ideal) ℓ)

/-- The blocks of the windows at a grid point. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] :=
  (by decide +kernel : ∀ t : Fin grid0.N, _)

theorem read0 (c : Dev nD) (t : Fin cfg0.N) (s : Fin 256) (k : Fin 2048) :
    iblk m c 0 t (ix2 s k) = m ((c : Thread nD τ).loc main_arg0) (ix2 (RmsRow.at_block t s) k) := by
  blk_ext! [iblk, V, idx t, RmsRow.at_block]

theorem read1 (c : Dev nD) (t : Fin cfg0.N) (k : Fin 2048) :
    iblk m c 1 t (ix2 0 k) = m ((c : Thread nD τ).loc main_arg1) (ix2 0 k) := by
  blk_ext! [iblk, V, idx t, RmsRow.at_block]

theorem read2 (c : Dev nD) (t : Fin cfg0.N) (s : Fin 256) (k : Fin 2048) :
    iblk m c 2 t (ix2 s k) = m ((c : Thread nD τ).loc main_arg2) (ix2 (RmsRow.at_block t s) k) := by
  blk_ext! [iblk, V, idx t, RmsRow.at_block]

theorem read3 (c : Dev nD) (t : Fin cfg0.N) (s : Fin 256) (k : Fin 2048) :
    iblk m c 3 t (ix2 s k) = m ((c : Thread nD τ).loc main_arg3) (ix2 (RmsRow.at_block t s) k) := by
  blk_ext! [iblk, V, idx t, RmsRow.at_block]

/-- The gradient of the input at a grid point's row. -/
theorem step4 (c : Dev nD) (t : Fin cfg0.N) (s : Fin 256) (k : Fin 2048) :
    (outsAt0 m c t.val t.isLt).1 (ix2 s k) = Cert.Reference20Ideal.Read.val_main_v37 (F := Ideal)
      (m ((c : Thread nD τ).loc main_arg0)) (m ((c : Thread nD τ).loc main_arg1)) (m ((c : Thread nD τ).loc main_arg2))
      (m ((c : Thread nD τ).loc main_arg3)) (ix2 (RmsRow.at_block t s) k) := by
  have ht : t.val < 8 := t.isLt
  rw [Cert.Reference20Ideal.Rms.dx]
  have e : k0_pay5 (iblk m c 0 t) (iblk m c 1 t) (iblk m c 2 t) (iblk m c 3 t) (ix2 s k) = _ := v37 _ _ _ _ s k
  simp only [read0, read1, read2, read3] at e
  refine Eq.trans ?_ e
  by_cases h0 : t.val = 0
  · rw [outsAt0_A m c t (by omega) (by omega)]
    dsimp only
    frame_out
  · rw [outsAt0_B m c t (by omega) (by omega)]
    dsimp only
    frame_out

/-- What a grid point adds to the gradient of the gain. -/
def part5 (c : Dev nD) (t : Fin cfg0.N) (i : S1x2048.Idx) : EReal :=
  ∑ s, RmsRow.dg (fun k => m ((c : Thread nD τ).loc main_arg0) (ix2 (RmsRow.at_block t s) k))
    (fun k => m ((c : Thread nD τ).loc main_arg2) (ix2 (RmsRow.at_block t s) k)) (i 1)

/-- The gradient of the gain after a grid point. -/
theorem step5 (c : Dev nD) (t : Fin cfg0.N) (i : S1x2048.Idx) : (outsAt0 m c t.val t.isLt).2 i
    = (if h : t.val = 0 then 0 else (outsAt0 m c (t.val - 1) (by omega)).2 i) + part5 m c t i := by
  have ht : t.val < 8 := t.isLt
  have e : k0_pay4 (iblk m c 0 t) (iblk m c 2 t) i = _ := v19 _ _ i
  simp only [read0, read2] at e
  by_cases h0 : t.val = 0
  · rw [outsAt0_A m c t (by omega) (by omega), dif_pos h0, zero_add]
    dsimp only
    frame_out
    exact e
  · rw [outsAt0_B m c t (by omega) (by omega), dif_neg h0]
    dsimp only
    frame_out
    unfold k0_pay1
    simp only [pointwise]
    exact congrArg₂ _ rfl e

/-- The same at a block's index. -/
theorem at4 (c : Dev nD) (t : Fin cfg0.N) (i : S256x2048.Idx) :
    (outsAt0 m c t.val t.isLt).1 i = Cert.Reference20Ideal.Read.val_main_v37 (F := Ideal)
      (m ((c : Thread nD τ).loc main_arg0)) (m ((c : Thread nD τ).loc main_arg1)) (m ((c : Thread nD τ).loc main_arg2))
      (m ((c : Thread nD τ).loc main_arg3)) (ix2 (RmsRow.at_block t (i 0)) (i 1)) := by
  have e : i = ix2 (i 0) (i 1) := by
    funext a
    fin_cases a <;> rfl
  exact (congrArg (outsAt0 m c t.val t.isLt).1 e).trans (step4 m c t (i 0) (i 1))

/-- All grid points' parts make the reference's gradient of the gain. -/
theorem sum5 (c : Dev nD) (t : Fin cfg0.N) (h : ∀ s : Fin 8, 8 * (t.val / 8) + s.val < cfg0.N) (i : S1x2048.Idx) :
    ∑ s : Fin 8, part5 m c ⟨8 * (t.val / 8) + s.val, h s⟩ i = Cert.Reference20Ideal.Read.val_main_v38 (F := Ideal)
      (m ((c : Thread nD τ).loc main_arg0)) (m ((c : Thread nD τ).loc main_arg2)) i := by
  have ht : t.val < 8 := t.isLt
  refine Eq.trans ?_ ((RmsRow.sum_blocks _).trans (Cert.Reference20Ideal.Rms.dg _ _ i).symm)
  refine Finset.sum_congr rfl fun s _ => ?_
  have es : (⟨8 * (t.val / 8) + s.val, h s⟩ : Fin cfg0.N) = s := Fin.ext (by show 8 * (t.val / 8) + s.val = s.val; omega)
  rw [es]
  rfl

theorem final4 (c : Dev nD) : (dats m 0 c).arrAt 4 cfg0.N = Cert.Reference20Ideal.Read.val_main_v37 (F := Ideal)
      (m ((c : Thread nD τ).loc main_arg0)) (m ((c : Thread nD τ).loc main_arg1)) (m ((c : Thread nD τ).loc main_arg2))
      (m ((c : Thread nD τ).loc main_arg3)) := by
  refine (dats m 0 c).arrAt_eq_of_covers 4 _ (by decide +kernel) fun t hf y => ?_
  blk_simp
  rw [after0_4]
  have e : (((cfg0.win 4).blk t).view.emb y : S2048x2048.Idx) = ix2 (RmsRow.at_block t (y 0)) (y 1) := by
    funext a
    refine Fin.ext ?_
    fin_cases a <;> blk_simp <;> simp [idx t, RmsRow.at_block]
    omega
  exact (at4 m c t y).trans (congrArg _ e.symm)

theorem final5 (c : Dev nD) : (dats m 0 c).arrAt 5 cfg0.N = Cert.Reference20Ideal.Read.val_main_v38 (F := Ideal)
      (m ((c : Thread nD τ).loc main_arg0)) (m ((c : Thread nD τ).loc main_arg2)) := by
  refine (dats m 0 c).arrAt_eq_of_covers 5 _ (by decide +kernel) fun t hf y => ?_
  have h3 := (flush0_5 t).mp hf
  blk_simp
  rw [after0_5, Pipeline.eq_sum_fin_of_reset_step_apply_of_flush (fun n h => (outsAt0 m c n h).2) 8 (fun _ => 0) (part5 m c)
    (fun t h j => (step5 m c t j).trans (congrArg (· + _) (dif_pos (by have ht : t.val < 8 := t.isLt; omega))))
    (fun t h j => (step5 m c t j).trans (congrArg (· + _) (dif_neg (by omega)))) t h3 y, zero_add]
  have ht : t.val < 8 := t.isLt
  have e : (((cfg0.win 5).blk t).view.emb y : S1x2048.Idx) = y := by
    funext a
    refine Fin.ext ?_
    fin_cases a <;> blk_simp <;> simp [idx t]
  exact (sum5 m c t _ y).trans (congrArg _ e.symm)

set_option maxHeartbeats 4000000 in
/-- The claim: both results are the reference's. -/
theorem algebraic : Cert.algebraic_Kernel20Ideal_Reference20Ideal := by
  pair_intro
  · run_from Cert.Kernel20Ideal.Value.run_blocks m g
  · refine θ_run_mono (Cert.Reference20Ideal.Value.run m' g') fun r h c => ?_
    obtain ⟨h1, h2, hrest⟩ := h c
    obtain ⟨a0, a1, a2, a3⟩ := hagree c
    refine ⟨h1.trans ((Reference20Ideal.Read.val_main_v37_eq _ _).trans ?_),
      h2.trans ((Reference20Ideal.Read.val_main_v38_eq _ _).trans ?_), hrest⟩
    · rw [a0, a1, a2, a3]
      exact (final4 m c).symm
    · rw [a0, a2]
      exact (final5 m c).symm

end Cert.Kernel20Ideal.Rms

end
-- ==== Proof.RmsForward.lean ====
/- The norm of the rows, rounded to bfloat16: the claim. -/
module

public import proofs.«01_k».proof.Defs
public import proofs.«01_k».proof.Proof.RmsRow
public import proofs.«01_k».proof.Proof.Gen.Kernel21Ideal.Value
public import proofs.«01_k».proof.Proof.Gen.Reference21Ideal.Run
public import proofs.«01_k».proof.Proof.Gen.Reference21Ideal.Read
public import Idealize.ShloMosaic.Lib.Pipeline.ValueKit
public import Idealize.ShloMosaic.Lib.Pointwise

@[expose] public section

noncomputable section

open Idealize.ShloMosaic Idealize.ShloMosaic.TcCoe Idealize.SL.Sem

namespace Cert.Reference21Ideal.Rms
open Cert.Reference21Ideal Cert.Reference21Ideal.Read

/-- The reference's normed row. -/
theorem norm (x : FVec Ideal S2048x2048 .f32) (g : FVec Ideal S1x2048 .f32) (r k : Fin 2048) :
    val_main_v14 (F := Ideal) x g (ix2 r k) = RmsRow.norm (fun k => x (ix2 r k)) (fun k => g (ix2 0 k)) k := by
  unfold val_main_v14 val_main_v13 val_main_v12 val_main_v11 val_main_v10 val_main_v9 val_main_v8 val_main_v7 val_main_v6
    val_main_v5 val_main_v4 val_main_v3 val_main_v2 val_main_v1 val_main_v0 val_main_cst_1 val_main_cst_0 val_main_cst
  simp only [pointwise, zero_add]
  rfl

end Cert.Reference21Ideal.Rms

namespace Cert.Kernel21Ideal.Rms
open Cert.Kernel21Ideal Cert.Kernel21Ideal.Gen

/-- One block's normed row. -/
theorem v14 (x : Vec Ideal S256x2048 .f32) (g : Vec Ideal S1x2048 .f32) (s : Fin 256) (k : Fin 2048) :
    k0_pay1 x g (ix2 s k) = RmsRow.norm (fun k => x (ix2 s k)) (fun k => g (ix2 0 k)) k := by
  unfold k0_pay1
  dsimp only
  simp only [pointwise]
  rfl

variable (m : (ℓ : Loc nD τ sig) → Buf (Elt Ideal) ℓ)

/-- The blocks of the windows at a grid point. -/
theorem idx : ∀ t : Fin cfg0.N, win0_0.index t = ![t.val, 0] ∧ win0_1.index t = ![0, 0] ∧ win0_2.index t = ![t.val, 0] :=
  (by decide +kernel : ∀ t : Fin grid0.N, _)

theorem read0 (c : Dev nD) (t : Fin cfg0.N) (s : Fin 256) (k : Fin 2048) :
    iblk m c 0 t (ix2 s k) = m ((c : Thread nD τ).loc main_arg0) (ix2 (RmsRow.at_block t s) k) := by
  blk_ext! [iblk, V, idx t, RmsRow.at_block]

theorem read1 (c : Dev nD) (t : Fin cfg0.N) (k : Fin 2048) :
    iblk m c 1 t (ix2 0 k) = m ((c : Thread nD τ).loc main_arg1) (ix2 0 k) := by
  blk_ext! [iblk, V, idx t, RmsRow.at_block]

/-- The normed row at a grid point's row. -/
theorem step (c : Dev nD) (t : Fin cfg0.N) (s : Fin 256) (k : Fin 2048) :
    out0_2 (iblk m c 0 t) (iblk m c 1 t) (ix2 s k) = Cert.Reference21Ideal.Read.val_main_v14 (F := Ideal)
      (m ((c : Thread nD τ).loc main_arg0)) (m ((c : Thread nD τ).loc main_arg1)) (ix2 (RmsRow.at_block t s) k) := by
  rw [Cert.Reference21Ideal.Rms.norm]
  have e : k0_pay1 (iblk m c 0 t) (iblk m c 1 t) (ix2 s k) = _ := v14 _ _ s k
  simp only [read0, read1] at e
  refine Eq.trans ?_ e
  unfold out0_2
  frame_out

/-- The same at a block's index. -/
theorem step_at (c : Dev nD) (t : Fin cfg0.N) (i : S256x2048.Idx) :
    out0_2 (iblk m c 0 t) (iblk m c 1 t) i = Cert.Reference21Ideal.Read.val_main_v14 (F := Ideal)
      (m ((c : Thread nD τ).loc main_arg0)) (m ((c : Thread nD τ).loc main_arg1)) (ix2 (RmsRow.at_block t (i 0)) (i 1)) := by
  have e : i = ix2 (i 0) (i 1) := by
    funext a
    fin_cases a <;> rfl
  exact (congrArg (out0_2 (iblk m c 0 t) (iblk m c 1 t)) e).trans (step m c t (i 0) (i 1))

theorem final2 (c : Dev nD) : (dats m 0 c).arrAt 2 cfg0.N = Cert.Reference21Ideal.Read.val_main_v14 (F := Ideal)
      (m ((c : Thread nD τ).loc main_arg0)) (m ((c : Thread nD τ).loc main_arg1)) := by
  refine (dats m 0 c).arrAt_eq_of_covers 2 _ (by decide +kernel) fun t hf y => ?_
  blk_simp
  rw [after0_2]
  have e : (((cfg0.win 2).blk t).view.emb y : S2048x2048.Idx) = ix2 (RmsRow.at_block t (y 0)) (y 1) := by
    funext a
    refine Fin.ext ?_
    fin_cases a <;> blk_simp <;> simp [idx t, RmsRow.at_block]
    omega
  exact (step_at m c t y).trans (congrArg _ e.symm)

set_option maxHeartbeats 4000000 in
/-- The claim: the normed rows are the reference's. -/
theorem algebraic : Cert.algebraic_Kernel21Ideal_Reference21Ideal := by
  pair_intro
  · run_from Cert.Kernel21Ideal.Value.run_blocks m g
  · refine θ_run_mono (Cert.Reference21Ideal.Value.run m' g') fun r h c => ?_
    obtain ⟨h1, hrest⟩ := h c
    obtain ⟨a0, a1⟩ := hagree c
    refine ⟨h1.trans ((Reference21Ideal.Read.val_main_v14_eq _ _).trans ?_), hrest⟩
    rw [a0, a1]
    exact (final2 m c).symm

end Cert.Kernel21Ideal.Rms

end
-- ==== Proof.LossHead.lean ====
/- The last norm, the loss and their gradient: the claim. -/
module

public import proofs.«01_k».proof.Defs
public import proofs.«01_k».proof.Proof.RmsRow
public import proofs.«01_k».proof.Proof.Reals
public import proofs.«01_k».proof.Proof.Gen.Kernel22Ideal.Value
public import proofs.«01_k».proof.Proof.Gen.Reference22Ideal.Run
public import proofs.«01_k».proof.Proof.Gen.Reference22Ideal.Read
public import Idealize.ShloMosaic.Lib.Pipeline.ValueKit
public import Idealize.ShloMosaic.Lib.Pointwise

@[expose] public section

noncomputable section

open Idealize.ShloMosaic Idealize.ShloMosaic.TcCoe Idealize.SL.Sem

namespace RmsRow

variable (x g y : Fin 2048 → EReal)

/-- The difference of the normed row from its target. -/
def diff (k : Fin 2048) : EReal := norm x g k - y k

/-- The gradient of half the mean square of that difference. -/
def dloss (k : Fin 2048) : EReal := diff x g y k * Ideal.ofBits .f32 0x3A000000#32

/-- The mean square of that difference. -/
def mse : EReal := Ideal.div (∑ k, diff x g y k * diff x g y k) width

theorem width_eq : width = ((2048 : ℝ) : EReal) := by
  simp [width, Ideal.ofBits, Ideal.ieee]
  rw [← EReal.coe_mul]; norm_num

theorem inv_width : Ideal.ofBits .f32 0x3A000000#32 = ((1 / 2048 : ℝ) : EReal) := by
  simp [Ideal.ofBits, Ideal.ieee]
  rw [← EReal.coe_mul]; norm_num

/-- The reference's factors make the kernel's one. -/
theorem factor (a : EReal) : Ideal.div (Ideal.ofBits .f32 0x3F000000#32 * 1) (Ideal.ofBits .f32 0x45000000#32)
    * (Ideal.ofBits .f32 0x40000000#32 * a) = a * Ideal.ofBits .f32 0x3A000000#32 := by
  rw [Reals.half, mul_one, Reals.two, inv_width, show Ideal.ofBits .f32 0x45000000#32 = _ from width_eq,
    Reals.div _ (by norm_num), ← mul_assoc, ← EReal.coe_mul, mul_comm]
  congr 2
  norm_num

/-- One half times a sum is the sum of the halves, for infinite terms as well. -/
theorem half_sum {n : ℕ} (f : Fin n → EReal) :
    ∑ i, Ideal.ofBits .f32 0x3F000000#32 * f i = Ideal.ofBits .f32 0x3F000000#32 * ∑ i, f i := by
  rw [Reals.half]
  induction n with
  | zero => simp
  | succ n ih =>
    rw [Fin.sum_univ_succ, Fin.sum_univ_succ, ih,
      EReal.left_distrib_of_nonneg_of_ne_top (by exact_mod_cast (by norm_num : (0 : ℝ) ≤ 1 / 2)) (EReal.coe_ne_top _)]

end RmsRow

namespace Cert.Reference22Ideal.Loss
open Cert.Reference22Ideal Cert.Reference22Ideal.Read

variable (x y : FVec Ideal S2048x2048 .f32) (g : FVec Ideal S1x2048 .f32)

/-- The reference's gradient of the normed rows. -/
theorem dloss (r k : Fin 2048) : val_main_v31 (F := Ideal) x y g (ix2 r k)
    = RmsRow.dloss (fun k => x (ix2 r k)) (fun k => g (ix2 0 k)) (fun k => y (ix2 r k)) k := by
  unfold val_main_v31 val_main_v30 val_main_v29 val_main_v28 val_main_v27 val_main_v26 val_main_v20 val_main_v19 val_main_v17
    val_main_v16 val_main_v15 val_main_v14 val_main_v13 val_main_v12 val_main_v8 val_main_v7 val_main_v6 val_main_v5 val_main_v4
    val_main_v3 val_main_v2 val_main_v1 val_main_v0 val_main_cst val_main_cst_0 val_main_cst_1 val_main_cst_3 val_main_cst_8
    val_main_cst_9 val_main_cst_10
  simp only [pointwise, zero_add]
  exact RmsRow.factor _

/-- The reference's loss. -/
theorem loss (i : S1x128.Idx) : val_main_v53 (F := Ideal) x y g i = Ideal.ofBits .f32 0x3F000000#32 *
    ∑ r, RmsRow.mse (fun k => x (ix2 r k)) (fun k => g (ix2 0 k)) (fun k => y (ix2 r k)) := by
  unfold val_main_v53 val_main_v25 val_main_v24 val_main_v23 val_main_v22 val_main_v21 val_main_v18 val_main_v17
    val_main_v16 val_main_v15 val_main_v14 val_main_v13 val_main_v12 val_main_v8 val_main_v7 val_main_v6 val_main_v5 val_main_v4
    val_main_v3 val_main_v2 val_main_v1 val_main_v0 val_main_cst val_main_cst_0 val_main_cst_1 val_main_cst_4 val_main_cst_5
    val_main_cst_6 val_main_cst_7
  simp only [pointwise, zero_add]
  rfl

/-- The reference's gradient of the input. -/
theorem dx (r k : Fin 2048) : val_main_v51 (F := Ideal) x y g (ix2 r k)
    = RmsRow.dx (fun k => x (ix2 r k)) (fun k => g (ix2 0 k))
        (RmsRow.dloss (fun k => x (ix2 r k)) (fun k => g (ix2 0 k)) (fun k => y (ix2 r k)))
        (RmsRow.dloss (fun k => x (ix2 r k)) (fun k => g (ix2 0 k)) (fun k => y (ix2 r k)) k * g (ix2 0 k)
          * RmsRow.rr fun k => x (ix2 r k)) k := by
  rw [← show (fun k => val_main_v31 (F := Ideal) x y g (ix2 r k)) = RmsRow.dloss (fun k => x (ix2 r k)) (fun k => g (ix2 0 k)) (fun k => y (ix2 r k)) from funext (dloss x y g r)]
  unfold val_main_v51 val_main_v50 val_main_v49 val_main_v48 val_main_v47 val_main_v46 val_main_v45 val_main_v44 val_main_v43
    val_main_v42 val_main_v41 val_main_v40 val_main_v39 val_main_v38 val_main_v36 val_main_v35 val_main_v14
    val_main_v11 val_main_v10 val_main_v9 val_main_v8 val_main_v7 val_main_v6 val_main_v5 val_main_v4 val_main_v3 val_main_v2
    val_main_v1 val_main_v0 val_main_cst val_main_cst_0 val_main_cst_1 val_main_cst_2 val_main_cst_13 val_main_cst_14 val_main_cst_15
  simp only [pointwise, zero_add]
  rfl

/-- The reference's gradient of the gain. -/
theorem dg (i : S1x2048.Idx) : val_main_v52 (F := Ideal) x y g i
    = ∑ r, RmsRow.dg (fun k => x (ix2 r k)) (RmsRow.dloss (fun k => x (ix2 r k)) (fun k => g (ix2 0 k)) (fun k => y (ix2 r k))) (i 1) := by
  refine Eq.trans ?_ (Finset.sum_congr rfl fun r _ => congrArg (fun d => RmsRow.dg (fun k => x (ix2 r k)) d (i 1))
    (funext (dloss x y g r)))
  unfold val_main_v52 val_main_v37 val_main_v34 val_main_v33 val_main_v32 val_main_v13 val_main_v12
    val_main_v8 val_main_v7 val_main_v6 val_main_v5 val_main_v4 val_main_v3 val_main_v2
    val_main_v1 val_main_cst val_main_cst_0 val_main_cst_1 val_main_cst_11 val_main_cst_12
  simp only [pointwise, zero_add]
  exact (Fin.sum_univ_one _).trans rfl

end Cert.Reference22Ideal.Loss

namespace Cert.Kernel22Ideal.Loss
open Cert.Kernel22Ideal Cert.Kernel22Ideal.Gen

variable (x y : Vec Ideal S256x2048 .f32) (g : Vec Ideal S1x2048 .f32)

/-- One block's gradient of the normed rows. -/
theorem v29 (s : Fin 256) (k : Fin 2048) : k0_pay11 x g y (ix2 s k)
    = RmsRow.dloss (fun k => x (ix2 s k)) (fun k => g (ix2 0 k)) (fun k => y (ix2 s k)) k := by
  unfold k0_pay11 k0_pay9 k0_pay8 k0_pay7 k0_pay6
  dsimp only
  simp only [pointwise]
  rfl

/-- One block's part of the loss. -/
theorem v54 (i : S1x128.Idx) : k0_pay3 (k0_pay10 x g y) i = Ideal.ofBits .f32 0x3F000000#32 *
    ∑ s, RmsRow.mse (fun k => x (ix2 s k)) (fun k => g (ix2 0 k)) (fun k => y (ix2 s k)) := by
  unfold k0_pay3 k0_pay10 k0_pay9 k0_pay8 k0_pay7 k0_pay6
  dsimp only
  simp only [pointwise]
  rfl

/-- One block's part of the gradient of the gain. -/
theorem v32 (i : S1x2048.Idx) : k0_pay12 x g y i
    = ∑ s, RmsRow.dg (fun k => x (ix2 s k)) (RmsRow.dloss (fun k => x (ix2 s k)) (fun k => g (ix2 0 k)) (fun k => y (ix2 s k))) (i 1) := by
  refine Eq.trans ?_ (Finset.sum_congr rfl fun s _ => congrArg (fun d => RmsRow.dg (fun k => x (ix2 s k)) d (i 1))
    (funext (v29 x y g s)))
  unfold k0_pay12 k0_pay8 k0_pay7 k0_pay6
  dsimp only
  simp only [pointwise]
  rfl

/-- One block's gradient of the input. -/
theorem v49 (s : Fin 256) (k : Fin 2048) :
    k0_pay1 x (k0_pay14 x g y) (k0_pay15 x g y) (Ideal.ofBits .f32 0x45000000#32) (ix2 s k)
    = RmsRow.dx (fun k => x (ix2 s k)) (fun k => g (ix2 0 k))
        (RmsRow.dloss (fun k => x (ix2 s k)) (fun k => g (ix2 0 k)) (fun k => y (ix2 s k)))
        (RmsRow.dloss (fun k => x (ix2 s k)) (fun k => g (ix2 0 k)) (fun k => y (ix2 s k)) k * g (ix2 0 k)
          * RmsRow.rr fun k => x (ix2 s k)) k := by
  rw [← show (fun k => k0_pay11 x g y (ix2 s k)) = RmsRow.dloss (fun k => x (ix2 s k)) (fun k => g (ix2 0 k)) (fun k => y (ix2 s k)) from funext (v29 x y g s)]
  unfold k0_pay1 k0_pay14 k0_pay15 k0_pay13 k0_pay7 k0_pay6
  dsimp only
  simp only [pointwise]
  rfl

variable (m : (ℓ : Loc nD τ sig) → Buf (Elt Ideal) ℓ)

/-- The blocks of the windows at a grid point. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![0, 0] ∧ win0_6.index t = ![t.val, 0] :=
  (by decide +kernel : ∀ t : Fin grid0.N, _)

theorem read0 (c : Dev nD) (t : Fin cfg0.N) (s : Fin 256) (k : Fin 2048) :
    iblk m c 0 t (ix2 s k) = m ((c : Thread nD τ).loc main_arg0) (ix2 (RmsRow.at_block t s) k) := by
  blk_ext! [iblk, V, idx t, RmsRow.at_block]

theorem read1 (c : Dev nD) (t : Fin cfg0.N) (s : Fin 256) (k : Fin 2048) :
    iblk m c 1 t (ix2 s k) = m ((c : Thread nD τ).loc main_arg1) (ix2 (RmsRow.at_block t s) k) := by
  blk_ext! [iblk, V, idx t, RmsRow.at_block]

theorem read2 (c : Dev nD) (t : Fin cfg0.N) (k : Fin 2048) :
    iblk m c 2 t (ix2 0 k) = m ((c : Thread nD τ).loc main_arg2) (ix2 0 k) := by
  blk_ext! [iblk, V, idx t, RmsRow.at_block]

/-- What a grid point adds to the loss. -/
def part3 (c : Dev nD) (t : Fin cfg0.N) (_i : S1x128.Idx) : EReal := Ideal.ofBits .f32 0x3F000000#32 *
  ∑ s, RmsRow.mse (fun k => m ((c : Thread nD τ).loc main_arg0) (ix2 (RmsRow.at_block t s) k))
    (fun k => m ((c : Thread nD τ).loc main_arg2) (ix2 0 k))
    (fun k => m ((c : Thread nD τ).loc main_arg1) (ix2 (RmsRow.at_block t s) k))

/-- What a grid point adds to the gradient of the gain. -/
def part5 (c : Dev nD) (t : Fin cfg0.N) (i : S1x2048.Idx) : EReal :=
  ∑ s, RmsRow.dg (fun k => m ((c : Thread nD τ).loc main_arg0) (ix2 (RmsRow.at_block t s) k))
    (RmsRow.dloss (fun k => m ((c : Thread nD τ).loc main_arg0) (ix2 (RmsRow.at_block t s) k))
      (fun k => m ((c : Thread nD τ).loc main_arg2) (ix2 0 k))
      (fun k => m ((c : Thread nD τ).loc main_arg1) (ix2 (RmsRow.at_block t s) k))) (i 1)

/-- The loss after a grid point. -/
theorem step3 (c : Dev nD) (t : Fin cfg0.N) (i : S1x128.Idx) : (outsAt0 m c t.val t.isLt).1 i
    = (if h : t.val = 0 then 0 else (outsAt0 m c (t.val - 1) (by omega)).1 i) + part3 m c t i := by
  have ht : t.val < 8 := t.isLt
  have e : k0_pay3 (k0_pay10 (iblk m c 0 t) (iblk m c 2 t) (iblk m c 1 t)) i = _ := v54 _ _ _ i
  simp only [read0, read1, read2] at e
  by_cases h0 : t.val = 0
  · rw [outsAt0_A m c t (by omega) (by omega), dif_pos h0, zero_add]
    dsimp only
    frame_out
    exact e
  · rw [outsAt0_B m c t (by omega) (by omega), dif_neg h0]
    dsimp only
    frame_out
    unfold k0_pay4
    simp only [pointwise]
    exact congrArg₂ _ rfl e

/-- The gradient of the gain after a grid point. -/
theorem step5 (c : Dev nD) (t : Fin cfg0.N) (i : S1x2048.Idx) : (outsAt0 m c t.val t.isLt).2.2.1 i
    = (if h : t.val = 0 then 0 else (outsAt0 m c (t.val - 1) (by omega)).2.2.1 i) + part5 m c t i := by
  have ht : t.val < 8 := t.isLt
  have e : k0_pay12 (iblk m c 0 t) (iblk m c 2 t) (iblk m c 1 t) i = _ := v32 _ _ _ i
  simp only [read0, read1, read2] at e
  by_cases h0 : t.val = 0
  · rw [outsAt0_A m c t (by omega) (by omega), dif_pos h0, zero_add]
    dsimp only
    frame_out
    exact e
  · rw [outsAt0_B m c t (by omega) (by omega), dif_neg h0]
    dsimp only
    frame_out
    unfold k0_pay5
    simp only [pointwise]
    exact congrArg₂ _ rfl e

/-- The gradient of the input at a grid point's row. -/
theorem step4 (c : Dev nD) (t : Fin cfg0.N) (s : Fin 256) (k : Fin 2048) :
    (outsAt0 m c t.val t.isLt).2.1 (ix2 s k) = Cert.Reference22Ideal.Read.val_main_v51 (F := Ideal)
      (m ((c : Thread nD τ).loc main_arg0)) (m ((c : Thread nD τ).loc main_arg1)) (m ((c : Thread nD τ).loc main_arg2))
      (ix2 (RmsRow.at_block t s) k) := by
  have ht : t.val < 8 := t.isLt
  rw [Cert.Reference22Ideal.Loss.dx]
  have e : k0_pay1 (iblk m c 0 t) (k0_pay14 (iblk m c 0 t) (iblk m c 2 t) (iblk m c 1 t))
    (k0_pay15 (iblk m c 0 t) (iblk m c 2 t) (iblk m c 1 t)) (Ideal.ofBits .f32 0x45000000#32) (ix2 s k) = _ := v49 _ _ _ s k
  simp only [read0, read1, read2] at e
  refine Eq.trans ?_ e
  by_cases h0 : t.val = 0
  · rw [outsAt0_A m c t (by omega) (by omega)]
    dsimp only
    frame_out
    rfl
  · rw [outsAt0_B m c t (by omega) (by omega)]
    dsimp only
    frame_out
    rfl

/-- The same at a block's index. -/
theorem at4 (c : Dev nD) (t : Fin cfg0.N) (i : S256x2048.Idx) :
    (outsAt0 m c t.val t.isLt).2.1 i = Cert.Reference22Ideal.Read.val_main_v51 (F := Ideal)
      (m ((c : Thread nD τ).loc main_arg0)) (m ((c : Thread nD τ).loc main_arg1)) (m ((c : Thread nD τ).loc main_arg2))
      (ix2 (RmsRow.at_block t (i 0)) (i 1)) := by
  have e : i = ix2 (i 0) (i 1) := by
    funext a
    fin_cases a <;> rfl
  exact (congrArg (outsAt0 m c t.val t.isLt).2.1 e).trans (step4 m c t (i 0) (i 1))

/-- The copy in bfloat16 is the gradient of the input. -/
theorem step6 (c : Dev nD) (t : Fin cfg0.N) (i : S256x2048.Idx) :
    (outsAt0 m c t.val t.isLt).2.2.2 i = (outsAt0 m c t.val t.isLt).2.1 i := by
  have ht : t.val < 8 := t.isLt
  by_cases h0 : t.val = 0
  · rw [outsAt0_A m c t (by omega) (by omega)]
    dsimp only
    frame_out
    rfl
  · rw [outsAt0_B m c t (by omega) (by omega)]
    dsimp only
    frame_out
    rfl

/-- All grid points' parts make the reference's loss. -/
theorem sum3 (c : Dev nD) (t : Fin cfg0.N) (h : ∀ s : Fin 8, 8 * (t.val / 8) + s.val < cfg0.N) (i : S1x128.Idx) :
    ∑ s : Fin 8, part3 m c ⟨8 * (t.val / 8) + s.val, h s⟩ i = Cert.Reference22Ideal.Read.val_main_v53 (F := Ideal)
      (m ((c : Thread nD τ).loc main_arg0)) (m ((c : Thread nD τ).loc main_arg1)) (m ((c : Thread nD τ).loc main_arg2)) i := by
  have ht : t.val < 8 := t.isLt
  refine Eq.trans ?_ ((RmsRow.half_sum _).trans ((congrArg _ (RmsRow.sum_blocks _)).trans
    (Cert.Reference22Ideal.Loss.loss _ _ _ i).symm))
  refine Finset.sum_congr rfl fun s _ => ?_
  have es : (⟨8 * (t.val / 8) + s.val, h s⟩ : Fin cfg0.N) = s := Fin.ext (by show 8 * (t.val / 8) + s.val = s.val; omega)
  rw [es]
  rfl

/-- All grid points' parts make the reference's gradient of the gain. -/
theorem sum5 (c : Dev nD) (t : Fin cfg0.N) (h : ∀ s : Fin 8, 8 * (t.val / 8) + s.val < cfg0.N) (i : S1x2048.Idx) :
    ∑ s : Fin 8, part5 m c ⟨8 * (t.val / 8) + s.val, h s⟩ i = Cert.Reference22Ideal.Read.val_main_v52 (F := Ideal)
      (m ((c : Thread nD τ).loc main_arg0)) (m ((c : Thread nD τ).loc main_arg1)) (m ((c : Thread nD τ).loc main_arg2)) i := by
  have ht : t.val < 8 := t.isLt
  refine Eq.trans ?_ ((RmsRow.sum_blocks _).trans (Cert.Reference22Ideal.Loss.dg _ _ _ i).symm)
  refine Finset.sum_congr rfl fun s _ => ?_
  have es : (⟨8 * (t.val / 8) + s.val, h s⟩ : Fin cfg0.N) = s := Fin.ext (by show 8 * (t.val / 8) + s.val = s.val; omega)
  rw [es]
  rfl

theorem final3 (c : Dev nD) : (dats m 0 c).arrAt 3 cfg0.N = Cert.Reference22Ideal.Read.val_main_v53 (F := Ideal)
      (m ((c : Thread nD τ).loc main_arg0)) (m ((c : Thread nD τ).loc main_arg1)) (m ((c : Thread nD τ).loc main_arg2)) := by
  refine (dats m 0 c).arrAt_eq_of_covers 3 _ (by decide +kernel) fun t hf y => ?_
  have h3 := (flush0_3 t).mp hf
  blk_simp
  rw [after0_3, Pipeline.eq_sum_fin_of_reset_step_apply_of_flush (fun n h => (outsAt0 m c n h).1) 8 (fun _ => 0) (part3 m c)
    (fun t h j => (step3 m c t j).trans (congrArg (· + _) (dif_pos (by have ht : t.val < 8 := t.isLt; omega))))
    (fun t h j => (step3 m c t j).trans (congrArg (· + _) (dif_neg (by omega)))) t h3 y, zero_add]
  have ht : t.val < 8 := t.isLt
  have e : (((cfg0.win 3).blk t).view.emb y : S1x128.Idx) = y := by
    funext a
    refine Fin.ext ?_
    fin_cases a <;> blk_simp <;> simp [idx t]
  exact (sum3 m c t _ y).trans (congrArg _ e.symm)

theorem final5 (c : Dev nD) : (dats m 0 c).arrAt 5 cfg0.N = Cert.Reference22Ideal.Read.val_main_v52 (F := Ideal)
      (m ((c : Thread nD τ).loc main_arg0)) (m ((c : Thread nD τ).loc main_arg1)) (m ((c : Thread nD τ).loc main_arg2)) := by
  refine (dats m 0 c).arrAt_eq_of_covers 5 _ (by decide +kernel) fun t hf y => ?_
  have h3 := (flush0_5 t).mp hf
  blk_simp
  rw [after0_5, Pipeline.eq_sum_fin_of_reset_step_apply_of_flush (fun n h => (outsAt0 m c n h).2.2.1) 8 (fun _ => 0) (part5 m c)
    (fun t h j => (step5 m c t j).trans (congrArg (· + _) (dif_pos (by have ht : t.val < 8 := t.isLt; omega))))
    (fun t h j => (step5 m c t j).trans (congrArg (· + _) (dif_neg (by omega)))) t h3 y, zero_add]
  have ht : t.val < 8 := t.isLt
  have e : (((cfg0.win 5).blk t).view.emb y : S1x2048.Idx) = y := by
    funext a
    refine Fin.ext ?_
    fin_cases a <;> blk_simp <;> simp [idx t]
  exact (sum5 m c t _ y).trans (congrArg _ e.symm)

theorem final4 (c : Dev nD) : (dats m 0 c).arrAt 4 cfg0.N = Cert.Reference22Ideal.Read.val_main_v51 (F := Ideal)
      (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  have e : (((cfg0.win 4).blk t).view.emb y : S2048x2048.Idx) = ix2 (RmsRow.at_block t (y 0)) (y 1) := by
    funext a
    refine Fin.ext ?_
    fin_cases a <;> blk_simp <;> simp [idx t, RmsRow.at_block]
    omega
  exact (at4 m c t y).trans (congrArg _ e.symm)

theorem final6 (c : Dev nD) : (dats m 0 c).arrAt 6 cfg0.N = Cert.Reference22Ideal.Read.val_main_v54 (F := Ideal)
      (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6, step6]
  have e : (((cfg0.win 6).blk t).view.emb y : S2048x2048.Idx) = ix2 (RmsRow.at_block t (y 0)) (y 1) := by
    funext a
    refine Fin.ext ?_
    fin_cases a <;> blk_simp <;> simp [idx t, RmsRow.at_block]
    omega
  exact (at4 m c t y).trans (congrArg _ e.symm)

set_option maxHeartbeats 4000000 in
/-- The claim: all four results are the reference's. -/
theorem algebraic : Cert.algebraic_Kernel22Ideal_Reference22Ideal := by
  pair_intro
  · run_from Cert.Kernel22Ideal.Value.run_blocks m g
  · refine θ_run_mono (Cert.Reference22Ideal.Value.run m' g') fun r h c => ?_
    obtain ⟨h1, h2, h3, h4, hrest⟩ := h c
    obtain ⟨a0, a1, a2⟩ := hagree c
    refine ⟨h1.trans ((Reference22Ideal.Read.val_main_v53_eq _ _ _).trans ?_),
      h2.trans ((Reference22Ideal.Read.val_main_v51_eq _ _).trans ?_),
      h3.trans ((Reference22Ideal.Read.val_main_v52_eq _ _ _).trans ?_),
      h4.trans ((Reference22Ideal.Read.val_main_v54_eq _ _).trans ?_), hrest⟩
    · rw [a0, a1, a2]
      exact (final3 m c).symm
    · rw [a0, a1, a2]
      exact (final4 m c).symm
    · rw [a0, a1, a2]
      exact (final5 m c).symm
    · rw [a0, a1, a2]
      exact (final6 m c).symm

end Cert.Kernel22Ideal.Loss

end
-- ==== Proof.Shift.lean ====
/- The token shift of one column: each row moved towards the row before it, the first towards zero. -/
module

public import proofs.«01_k».proof.Proof.RmsRow
public import Idealize.ShloMosaic.Lib.Pointwise

@[expose] public section

noncomputable section

open Idealize.ShloMosaic

namespace Shift

/-- The row before, zero before the first. -/
def prev (x : Fin 2048 → EReal) (r : Fin 2048) : EReal := if r.val = 0 then 0 else x ⟨r.val - 1, by omega⟩

/-- The shifted column, `w` being its weight. -/
def shifted (x : Fin 2048 → EReal) (w : EReal) (r : Fin 2048) : EReal := x r + (prev x r - x r) * w

/-- The row before a block's row: in the block, or the last of the block before. -/
theorem prev_block (x : Fin 2048 → EReal) (t : Fin 8) (s : Fin 256) : prev x (RmsRow.at_block t s)
    = if s.val = 0 then if t.val = 0 then 0 else x ⟨256 * t.val - 1, by omega⟩
      else x (RmsRow.at_block t ⟨s.val - 1, by omega⟩) := by
  unfold prev RmsRow.at_block
  dsimp only
  split_ifs
  all_goals first
    | omega
    | rfl
    | exact congrArg x (Fin.ext (by simp only []; omega))

/-- The zero that pads, as the programs write it. -/
theorem pad_zero : FloatOps.sitofp (F := Ideal) FTy.f32 0#32 = (0 : EReal) := by
  show (((0#32 : BitVec 32).toInt : ℝ) : EReal) = _
  simp

/-- A choice by a row's number, as the kernel writes it. -/
theorem select_row (s : Fin 256) (a b : EReal) :
    Scalar.select (IntOp.cmpi CmpIPredicate.eq (BitVec.ofNat 32 s.val) 0#32) a b = if s.val = 0 then a else b := by
  have h : IntOp.cmpi CmpIPredicate.eq (BitVec.ofNat 32 s.val) 0#32 = if s.val = 0 then 1#1 else 0#1 := by
    revert s
    decide +kernel
  rw [h]
  split <;> rfl

/-- A choice by a grid point's number, as the kernel writes it. -/
theorem select_block (t : Fin 8) (a b : EReal) :
    Scalar.select (Scalar.cmpi CmpIPredicate.eq (BitVec.ofNat 32 t.val) 0#32) a b = if t.val = 0 then a else b := by
  have h : Scalar.cmpi CmpIPredicate.eq (BitVec.ofNat 32 t.val) 0#32 = if t.val = 0 then 1#1 else 0#1 := by
    revert t
    decide +kernel
  rw [h]
  split <;> rfl

/-- A number whose difference with itself compares equal to zero is real. -/
theorem real_of_bit (x : EReal)
    (h : FloatOps.cmpf (F := Ideal) (φ := .f32) .oeq (FloatOps.subf (F := Ideal) (φ := .f32) x x) (FloatOps.ofBits .f32 0x00000000#32) = 1#1) :
    x = (x.toReal : EReal) := by
  have h' : x - x = 0 := ((Ideal.cmp_oeq_eq_one _ _).1 h).trans Ideal.ofBits_zero_f32
  induction x with
  | bot => simp at h'
  | top => simp at h'
  | coe a => rfl

/-- The row after, zero after the last. -/
def next (x : Fin 2048 → EReal) (r : Fin 2048) : EReal := if h : r.val = 2047 then 0 else x ⟨r.val + 1, by omega⟩

/-- The gradient that a shifted column's gradient `d` gives its column, as the kernel computes it. -/
def back (d : Fin 2048 → EReal) (w : EReal) (r : Fin 2048) : EReal :=
  d r * (Ideal.ofBits .f32 0x3F800000#32 - w) + next d r * w

/-- The gradient that a shifted column's gradient `d` gives the column's weight. -/
def weighed (d x : Fin 2048 → EReal) (r : Fin 2048) : EReal := d r * (prev x r - x r)

/-- The row after a block's row: in the block, or the first of the block after. -/
theorem next_block (x : Fin 2048 → EReal) (t : Fin 8) (s : Fin 256) : next x (RmsRow.at_block t s)
    = if h : s.val = 255 then if h' : t.val = 7 then 0 else x ⟨256 * t.val + 256, by omega⟩
      else x (RmsRow.at_block t ⟨s.val + 1, by omega⟩) := by
  unfold next RmsRow.at_block
  dsimp only
  split_ifs
  all_goals first
    | omega
    | rfl
    | exact congrArg x (Fin.ext (by simp only []; omega))

/-- A real number less its product with a weight, for infinite weights as well. -/
theorem less (a : ℝ) (w : EReal) : (a : EReal) * (((1 : ℝ) : EReal) - w) = a + -(a * w) := by
  induction w with
  | coe w =>
    norm_cast
    rw [mul_sub, mul_one, sub_eq_add_neg]
  | top =>
    have e : ((1 : ℝ) : EReal) - ⊤ = ⊥ := rfl
    rw [e]
    rcases lt_trichotomy a 0 with h | h | h
    · rw [EReal.coe_mul_bot_of_neg h, EReal.coe_mul_top_of_neg h]
      rfl
    · subst h
      simp
    · rw [EReal.coe_mul_bot_of_pos h, EReal.coe_mul_top_of_pos h]
      rfl
  | bot =>
    have e : ((1 : ℝ) : EReal) - ⊥ = ⊤ := rfl
    rw [e]
    rcases lt_trichotomy a 0 with h | h | h
    · rw [EReal.coe_mul_bot_of_neg h, EReal.coe_mul_top_of_neg h]
      rfl
    · subst h
      simp
    · rw [EReal.coe_mul_bot_of_pos h, EReal.coe_mul_top_of_pos h]
      rfl

/-- Of a real gradient the kernel's form is the one that the derivative of the shift gives. -/
theorem back_eq (d : Fin 2048 → EReal) (w : EReal) (hd : ∀ r, d r = ((d r).toReal : EReal)) (r : Fin 2048) :
    back d w r = d r + -(d r * w) + next (fun r => d r * w) r := by
  have one : Ideal.ofBits .f32 0x3F800000#32 = ((1 : ℝ) : EReal) := by
    simp [Ideal.ofBits, Ideal.ieee]
    rw [← EReal.coe_mul]; norm_num
  have h : next d r * w = next (fun r => d r * w) r := by
    unfold next
    split
    · exact zero_mul w
    · rfl
  unfold back
  rw [one, h, hd r, less]

/-- A choice by the last row's number, as the kernel writes it. -/
theorem select_last (s : Fin 256) (a b : EReal) :
    Scalar.select (IntOp.cmpi CmpIPredicate.eq (BitVec.ofNat 32 s.val) 255#32) a b = if s.val = 255 then a else b := by
  have h : IntOp.cmpi CmpIPredicate.eq (BitVec.ofNat 32 s.val) 255#32 = if s.val = 255 then 1#1 else 0#1 := by
    revert s
    decide +kernel
  rw [h]
  split <;> rfl

/-- A choice by the last grid point's number, as the kernel writes it. -/
theorem select_last_block (t : Fin 8) (a b : EReal) :
    Scalar.select (Scalar.cmpi CmpIPredicate.eq (BitVec.ofNat 32 t.val) 7#32) a b = if t.val = 7 then a else b := by
  have h : Scalar.cmpi CmpIPredicate.eq (BitVec.ofNat 32 t.val) 7#32 = if t.val = 7 then 1#1 else 0#1 := by
    revert t
    decide +kernel
  rw [h]
  split <;> rfl

end Shift

end
-- ==== Proof.ShiftMain.lean ====
/- The token shift of the 3072 columns of the receptance, key and value: the claim. -/
module

public import proofs.«01_k».proof.Defs
public import proofs.«01_k».proof.Proof.RmsRow
public import proofs.«01_k».proof.Proof.Shift
public import proofs.«01_k».proof.Proof.Gen.Kernel23Ideal.Value
public import proofs.«01_k».proof.Proof.Gen.Reference23Ideal.Run
public import proofs.«01_k».proof.Proof.Gen.Reference23Ideal.Read
public import Idealize.ShloMosaic.Lib.Pipeline.ValueKit
public import Idealize.ShloMosaic.Lib.StableHlo.ReadAt
public import Idealize.ShloMosaic.Lib.KernelVsHost
public import Idealize.ShloMosaic.Lib.Pointwise

@[expose] public section

noncomputable section

open Idealize.ShloMosaic Idealize.ShloMosaic.TcCoe Idealize.SL.Sem

namespace Cert.Reference23Ideal.Shift
open Cert.Reference23Ideal Cert.Reference23Ideal.Read

/-- A column's weight. -/
def weight (w : FVec Ideal S1x3360 .f32) (k : Fin 3072) : EReal := w (ix2 0 ⟨k.val, by omega⟩)

/-- A column of the receptance, key or value. -/
def col (p : FVec Ideal S2048x5632 .f32) (k : Fin 3072) (r : Fin 2048) : EReal := p (ix2 r ⟨k.val, by omega⟩)

/-- The columns with a leading axis. -/
theorem v1 (p : FVec Ideal S2048x5632 .f32) (r : Fin 2048) (k : Fin 3072) :
    val_main_v1 (F := Ideal) p (ix3 0 r k) = col p k r := by
  rw [val_main_v1_apply, val_main_v0_apply]
  refine congrArg p (funext fun a => Fin.ext ?_)
  fin_cases a <;> rfl

/-- The rows before. -/
theorem v5 (p : FVec Ideal S2048x5632 .f32) (r : Fin 2048) (k : Fin 3072) :
    val_main_v5 (F := Ideal) p (ix3 0 r k) = Shift.prev (col p k) r := by
  unfold val_main_v5 Shift.prev
  by_cases h : r.val = 0
  · rw [if_pos h]
    refine (pad_apply_of_not_inside _ _ _ _ _ _ _ (ix3 0 r k) 1 fun q => ?_).trans Shift.pad_zero
    exact absurd (show 1 ≤ r.val from q.1) (by omega)
  · rw [if_neg h]
    refine (pad_apply_of_inside _ _ _ _ _ _ _ (ix3 0 r k) (ix3 0 ⟨r.val - 1, by omega⟩ k) fun a => ?_).trans ?_
    · fin_cases a
      · rfl
      · show r.val = 1 + (r.val - 1) * 1
        omega
      · show k.val = 0 + k.val * 1
        omega
    · rw [val_main_v4_apply]
      refine Eq.trans (congrArg _ (funext fun a => ?_)) (v1 p ⟨r.val - 1, by omega⟩ k)
      fin_cases a <;> rfl

/-- The weights along the rows. -/
theorem v8 (w : FVec Ideal S1x3360 .f32) (r : Fin 2048) (k : Fin 3072) :
    val_main_v8 (F := Ideal) w (ix3 0 r k) = weight w k := by
  rw [val_main_v8_apply, val_main_v7_apply, val_main_v3_apply, val_main_v2_apply]
  refine congrArg w (funext fun a => Fin.ext ?_)
  fin_cases a
  · rfl
  · show k.val % 3072 = k.val
    omega

/-- The reference's shifted columns. -/
theorem v11 (p : FVec Ideal S2048x5632 .f32) (w : FVec Ideal S1x3360 .f32) (r : Fin 2048) (k : Fin 3072) :
    val_main_v11 (F := Ideal) p w (ix2 r k) = Shift.shifted (col p k) (weight w k) r := by
  have e : idx_main_v11 (ix2 r k) = ix3 0 r k := by
    funext a
    fin_cases a
    · rfl
    · refine Fin.ext ?_
      show (r.val * 3072 + k.val) / 3072 % 2048 = r.val
      omega
    · refine Fin.ext ?_
      show (r.val * 3072 + k.val) % 3072 = k.val
      omega
  unfold Shift.shifted
  rw [val_main_v11_apply, e, ← v1, ← v5, ← v8 w r k]
  rfl

end Cert.Reference23Ideal.Shift

namespace Cert.Kernel23Ideal.Shift
open Cert.Kernel23Ideal Cert.Kernel23Ideal.Gen

/-- One block's shifted row, from the block, the eight rows before it and the weights. -/
theorem pay (i : grid0.Coords) (x : Vec Ideal S256x3072 .f32) (b : Vec Ideal S8x3072 .f32) (w : Vec Ideal S1x3072 .f32)
    (s : Fin 256) (k : Fin 3072) :
    k0_pay1 i x b w (ix2 s k) = x (ix2 s k) + ((if s.val = 0 then if (i 0).val = 0 then 0 else b (ix2 7 k)
      else x (ix2 ⟨s.val - 1, by omega⟩ k)) - x (ix2 s k)) * w (ix2 0 k) := by
  unfold k0_pay1
  dsimp only
  simp only [pointwise, List.foldl, Nat.zero_mul, Nat.zero_add]
  refine congrArg (x (ix2 s k) + ·) (congrArg₂ (· * ·) (congrArg (· - x (ix2 s k)) ?_) rfl)
  refine (Shift.select_row s _ _).trans ?_
  by_cases h : s.val = 0
  · rw [if_pos h, if_pos h]
    refine (Shift.select_block (i 0) _ _).trans ?_
    simp
  · rw [if_neg h, if_neg h]
    refine congrArg x (congrArg₂ ix2 (Fin.ext ?_) rfl)
    simp
    omega

variable (m : (ℓ : Loc nD τ sig) → Buf (Elt Ideal) ℓ)

/-- The blocks of the windows at a grid point. -/
theorem idx : ∀ t : Fin cfg0.N, win0_0.index t = ![t.val, 0] ∧ win0_1.index t = ![32 * t.val - 1, 0] ∧ win0_2.index t = ![0, 0]
    ∧ win0_3.index t = ![t.val, 0] :=
  (by decide +kernel : ∀ t : Fin grid0.N, _)

theorem read0 (c : Dev nD) (t : Fin cfg0.N) (s : Fin 256) (k : Fin 3072) :
    X0_0 m c t (ix2 s k) = m ((c : Thread nD τ).loc main_arg0) (ix2 (RmsRow.at_block t s) ⟨k.val, by omega⟩) := by
  unfold X0_0 Pipeline.Window.fill
  rw [dif_pos (moved0_0 t (ix2 s k))]
  blk_ext! [iblk, V, idx t, RmsRow.at_block]

theorem read1 (c : Dev nD) (t : Fin cfg0.N) (h : t.val ≠ 0) (k : Fin 3072) :
    X0_1 m c t (ix2 7 k) = m ((c : Thread nD τ).loc main_arg0)
      (ix2 ⟨256 * t.val - 1, by have := t.isLt; change t.val < 8 at this; omega⟩ ⟨k.val, by omega⟩) := by
  have h8 : t.val < 8 := t.isLt
  unfold X0_1 Pipeline.Window.fill
  rw [dif_pos (moved0_1 t (ix2 7 k))]
  blk_ext! [iblk, V, idx t]

theorem weights (c : Dev nD) (j : S1x3072.Idx) :
    V m c main_v0 j = Cert.Reference23Ideal.Shift.weight (m ((c : Thread nD τ).loc main_arg1)) (j 1) := by
  unfold V
  after_reads_at
  rfl

theorem block2 (t : Fin cfg0.N) (A : FVec Ideal S1x3072 .f32) (i : S1x3072.Idx) :
    ((cfg0.win 2).blk t).view.read (Elt Ideal) A i = A i := by
  blk_ext! [idx t]

theorem read2 (c : Dev nD) (t : Fin cfg0.N) (k : Fin 3072) :
    iblk m c 2 t (ix2 0 k) = Cert.Reference23Ideal.Shift.weight (m ((c : Thread nD τ).loc main_arg1)) k :=
  (show iblk m c 2 t (ix2 0 k) = ((cfg0.win 2).blk t).view.read (Elt Ideal) (V m c main_v0) (ix2 0 k) from rfl).trans
    ((block2 t (V m c main_v0) (ix2 0 k)).trans (weights m c (ix2 0 k)))

/-- A grid point's number is its coordinate. -/
theorem coord : ∀ t : Fin cfg0.N, (grid0.coords t 0).val = t.val :=
  (by decide +kernel : ∀ t : Fin grid0.N, (grid0.coords t 0).val = t.val)

/-- The shifted row at a grid point's row. -/
theorem step (c : Dev nD) (t : Fin cfg0.N) (s : Fin 256) (k : Fin 3072) :
    outsAt0 m c t (ix2 s k)
      = Cert.Reference23Ideal.Read.val_main_v11 (F := Ideal) (m ((c : Thread nD τ).loc main_arg0))
        (m ((c : Thread nD τ).loc main_arg1)) (ix2 (RmsRow.at_block t s) k) := by
  have h8 : t.val < 8 := t.isLt
  rw [Cert.Reference23Ideal.Shift.v11]
  have e : k0_pay1 (grid0.coords t) (X0_0 m c t) (X0_1 m c t) (iblk m c 2 t) (ix2 s k) = _ := pay _ _ _ _ s k
  have h : (if s.val = 0 then if t.val = 0 then (0 : EReal) else X0_1 m c t (ix2 7 k) else X0_0 m c t (ix2 ⟨s.val - 1, by omega⟩ k))
      = Shift.prev (Cert.Reference23Ideal.Shift.col (m ((c : Thread nD τ).loc main_arg0)) k) (RmsRow.at_block t s) := by
    refine Eq.trans ?_ (Shift.prev_block _ t s).symm
    by_cases hs : s.val = 0
    · rw [if_pos hs, if_pos hs]
      by_cases ht : t.val = 0
      · rw [if_pos ht, if_pos ht]
      · rw [if_neg ht, if_neg ht]
        exact read1 m c t ht k
    · rw [if_neg hs, if_neg hs]
      exact read0 m c t ⟨s.val - 1, by omega⟩ k
  rw [read0, read2, coord, h] at e
  refine Eq.trans ?_ e
  unfold outsAt0 out0_A_3
  frame_out

/-- The same at a block's index. -/
theorem step_at (c : Dev nD) (t : Fin cfg0.N) (i : S256x3072.Idx) :
    outsAt0 m c t i
      = Cert.Reference23Ideal.Read.val_main_v11 (F := Ideal) (m ((c : Thread nD τ).loc main_arg0))
        (m ((c : Thread nD τ).loc main_arg1)) (ix2 (RmsRow.at_block t (i 0)) (i 1)) := by
  have e : i = ix2 (i 0) (i 1) := by
    funext a
    fin_cases a <;> rfl
  exact (congrArg (outsAt0 m c t) e).trans (step m c t (i 0) (i 1))

theorem final3 (c : Dev nD) : (dats m 0 c).arrAt 3 cfg0.N = Cert.Reference23Ideal.Read.val_main_v11 (F := Ideal)
      (m ((c : Thread nD τ).loc main_arg0)) (m ((c : Thread nD τ).loc main_arg1)) := by
  refine (dats m 0 c).arrAt_eq_of_covers 3 _ (by decide +kernel) fun t hf y => ?_
  blk_simp
  rw [after0_3]
  have e : (((cfg0.win 3).blk t).view.emb y : S2048x3072.Idx) = ix2 (RmsRow.at_block t (y 0)) (y 1) := by
    funext a
    refine Fin.ext ?_
    fin_cases a <;> blk_simp <;> simp [idx t, RmsRow.at_block]
    omega
  exact (step_at m c t y).trans (congrArg _ e.symm)

set_option maxHeartbeats 4000000 in
/-- The claim: the shifted columns are the reference's. -/
theorem algebraic : Cert.algebraic_Kernel23Ideal_Reference23Ideal := by
  pair_intro
  · run_from Cert.Kernel23Ideal.Value.run_blocks m g
  · refine θ_run_mono (Cert.Reference23Ideal.Value.run m' g') fun r h c => ?_
    obtain ⟨h1, hrest⟩ := h c
    obtain ⟨a0, a1⟩ := hagree c
    refine ⟨h1.trans ((Reference23Ideal.Read.val_main_v11_eq _ _).trans ?_), hrest⟩
    rw [a0, a1]
    exact (final3 m c).symm

end Cert.Kernel23Ideal.Shift

end
-- ==== Proof.ShiftLora.lean ====
/- The token shift of the 512 columns of the low-rank parts: the claim. -/
module

public import proofs.«01_k».proof.Defs
public import proofs.«01_k».proof.Proof.RmsRow
public import proofs.«01_k».proof.Proof.Shift
public import proofs.«01_k».proof.Proof.Gen.Kernel24Ideal.Value
public import proofs.«01_k».proof.Proof.Gen.Reference24Ideal.Run
public import proofs.«01_k».proof.Proof.Gen.Reference24Ideal.Read
public import Idealize.ShloMosaic.Lib.Pipeline.ValueKit
public import Idealize.ShloMosaic.Lib.StableHlo.ReadAt
public import Idealize.ShloMosaic.Lib.KernelVsHost
public import Idealize.ShloMosaic.Lib.Pointwise

@[expose] public section

noncomputable section

open Idealize.ShloMosaic Idealize.ShloMosaic.TcCoe Idealize.SL.Sem

namespace Cert.Reference24Ideal.Shift
open Cert.Reference24Ideal Cert.Reference24Ideal.Read

/-- A column's weight; the columns past the low-rank parts have none. -/
def weight (w : FVec Ideal S1x3360 .f32) (k : Fin 512) : EReal :=
  if h : k.val < 288 then w (ix2 0 ⟨3072 + k.val, by omega⟩) else 0

/-- A column of the low-rank parts. -/
def col (p : FVec Ideal S2048x5632 .f32) (k : Fin 512) (r : Fin 2048) : EReal := p (ix2 r ⟨5120 + k.val, by omega⟩)

/-- The weights read at a column. -/
theorem v2 (w : FVec Ideal S1x3360 .f32) (k : Fin 512) : val_main_v2 (F := Ideal) w (ix1 k) = weight w k := by
  unfold val_main_v2 val_main_v1 val_main_v0 val_main_call0_v0 val_main_c weight
  simp only [pointwise]
  by_cases h : k.val < 288
  · rw [dif_pos h, dif_pos (fun a => by fin_cases a; simp [ix1, Nat.mod_one]; exact h)]
    exact congrArg w (congrArg (ix2 0) (Fin.ext (by simp)))
  · rw [dif_neg h, dif_neg (fun q => h (by simpa [ix1] using (q 0).2.2))]
    exact Shift.pad_zero

/-- The columns with a leading axis. -/
theorem v4 (p : FVec Ideal S2048x5632 .f32) (r : Fin 2048) (k : Fin 512) :
    val_main_v4 (F := Ideal) p (ix3 0 r k) = col p k r := by
  rw [val_main_v4_apply, val_main_v3_apply]
  refine congrArg p (funext fun a => Fin.ext ?_)
  fin_cases a <;> rfl

/-- The rows before. -/
theorem v6 (p : FVec Ideal S2048x5632 .f32) (r : Fin 2048) (k : Fin 512) :
    val_main_v6 (F := Ideal) p (ix3 0 r k) = Shift.prev (col p k) r := by
  unfold val_main_v6 Shift.prev
  by_cases h : r.val = 0
  · rw [if_pos h]
    refine (pad_apply_of_not_inside _ _ _ _ _ _ _ (ix3 0 r k) 1 fun q => ?_).trans Shift.pad_zero
    exact absurd (show 1 ≤ r.val from q.1) (by omega)
  · rw [if_neg h]
    refine (pad_apply_of_inside _ _ _ _ _ _ _ (ix3 0 r k) (ix3 0 ⟨r.val - 1, by omega⟩ k) fun a => ?_).trans ?_
    · fin_cases a
      · rfl
      · show r.val = 1 + (r.val - 1) * 1
        omega
      · show k.val = 0 + k.val * 1
        omega
    · rw [val_main_v5_apply]
      refine Eq.trans (congrArg _ (funext fun a => ?_)) (v4 p ⟨r.val - 1, by omega⟩ k)
      fin_cases a <;> rfl

/-- The weights along the rows. -/
theorem v9 (w : FVec Ideal S1x3360 .f32) (r : Fin 2048) (k : Fin 512) :
    val_main_v9 (F := Ideal) w (ix3 0 r k) = weight w k := by
  rw [val_main_v9_apply, val_main_v8_apply]
  refine Eq.trans (congrArg _ (funext fun a => ?_)) (v2 w k)
  fin_cases a
  rfl

/-- The reference's shifted columns. -/
theorem v12 (p : FVec Ideal S2048x5632 .f32) (w : FVec Ideal S1x3360 .f32) (r : Fin 2048) (k : Fin 512) :
    val_main_v12 (F := Ideal) p w (ix2 r k) = Shift.shifted (col p k) (weight w k) r := by
  have e : idx_main_v12 (ix2 r k) = ix3 0 r k := by
    funext a
    fin_cases a
    · rfl
    · refine Fin.ext ?_
      show (r.val * 512 + k.val) / 512 % 2048 = r.val
      omega
    · refine Fin.ext ?_
      show (r.val * 512 + k.val) % 512 = k.val
      omega
  unfold Shift.shifted
  rw [val_main_v12_apply, e, ← v4, ← v6, ← v9 w r k]
  rfl

end Cert.Reference24Ideal.Shift

namespace Cert.Kernel24Ideal.Shift
open Cert.Kernel24Ideal Cert.Kernel24Ideal.Gen

/-- One block's shifted row, from the block, the eight rows before it and the weights. -/
theorem pay (i : grid0.Coords) (x : Vec Ideal S256x512 .f32) (b : Vec Ideal S8x512 .f32) (w : Vec Ideal S1x512 .f32)
    (s : Fin 256) (k : Fin 512) :
    k0_pay1 i x b w (ix2 s k) = x (ix2 s k) + ((if s.val = 0 then if (i 0).val = 0 then 0 else b (ix2 7 k)
      else x (ix2 ⟨s.val - 1, by omega⟩ k)) - x (ix2 s k)) * w (ix2 0 k) := by
  unfold k0_pay1
  dsimp only
  simp only [pointwise, List.foldl, Nat.zero_mul, Nat.zero_add]
  refine congrArg (x (ix2 s k) + ·) (congrArg₂ (· * ·) (congrArg (· - x (ix2 s k)) ?_) rfl)
  refine (Shift.select_row s _ _).trans ?_
  by_cases h : s.val = 0
  · rw [if_pos h, if_pos h]
    refine (Shift.select_block (i 0) _ _).trans ?_
    simp
  · rw [if_neg h, if_neg h]
    refine congrArg x (congrArg₂ ix2 (Fin.ext ?_) rfl)
    simp
    omega

variable (m : (ℓ : Loc nD τ sig) → Buf (Elt Ideal) ℓ)

/-- The blocks of the windows at a grid point. -/
theorem idx : ∀ t : Fin cfg0.N, win0_0.index t = ![t.val, 10] ∧ win0_1.index t = ![32 * t.val - 1, 10] ∧ win0_2.index t = ![0, 0]
    ∧ win0_3.index t = ![t.val, 0] :=
  (by decide +kernel : ∀ t : Fin grid0.N, _)

theorem read0 (c : Dev nD) (t : Fin cfg0.N) (s : Fin 256) (k : Fin 512) :
    iblk m c 0 t (ix2 s k) = m ((c : Thread nD τ).loc main_arg0) (ix2 (RmsRow.at_block t s) ⟨5120 + k.val, by omega⟩) := by
  blk_ext! [iblk, V, idx t, RmsRow.at_block]

theorem read1 (c : Dev nD) (t : Fin cfg0.N) (h : t.val ≠ 0) (k : Fin 512) :
    iblk m c 1 t (ix2 7 k) = m ((c : Thread nD τ).loc main_arg0)
      (ix2 ⟨256 * t.val - 1, by have := t.isLt; change t.val < 8 at this; omega⟩ ⟨5120 + k.val, by omega⟩) := by
  have h8 : t.val < 8 := t.isLt
  blk_ext! [iblk, V, idx t]

theorem weights (c : Dev nD) (j : S1x512.Idx) :
    V m c main_v1 j = Cert.Reference24Ideal.Shift.weight (m ((c : Thread nD τ).loc main_arg1)) (j 1) := by
  unfold V
  after_reads_at
  unfold Cert.Reference24Ideal.Shift.weight
  split
  · rfl
  · exact Shift.pad_zero

theorem block2 (t : Fin cfg0.N) (A : FVec Ideal S1x512 .f32) (i : S1x512.Idx) :
    ((cfg0.win 2).blk t).view.read (Elt Ideal) A i = A i := by
  blk_ext! [idx t]

theorem read2 (c : Dev nD) (t : Fin cfg0.N) (k : Fin 512) :
    iblk m c 2 t (ix2 0 k) = Cert.Reference24Ideal.Shift.weight (m ((c : Thread nD τ).loc main_arg1)) k :=
  (show iblk m c 2 t (ix2 0 k) = ((cfg0.win 2).blk t).view.read (Elt Ideal) (V m c main_v1) (ix2 0 k) from rfl).trans
    ((block2 t (V m c main_v1) (ix2 0 k)).trans (weights m c (ix2 0 k)))

/-- A grid point's number is its coordinate. -/
theorem coord : ∀ t : Fin cfg0.N, (grid0.coords t 0).val = t.val :=
  (by decide +kernel : ∀ t : Fin grid0.N, (grid0.coords t 0).val = t.val)

/-- The shifted row at a grid point's row. -/
theorem step (c : Dev nD) (t : Fin cfg0.N) (s : Fin 256) (k : Fin 512) :
    out0_3 (grid0.coords t) (iblk m c 0 t) (iblk m c 1 t) (iblk m c 2 t) (ix2 s k)
      = Cert.Reference24Ideal.Read.val_main_v12 (F := Ideal) (m ((c : Thread nD τ).loc main_arg0))
        (m ((c : Thread nD τ).loc main_arg1)) (ix2 (RmsRow.at_block t s) k) := by
  have h8 : t.val < 8 := t.isLt
  rw [Cert.Reference24Ideal.Shift.v12]
  have e : k0_pay1 (grid0.coords t) (iblk m c 0 t) (iblk m c 1 t) (iblk m c 2 t) (ix2 s k) = _ := pay _ _ _ _ s k
  have h : (if s.val = 0 then if t.val = 0 then (0 : EReal) else iblk m c 1 t (ix2 7 k) else iblk m c 0 t (ix2 ⟨s.val - 1, by omega⟩ k))
      = Shift.prev (Cert.Reference24Ideal.Shift.col (m ((c : Thread nD τ).loc main_arg0)) k) (RmsRow.at_block t s) := by
    refine Eq.trans ?_ (Shift.prev_block _ t s).symm
    by_cases hs : s.val = 0
    · rw [if_pos hs, if_pos hs]
      by_cases ht : t.val = 0
      · rw [if_pos ht, if_pos ht]
      · rw [if_neg ht, if_neg ht]
        exact read1 m c t ht k
    · rw [if_neg hs, if_neg hs]
      exact read0 m c t ⟨s.val - 1, by omega⟩ k
  rw [read0, read2, coord, h] at e
  refine Eq.trans ?_ e
  unfold out0_3
  frame_out

/-- The same at a block's index. -/
theorem step_at (c : Dev nD) (t : Fin cfg0.N) (i : S256x512.Idx) :
    out0_3 (grid0.coords t) (iblk m c 0 t) (iblk m c 1 t) (iblk m c 2 t) i
      = Cert.Reference24Ideal.Read.val_main_v12 (F := Ideal) (m ((c : Thread nD τ).loc main_arg0))
        (m ((c : Thread nD τ).loc main_arg1)) (ix2 (RmsRow.at_block t (i 0)) (i 1)) := by
  have e : i = ix2 (i 0) (i 1) := by
    funext a
    fin_cases a <;> rfl
  exact (congrArg (out0_3 (grid0.coords t) (iblk m c 0 t) (iblk m c 1 t) (iblk m c 2 t)) e).trans (step m c t (i 0) (i 1))

theorem final3 (c : Dev nD) : (dats m 0 c).arrAt 3 cfg0.N = Cert.Reference24Ideal.Read.val_main_v12 (F := Ideal)
      (m ((c : Thread nD τ).loc main_arg0)) (m ((c : Thread nD τ).loc main_arg1)) := by
  refine (dats m 0 c).arrAt_eq_of_covers 3 _ (by decide +kernel) fun t hf y => ?_
  blk_simp
  rw [after0_3]
  have e : (((cfg0.win 3).blk t).view.emb y : S2048x512.Idx) = ix2 (RmsRow.at_block t (y 0)) (y 1) := by
    funext a
    refine Fin.ext ?_
    fin_cases a <;> blk_simp <;> simp [idx t, RmsRow.at_block]
    omega
  exact (step_at m c t y).trans (congrArg _ e.symm)

set_option maxHeartbeats 4000000 in
/-- The claim: the shifted columns are the reference's. -/
theorem algebraic : Cert.algebraic_Kernel24Ideal_Reference24Ideal := by
  pair_intro
  · run_from Cert.Kernel24Ideal.Value.run_blocks m g
  · refine θ_run_mono (Cert.Reference24Ideal.Value.run m' g') fun r h c => ?_
    obtain ⟨h1, hrest⟩ := h c
    obtain ⟨a0, a1⟩ := hagree c
    refine ⟨h1.trans ((Reference24Ideal.Read.val_main_v12_eq _ _).trans ?_), hrest⟩
    rw [a0, a1]
    exact (final3 m c).symm

end Cert.Kernel24Ideal.Shift

end
-- ==== Proof.ShiftBackMain.lean ====
/- The gradient of the token shift of the 3072 columns of the receptance, key and value: the claim. -/
module

public import proofs.«01_k».proof.Defs
public import proofs.«01_k».proof.Proof.RmsRow
public import proofs.«01_k».proof.Proof.Shift
public import proofs.«01_k».proof.Proof.ShiftMain
public import proofs.«01_k».proof.Proof.Gen.Pre_finite_rkv
public import proofs.«01_k».proof.Proof.Gen.Kernel25Ideal.Value
public import proofs.«01_k».proof.Proof.Gen.Reference25Ideal.Run
public import proofs.«01_k».proof.Proof.Gen.Reference25Ideal.Read
public import Idealize.ShloMosaic.Lib.Pipeline.ValueKit
public import Idealize.ShloMosaic.Lib.StableHlo.ReadAt
public import Idealize.ShloMosaic.Lib.KernelVsHost
public import Idealize.ShloMosaic.Lib.Pointwise

@[expose] public section

noncomputable section

open Idealize.ShloMosaic Idealize.ShloMosaic.TcCoe Idealize.SL.Sem

namespace Cert.Reference25Ideal.Shift
open Cert.Reference25Ideal Cert.Reference25Ideal.Read Cert.Reference23Ideal.Shift

/-- A column of the shifted columns' gradient. -/
def grad (d : FVec Ideal S2048x3072 .f32) (k : Fin 3072) (r : Fin 2048) : EReal := d (ix2 r k)

/-- The weights read at a column. -/
theorem v1 (w : FVec Ideal S1x3360 .f32) (k : Fin 3072) : val_main_v1 (F := Ideal) w (ix2 0 k) = weight w k := by
  rw [val_main_v1_apply]
  refine congrArg w (funext fun a => Fin.ext ?_)
  fin_cases a <;> rfl

theorem v0 (p : FVec Ideal S2048x5632 .f32) (r : Fin 2048) (k : Fin 3072) : val_main_v0 (F := Ideal) p (ix2 r k) = col p k r := by
  rw [val_main_v0_apply]
  refine congrArg p (funext fun a => Fin.ext ?_)
  fin_cases a <;> rfl

/-- The rows before. -/
theorem v5 (p : FVec Ideal S2048x5632 .f32) (r : Fin 2048) (k : Fin 3072) :
    val_main_v5 (F := Ideal) p (ix2 r k) = Shift.prev (col p k) r := by
  unfold val_main_v5 Shift.prev
  by_cases h : r.val = 0
  · rw [if_pos h]
    refine (concatenate_pair_apply_left (s₁ := S1x3072) (s₂ := S2047x3072) 0 _ _ _ (ix2 r k) rfl (ix2 0 k) fun a => ?_).trans ?_
    · fin_cases a
      · exact h.symm
      · rfl
    · rw [val_main_v3_apply]
      exact Ideal.ofBits_zero_f32
  · rw [if_neg h]
    refine (concatenate_pair_apply_right (s₁ := S1x3072) (s₂ := S2047x3072) 0 _ _ _ (ix2 r k) rfl rfl
      (ix2 ⟨r.val - 1, by omega⟩ k) (fun a ha => ?_) ?_).trans ?_
    · fin_cases a
      · exact absurd rfl ha
      · rfl
    · show r.val - 1 + 1 = r.val
      omega
    · rw [val_main_v4_apply]
      refine Eq.trans (congrArg _ (funext fun a => ?_)) (v0 p ⟨r.val - 1, by omega⟩ k)
      fin_cases a <;> rfl

/-- An array laid out as it is. -/
theorem v12 (d : FVec Ideal S2048x3072 .f32) (r : Fin 2048) (k : Fin 3072) : val_main_v12 (F := Ideal) d (ix2 r k) = grad d k r := by
  rw [val_main_v12_apply]
  refine congrArg d (funext fun a => Fin.ext ?_)
  fin_cases a
  · show (r.val * 3072 + k.val) / 3072 = r.val
    omega
  · show (r.val * 3072 + k.val) % 3072 = k.val
    omega

/-- The gradient that the weight takes off. -/
theorem v17 (d : FVec Ideal S2048x3072 .f32) (w : FVec Ideal S1x3360 .f32) (r : Fin 2048) (k : Fin 3072) :
    val_main_v17 (F := Ideal) d w (ix2 r k) = grad d k r * weight w k := by
  rw [val_main_v17_apply, val_main_v16_apply, v12]
  refine congrArg (grad d k r * ·) (Eq.trans (congrArg _ (funext fun a => ?_)) (v1 w k))
  fin_cases a <;> rfl

/-- The part from the row after. -/
theorem v22 (d : FVec Ideal S2048x3072 .f32) (w : FVec Ideal S1x3360 .f32) (r : Fin 2048) (k : Fin 3072) :
    val_main_v22 (F := Ideal) d w (ix2 r k) = Shift.next (fun r => grad d k r * weight w k) r := by
  unfold val_main_v22 Shift.next
  by_cases h : r.val = 2047
  · rw [dif_pos h]
    refine (pad_apply_of_not_inside _ _ _ _ _ _ _ (ix2 r k) 0 fun q => ?_).trans Ideal.ofBits_zero_f32
    have q2 : (r.val - 0) / 1 < 2047 := q.2.2
    omega
  · rw [dif_neg h]
    refine (pad_apply_of_inside _ _ _ _ _ _ _ (ix2 r k) (ix2 ⟨r.val, by omega⟩ k) fun a => ?_).trans ?_
    · fin_cases a
      · show r.val = 0 + r.val * 1
        omega
      · show k.val = 0 + k.val * 1
        omega
    · rw [val_main_v21_apply]
      refine Eq.trans (congrArg _ (funext fun a => Fin.ext ?_)) (v17 d w ⟨r.val + 1, by omega⟩ k)
      fin_cases a
      · show 1 + r.val = r.val + 1
        omega
      · rfl

/-- The reference's gradient of the columns. -/
theorem v24 (d : FVec Ideal S2048x3072 .f32) (w : FVec Ideal S1x3360 .f32) (r : Fin 2048) (k : Fin 3072) :
    val_main_v24 (F := Ideal) d w (ix2 r k)
      = grad d k r + -(grad d k r * weight w k) + Shift.next (fun r => grad d k r * weight w k) r := by
  rw [← v17, ← v22, ← v12]
  rfl

/-- A row's part of the gradient of the weights. -/
theorem v13 (d : FVec Ideal S2048x3072 .f32) (p : FVec Ideal S2048x5632 .f32) (r : Fin 2048) (k : Fin 3072) :
    val_main_v13 (F := Ideal) d p (ix2 r k) = Shift.weighed (grad d k) (col p k) r := by
  rw [val_main_v13_apply, v12, val_main_v7_apply, v5, v0]
  exact mul_comm _ _

/-- The reference's gradient of the weights. -/
theorem v15 (d : FVec Ideal S2048x3072 .f32) (p : FVec Ideal S2048x5632 .f32) (i : S1x3072.Idx) :
    val_main_v15 (F := Ideal) d p i = ∑ r, Shift.weighed (grad d (i 1)) (col p (i 1)) r := by
  have h0 : (i 0).val < 1 := (i 0).isLt
  rw [val_main_v15_apply, val_main_v14_apply]
  refine (congrArg₂ _ Ideal.ofBits_zero_f32 (Finset.sum_congr rfl fun r _ => ?_)).trans (zero_add _)
  have e : idx_main_v14 (idx_main_v15 i) r = ix2 r (i 1) := by
    funext a
    refine Fin.ext ?_
    fin_cases a
    · rfl
    · show (i 0).val * 3072 + (i 1).val = (i 1).val
      omega
  exact (congrArg _ e).trans (v13 d p r (i 1))

end Cert.Reference25Ideal.Shift

namespace Cert.Kernel25Ideal.Shift
open Cert.Kernel25Ideal Cert.Kernel25Ideal.Gen Cert.Reference23Ideal.Shift Cert.Reference25Ideal.Shift

/-- One block's gradient of the columns, from the block, the first row of the block after and the weights. -/
theorem pay3 (i : grid0.Coords) (d : Vec Ideal S256x3072 .f32) (w b : Vec Ideal S1x3072 .f32) (s : Fin 256) (k : Fin 3072) :
    k0_pay3 i d w b (ix2 s k) = d (ix2 s k) * (Ideal.ofBits .f32 0x3F800000#32 - w (ix2 0 k))
      + (if h : s.val = 255 then if (i 0).val = 7 then 0 else b (ix2 0 k) else d (ix2 ⟨s.val + 1, by omega⟩ k)) * w (ix2 0 k) := by
  unfold k0_pay3
  dsimp only
  simp only [pointwise, List.foldl, Nat.zero_mul, Nat.zero_add]
  refine congrArg₂ (fun a b : EReal => a + b) rfl (congrArg₂ (fun a b : EReal => a * b) ?_ rfl)
  refine (Shift.select_last s _ _).trans ?_
  by_cases h : s.val = 255
  · rw [if_pos h, dif_pos h]
    refine (Shift.select_last_block (i 0) _ _).trans ?_
    simp
  · rw [if_neg h, dif_neg h]
    refine congrArg d (congrArg₂ ix2 (Fin.ext ?_) rfl)
    simp
    omega

/-- One block's differences with the rows before. -/
theorem pay4 (i : grid0.Coords) (x : Vec Ideal S256x3072 .f32) (b : Vec Ideal S8x3072 .f32) (s : Fin 256) (k : Fin 3072) :
    k0_pay4 i x b (ix2 s k) = (if s.val = 0 then if (i 0).val = 0 then 0 else b (ix2 7 k)
      else x (ix2 ⟨s.val - 1, by omega⟩ k)) - x (ix2 s k) := by
  unfold k0_pay4
  dsimp only
  simp only [pointwise, List.foldl, Nat.zero_mul, Nat.zero_add]
  refine congrArg (· - x (ix2 s k)) ?_
  refine (Shift.select_row s _ _).trans ?_
  by_cases h : s.val = 0
  · rw [if_pos h, if_pos h]
    refine (Shift.select_block (i 0) _ _).trans ?_
    simp
  · rw [if_neg h, if_neg h]
    refine congrArg x (congrArg₂ ix2 (Fin.ext ?_) rfl)
    simp
    omega

/-- One block's part of the gradient of the weights. -/
theorem pay1 (d e : Vec Ideal S256x3072 .f32) (i : S1x3072.Idx) : k0_pay1 d e i = ∑ s, d (ix2 s (i 1)) * e (ix2 s (i 1)) := by
  unfold k0_pay1
  dsimp only
  simp only [pointwise]

variable (m : (ℓ : Loc nD τ sig) → Buf (Elt Ideal) ℓ)

/-- The blocks of the windows at a grid point. -/
theorem idx : ∀ t : Fin cfg0.N, win0_0.index t = ![t.val, 0] ∧ win0_1.index t = ![min (32 * t.val + 32) 255, 0]
    ∧ win0_2.index t = ![t.val, 0] ∧ win0_3.index t = ![32 * t.val - 1, 0] ∧ win0_4.index t = ![0, 0]
    ∧ win0_5.index t = ![t.val, 0] ∧ win0_6.index t = ![0, 0] :=
  (by decide +kernel : ∀ t : Fin grid0.N, _)

theorem read0 (c : Dev nD) (t : Fin cfg0.N) (s : Fin 256) (k : Fin 3072) :
    iblk m c 0 t (ix2 s k) = grad (m ((c : Thread nD τ).loc main_arg0)) k (RmsRow.at_block t s) := by
  unfold grad
  blk_ext! [iblk, V, idx t, RmsRow.at_block]

theorem read1 (c : Dev nD) (t : Fin cfg0.N) (h : t.val ≠ 7) (k : Fin 3072) :
    iblk m c 1 t (ix2 0 k) = grad (m ((c : Thread nD τ).loc main_arg0)) k
      ⟨256 * t.val + 256, by have := t.isLt; change t.val < 8 at this; omega⟩ := by
  have h8 : t.val < 8 := t.isLt
  have e : min (32 * t.val + 32) 255 = 32 * t.val + 32 := by omega
  unfold grad
  blk_ext! [iblk, V, idx t, e]

theorem read2 (c : Dev nD) (t : Fin cfg0.N) (s : Fin 256) (k : Fin 3072) :
    X0_2 m c t (ix2 s k) = col (m ((c : Thread nD τ).loc main_arg1)) k (RmsRow.at_block t s) := by
  unfold col X0_2 Pipeline.Window.fill
  rw [dif_pos (moved0_2 t (ix2 s k))]
  blk_ext! [iblk, V, idx t, RmsRow.at_block]

theorem read3 (c : Dev nD) (t : Fin cfg0.N) (h : t.val ≠ 0) (k : Fin 3072) :
    X0_3 m c t (ix2 7 k) = col (m ((c : Thread nD τ).loc main_arg1)) k
      ⟨256 * t.val - 1, by have := t.isLt; change t.val < 8 at this; omega⟩ := by
  have h8 : t.val < 8 := t.isLt
  unfold col X0_3 Pipeline.Window.fill
  rw [dif_pos (moved0_3 t (ix2 7 k))]
  blk_ext! [iblk, V, idx t]

theorem weights (c : Dev nD) (j : S1x3072.Idx) : V m c main_v0 j = weight (m ((c : Thread nD τ).loc main_arg2)) (j 1) := by
  unfold V
  after_reads_at
  rfl

theorem block4 (t : Fin cfg0.N) (A : FVec Ideal S1x3072 .f32) (i : S1x3072.Idx) :
    ((cfg0.win 4).blk t).view.read (Elt Ideal) A i = A i := by
  blk_ext! [idx t]

theorem read4 (c : Dev nD) (t : Fin cfg0.N) (k : Fin 3072) :
    iblk m c 4 t (ix2 0 k) = weight (m ((c : Thread nD τ).loc main_arg2)) k :=
  (show iblk m c 4 t (ix2 0 k) = ((cfg0.win 4).blk t).view.read (Elt Ideal) (V m c main_v0) (ix2 0 k) from rfl).trans
    ((block4 t (V m c main_v0) (ix2 0 k)).trans (weights m c (ix2 0 k)))

/-- A grid point's number is its coordinate. -/
theorem coord : ∀ t : Fin cfg0.N, (grid0.coords t 0).val = t.val :=
  (by decide +kernel : ∀ t : Fin grid0.N, (grid0.coords t 0).val = t.val)

/-- The first row of a block of eight rows. -/
theorem first (b : Vec Ideal S8x3072 .f32) (k : Fin 3072) : View.ld (Val := Elt Ideal) (e' := .f32) b
    (Rect.unit (s := S8x3072) ![0, 0] S1x3072.size inb_S8x3072_S1x3072_0_0) (ix2 0 k) = b (ix2 0 k) := by
  refine congrArg b (funext fun a => Fin.ext ?_)
  refine (Rect.idx_unit_val _ _ _ _ a).trans ?_
  fin_cases a
  · rfl
  · exact Nat.zero_add _

/-- The kernel's gradient of the columns at a grid point's row. -/
theorem row5 (c : Dev nD) (t : Fin cfg0.N) (b : Vec Ideal S1x3072 .f32)
    (hb : ∀ k, b (ix2 0 k) = iblk m c 1 t (ix2 0 k)) (s : Fin 256) (k : Fin 3072) :
    k0_pay3 (grid0.coords t) (iblk m c 0 t) (iblk m c 4 t) b (ix2 s k)
      = Shift.back (grad (m ((c : Thread nD τ).loc main_arg0)) k) (weight (m ((c : Thread nD τ).loc main_arg2)) k) (RmsRow.at_block t s) := by
  have h8 : t.val < 8 := t.isLt
  have e : k0_pay3 (grid0.coords t) (iblk m c 0 t) (iblk m c 4 t) b (ix2 s k) = _ := pay3 _ _ _ _ s k
  have h : (if h : s.val = 255 then if t.val = 7 then (0 : EReal) else b (ix2 0 k) else iblk m c 0 t (ix2 ⟨s.val + 1, by omega⟩ k))
      = Shift.next (grad (m ((c : Thread nD τ).loc main_arg0)) k) (RmsRow.at_block t s) := by
    refine Eq.trans ?_ (Shift.next_block _ t s).symm
    by_cases hs : s.val = 255
    · rw [dif_pos hs, dif_pos hs]
      by_cases ht : t.val = 7
      · rw [if_pos ht, dif_pos ht]
      · rw [if_neg ht, dif_neg ht]
        exact (hb k).trans (read1 m c t ht k)
    · rw [dif_neg hs, dif_neg hs]
      exact read0 m c t ⟨s.val + 1, by omega⟩ k
  rw [read0, read4, coord, h] at e
  exact e

/-- The gradient of the columns at a grid point's row. -/
theorem step5 (c : Dev nD) (t : Fin cfg0.N) (s : Fin 256) (k : Fin 3072) :
    (outsAt0 m c t.val t.isLt).1 (ix2 s k)
      = Shift.back (grad (m ((c : Thread nD τ).loc main_arg0)) k) (weight (m ((c : Thread nD τ).loc main_arg2)) k) (RmsRow.at_block t s) := by
  have ht : t.val < 8 := t.isLt
  by_cases h0 : t.val = 0
  · rw [outsAt0_A m c t (by omega) (by omega)]
    dsimp only
    frame_out
    exact row5 m c t _ (fun k => first _ k) s k
  · rw [outsAt0_B m c t (by omega) (by omega)]
    dsimp only
    frame_out
    exact row5 m c t _ (fun k => first _ k) s k

/-- What a grid point adds to the gradient of the weights. -/
def part6 (c : Dev nD) (t : Fin cfg0.N) (i : S1x3072.Idx) : EReal :=
  ∑ s, Shift.weighed (grad (m ((c : Thread nD τ).loc main_arg0)) (i 1)) (col (m ((c : Thread nD τ).loc main_arg1)) (i 1))
    (RmsRow.at_block t s)

/-- The kernel's part of the gradient of the weights of a grid point's row. -/
theorem row6 (c : Dev nD) (t : Fin cfg0.N) (s : Fin 256) (k : Fin 3072) :
    FloatOps.mulf (F := Ideal) (φ := .f32) (iblk m c 0 t (ix2 s k))
        (k0_pay4 (grid0.coords t) (X0_2 m c t) (X0_3 m c t) (ix2 s k))
      = Shift.weighed (grad (m ((c : Thread nD τ).loc main_arg0)) k) (col (m ((c : Thread nD τ).loc main_arg1)) k)
        (RmsRow.at_block t s) := by
  have h8 : t.val < 8 := t.isLt
  have e : k0_pay4 (grid0.coords t) (X0_2 m c t) (X0_3 m c t) (ix2 s k) = _ := pay4 _ _ _ s k
  have h : (if s.val = 0 then if t.val = 0 then (0 : EReal) else X0_3 m c t (ix2 7 k) else X0_2 m c t (ix2 ⟨s.val - 1, by omega⟩ k))
      = Shift.prev (col (m ((c : Thread nD τ).loc main_arg1)) k) (RmsRow.at_block t s) := by
    refine Eq.trans ?_ (Shift.prev_block _ t s).symm
    by_cases hs : s.val = 0
    · rw [if_pos hs, if_pos hs]
      by_cases ht : t.val = 0
      · rw [if_pos ht, if_pos ht]
      · rw [if_neg ht, if_neg ht]
        exact read3 m c t ht k
    · rw [if_neg hs, if_neg hs]
      exact read2 m c t ⟨s.val - 1, by omega⟩ k
  rw [coord, h, read2] at e
  exact congrArg₂ (fun a b : EReal => a * b) (read0 m c t s k) e

/-- The gradient of the weights after a grid point. -/
theorem step6 (c : Dev nD) (t : Fin cfg0.N) (i : S1x3072.Idx) : (outsAt0 m c t.val t.isLt).2 i
    = (if h : t.val = 0 then 0 else (outsAt0 m c (t.val - 1) (by omega)).2 i) + part6 m c t i := by
  have ht : t.val < 8 := t.isLt
  have e : k0_pay1 (iblk m c 0 t) (k0_pay4 (grid0.coords t) (X0_2 m c t) (X0_3 m c t)) i = part6 m c t i :=
    (pay1 _ _ i).trans (Finset.sum_congr rfl fun s _ => row6 m c t s (i 1))
  by_cases h0 : t.val = 0
  · rw [outsAt0_A m c t (by omega) (by omega), dif_pos h0, zero_add]
    dsimp only
    frame_out
    exact e
  · rw [outsAt0_B m c t (by omega) (by omega), dif_neg h0]
    dsimp only
    frame_out
    unfold k0_pay2
    simp only [pointwise]
    exact congrArg₂ _ rfl e

/-- The gradient, which the precondition makes real. -/
theorem real (h : Pre_Kernel25Ideal_finite_rkv m) (c : Dev nD) (k r) : grad (m ((c : Thread nD τ).loc main_arg0)) k r
    = ((grad (m ((c : Thread nD τ).loc main_arg0)) k r).toReal : EReal) :=
  Shift.real_of_bit _ (congrFun (h c) (ix2 r k))

/-- The same at a block's index, as the reference has it. -/
theorem at5 (h : Pre_Kernel25Ideal_finite_rkv m) (c : Dev nD) (t : Fin cfg0.N) (i : S256x3072.Idx) :
    (outsAt0 m c t.val t.isLt).1 i = Cert.Reference25Ideal.Read.val_main_v24 (F := Ideal)
      (m ((c : Thread nD τ).loc main_arg0)) (m ((c : Thread nD τ).loc main_arg2)) (ix2 (RmsRow.at_block t (i 0)) (i 1)) := by
  have e : i = ix2 (i 0) (i 1) := by
    funext a
    fin_cases a <;> rfl
  refine (congrArg (outsAt0 m c t.val t.isLt).1 e).trans ((step5 m c t (i 0) (i 1)).trans ?_)
  exact (Shift.back_eq _ _ (real m h c (i 1)) _).trans (v24 _ _ _ _).symm

/-- All grid points' parts make the reference's gradient of the weights. -/
theorem sum6 (c : Dev nD) (t : Fin cfg0.N) (h : ∀ s : Fin 8, 8 * (t.val / 8) + s.val < cfg0.N) (i : S1x3072.Idx) :
    ∑ s : Fin 8, part6 m c ⟨8 * (t.val / 8) + s.val, h s⟩ i = Cert.Reference25Ideal.Read.val_main_v15 (F := Ideal)
      (m ((c : Thread nD τ).loc main_arg0)) (m ((c : Thread nD τ).loc main_arg1)) i := by
  have ht : t.val < 8 := t.isLt
  refine Eq.trans ?_ ((RmsRow.sum_blocks _).trans (v15 _ _ i).symm)
  refine Finset.sum_congr rfl fun s _ => ?_
  have es : (⟨8 * (t.val / 8) + s.val, h s⟩ : Fin cfg0.N) = s := Fin.ext (by show 8 * (t.val / 8) + s.val = s.val; omega)
  rw [es]
  rfl

theorem final5 (h : Pre_Kernel25Ideal_finite_rkv m) (c : Dev nD) : (dats m 0 c).arrAt 5 cfg0.N
    = Cert.Reference25Ideal.Read.val_main_v24 (F := Ideal) (m ((c : Thread nD τ).loc main_arg0)) (m ((c : Thread nD τ).loc main_arg2)) := by
  refine (dats m 0 c).arrAt_eq_of_covers 5 _ (by decide +kernel) fun t hf y => ?_
  blk_simp
  rw [after0_5]
  have e : (((cfg0.win 5).blk t).view.emb y : S2048x3072.Idx) = ix2 (RmsRow.at_block t (y 0)) (y 1) := by
    funext a
    refine Fin.ext ?_
    fin_cases a <;> blk_simp <;> simp [idx t, RmsRow.at_block]
    omega
  exact (at5 m h c t y).trans (congrArg _ e.symm)

theorem final6 (c : Dev nD) : (dats m 0 c).arrAt 6 cfg0.N = Cert.Reference25Ideal.Read.val_main_v15 (F := Ideal)
      (m ((c : Thread nD τ).loc main_arg0)) (m ((c : Thread nD τ).loc main_arg1)) := by
  refine (dats m 0 c).arrAt_eq_of_covers 6 _ (by decide +kernel) fun t hf y => ?_
  have h3 := (flush0_6 t).mp hf
  blk_simp
  rw [after0_6, Pipeline.eq_sum_fin_of_reset_step_apply_of_flush (fun n h => (outsAt0 m c n h).2) 8 (fun _ => 0) (part6 m c)
    (fun t h j => (step6 m c t j).trans (congrArg (· + _) (dif_pos (by have ht : t.val < 8 := t.isLt; omega))))
    (fun t h j => (step6 m c t j).trans (congrArg (· + _) (dif_neg (by omega)))) t h3 y, zero_add]
  have ht : t.val < 8 := t.isLt
  have e : (((cfg0.win 6).blk t).view.emb y : S1x3072.Idx) = y := by
    funext a
    refine Fin.ext ?_
    fin_cases a <;> blk_simp <;> simp [idx t]
  exact (sum6 m c t _ y).trans (congrArg _ e.symm)

set_option maxHeartbeats 4000000 in
/-- The claim: both results are the reference's. -/
theorem algebraic : Cert.algebraic_Kernel25Ideal_Reference25Ideal_pre_finite_rkv := by
  pair_intro
  · run_from Cert.Kernel25Ideal.Value.run_blocks m g
  · refine θ_run_mono (Cert.Reference25Ideal.Value.run m' g') fun r h c => ?_
    obtain ⟨h1, h2, hrest⟩ := h c
    obtain ⟨a0, a1, a2⟩ := hagree c
    refine ⟨h1.trans ((Reference25Ideal.Read.val_main_v24_eq _ _).trans ?_),
      h2.trans ((Reference25Ideal.Read.val_main_v15_eq _ _).trans ?_), hrest⟩
    · rw [a0, a2]
      exact (final5 m hpre c).symm
    · rw [a0, a1]
      exact (final6 m c).symm

end Cert.Kernel25Ideal.Shift

end
-- ==== Proof.ShiftBackLora.lean ====
/- The gradient of the token shift of the 512 columns of the low-rank parts: the claim. -/
module

public import proofs.«01_k».proof.Defs
public import proofs.«01_k».proof.Proof.RmsRow
public import proofs.«01_k».proof.Proof.Shift
public import proofs.«01_k».proof.Proof.ShiftLora
public import proofs.«01_k».proof.Proof.Gen.Pre_finite_lora
public import proofs.«01_k».proof.Proof.Gen.Kernel26Ideal.Value
public import proofs.«01_k».proof.Proof.Gen.Reference26Ideal.Run
public import proofs.«01_k».proof.Proof.Gen.Reference26Ideal.Read
public import Idealize.ShloMosaic.Lib.Pipeline.ValueKit
public import Idealize.ShloMosaic.Lib.StableHlo.ReadAt
public import Idealize.ShloMosaic.Lib.KernelVsHost
public import Idealize.ShloMosaic.Lib.Pointwise

@[expose] public section

noncomputable section

open Idealize.ShloMosaic Idealize.ShloMosaic.TcCoe Idealize.SL.Sem

namespace Cert.Reference26Ideal.Shift
open Cert.Reference26Ideal Cert.Reference26Ideal.Read Cert.Reference24Ideal.Shift

/-- A column of the shifted columns' gradient. -/
def grad (d : FVec Ideal S2048x512 .f32) (k : Fin 512) (r : Fin 2048) : EReal := d (ix2 r k)

/-- The weights read at a column. -/
theorem v1 (w : FVec Ideal S1x3360 .f32) (k : Fin 512) : val_main_v1 (F := Ideal) w (ix2 0 k) = weight w k := by
  unfold val_main_v1 val_main_v0 val_main_call0_v0 val_main_c weight
  by_cases h : k.val < 288
  · rw [dif_pos h]
    refine (pad_apply_of_inside _ _ _ _ _ _ _ (ix2 0 k) (ix2 0 ⟨k.val, h⟩) fun a => ?_).trans ?_
    · fin_cases a
      · rfl
      · show k.val = 0 + k.val * 1
        omega
    · simp only [pointwise]
      exact congrArg w (congrArg (ix2 0) (Fin.ext (by simp)))
  · rw [dif_neg h]
    refine (pad_apply_of_not_inside _ _ _ _ _ _ _ (ix2 0 k) 1 fun q => ?_).trans Shift.pad_zero
    exact h (by simpa using q.2.2)

theorem v2 (p : FVec Ideal S2048x5632 .f32) (r : Fin 2048) (k : Fin 512) : val_main_v2 (F := Ideal) p (ix2 r k) = col p k r := by
  rw [val_main_v2_apply]
  refine congrArg p (funext fun a => Fin.ext ?_)
  fin_cases a <;> rfl

/-- The rows before. -/
theorem v6 (p : FVec Ideal S2048x5632 .f32) (r : Fin 2048) (k : Fin 512) :
    val_main_v6 (F := Ideal) p (ix2 r k) = Shift.prev (col p k) r := by
  unfold val_main_v6 Shift.prev
  by_cases h : r.val = 0
  · rw [if_pos h]
    refine (concatenate_pair_apply_left (s₁ := S1x512) (s₂ := S2047x512) 0 _ _ _ (ix2 r k) rfl (ix2 0 k) fun a => ?_).trans ?_
    · fin_cases a
      · exact h.symm
      · rfl
    · rw [val_main_v4_apply]
      exact Ideal.ofBits_zero_f32
  · rw [if_neg h]
    refine (concatenate_pair_apply_right (s₁ := S1x512) (s₂ := S2047x512) 0 _ _ _ (ix2 r k) rfl rfl
      (ix2 ⟨r.val - 1, by omega⟩ k) (fun a ha => ?_) ?_).trans ?_
    · fin_cases a
      · exact absurd rfl ha
      · rfl
    · show r.val - 1 + 1 = r.val
      omega
    · rw [val_main_v5_apply]
      refine Eq.trans (congrArg _ (funext fun a => ?_)) (v2 p ⟨r.val - 1, by omega⟩ k)
      fin_cases a <;> rfl

/-- An array laid out as it is. -/
theorem v13 (d : FVec Ideal S2048x512 .f32) (r : Fin 2048) (k : Fin 512) : val_main_v13 (F := Ideal) d (ix2 r k) = grad d k r := by
  rw [val_main_v13_apply]
  refine congrArg d (funext fun a => Fin.ext ?_)
  fin_cases a
  · show (r.val * 512 + k.val) / 512 = r.val
    omega
  · show (r.val * 512 + k.val) % 512 = k.val
    omega

/-- The gradient that the weight takes off. -/
theorem v18 (d : FVec Ideal S2048x512 .f32) (w : FVec Ideal S1x3360 .f32) (r : Fin 2048) (k : Fin 512) :
    val_main_v18 (F := Ideal) d w (ix2 r k) = grad d k r * weight w k := by
  rw [val_main_v18_apply, val_main_v17_apply, v13]
  refine congrArg (grad d k r * ·) (Eq.trans (congrArg _ (funext fun a => ?_)) (v1 w k))
  fin_cases a <;> rfl

/-- The part from the row after. -/
theorem v23 (d : FVec Ideal S2048x512 .f32) (w : FVec Ideal S1x3360 .f32) (r : Fin 2048) (k : Fin 512) :
    val_main_v23 (F := Ideal) d w (ix2 r k) = Shift.next (fun r => grad d k r * weight w k) r := by
  unfold val_main_v23 Shift.next
  by_cases h : r.val = 2047
  · rw [dif_pos h]
    refine (pad_apply_of_not_inside _ _ _ _ _ _ _ (ix2 r k) 0 fun q => ?_).trans Ideal.ofBits_zero_f32
    have q2 : (r.val - 0) / 1 < 2047 := q.2.2
    omega
  · rw [dif_neg h]
    refine (pad_apply_of_inside _ _ _ _ _ _ _ (ix2 r k) (ix2 ⟨r.val, by omega⟩ k) fun a => ?_).trans ?_
    · fin_cases a
      · show r.val = 0 + r.val * 1
        omega
      · show k.val = 0 + k.val * 1
        omega
    · rw [val_main_v22_apply]
      refine Eq.trans (congrArg _ (funext fun a => Fin.ext ?_)) (v18 d w ⟨r.val + 1, by omega⟩ k)
      fin_cases a
      · show 1 + r.val = r.val + 1
        omega
      · rfl

/-- The reference's gradient of the columns. -/
theorem v25 (d : FVec Ideal S2048x512 .f32) (w : FVec Ideal S1x3360 .f32) (r : Fin 2048) (k : Fin 512) :
    val_main_v25 (F := Ideal) d w (ix2 r k)
      = grad d k r + -(grad d k r * weight w k) + Shift.next (fun r => grad d k r * weight w k) r := by
  rw [← v18, ← v23, ← v13]
  rfl

/-- A row's part of the gradient of the weights. -/
theorem v14 (d : FVec Ideal S2048x512 .f32) (p : FVec Ideal S2048x5632 .f32) (r : Fin 2048) (k : Fin 512) :
    val_main_v14 (F := Ideal) d p (ix2 r k) = Shift.weighed (grad d k) (col p k) r := by
  rw [val_main_v14_apply, v13, val_main_v8_apply, v6, v2]
  exact mul_comm _ _

/-- The reference's gradient of the weights. -/
theorem v16 (d : FVec Ideal S2048x512 .f32) (p : FVec Ideal S2048x5632 .f32) (i : S1x512.Idx) :
    val_main_v16 (F := Ideal) d p i = ∑ r, Shift.weighed (grad d (i 1)) (col p (i 1)) r := by
  have h0 : (i 0).val < 1 := (i 0).isLt
  rw [val_main_v16_apply, val_main_v15_apply]
  refine (congrArg₂ _ Ideal.ofBits_zero_f32 (Finset.sum_congr rfl fun r _ => ?_)).trans (zero_add _)
  have e : idx_main_v15 (idx_main_v16 i) r = ix2 r (i 1) := by
    funext a
    refine Fin.ext ?_
    fin_cases a
    · rfl
    · show (i 0).val * 512 + (i 1).val = (i 1).val
      omega
  exact (congrArg _ e).trans (v14 d p r (i 1))

end Cert.Reference26Ideal.Shift

namespace Cert.Kernel26Ideal.Shift
open Cert.Kernel26Ideal Cert.Kernel26Ideal.Gen Cert.Reference24Ideal.Shift Cert.Reference26Ideal.Shift

/-- One block's gradient of the columns, from the block, the first row of the block after and the weights. -/
theorem pay3 (i : grid0.Coords) (d : Vec Ideal S256x512 .f32) (w b : Vec Ideal S1x512 .f32) (s : Fin 256) (k : Fin 512) :
    k0_pay3 i d w b (ix2 s k) = d (ix2 s k) * (Ideal.ofBits .f32 0x3F800000#32 - w (ix2 0 k))
      + (if h : s.val = 255 then if (i 0).val = 7 then 0 else b (ix2 0 k) else d (ix2 ⟨s.val + 1, by omega⟩ k)) * w (ix2 0 k) := by
  unfold k0_pay3
  dsimp only
  simp only [pointwise, List.foldl, Nat.zero_mul, Nat.zero_add]
  refine congrArg₂ (fun a b : EReal => a + b) rfl (congrArg₂ (fun a b : EReal => a * b) ?_ rfl)
  refine (Shift.select_last s _ _).trans ?_
  by_cases h : s.val = 255
  · rw [if_pos h, dif_pos h]
    refine (Shift.select_last_block (i 0) _ _).trans ?_
    simp
  · rw [if_neg h, dif_neg h]
    refine congrArg d (congrArg₂ ix2 (Fin.ext ?_) rfl)
    simp
    omega

/-- One block's differences with the rows before. -/
theorem pay4 (i : grid0.Coords) (x : Vec Ideal S256x512 .f32) (b : Vec Ideal S8x512 .f32) (s : Fin 256) (k : Fin 512) :
    k0_pay4 i x b (ix2 s k) = (if s.val = 0 then if (i 0).val = 0 then 0 else b (ix2 7 k)
      else x (ix2 ⟨s.val - 1, by omega⟩ k)) - x (ix2 s k) := by
  unfold k0_pay4
  dsimp only
  simp only [pointwise, List.foldl, Nat.zero_mul, Nat.zero_add]
  refine congrArg (· - x (ix2 s k)) ?_
  refine (Shift.select_row s _ _).trans ?_
  by_cases h : s.val = 0
  · rw [if_pos h, if_pos h]
    refine (Shift.select_block (i 0) _ _).trans ?_
    simp
  · rw [if_neg h, if_neg h]
    refine congrArg x (congrArg₂ ix2 (Fin.ext ?_) rfl)
    simp
    omega

/-- One block's part of the gradient of the weights. -/
theorem pay1 (d e : Vec Ideal S256x512 .f32) (i : S1x512.Idx) : k0_pay1 d e i = ∑ s, d (ix2 s (i 1)) * e (ix2 s (i 1)) := by
  unfold k0_pay1
  dsimp only
  simp only [pointwise]

variable (m : (ℓ : Loc nD τ sig) → Buf (Elt Ideal) ℓ)

/-- The blocks of the windows at a grid point. -/
theorem idx : ∀ t : Fin cfg0.N, win0_0.index t = ![t.val, 0] ∧ win0_1.index t = ![min (32 * t.val + 32) 255, 0]
    ∧ win0_2.index t = ![t.val, 10] ∧ win0_3.index t = ![32 * t.val - 1, 10] ∧ win0_4.index t = ![0, 0]
    ∧ win0_5.index t = ![t.val, 0] ∧ win0_6.index t = ![0, 0] :=
  (by decide +kernel : ∀ t : Fin grid0.N, _)

theorem read0 (c : Dev nD) (t : Fin cfg0.N) (s : Fin 256) (k : Fin 512) :
    iblk m c 0 t (ix2 s k) = grad (m ((c : Thread nD τ).loc main_arg0)) k (RmsRow.at_block t s) := by
  unfold grad
  blk_ext! [iblk, V, idx t, RmsRow.at_block]

theorem read1 (c : Dev nD) (t : Fin cfg0.N) (h : t.val ≠ 7) (k : Fin 512) :
    iblk m c 1 t (ix2 0 k) = grad (m ((c : Thread nD τ).loc main_arg0)) k
      ⟨256 * t.val + 256, by have := t.isLt; change t.val < 8 at this; omega⟩ := by
  have h8 : t.val < 8 := t.isLt
  have e : min (32 * t.val + 32) 255 = 32 * t.val + 32 := by omega
  unfold grad
  blk_ext! [iblk, V, idx t, e]

theorem read2 (c : Dev nD) (t : Fin cfg0.N) (s : Fin 256) (k : Fin 512) :
    iblk m c 2 t (ix2 s k) = col (m ((c : Thread nD τ).loc main_arg1)) k (RmsRow.at_block t s) := by
  unfold col
  blk_ext! [iblk, V, idx t, RmsRow.at_block]

theorem read3 (c : Dev nD) (t : Fin cfg0.N) (h : t.val ≠ 0) (k : Fin 512) :
    iblk m c 3 t (ix2 7 k) = col (m ((c : Thread nD τ).loc main_arg1)) k
      ⟨256 * t.val - 1, by have := t.isLt; change t.val < 8 at this; omega⟩ := by
  have h8 : t.val < 8 := t.isLt
  unfold col
  blk_ext! [iblk, V, idx t]

theorem weights (c : Dev nD) (j : S1x512.Idx) : V m c main_v1 j = weight (m ((c : Thread nD τ).loc main_arg2)) (j 1) := by
  unfold V
  after_reads_at
  unfold weight
  split
  · rfl
  · exact Shift.pad_zero

theorem block4 (t : Fin cfg0.N) (A : FVec Ideal S1x512 .f32) (i : S1x512.Idx) :
    ((cfg0.win 4).blk t).view.read (Elt Ideal) A i = A i := by
  blk_ext! [idx t]

theorem read4 (c : Dev nD) (t : Fin cfg0.N) (k : Fin 512) :
    iblk m c 4 t (ix2 0 k) = weight (m ((c : Thread nD τ).loc main_arg2)) k :=
  (show iblk m c 4 t (ix2 0 k) = ((cfg0.win 4).blk t).view.read (Elt Ideal) (V m c main_v1) (ix2 0 k) from rfl).trans
    ((block4 t (V m c main_v1) (ix2 0 k)).trans (weights m c (ix2 0 k)))

/-- A grid point's number is its coordinate. -/
theorem coord : ∀ t : Fin cfg0.N, (grid0.coords t 0).val = t.val :=
  (by decide +kernel : ∀ t : Fin grid0.N, (grid0.coords t 0).val = t.val)

/-- The first row of a block of eight rows. -/
theorem first (b : Vec Ideal S8x512 .f32) (k : Fin 512) : View.ld (Val := Elt Ideal) (e' := .f32) b
    (Rect.unit (s := S8x512) ![0, 0] S1x512.size inb_S8x512_S1x512_0_0) (ix2 0 k) = b (ix2 0 k) := by
  refine congrArg b (funext fun a => Fin.ext ?_)
  refine (Rect.idx_unit_val _ _ _ _ a).trans ?_
  fin_cases a
  · rfl
  · exact Nat.zero_add _

/-- The kernel's gradient of the columns at a grid point's row. -/
theorem row5 (c : Dev nD) (t : Fin cfg0.N) (b : Vec Ideal S1x512 .f32)
    (hb : ∀ k, b (ix2 0 k) = iblk m c 1 t (ix2 0 k)) (s : Fin 256) (k : Fin 512) :
    k0_pay3 (grid0.coords t) (iblk m c 0 t) (iblk m c 4 t) b (ix2 s k)
      = Shift.back (grad (m ((c : Thread nD τ).loc main_arg0)) k) (weight (m ((c : Thread nD τ).loc main_arg2)) k) (RmsRow.at_block t s) := by
  have h8 : t.val < 8 := t.isLt
  have e : k0_pay3 (grid0.coords t) (iblk m c 0 t) (iblk m c 4 t) b (ix2 s k) = _ := pay3 _ _ _ _ s k
  have h : (if h : s.val = 255 then if t.val = 7 then (0 : EReal) else b (ix2 0 k) else iblk m c 0 t (ix2 ⟨s.val + 1, by omega⟩ k))
      = Shift.next (grad (m ((c : Thread nD τ).loc main_arg0)) k) (RmsRow.at_block t s) := by
    refine Eq.trans ?_ (Shift.next_block _ t s).symm
    by_cases hs : s.val = 255
    · rw [dif_pos hs, dif_pos hs]
      by_cases ht : t.val = 7
      · rw [if_pos ht, dif_pos ht]
      · rw [if_neg ht, dif_neg ht]
        exact (hb k).trans (read1 m c t ht k)
    · rw [dif_neg hs, dif_neg hs]
      exact read0 m c t ⟨s.val + 1, by omega⟩ k
  rw [read0, read4, coord, h] at e
  exact e

/-- The gradient of the columns at a grid point's row. -/
theorem step5 (c : Dev nD) (t : Fin cfg0.N) (s : Fin 256) (k : Fin 512) :
    (outsAt0 m c t.val t.isLt).1 (ix2 s k)
      = Shift.back (grad (m ((c : Thread nD τ).loc main_arg0)) k) (weight (m ((c : Thread nD τ).loc main_arg2)) k) (RmsRow.at_block t s) := by
  have ht : t.val < 8 := t.isLt
  by_cases h0 : t.val = 0
  · rw [outsAt0_A m c t (by omega) (by omega)]
    dsimp only
    frame_out
    exact row5 m c t _ (fun k => first _ k) s k
  · rw [outsAt0_B m c t (by omega) (by omega)]
    dsimp only
    frame_out
    exact row5 m c t _ (fun k => first _ k) s k

/-- What a grid point adds to the gradient of the weights. -/
def part6 (c : Dev nD) (t : Fin cfg0.N) (i : S1x512.Idx) : EReal :=
  ∑ s, Shift.weighed (grad (m ((c : Thread nD τ).loc main_arg0)) (i 1)) (col (m ((c : Thread nD τ).loc main_arg1)) (i 1))
    (RmsRow.at_block t s)

/-- The kernel's part of the gradient of the weights of a grid point's row. -/
theorem row6 (c : Dev nD) (t : Fin cfg0.N) (s : Fin 256) (k : Fin 512) :
    FloatOps.mulf (F := Ideal) (φ := .f32) (iblk m c 0 t (ix2 s k))
        (k0_pay4 (grid0.coords t) (iblk m c 2 t) (iblk m c 3 t) (ix2 s k))
      = Shift.weighed (grad (m ((c : Thread nD τ).loc main_arg0)) k) (col (m ((c : Thread nD τ).loc main_arg1)) k)
        (RmsRow.at_block t s) := by
  have h8 : t.val < 8 := t.isLt
  have e : k0_pay4 (grid0.coords t) (iblk m c 2 t) (iblk m c 3 t) (ix2 s k) = _ := pay4 _ _ _ s k
  have h : (if s.val = 0 then if t.val = 0 then (0 : EReal) else iblk m c 3 t (ix2 7 k) else iblk m c 2 t (ix2 ⟨s.val - 1, by omega⟩ k))
      = Shift.prev (col (m ((c : Thread nD τ).loc main_arg1)) k) (RmsRow.at_block t s) := by
    refine Eq.trans ?_ (Shift.prev_block _ t s).symm
    by_cases hs : s.val = 0
    · rw [if_pos hs, if_pos hs]
      by_cases ht : t.val = 0
      · rw [if_pos ht, if_pos ht]
      · rw [if_neg ht, if_neg ht]
        exact read3 m c t ht k
    · rw [if_neg hs, if_neg hs]
      exact read2 m c t ⟨s.val - 1, by omega⟩ k
  rw [coord, h, read2] at e
  exact congrArg₂ (fun a b : EReal => a * b) (read0 m c t s k) e

/-- The gradient of the weights after a grid point. -/
theorem step6 (c : Dev nD) (t : Fin cfg0.N) (i : S1x512.Idx) : (outsAt0 m c t.val t.isLt).2 i
    = (if h : t.val = 0 then 0 else (outsAt0 m c (t.val - 1) (by omega)).2 i) + part6 m c t i := by
  have ht : t.val < 8 := t.isLt
  have e : k0_pay1 (iblk m c 0 t) (k0_pay4 (grid0.coords t) (iblk m c 2 t) (iblk m c 3 t)) i = part6 m c t i :=
    (pay1 _ _ i).trans (Finset.sum_congr rfl fun s _ => row6 m c t s (i 1))
  by_cases h0 : t.val = 0
  · rw [outsAt0_A m c t (by omega) (by omega), dif_pos h0, zero_add]
    dsimp only
    frame_out
    exact e
  · rw [outsAt0_B m c t (by omega) (by omega), dif_neg h0]
    dsimp only
    frame_out
    unfold k0_pay2
    simp only [pointwise]
    exact congrArg₂ _ rfl e

/-- The gradient, which the precondition makes real. -/
theorem real (h : Pre_Kernel26Ideal_finite_lora m) (c : Dev nD) (k r) : grad (m ((c : Thread nD τ).loc main_arg0)) k r
    = ((grad (m ((c : Thread nD τ).loc main_arg0)) k r).toReal : EReal) :=
  Shift.real_of_bit _ (congrFun (h c) (ix2 r k))

/-- The same at a block's index, as the reference has it. -/
theorem at5 (h : Pre_Kernel26Ideal_finite_lora m) (c : Dev nD) (t : Fin cfg0.N) (i : S256x512.Idx) :
    (outsAt0 m c t.val t.isLt).1 i = Cert.Reference26Ideal.Read.val_main_v25 (F := Ideal)
      (m ((c : Thread nD τ).loc main_arg0)) (m ((c : Thread nD τ).loc main_arg2)) (ix2 (RmsRow.at_block t (i 0)) (i 1)) := by
  have e : i = ix2 (i 0) (i 1) := by
    funext a
    fin_cases a <;> rfl
  refine (congrArg (outsAt0 m c t.val t.isLt).1 e).trans ((step5 m c t (i 0) (i 1)).trans ?_)
  exact (Shift.back_eq _ _ (real m h c (i 1)) _).trans (v25 _ _ _ _).symm

/-- All grid points' parts make the reference's gradient of the weights. -/
theorem sum6 (c : Dev nD) (t : Fin cfg0.N) (h : ∀ s : Fin 8, 8 * (t.val / 8) + s.val < cfg0.N) (i : S1x512.Idx) :
    ∑ s : Fin 8, part6 m c ⟨8 * (t.val / 8) + s.val, h s⟩ i = Cert.Reference26Ideal.Read.val_main_v16 (F := Ideal)
      (m ((c : Thread nD τ).loc main_arg0)) (m ((c : Thread nD τ).loc main_arg1)) i := by
  have ht : t.val < 8 := t.isLt
  refine Eq.trans ?_ ((RmsRow.sum_blocks _).trans (v16 _ _ i).symm)
  refine Finset.sum_congr rfl fun s _ => ?_
  have es : (⟨8 * (t.val / 8) + s.val, h s⟩ : Fin cfg0.N) = s := Fin.ext (by show 8 * (t.val / 8) + s.val = s.val; omega)
  rw [es]
  rfl

theorem final5 (h : Pre_Kernel26Ideal_finite_lora m) (c : Dev nD) : (dats m 0 c).arrAt 5 cfg0.N
    = Cert.Reference26Ideal.Read.val_main_v25 (F := Ideal) (m ((c : Thread nD τ).loc main_arg0)) (m ((c : Thread nD τ).loc main_arg2)) := by
  refine (dats m 0 c).arrAt_eq_of_covers 5 _ (by decide +kernel) fun t hf y => ?_
  blk_simp
  rw [after0_5]
  have e : (((cfg0.win 5).blk t).view.emb y : S2048x512.Idx) = ix2 (RmsRow.at_block t (y 0)) (y 1) := by
    funext a
    refine Fin.ext ?_
    fin_cases a <;> blk_simp <;> simp [idx t, RmsRow.at_block]
    omega
  exact (at5 m h c t y).trans (congrArg _ e.symm)

theorem final6 (c : Dev nD) : (dats m 0 c).arrAt 6 cfg0.N = Cert.Reference26Ideal.Read.val_main_v16 (F := Ideal)
      (m ((c : Thread nD τ).loc main_arg0)) (m ((c : Thread nD τ).loc main_arg1)) := by
  refine (dats m 0 c).arrAt_eq_of_covers 6 _ (by decide +kernel) fun t hf y => ?_
  have h3 := (flush0_6 t).mp hf
  blk_simp
  rw [after0_6, Pipeline.eq_sum_fin_of_reset_step_apply_of_flush (fun n h => (outsAt0 m c n h).2) 8 (fun _ => 0) (part6 m c)
    (fun t h j => (step6 m c t j).trans (congrArg (· + _) (dif_pos (by have ht : t.val < 8 := t.isLt; omega))))
    (fun t h j => (step6 m c t j).trans (congrArg (· + _) (dif_neg (by omega)))) t h3 y, zero_add]
  have ht : t.val < 8 := t.isLt
  have e : (((cfg0.win 6).blk t).view.emb y : S1x512.Idx) = y := by
    funext a
    refine Fin.ext ?_
    fin_cases a <;> blk_simp <;> simp [idx t]
  exact (sum6 m c t _ y).trans (congrArg _ e.symm)

set_option maxHeartbeats 4000000 in
/-- The claim: both results are the reference's. -/
theorem algebraic : Cert.algebraic_Kernel26Ideal_Reference26Ideal_pre_finite_lora := by
  pair_intro
  · run_from Cert.Kernel26Ideal.Value.run_blocks m g
  · refine θ_run_mono (Cert.Reference26Ideal.Value.run m' g') fun r h c => ?_
    obtain ⟨h1, h2, hrest⟩ := h c
    obtain ⟨a0, a1, a2⟩ := hagree c
    refine ⟨h1.trans ((Reference26Ideal.Read.val_main_v25_eq _ _).trans ?_),
      h2.trans ((Reference26Ideal.Read.val_main_v16_eq _ _).trans ?_), hrest⟩
    · rw [a0, a2]
      exact (final5 m hpre c).symm
    · rw [a0, a1]
      exact (final6 m c).symm

end Cert.Kernel26Ideal.Shift

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Value
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Value
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Value
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Value
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Value
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Value
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Value
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Value
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Value
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Value
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Value
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Value
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Value
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Value
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Value
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Value
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Value
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Value
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Value
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Value
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Value
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Value
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Value
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Reference23Ideal
public import proofs.«01_k».proof.Proof.Gen.Reference23Ideal.Run
public import proofs.«01_k».proof.Proof.Gen.Reference23Ideal.Read
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Value
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Reference24Ideal
public import proofs.«01_k».proof.Proof.Gen.Reference24Ideal.Run
public import proofs.«01_k».proof.Proof.Gen.Reference24Ideal.Read
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Value
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Reference25Ideal
public import proofs.«01_k».proof.Proof.Gen.Reference25Ideal.Run
public import proofs.«01_k».proof.Proof.Gen.Reference25Ideal.Read
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Value
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Reference26Ideal
public import proofs.«01_k».proof.Proof.Gen.Reference26Ideal.Run
public import proofs.«01_k».proof.Proof.Gen.Reference26Ideal.Read
public import proofs.«01_k».proof.Proof.Gen.Pre_finite
public import proofs.«01_k».proof.Proof.Gen.Pre_finite_rkv
public import proofs.«01_k».proof.Proof.Gen.Pre_finite_lora
public import proofs.«01_k».proof.Proof.Gate
public import proofs.«01_k».proof.Proof.Flat
public import proofs.«01_k».proof.Proof.FfnIn
public import proofs.«01_k».proof.Proof.Inner
public import proofs.«01_k».proof.Proof.Down
public import proofs.«01_k».proof.Proof.FfnBack
public import proofs.«01_k».proof.Proof.WGate
public import proofs.«01_k».proof.Proof.AdamW
public import proofs.«01_k».proof.Proof.GateUnitClaim
public import proofs.«01_k».proof.Proof.RmsBack
public import proofs.«01_k».proof.Proof.RmsBackFirst
public import proofs.«01_k».proof.Proof.RmsForward
public import proofs.«01_k».proof.Proof.LossHead
public import proofs.«01_k».proof.Proof.ShiftMain
public import proofs.«01_k».proof.Proof.ShiftLora
public import proofs.«01_k».proof.Proof.ShiftBackMain
public import proofs.«01_k».proof.Proof.ShiftBackLora
public import Idealize.ShloMosaic.Adequacy
public import Idealize.ShloMosaic.Init

@[expose] public section

noncomputable section

namespace Cert.Proof

open Idealize.ShloMosaic Idealize.SL.Sem

/-- Reference 1 is host code: its run leaves the arguments alone, and it declares no semaphore. -/
theorem frame_reference : Cert.quiescent_ReferenceIdeal := fun m ρ _ =>
  (θ_run Cert.ReferenceIdeal.defs _ _).mono
    (fun r h => ⟨fun c => (h c).2.2.2.2.2.2.2, sem_eq_zero_of_no_sems (by decide) r.2⟩) (Cert.ReferenceIdeal.Value.run m ρ)

/-- Reference 2 is host code: its run leaves the arguments alone, and it declares no semaphore. -/
theorem frame_reference2 : Cert.quiescent_Reference2Ideal := fun m ρ _ =>
  (θ_run Cert.Reference2Ideal.defs _ _).mono
    (fun r h => ⟨fun c => (h c).2.2, sem_eq_zero_of_no_sems (by decide) r.2⟩) (Cert.Reference2Ideal.Value.run m ρ)

/-- Reference 3 is host code: its run leaves the arguments alone, and it declares no semaphore. -/
theorem frame_reference3 : Cert.quiescent_Reference3Ideal := fun m ρ _ =>
  (θ_run Cert.Reference3Ideal.defs _ _).mono
    (fun r h => ⟨fun c => (h c).2, sem_eq_zero_of_no_sems (by decide) r.2⟩) (Cert.Reference3Ideal.Value.run m ρ)

/-- Reference 4 is host code: its run leaves the arguments alone, and it declares no semaphore. -/
theorem frame_reference4 : Cert.quiescent_Reference4Ideal := fun m ρ _ =>
  (θ_run Cert.Reference4Ideal.defs _ _).mono
    (fun r h => ⟨fun c => (h c).2, sem_eq_zero_of_no_sems (by decide) r.2⟩) (Cert.Reference4Ideal.Value.run m ρ)

/-- Reference 5 is host code: its run leaves the arguments alone, and it declares no semaphore. -/
theorem frame_reference5 : Cert.quiescent_Reference5Ideal := fun m ρ _ =>
  (θ_run Cert.Reference5Ideal.defs _ _).mono
    (fun r h => ⟨fun c => (h c).2, sem_eq_zero_of_no_sems (by decide) r.2⟩) (Cert.Reference5Ideal.Value.run m ρ)

/-- Reference 6 is host code: its run leaves the arguments alone, and it declares no semaphore. -/
theorem frame_reference6 : Cert.quiescent_Reference6Ideal := fun m ρ _ =>
  (θ_run Cert.Reference6Ideal.defs _ _).mono
    (fun r h => ⟨fun c => (h c).2, sem_eq_zero_of_no_sems (by decide) r.2⟩) (Cert.Reference6Ideal.Value.run m ρ)

/-- Reference 7 is host code: its run leaves the arguments alone, and it declares no semaphore. -/
theorem frame_reference7 : Cert.quiescent_Reference7Ideal := fun m ρ _ =>
  (θ_run Cert.Reference7Ideal.defs _ _).mono
    (fun r h => ⟨fun c => (h c).2, sem_eq_zero_of_no_sems (by decide) r.2⟩) (Cert.Reference7Ideal.Value.run m ρ)

/-- Reference 8 is host code: its run leaves the arguments alone, and it declares no semaphore. -/
theorem frame_reference8 : Cert.quiescent_Reference8Ideal := fun m ρ _ =>
  (θ_run Cert.Reference8Ideal.defs _ _).mono
    (fun r h => ⟨fun c => (h c).2, sem_eq_zero_of_no_sems (by decide) r.2⟩) (Cert.Reference8Ideal.Value.run m ρ)

/-- Reference 9 is host code: its run leaves the arguments alone, and it declares no semaphore. -/
theorem frame_reference9 : Cert.quiescent_Reference9Ideal := fun m ρ _ =>
  (θ_run Cert.Reference9Ideal.defs _ _).mono
    (fun r h => ⟨fun c => (h c).2, sem_eq_zero_of_no_sems (by decide) r.2⟩) (Cert.Reference9Ideal.Value.run m ρ)

/-- Reference 10 is host code: its run leaves the arguments alone, and it declares no semaphore. -/
theorem frame_reference10 : Cert.quiescent_Reference10Ideal := fun m ρ _ =>
  (θ_run Cert.Reference10Ideal.defs _ _).mono
    (fun r h => ⟨fun c => (h c).2, sem_eq_zero_of_no_sems (by decide) r.2⟩) (Cert.Reference10Ideal.Value.run m ρ)

/-- Reference 11 is host code: its run leaves the arguments alone, and it declares no semaphore. -/
theorem frame_reference11 : Cert.quiescent_Reference11Ideal := fun m ρ _ =>
  (θ_run Cert.Reference11Ideal.defs _ _).mono
    (fun r h => ⟨fun c => (h c).2.2.2, sem_eq_zero_of_no_sems (by decide) r.2⟩) (Cert.Reference11Ideal.Value.run m ρ)

/-- Reference 12 is host code: its run leaves the arguments alone, and it declares no semaphore. -/
theorem frame_reference12 : Cert.quiescent_Reference12Ideal := fun m ρ _ =>
  (θ_run Cert.Reference12Ideal.defs _ _).mono
    (fun r h => ⟨fun c => (h c).2, sem_eq_zero_of_no_sems (by decide) r.2⟩) (Cert.Reference12Ideal.Value.run m ρ)

/-- Reference 13 is host code: its run leaves the arguments alone, and it declares no semaphore. -/
theorem frame_reference13 : Cert.quiescent_Reference13Ideal := fun m ρ _ =>
  (θ_run Cert.Reference13Ideal.defs _ _).mono
    (fun r h => ⟨fun c => (h c).2, sem_eq_zero_of_no_sems (by decide) r.2⟩) (Cert.Reference13Ideal.Value.run m ρ)

/-- Reference 14 is host code: its run leaves the arguments alone, and it declares no semaphore. -/
theorem frame_reference14 : Cert.quiescent_Reference14Ideal := fun m ρ _ =>
  (θ_run Cert.Reference14Ideal.defs _ _).mono
    (fun r h => ⟨fun c => (h c).2.2.2, sem_eq_zero_of_no_sems (by decide) r.2⟩) (Cert.Reference14Ideal.Value.run m ρ)

/-- Reference 15 is host code: its run leaves the arguments alone, and it declares no semaphore. -/
theorem frame_reference15 : Cert.quiescent_Reference15Ideal := fun m ρ _ =>
  (θ_run Cert.Reference15Ideal.defs _ _).mono
    (fun r h => ⟨fun c => (h c).2.2.2, sem_eq_zero_of_no_sems (by decide) r.2⟩) (Cert.Reference15Ideal.Value.run m ρ)

/-- Reference 16 is host code: its run leaves the arguments alone, and it declares no semaphore. -/
theorem frame_reference16 : Cert.quiescent_Reference16Ideal := fun m ρ _ =>
  (θ_run Cert.Reference16Ideal.defs _ _).mono
    (fun r h => ⟨fun c => (h c).2.2.2, sem_eq_zero_of_no_sems (by decide) r.2⟩) (Cert.Reference16Ideal.Value.run m ρ)

/-- Reference 17 is host code: its run leaves the arguments alone, and it declares no semaphore. -/
theorem frame_reference17 : Cert.quiescent_Reference17Ideal := fun m ρ _ =>
  (θ_run Cert.Reference17Ideal.defs _ _).mono
    (fun r h => ⟨fun c => (h c).2.2.2, sem_eq_zero_of_no_sems (by decide) r.2⟩) (Cert.Reference17Ideal.Value.run m ρ)

/-- Reference 18 is host code: its run leaves the arguments alone, and it declares no semaphore. -/
theorem frame_reference18 : Cert.quiescent_Reference18Ideal := fun m ρ _ =>
  (θ_run Cert.Reference18Ideal.defs _ _).mono
    (fun r h => ⟨fun c => (h c).2.2.2, sem_eq_zero_of_no_sems (by decide) r.2⟩) (Cert.Reference18Ideal.Value.run m ρ)

/-- Reference 19 is host code: its run leaves the arguments alone, and it declares no semaphore. -/
theorem frame_reference19 : Cert.quiescent_Reference19Ideal := fun m ρ _ =>
  (θ_run Cert.Reference19Ideal.defs _ _).mono
    (fun r h => ⟨fun c => (h c).2.2.2, sem_eq_zero_of_no_sems (by decide) r.2⟩) (Cert.Reference19Ideal.Value.run m ρ)

/-- Reference 20 is host code: its run leaves the arguments alone, and it declares no semaphore. -/
theorem frame_reference20 : Cert.quiescent_Reference20Ideal := fun m ρ _ =>
  (θ_run Cert.Reference20Ideal.defs _ _).mono
    (fun r h => ⟨fun c => (h c).2.2, sem_eq_zero_of_no_sems (by decide) r.2⟩) (Cert.Reference20Ideal.Value.run m ρ)

/-- Reference 21 is host code: its run leaves the arguments alone, and it declares no semaphore. -/
theorem frame_reference21 : Cert.quiescent_Reference21Ideal := fun m ρ _ =>
  (θ_run Cert.Reference21Ideal.defs _ _).mono
    (fun r h => ⟨fun c => (h c).2, sem_eq_zero_of_no_sems (by decide) r.2⟩) (Cert.Reference21Ideal.Value.run m ρ)

/-- Reference 22 is host code: its run leaves the arguments alone, and it declares no semaphore. -/
theorem frame_reference22 : Cert.quiescent_Reference22Ideal := fun m ρ _ =>
  (θ_run Cert.Reference22Ideal.defs _ _).mono
    (fun r h => ⟨fun c => (h c).2.2.2.2, sem_eq_zero_of_no_sems (by decide) r.2⟩) (Cert.Reference22Ideal.Value.run m ρ)

/-- Reference 23 is host code: its run leaves the arguments alone, and it declares no semaphore. -/
theorem frame_reference23 : Cert.quiescent_Reference23Ideal := fun m ρ _ =>
  (θ_run Cert.Reference23Ideal.defs _ _).mono
    (fun r h => ⟨fun c => (h c).2, sem_eq_zero_of_no_sems (by decide) r.2⟩) (Cert.Reference23Ideal.Value.run m ρ)

/-- Reference 24 is host code: its run leaves the arguments alone, and it declares no semaphore. -/
theorem frame_reference24 : Cert.quiescent_Reference24Ideal := fun m ρ _ =>
  (θ_run Cert.Reference24Ideal.defs _ _).mono
    (fun r h => ⟨fun c => (h c).2, sem_eq_zero_of_no_sems (by decide) r.2⟩) (Cert.Reference24Ideal.Value.run m ρ)

/-- Reference 25 is host code: its run leaves the arguments alone, and it declares no semaphore. -/
theorem frame_reference25 : Cert.quiescent_Reference25Ideal := fun m ρ _ =>
  (θ_run Cert.Reference25Ideal.defs _ _).mono
    (fun r h => ⟨fun c => (h c).2.2, sem_eq_zero_of_no_sems (by decide) r.2⟩) (Cert.Reference25Ideal.Value.run m ρ)

/-- Reference 26 is host code: its run leaves the arguments alone, and it declares no semaphore. -/
theorem frame_reference26 : Cert.quiescent_Reference26Ideal := fun m ρ _ =>
  (θ_run Cert.Reference26Ideal.defs _ _).mono
    (fun r h => ⟨fun c => (h c).2.2, sem_eq_zero_of_no_sems (by decide) r.2⟩) (Cert.Reference26Ideal.Value.run m ρ)

/-- Every claim: the frames, that the ideal kernels are the kernels, and that they compute what the references do. -/
theorem claim : Cert.Claim := ⟨
  Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Pre_finite.Gen.facts, Cert.Pre_finite_rkv.Gen.facts, Cert.Pre_finite_lora.Gen.facts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  fun m ρ _ => Cert.Kernel2.Gen.frame m ρ,
  fun m ρ _ => Cert.Kernel2Ideal.Gen.frame m ρ,
  frame_reference2,
  fun m ρ _ => Cert.Kernel3.Gen.frame m ρ,
  fun m ρ _ => Cert.Kernel3Ideal.Gen.frame m ρ,
  frame_reference3,
  fun m ρ _ => Cert.Kernel4.Gen.frame m ρ,
  fun m ρ _ => Cert.Kernel4Ideal.Gen.frame m ρ,
  frame_reference4,
  fun m ρ _ => Cert.Kernel5.Gen.frame m ρ,
  fun m ρ _ => Cert.Kernel5Ideal.Gen.frame m ρ,
  frame_reference5,
  fun m ρ _ => Cert.Kernel6.Gen.frame m ρ,
  fun m ρ _ => Cert.Kernel6Ideal.Gen.frame m ρ,
  frame_reference6,
  fun m ρ _ => Cert.Kernel7.Gen.frame m ρ,
  fun m ρ _ => Cert.Kernel7Ideal.Gen.frame m ρ,
  frame_reference7,
  fun m ρ _ => Cert.Kernel8.Gen.frame m ρ,
  fun m ρ _ => Cert.Kernel8Ideal.Gen.frame m ρ,
  frame_reference8,
  fun m ρ _ => Cert.Kernel9.Gen.frame m ρ,
  fun m ρ _ => Cert.Kernel9Ideal.Gen.frame m ρ,
  frame_reference9,
  fun m ρ _ => Cert.Kernel10.Gen.frame m ρ,
  fun m ρ _ => Cert.Kernel10Ideal.Gen.frame m ρ,
  frame_reference10,
  fun m ρ _ => Cert.Kernel11.Gen.frame m ρ,
  fun m ρ _ => Cert.Kernel11Ideal.Gen.frame m ρ,
  frame_reference11,
  fun m ρ _ => Cert.Kernel12.Gen.frame m ρ,
  fun m ρ _ => Cert.Kernel12Ideal.Gen.frame m ρ,
  frame_reference12,
  fun m ρ _ => Cert.Kernel13.Gen.frame m ρ,
  fun m ρ _ => Cert.Kernel13Ideal.Gen.frame m ρ,
  frame_reference13,
  fun m ρ _ => Cert.Kernel14.Gen.frame m ρ,
  fun m ρ _ => Cert.Kernel14Ideal.Gen.frame m ρ,
  frame_reference14,
  fun m ρ _ => Cert.Kernel15.Gen.frame m ρ,
  fun m ρ _ => Cert.Kernel15Ideal.Gen.frame m ρ,
  frame_reference15,
  fun m ρ _ => Cert.Kernel16.Gen.frame m ρ,
  fun m ρ _ => Cert.Kernel16Ideal.Gen.frame m ρ,
  frame_reference16,
  fun m ρ _ => Cert.Kernel17.Gen.frame m ρ,
  fun m ρ _ => Cert.Kernel17Ideal.Gen.frame m ρ,
  frame_reference17,
  fun m ρ _ => Cert.Kernel18.Gen.frame m ρ,
  fun m ρ _ => Cert.Kernel18Ideal.Gen.frame m ρ,
  frame_reference18,
  fun m ρ _ => Cert.Kernel19.Gen.frame m ρ,
  fun m ρ _ => Cert.Kernel19Ideal.Gen.frame m ρ,
  frame_reference19,
  fun m ρ _ => Cert.Kernel20.Gen.frame m ρ,
  fun m ρ _ => Cert.Kernel20Ideal.Gen.frame m ρ,
  frame_reference20,
  fun m ρ _ => Cert.Kernel21.Gen.frame m ρ,
  fun m ρ _ => Cert.Kernel21Ideal.Gen.frame m ρ,
  frame_reference21,
  fun m ρ _ => Cert.Kernel22.Gen.frame m ρ,
  fun m ρ _ => Cert.Kernel22Ideal.Gen.frame m ρ,
  frame_reference22,
  fun m ρ _ => Cert.Kernel23.Gen.frame m ρ,
  fun m ρ _ => Cert.Kernel23Ideal.Gen.frame m ρ,
  frame_reference23,
  fun m ρ _ => Cert.Kernel24.Gen.frame m ρ,
  fun m ρ _ => Cert.Kernel24Ideal.Gen.frame m ρ,
  frame_reference24,
  fun m ρ _ => Cert.Kernel25.Gen.frame m ρ,
  fun m ρ _ => Cert.Kernel25Ideal.Gen.frame m ρ,
  fun m ρ _ => Cert.Kernel25Ideal.Gen.frame m ρ,
  frame_reference25,
  fun m ρ _ => frame_reference25 m ρ trivial,
  fun m ρ _ => Cert.Kernel26.Gen.frame m ρ,
  fun m ρ _ => Cert.Kernel26Ideal.Gen.frame m ρ,
  fun m ρ _ => Cert.Kernel26Ideal.Gen.frame m ρ,
  frame_reference26,
  fun m ρ _ => frame_reference26 m ρ trivial,
  trivial,
  Cert.KernelIdeal.Chunk.algebraic,
  trivial,
  Cert.Kernel2Ideal.Array.algebraic,
  trivial,
  Cert.Kernel3Ideal.Array.algebraic,
  trivial,
  Cert.Kernel4Ideal.Array.algebraic,
  trivial,
  Cert.Kernel5Ideal.Array.algebraic,
  trivial,
  Cert.Kernel6Ideal.Array.algebraic,
  trivial,
  Cert.Kernel7Ideal.Array.algebraic,
  trivial,
  Cert.Kernel8Ideal.Array.algebraic,
  trivial,
  Cert.Kernel9Ideal.Array.algebraic,
  trivial,
  Cert.Kernel10Ideal.Array.algebraic,
  trivial,
  Cert.Kernel11Ideal.Array.algebraic,
  trivial,
  Cert.Kernel12Ideal.Array.algebraic,
  trivial,
  Cert.Kernel13Ideal.Array.algebraic,
  trivial,
  Cert.Kernel14Ideal.Array.algebraic,
  trivial,
  Cert.Kernel15Ideal.Array.algebraic,
  trivial,
  Cert.Kernel16Ideal.Array.algebraic,
  trivial,
  Cert.Kernel17Ideal.Array.algebraic,
  trivial,
  Cert.Kernel18Ideal.Array.algebraic,
  trivial,
  Cert.Kernel19Ideal.Rms.algebraic,
  trivial,
  Cert.Kernel20Ideal.Rms.algebraic,
  trivial,
  Cert.Kernel21Ideal.Rms.algebraic,
  trivial,
  Cert.Kernel22Ideal.Loss.algebraic,
  trivial,
  Cert.Kernel23Ideal.Shift.algebraic,
  trivial,
  Cert.Kernel24Ideal.Shift.algebraic,
  trivial,
  Cert.Kernel25Ideal.Shift.algebraic,
  trivial,
  Cert.Kernel26Ideal.Shift.algebraic⟩

end Cert.Proof

end
